-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelGate (m : (ℓ : Loc Cert.KernelGate.nD Cert.KernelGate.τ Cert.KernelGate.sig) → Buf (Elt Bits) ℓ) : Prop :=
  True

def Pre_KernelGateIdeal (m : (ℓ : Loc Cert.KernelGateIdeal.nD Cert.KernelGateIdeal.τ Cert.KernelGateIdeal.sig) → Buf (Elt Ideal) ℓ) : Prop :=
  True

def Pre_ReferenceGateIdeal (m : (ℓ : Loc Cert.ReferenceGateIdeal.nD Cert.ReferenceGateIdeal.τ Cert.ReferenceGateIdeal.sig) → Buf (Elt Ideal) ℓ) : Prop :=
  True

def Pre_KernelTail (m : (ℓ : Loc Cert.KernelTail.nD Cert.KernelTail.τ Cert.KernelTail.sig) → Buf (Elt Bits) ℓ) : Prop :=
  True

def Pre_KernelTailIdeal (m : (ℓ : Loc Cert.KernelTailIdeal.nD Cert.KernelTailIdeal.τ Cert.KernelTailIdeal.sig) → Buf (Elt Ideal) ℓ) : Prop :=
  True

def Pre_ReferenceTailIdeal (m : (ℓ : Loc Cert.ReferenceTailIdeal.nD Cert.ReferenceTailIdeal.τ Cert.ReferenceTailIdeal.sig) → Buf (Elt Ideal) ℓ) : Prop :=
  True

def Pre_KernelVals (m : (ℓ : Loc Cert.KernelVals.nD Cert.KernelVals.τ Cert.KernelVals.sig) → Buf (Elt Bits) ℓ) : Prop :=
  True

def Pre_KernelValsIdeal (m : (ℓ : Loc Cert.KernelValsIdeal.nD Cert.KernelValsIdeal.τ Cert.KernelValsIdeal.sig) → Buf (Elt Ideal) ℓ) : Prop :=
  True

def Pre_ReferenceValsIdeal (m : (ℓ : Loc Cert.ReferenceValsIdeal.nD Cert.ReferenceValsIdeal.τ Cert.ReferenceValsIdeal.sig) → Buf (Elt Ideal) ℓ) : Prop :=
  True

def Pre_KernelHeads (m : (ℓ : Loc Cert.KernelHeads.nD Cert.KernelHeads.τ Cert.KernelHeads.sig) → Buf (Elt Bits) ℓ) : Prop :=
  True

def Pre_KernelHeadsIdeal (m : (ℓ : Loc Cert.KernelHeadsIdeal.nD Cert.KernelHeadsIdeal.τ Cert.KernelHeadsIdeal.sig) → Buf (Elt Ideal) ℓ) : Prop :=
  True

def Pre_ReferenceHeadsIdeal (m : (ℓ : Loc Cert.ReferenceHeadsIdeal.nD Cert.ReferenceHeadsIdeal.τ Cert.ReferenceHeadsIdeal.sig) → Buf (Elt Ideal) ℓ) : Prop :=
  True

def Pre_KernelViews (m : (ℓ : Loc Cert.KernelViews.nD Cert.KernelViews.τ Cert.KernelViews.sig) → Buf (Elt Bits) ℓ) : Prop :=
  True

def Pre_KernelViewsIdeal (m : (ℓ : Loc Cert.KernelViewsIdeal.nD Cert.KernelViewsIdeal.τ Cert.KernelViewsIdeal.sig) → Buf (Elt Ideal) ℓ) : Prop :=
  True

def Pre_ReferenceViewsIdeal (m : (ℓ : Loc Cert.ReferenceViewsIdeal.nD Cert.ReferenceViewsIdeal.τ Cert.ReferenceViewsIdeal.sig) → Buf (Elt Ideal) ℓ) : Prop :=
  True

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelQueries (m : (ℓ : Loc Cert.KernelQueries.nD Cert.KernelQueries.τ Cert.KernelQueries.sig) → Buf (Elt Bits) ℓ) : Prop :=
  True

def Pre_KernelQueriesIdeal (m : (ℓ : Loc Cert.KernelQueriesIdeal.nD Cert.KernelQueriesIdeal.τ Cert.KernelQueriesIdeal.sig) → Buf (Elt Ideal) ℓ) : Prop :=
  True

def Pre_ReferenceQueriesIdeal (m : (ℓ : Loc Cert.ReferenceQueriesIdeal.nD Cert.ReferenceQueriesIdeal.τ Cert.ReferenceQueriesIdeal.sig) → Buf (Elt Ideal) ℓ) : Prop :=
  True

def Pre_KernelMain (m : (ℓ : Loc Cert.KernelMain.nD Cert.KernelMain.τ Cert.KernelMain.sig) → Buf (Elt Bits) ℓ) : Prop :=
  True

def Pre_KernelMainIdeal (m : (ℓ : Loc Cert.KernelMainIdeal.nD Cert.KernelMainIdeal.τ Cert.KernelMainIdeal.sig) → Buf (Elt Ideal) ℓ) : Prop :=
  True

def Pre_ReferenceMainIdeal (m : (ℓ : Loc Cert.ReferenceMainIdeal.nD Cert.ReferenceMainIdeal.τ Cert.ReferenceMainIdeal.sig) → Buf (Elt Ideal) ℓ) : Prop :=
  True

def Pre_KernelMix (m : (ℓ : Loc Cert.KernelMix.nD Cert.KernelMix.τ Cert.KernelMix.sig) → Buf (Elt Bits) ℓ) : Prop :=
  True

def Pre_KernelMixIdeal (m : (ℓ : Loc Cert.KernelMixIdeal.nD Cert.KernelMixIdeal.τ Cert.KernelMixIdeal.sig) → Buf (Elt Ideal) ℓ) : Prop :=
  True

def Pre_ReferenceMixIdeal (m : (ℓ : Loc Cert.ReferenceMixIdeal.nD Cert.ReferenceMixIdeal.τ Cert.ReferenceMixIdeal.sig) → Buf (Elt Ideal) ℓ) : Prop :=
  True

def Pre_KernelSample (m : (ℓ : Loc Cert.KernelSample.nD Cert.KernelSample.τ Cert.KernelSample.sig) → Buf (Elt Bits) ℓ) : Prop :=
  True

def Pre_KernelSampleIdeal (m : (ℓ : Loc Cert.KernelSampleIdeal.nD Cert.KernelSampleIdeal.τ Cert.KernelSampleIdeal.sig) → Buf (Elt Ideal) ℓ) : Prop :=
  True

def Pre_ReferenceSampleIdeal (m : (ℓ : Loc Cert.ReferenceSampleIdeal.nD Cert.ReferenceSampleIdeal.τ Cert.ReferenceSampleIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3)
      ∧ r.2.mem ((c.tc : Thread Cert.KernelOut.nD Cert.KernelOut.τ).loc Cert.KernelOut.main_arg4) = m ((c.tc : Thread Cert.KernelOut.nD Cert.KernelOut.τ).loc Cert.KernelOut.main_arg4))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
      ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3)
      ∧ r.2.mem ((c.tc : Thread Cert.ReferenceOutIdeal.nD Cert.ReferenceOutIdeal.τ).loc Cert.ReferenceOutIdeal.main_arg4) = m ((c.tc : Thread Cert.ReferenceOutIdeal.nD Cert.ReferenceOutIdeal.τ).loc Cert.ReferenceOutIdeal.main_arg4))
      ∧ r.2.sem = fun _ => 0)

def quiescent_KernelGate [hKernelGate : Cert.KernelGate.Facts] : Prop :=
  ∀ (m : (ℓ : Loc Cert.KernelGate.nD Cert.KernelGate.τ Cert.KernelGate.sig) → Buf (Elt Bits) ℓ) (g : Dev Cert.KernelGate.nD → PrngReg), Pre_KernelGate m →
    θ_run (Cert.KernelGate.defs (F := Bits)) (onTc (τ := Cert.KernelGate.τ) (Cert.KernelGate.main (F := Bits))) ⟨m, fun _ => 0, g⟩ (fun r => (∀ c : Dev Cert.KernelGate.nD,
      r.2.mem ((c.tc : Thread Cert.KernelGate.nD Cert.KernelGate.τ).loc Cert.KernelGate.main_arg0) = m ((c.tc : Thread Cert.KernelGate.nD Cert.KernelGate.τ).loc Cert.KernelGate.main_arg0)
      ∧ r.2.mem ((c.tc : Thread Cert.KernelGate.nD Cert.KernelGate.τ).loc Cert.KernelGate.main_arg1) = m ((c.tc : Thread Cert.KernelGate.nD Cert.KernelGate.τ).loc Cert.KernelGate.main_arg1))
      ∧ r.2.sem = fun _ => 0)

def quiescent_KernelGateIdeal [hKernelGateIdeal : Cert.KernelGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg), Pre_KernelGateIdeal m →
    θ_run (Cert.KernelGateIdeal.defs (F := Ideal)) (onTc (τ := Cert.KernelGateIdeal.τ) (Cert.KernelGateIdeal.main (F := Ideal))) ⟨m, fun _ => 0, g⟩ (fun r => (∀ c : Dev Cert.KernelGateIdeal.nD,
      r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
      ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1))
      ∧ r.2.sem = fun _ => 0)

def quiescent_ReferenceGateIdeal [hReferenceGateIdeal : Cert.ReferenceGateIdeal.Facts] : Prop :=
  ∀ (m : (ℓ : Loc Cert.ReferenceGateIdeal.nD Cert.ReferenceGateIdeal.τ Cert.ReferenceGateIdeal.sig) → Buf (Elt Ideal) ℓ) (g : Dev Cert.ReferenceGateIdeal.nD → PrngReg), Pre_ReferenceGateIdeal m →
    θ_run (Cert.ReferenceGateIdeal.defs (F := Ideal)) (onTc (τ := Cert.ReferenceGateIdeal.τ) (Cert.ReferenceGateIdeal.main (F := Ideal))) ⟨m, fun _ => 0, g⟩ (fun r => (∀ c : Dev Cert.ReferenceGateIdeal.nD,
      r.2.mem ((c.tc : Thread Cert.ReferenceGateIdeal.nD Cert.ReferenceGateIdeal.τ).loc Cert.ReferenceGateIdeal.main_arg0) = m ((c.tc : Thread Cert.ReferenceGateIdeal.nD Cert.ReferenceGateIdeal.τ).loc Cert.ReferenceGateIdeal.main_arg0)
      ∧ r.2.mem ((c.tc : Thread Cert.ReferenceGateIdeal.nD Cert.ReferenceGateIdeal.τ).loc Cert.ReferenceGateIdeal.main_arg1) = m ((c.tc : Thread Cert.ReferenceGateIdeal.nD Cert.ReferenceGateIdeal.τ).loc Cert.ReferenceGateIdeal.main_arg1))
      ∧ r.2.sem = fun _ => 0)

def quiescent_KernelTail [hKernelTail : Cert.KernelTail.Facts] : Prop :=
  ∀ (m : (ℓ : Loc Cert.KernelTail.nD Cert.KernelTail.τ Cert.KernelTail.sig) → Buf (Elt Bits) ℓ) (g : Dev Cert.KernelTail.nD → PrngReg), Pre_KernelTail m →
    θ_run (Cert.KernelTail.defs (F := Bits)) (onTc (τ := Cert.KernelTail.τ) (Cert.KernelTail.main (F := Bits))) ⟨m, fun _ => 0, g⟩ (fun r => (∀ c : Dev Cert.KernelTail.nD,
      r.2.mem ((c.tc : Thread Cert.KernelTail.nD Cert.KernelTail.τ).loc Cert.KernelTail.main_arg0) = m ((c.tc : Thread Cert.KernelTail.nD Cert.KernelTail.τ).loc Cert.KernelTail.main_arg0)
      ∧ r.2.mem ((c.tc : Thread Cert.KernelTail.nD Cert.KernelTail.τ).loc Cert.KernelTail.main_arg1) = m ((c.tc : Thread Cert.KernelTail.nD Cert.KernelTail.τ).loc Cert.KernelTail.main_arg1))
      ∧ r.2.sem = fun _ => 0)

def quiescent_KernelTailIdeal [hKernelTailIdeal : Cert.KernelTailIdeal.Facts] : Prop :=
  ∀ (m : (ℓ : Loc Cert.KernelTailIdeal.nD Cert.KernelTailIdeal.τ Cert.KernelTailIdeal.sig) → Buf (Elt Ideal) ℓ) (g : Dev Cert.KernelTailIdeal.nD → PrngReg), Pre_KernelTailIdeal m →
    θ_run (Cert.KernelTailIdeal.defs (F := Ideal)) (onTc (τ := Cert.KernelTailIdeal.τ) (Cert.KernelTailIdeal.main (F := Ideal))) ⟨m, fun _ => 0, g⟩ (fun r => (∀ c : Dev Cert.KernelTailIdeal.nD,
      r.2.mem ((c.tc : Thread Cert.KernelTailIdeal.nD Cert.KernelTailIdeal.τ).loc Cert.KernelTailIdeal.main_arg0) = m ((c.tc : Thread Cert.KernelTailIdeal.nD Cert.KernelTailIdeal.τ).loc Cert.KernelTailIdeal.main_arg0)
      ∧ r.2.mem ((c.tc : Thread Cert.KernelTailIdeal.nD Cert.KernelTailIdeal.τ).loc Cert.KernelTailIdeal.main_arg1) = m ((c.tc : Thread Cert.KernelTailIdeal.nD Cert.KernelTailIdeal.τ).loc Cert.KernelTailIdeal.main_arg1))
      ∧ r.2.sem = fun _ => 0)

def quiescent_ReferenceTailIdeal [hReferenceTailIdeal : Cert.ReferenceTailIdeal.Facts] : Prop :=
  ∀ (m : (ℓ : Loc Cert.ReferenceTailIdeal.nD Cert.ReferenceTailIdeal.τ Cert.ReferenceTailIdeal.sig) → Buf (Elt Ideal) ℓ) (g : Dev Cert.ReferenceTailIdeal.nD → PrngReg), Pre_ReferenceTailIdeal m →
    θ_run (Cert.ReferenceTailIdeal.defs (F := Ideal)) (onTc (τ := Cert.ReferenceTailIdeal.τ) (Cert.ReferenceTailIdeal.main (F := Ideal))) ⟨m, fun _ => 0, g⟩ (fun r => (∀ c : Dev Cert.ReferenceTailIdeal.nD,
      r.2.mem ((c.tc : Thread Cert.ReferenceTailIdeal.nD Cert.ReferenceTailIdeal.τ).loc Cert.ReferenceTailIdeal.main_arg0) = m ((c.tc : Thread Cert.ReferenceTailIdeal.nD Cert.ReferenceTailIdeal.τ).loc Cert.ReferenceTailIdeal.main_arg0)
      ∧ r.2.mem ((c.tc : Thread Cert.ReferenceTailIdeal.nD Cert.ReferenceTailIdeal.τ).loc Cert.ReferenceTailIdeal.main_arg1) = m ((c.tc : Thread Cert.ReferenceTailIdeal.nD Cert.ReferenceTailIdeal.τ).loc Cert.ReferenceTailIdeal.main_arg1))
      ∧ r.2.sem = fun _ => 0)

def quiescent_KernelVals [hKernelVals : Cert.KernelVals.Facts] : Prop :=
  ∀ (m : (ℓ : Loc Cert.KernelVals.nD Cert.KernelVals.τ Cert.KernelVals.sig) → Buf (Elt Bits) ℓ) (g : Dev Cert.KernelVals.nD → PrngReg), Pre_KernelVals m →
    θ_run (Cert.KernelVals.defs (F := Bits)) (onTc (τ := Cert.KernelVals.τ) (Cert.KernelVals.main (F := Bits))) ⟨m, fun _ => 0, g⟩ (fun r => (∀ c : Dev Cert.KernelVals.nD,
      r.2.mem ((c.tc : Thread Cert.KernelVals.nD Cert.KernelVals.τ).loc Cert.KernelVals.main_arg0) = m ((c.tc : Thread Cert.KernelVals.nD Cert.KernelVals.τ).loc Cert.KernelVals.main_arg0)
      ∧ r.2.mem ((c.tc : Thread Cert.KernelVals.nD Cert.KernelVals.τ).loc Cert.KernelVals.main_arg1) = m ((c.tc : Thread Cert.KernelVals.nD Cert.KernelVals.τ).loc Cert.KernelVals.main_arg1))
      ∧ r.2.sem = fun _ => 0)

def quiescent_KernelValsIdeal [hKernelValsIdeal : Cert.KernelValsIdeal.Facts] : Prop :=
  ∀ (m : (ℓ : Loc Cert.KernelValsIdeal.nD Cert.KernelValsIdeal.τ Cert.KernelValsIdeal.sig) → Buf (Elt Ideal) ℓ) (g : Dev Cert.KernelValsIdeal.nD → PrngReg), Pre_KernelValsIdeal m →
    θ_run (Cert.KernelValsIdeal.defs (F := Ideal)) (onTc (τ := Cert.KernelValsIdeal.τ) (Cert.KernelValsIdeal.main (F := Ideal))) ⟨m, fun _ => 0, g⟩ (fun r => (∀ c : Dev Cert.KernelValsIdeal.nD,
      r.2.mem ((c.tc : Thread Cert.KernelValsIdeal.nD Cert.KernelValsIdeal.τ).loc Cert.KernelValsIdeal.main_arg0) = m ((c.tc : Thread Cert.KernelValsIdeal.nD Cert.KernelValsIdeal.τ).loc Cert.KernelValsIdeal.main_arg0)
      ∧ r.2.mem ((c.tc : Thread Cert.KernelValsIdeal.nD Cert.KernelValsIdeal.τ).loc Cert.KernelValsIdeal.main_arg1) = m ((c.tc : Thread Cert.KernelValsIdeal.nD Cert.KernelValsIdeal.τ).loc Cert.KernelValsIdeal.main_arg1))
      ∧ r.2.sem = fun _ => 0)

def quiescent_ReferenceValsIdeal [hReferenceValsIdeal : Cert.ReferenceValsIdeal.Facts] : Prop :=
  ∀ (m : (ℓ : Loc Cert.ReferenceValsIdeal.nD Cert.ReferenceValsIdeal.τ Cert.ReferenceValsIdeal.sig) → Buf (Elt Ideal) ℓ) (g : Dev Cert.ReferenceValsIdeal.nD → PrngReg), Pre_ReferenceValsIdeal m →
    θ_run (Cert.ReferenceValsIdeal.defs (F := Ideal)) (onTc (τ := Cert.ReferenceValsIdeal.τ) (Cert.ReferenceValsIdeal.main (F := Ideal))) ⟨m, fun _ => 0, g⟩ (fun r => (∀ c : Dev Cert.ReferenceValsIdeal.nD,
      r.2.mem ((c.tc : Thread Cert.ReferenceValsIdeal.nD Cert.ReferenceValsIdeal.τ).loc Cert.ReferenceValsIdeal.main_arg0) = m ((c.tc : Thread Cert.ReferenceValsIdeal.nD Cert.ReferenceValsIdeal.τ).loc Cert.ReferenceValsIdeal.main_arg0)
      ∧ r.2.mem ((c.tc : Thread Cert.ReferenceValsIdeal.nD Cert.ReferenceValsIdeal.τ).loc Cert.ReferenceValsIdeal.main_arg1) = m ((c.tc : Thread Cert.ReferenceValsIdeal.nD Cert.ReferenceValsIdeal.τ).loc Cert.ReferenceValsIdeal.main_arg1))
      ∧ r.2.sem = fun _ => 0)

def quiescent_KernelHeads [hKernelHeads : Cert.KernelHeads.Facts] : Prop :=
  ∀ (m : (ℓ : Loc Cert.KernelHeads.nD Cert.KernelHeads.τ Cert.KernelHeads.sig) → Buf (Elt Bits) ℓ) (g : Dev Cert.KernelHeads.nD → PrngReg), Pre_KernelHeads m →
    θ_run (Cert.KernelHeads.defs (F := Bits)) (onTc (τ := Cert.KernelHeads.τ) (Cert.KernelHeads.main (F := Bits))) ⟨m, fun _ => 0, g⟩ (fun r => (∀ c : Dev Cert.KernelHeads.nD,
      r.2.mem ((c.tc : Thread Cert.KernelHeads.nD Cert.KernelHeads.τ).loc Cert.KernelHeads.main_arg0) = m ((c.tc : Thread Cert.KernelHeads.nD Cert.KernelHeads.τ).loc Cert.KernelHeads.main_arg0)
      ∧ r.2.mem ((c.tc : Thread Cert.KernelHeads.nD Cert.KernelHeads.τ).loc Cert.KernelHeads.main_arg1) = m ((c.tc : Thread Cert.KernelHeads.nD Cert.KernelHeads.τ).loc Cert.KernelHeads.main_arg1))
      ∧ r.2.sem = fun _ => 0)

def quiescent_KernelHeadsIdeal [hKernelHeadsIdeal : Cert.KernelHeadsIdeal.Facts] : Prop :=
  ∀ (m : (ℓ : Loc Cert.KernelHeadsIdeal.nD Cert.KernelHeadsIdeal.τ Cert.KernelHeadsIdeal.sig) → Buf (Elt Ideal) ℓ) (g : Dev Cert.KernelHeadsIdeal.nD → PrngReg), Pre_KernelHeadsIdeal m →
    θ_run (Cert.KernelHeadsIdeal.defs (F := Ideal)) (onTc (τ := Cert.KernelHeadsIdeal.τ) (Cert.KernelHeadsIdeal.main (F := Ideal))) ⟨m, fun _ => 0, g⟩ (fun r => (∀ c : Dev Cert.KernelHeadsIdeal.nD,
      r.2.mem ((c.tc : Thread Cert.KernelHeadsIdeal.nD Cert.KernelHeadsIdeal.τ).loc Cert.KernelHeadsIdeal.main_arg0) = m ((c.tc : Thread Cert.KernelHeadsIdeal.nD Cert.KernelHeadsIdeal.τ).loc Cert.KernelHeadsIdeal.main_arg0)
      ∧ r.2.mem ((c.tc : Thread Cert.KernelHeadsIdeal.nD Cert.KernelHeadsIdeal.τ).loc Cert.KernelHeadsIdeal.main_arg1) = m ((c.tc : Thread Cert.KernelHeadsIdeal.nD Cert.KernelHeadsIdeal.τ).loc Cert.KernelHeadsIdeal.main_arg1))
      ∧ r.2.sem = fun _ => 0)

def quiescent_ReferenceHeadsIdeal [hReferenceHeadsIdeal : Cert.ReferenceHeadsIdeal.Facts] : Prop :=
  ∀ (m : (ℓ : Loc Cert.ReferenceHeadsIdeal.nD Cert.ReferenceHeadsIdeal.τ Cert.ReferenceHeadsIdeal.sig) → Buf (Elt Ideal) ℓ) (g : Dev Cert.ReferenceHeadsIdeal.nD → PrngReg), Pre_ReferenceHeadsIdeal m →
    θ_run (Cert.ReferenceHeadsIdeal.defs (F := Ideal)) (onTc (τ := Cert.ReferenceHeadsIdeal.τ) (Cert.ReferenceHeadsIdeal.main (F := Ideal))) ⟨m, fun _ => 0, g⟩ (fun r => (∀ c : Dev Cert.ReferenceHeadsIdeal.nD,
      r.2.mem ((c.tc : Thread Cert.ReferenceHeadsIdeal.nD Cert.ReferenceHeadsIdeal.τ).loc Cert.ReferenceHeadsIdeal.main_arg0) = m ((c.tc : Thread Cert.ReferenceHeadsIdeal.nD Cert.ReferenceHeadsIdeal.τ).loc Cert.ReferenceHeadsIdeal.main_arg0)
      ∧ r.2.mem ((c.tc : Thread Cert.ReferenceHeadsIdeal.nD Cert.ReferenceHeadsIdeal.τ).loc Cert.ReferenceHeadsIdeal.main_arg1) = m ((c.tc : Thread Cert.ReferenceHeadsIdeal.nD Cert.ReferenceHeadsIdeal.τ).loc Cert.ReferenceHeadsIdeal.main_arg1))
      ∧ r.2.sem = fun _ => 0)

def quiescent_KernelViews [hKernelViews : Cert.KernelViews.Facts] : Prop :=
  ∀ (m : (ℓ : Loc Cert.KernelViews.nD Cert.KernelViews.τ Cert.KernelViews.sig) → Buf (Elt Bits) ℓ) (g : Dev Cert.KernelViews.nD → PrngReg), Pre_KernelViews m →
    θ_run (Cert.KernelViews.defs (F := Bits)) (onTc (τ := Cert.KernelViews.τ) (Cert.KernelViews.main (F := Bits))) ⟨m, fun _ => 0, g⟩ (fun r => (∀ c : Dev Cert.KernelViews.nD,
      r.2.mem ((c.tc : Thread Cert.KernelViews.nD Cert.KernelViews.τ).loc Cert.KernelViews.main_arg0) = m ((c.tc : Thread Cert.KernelViews.nD Cert.KernelViews.τ).loc Cert.KernelViews.main_arg0)
      ∧ r.2.mem ((c.tc : Thread Cert.KernelViews.nD Cert.KernelViews.τ).loc Cert.KernelViews.main_arg1) = m ((c.tc : Thread Cert.KernelViews.nD Cert.KernelViews.τ).loc Cert.KernelViews.main_arg1))
      ∧ r.2.sem = fun _ => 0)

def quiescent_KernelViewsIdeal [hKernelViewsIdeal : Cert.KernelViewsIdeal.Facts] : Prop :=
  ∀ (m : (ℓ : Loc Cert.KernelViewsIdeal.nD Cert.KernelViewsIdeal.τ Cert.KernelViewsIdeal.sig) → Buf (Elt Ideal) ℓ) (g : Dev Cert.KernelViewsIdeal.nD → PrngReg), Pre_KernelViewsIdeal m →
    θ_run (Cert.KernelViewsIdeal.defs (F := Ideal)) (onTc (τ := Cert.KernelViewsIdeal.τ) (Cert.KernelViewsIdeal.main (F := Ideal))) ⟨m, fun _ => 0, g⟩ (fun r => (∀ c : Dev Cert.KernelViewsIdeal.nD,
      r.2.mem ((c.tc : Thread Cert.KernelViewsIdeal.nD Cert.KernelViewsIdeal.τ).loc Cert.KernelViewsIdeal.main_arg0) = m ((c.tc : Thread Cert.KernelViewsIdeal.nD Cert.KernelViewsIdeal.τ).loc Cert.KernelViewsIdeal.main_arg0)
      ∧ r.2.mem ((c.tc : Thread Cert.KernelViewsIdeal.nD Cert.KernelViewsIdeal.τ).loc Cert.KernelViewsIdeal.main_arg1) = m ((c.tc : Thread Cert.KernelViewsIdeal.nD Cert.KernelViewsIdeal.τ).loc Cert.KernelViewsIdeal.main_arg1))
      ∧ r.2.sem = fun _ => 0)

def quiescent_ReferenceViewsIdeal [hReferenceViewsIdeal : Cert.ReferenceViewsIdeal.Facts] : Prop :=
  ∀ (m : (ℓ : Loc Cert.ReferenceViewsIdeal.nD Cert.ReferenceViewsIdeal.τ Cert.ReferenceViewsIdeal.sig) → Buf (Elt Ideal) ℓ) (g : Dev Cert.ReferenceViewsIdeal.nD → PrngReg), Pre_ReferenceViewsIdeal m →
    θ_run (Cert.ReferenceViewsIdeal.defs (F := Ideal)) (onTc (τ := Cert.ReferenceViewsIdeal.τ) (Cert.ReferenceViewsIdeal.main (F := Ideal))) ⟨m, fun _ => 0, g⟩ (fun r => (∀ c : Dev Cert.ReferenceViewsIdeal.nD,
      r.2.mem ((c.tc : Thread Cert.ReferenceViewsIdeal.nD Cert.ReferenceViewsIdeal.τ).loc Cert.ReferenceViewsIdeal.main_arg0) = m ((c.tc : Thread Cert.ReferenceViewsIdeal.nD Cert.ReferenceViewsIdeal.τ).loc Cert.ReferenceViewsIdeal.main_arg0)
      ∧ r.2.mem ((c.tc : Thread Cert.ReferenceViewsIdeal.nD Cert.ReferenceViewsIdeal.τ).loc Cert.ReferenceViewsIdeal.main_arg1) = m ((c.tc : Thread Cert.ReferenceViewsIdeal.nD Cert.ReferenceViewsIdeal.τ).loc Cert.ReferenceViewsIdeal.main_arg1))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1)
      ∧ r.2.mem ((c.tc : Thread Cert.KernelUp.nD Cert.KernelUp.τ).loc Cert.KernelUp.main_arg2) = m ((c.tc : Thread Cert.KernelUp.nD Cert.KernelUp.τ).loc Cert.KernelUp.main_arg2)
      ∧ r.2.mem ((c.tc : Thread Cert.KernelUp.nD Cert.KernelUp.τ).loc Cert.KernelUp.main_arg3) = m ((c.tc : Thread Cert.KernelUp.nD Cert.KernelUp.τ).loc Cert.KernelUp.main_arg3))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
      ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2)
      ∧ r.2.mem ((c.tc : Thread Cert.KernelUpIdeal.nD Cert.KernelUpIdeal.τ).loc Cert.KernelUpIdeal.main_arg3) = m ((c.tc : Thread Cert.KernelUpIdeal.nD Cert.KernelUpIdeal.τ).loc Cert.KernelUpIdeal.main_arg3))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1)
      ∧ r.2.mem ((c.tc : Thread Cert.ReferenceUpIdeal.nD Cert.ReferenceUpIdeal.τ).loc Cert.ReferenceUpIdeal.main_arg2) = m ((c.tc : Thread Cert.ReferenceUpIdeal.nD Cert.ReferenceUpIdeal.τ).loc Cert.ReferenceUpIdeal.main_arg2)
      ∧ r.2.mem ((c.tc : Thread Cert.ReferenceUpIdeal.nD Cert.ReferenceUpIdeal.τ).loc Cert.ReferenceUpIdeal.main_arg3) = m ((c.tc : Thread Cert.ReferenceUpIdeal.nD Cert.ReferenceUpIdeal.τ).loc Cert.ReferenceUpIdeal.main_arg3))
      ∧ r.2.sem = fun _ => 0)

def quiescent_KernelQueries [hKernelQueries : Cert.KernelQueries.Facts] : Prop :=
  ∀ (m : (ℓ : Loc Cert.KernelQueries.nD Cert.KernelQueries.τ Cert.KernelQueries.sig) → Buf (Elt Bits) ℓ) (g : Dev Cert.KernelQueries.nD → PrngReg), Pre_KernelQueries m →
    θ_run (Cert.KernelQueries.defs (F := Bits)) (onTc (τ := Cert.KernelQueries.τ) (Cert.KernelQueries.main (F := Bits))) ⟨m, fun _ => 0, g⟩ (fun r => (∀ c : Dev Cert.KernelQueries.nD,
      r.2.mem ((c.tc : Thread Cert.KernelQueries.nD Cert.KernelQueries.τ).loc Cert.KernelQueries.main_arg0) = m ((c.tc : Thread Cert.KernelQueries.nD Cert.KernelQueries.τ).loc Cert.KernelQueries.main_arg0)
      ∧ r.2.mem ((c.tc : Thread Cert.KernelQueries.nD Cert.KernelQueries.τ).loc Cert.KernelQueries.main_arg1) = m ((c.tc : Thread Cert.KernelQueries.nD Cert.KernelQueries.τ).loc Cert.KernelQueries.main_arg1)
      ∧ r.2.mem ((c.tc : Thread Cert.KernelQueries.nD Cert.KernelQueries.τ).loc Cert.KernelQueries.main_arg2) = m ((c.tc : Thread Cert.KernelQueries.nD Cert.KernelQueries.τ).loc Cert.KernelQueries.main_arg2))
      ∧ r.2.sem = fun _ => 0)

def quiescent_KernelQueriesIdeal [hKernelQueriesIdeal : Cert.KernelQueriesIdeal.Facts] : Prop :=
  ∀ (m : (ℓ : Loc Cert.KernelQueriesIdeal.nD Cert.KernelQueriesIdeal.τ Cert.KernelQueriesIdeal.sig) → Buf (Elt Ideal) ℓ) (g : Dev Cert.KernelQueriesIdeal.nD → PrngReg), Pre_KernelQueriesIdeal m →
    θ_run (Cert.KernelQueriesIdeal.defs (F := Ideal)) (onTc (τ := Cert.KernelQueriesIdeal.τ) (Cert.KernelQueriesIdeal.main (F := Ideal))) ⟨m, fun _ => 0, g⟩ (fun r => (∀ c : Dev Cert.KernelQueriesIdeal.nD,
      r.2.mem ((c.tc : Thread Cert.KernelQueriesIdeal.nD Cert.KernelQueriesIdeal.τ).loc Cert.KernelQueriesIdeal.main_arg0) = m ((c.tc : Thread Cert.KernelQueriesIdeal.nD Cert.KernelQueriesIdeal.τ).loc Cert.KernelQueriesIdeal.main_arg0)
      ∧ r.2.mem ((c.tc : Thread Cert.KernelQueriesIdeal.nD Cert.KernelQueriesIdeal.τ).loc Cert.KernelQueriesIdeal.main_arg1) = m ((c.tc : Thread Cert.KernelQueriesIdeal.nD Cert.KernelQueriesIdeal.τ).loc Cert.KernelQueriesIdeal.main_arg1)
      ∧ r.2.mem ((c.tc : Thread Cert.KernelQueriesIdeal.nD Cert.KernelQueriesIdeal.τ).loc Cert.KernelQueriesIdeal.main_arg2) = m ((c.tc : Thread Cert.KernelQueriesIdeal.nD Cert.KernelQueriesIdeal.τ).loc Cert.KernelQueriesIdeal.main_arg2))
      ∧ r.2.sem = fun _ => 0)

def quiescent_ReferenceQueriesIdeal [hReferenceQueriesIdeal : Cert.ReferenceQueriesIdeal.Facts] : Prop :=
  ∀ (m : (ℓ : Loc Cert.ReferenceQueriesIdeal.nD Cert.ReferenceQueriesIdeal.τ Cert.ReferenceQueriesIdeal.sig) → Buf (Elt Ideal) ℓ) (g : Dev Cert.ReferenceQueriesIdeal.nD → PrngReg), Pre_ReferenceQueriesIdeal m →
    θ_run (Cert.ReferenceQueriesIdeal.defs (F := Ideal)) (onTc (τ := Cert.ReferenceQueriesIdeal.τ) (Cert.ReferenceQueriesIdeal.main (F := Ideal))) ⟨m, fun _ => 0, g⟩ (fun r => (∀ c : Dev Cert.ReferenceQueriesIdeal.nD,
      r.2.mem ((c.tc : Thread Cert.ReferenceQueriesIdeal.nD Cert.ReferenceQueriesIdeal.τ).loc Cert.ReferenceQueriesIdeal.main_arg0) = m ((c.tc : Thread Cert.ReferenceQueriesIdeal.nD Cert.ReferenceQueriesIdeal.τ).loc Cert.ReferenceQueriesIdeal.main_arg0)
      ∧ r.2.mem ((c.tc : Thread Cert.ReferenceQueriesIdeal.nD Cert.ReferenceQueriesIdeal.τ).loc Cert.ReferenceQueriesIdeal.main_arg1) = m ((c.tc : Thread Cert.ReferenceQueriesIdeal.nD Cert.ReferenceQueriesIdeal.τ).loc Cert.ReferenceQueriesIdeal.main_arg1)
      ∧ r.2.mem ((c.tc : Thread Cert.ReferenceQueriesIdeal.nD Cert.ReferenceQueriesIdeal.τ).loc Cert.ReferenceQueriesIdeal.main_arg2) = m ((c.tc : Thread Cert.ReferenceQueriesIdeal.nD Cert.ReferenceQueriesIdeal.τ).loc Cert.ReferenceQueriesIdeal.main_arg2))
      ∧ r.2.sem = fun _ => 0)

def quiescent_KernelMain [hKernelMain : Cert.KernelMain.Facts] : Prop :=
  ∀ (m : (ℓ : Loc Cert.KernelMain.nD Cert.KernelMain.τ Cert.KernelMain.sig) → Buf (Elt Bits) ℓ) (g : Dev Cert.KernelMain.nD → PrngReg), Pre_KernelMain m →
    θ_run (Cert.KernelMain.defs (F := Bits)) (onTc (τ := Cert.KernelMain.τ) (Cert.KernelMain.main (F := Bits))) ⟨m, fun _ => 0, g⟩ (fun r => (∀ c : Dev Cert.KernelMain.nD,
      r.2.mem ((c.tc : Thread Cert.KernelMain.nD Cert.KernelMain.τ).loc Cert.KernelMain.main_arg0) = m ((c.tc : Thread Cert.KernelMain.nD Cert.KernelMain.τ).loc Cert.KernelMain.main_arg0)
      ∧ r.2.mem ((c.tc : Thread Cert.KernelMain.nD Cert.KernelMain.τ).loc Cert.KernelMain.main_arg1) = m ((c.tc : Thread Cert.KernelMain.nD Cert.KernelMain.τ).loc Cert.KernelMain.main_arg1))
      ∧ r.2.sem = fun _ => 0)

def quiescent_KernelMainIdeal [hKernelMainIdeal : Cert.KernelMainIdeal.Facts] : Prop :=
  ∀ (m : (ℓ : Loc Cert.KernelMainIdeal.nD Cert.KernelMainIdeal.τ Cert.KernelMainIdeal.sig) → Buf (Elt Ideal) ℓ) (g : Dev Cert.KernelMainIdeal.nD → PrngReg), Pre_KernelMainIdeal m →
    θ_run (Cert.KernelMainIdeal.defs (F := Ideal)) (onTc (τ := Cert.KernelMainIdeal.τ) (Cert.KernelMainIdeal.main (F := Ideal))) ⟨m, fun _ => 0, g⟩ (fun r => (∀ c : Dev Cert.KernelMainIdeal.nD,
      r.2.mem ((c.tc : Thread Cert.KernelMainIdeal.nD Cert.KernelMainIdeal.τ).loc Cert.KernelMainIdeal.main_arg0) = m ((c.tc : Thread Cert.KernelMainIdeal.nD Cert.KernelMainIdeal.τ).loc Cert.KernelMainIdeal.main_arg0)
      ∧ r.2.mem ((c.tc : Thread Cert.KernelMainIdeal.nD Cert.KernelMainIdeal.τ).loc Cert.KernelMainIdeal.main_arg1) = m ((c.tc : Thread Cert.KernelMainIdeal.nD Cert.KernelMainIdeal.τ).loc Cert.KernelMainIdeal.main_arg1))
      ∧ r.2.sem = fun _ => 0)

def quiescent_ReferenceMainIdeal [hReferenceMainIdeal : Cert.ReferenceMainIdeal.Facts] : Prop :=
  ∀ (m : (ℓ : Loc Cert.ReferenceMainIdeal.nD Cert.ReferenceMainIdeal.τ Cert.ReferenceMainIdeal.sig) → Buf (Elt Ideal) ℓ) (g : Dev Cert.ReferenceMainIdeal.nD → PrngReg), Pre_ReferenceMainIdeal m →
    θ_run (Cert.ReferenceMainIdeal.defs (F := Ideal)) (onTc (τ := Cert.ReferenceMainIdeal.τ) (Cert.ReferenceMainIdeal.main (F := Ideal))) ⟨m, fun _ => 0, g⟩ (fun r => (∀ c : Dev Cert.ReferenceMainIdeal.nD,
      r.2.mem ((c.tc : Thread Cert.ReferenceMainIdeal.nD Cert.ReferenceMainIdeal.τ).loc Cert.ReferenceMainIdeal.main_arg0) = m ((c.tc : Thread Cert.ReferenceMainIdeal.nD Cert.ReferenceMainIdeal.τ).loc Cert.ReferenceMainIdeal.main_arg0)
      ∧ r.2.mem ((c.tc : Thread Cert.ReferenceMainIdeal.nD Cert.ReferenceMainIdeal.τ).loc Cert.ReferenceMainIdeal.main_arg1) = m ((c.tc : Thread Cert.ReferenceMainIdeal.nD Cert.ReferenceMainIdeal.τ).loc Cert.ReferenceMainIdeal.main_arg1))
      ∧ r.2.sem = fun _ => 0)

def quiescent_KernelMix [hKernelMix : Cert.KernelMix.Facts] : Prop :=
  ∀ (m : (ℓ : Loc Cert.KernelMix.nD Cert.KernelMix.τ Cert.KernelMix.sig) → Buf (Elt Bits) ℓ) (g : Dev Cert.KernelMix.nD → PrngReg), Pre_KernelMix m →
    θ_run (Cert.KernelMix.defs (F := Bits)) (onTc (τ := Cert.KernelMix.τ) (Cert.KernelMix.main (F := Bits))) ⟨m, fun _ => 0, g⟩ (fun r => (∀ c : Dev Cert.KernelMix.nD,
      r.2.mem ((c.tc : Thread Cert.KernelMix.nD Cert.KernelMix.τ).loc Cert.KernelMix.main_arg0) = m ((c.tc : Thread Cert.KernelMix.nD Cert.KernelMix.τ).loc Cert.KernelMix.main_arg0)
      ∧ r.2.mem ((c.tc : Thread Cert.KernelMix.nD Cert.KernelMix.τ).loc Cert.KernelMix.main_arg1) = m ((c.tc : Thread Cert.KernelMix.nD Cert.KernelMix.τ).loc Cert.KernelMix.main_arg1)
      ∧ r.2.mem ((c.tc : Thread Cert.KernelMix.nD Cert.KernelMix.τ).loc Cert.KernelMix.main_arg2) = m ((c.tc : Thread Cert.KernelMix.nD Cert.KernelMix.τ).loc Cert.KernelMix.main_arg2)
      ∧ r.2.mem ((c.tc : Thread Cert.KernelMix.nD Cert.KernelMix.τ).loc Cert.KernelMix.main_arg3) = m ((c.tc : Thread Cert.KernelMix.nD Cert.KernelMix.τ).loc Cert.KernelMix.main_arg3)
      ∧ r.2.mem ((c.tc : Thread Cert.KernelMix.nD Cert.KernelMix.τ).loc Cert.KernelMix.main_arg4) = m ((c.tc : Thread Cert.KernelMix.nD Cert.KernelMix.τ).loc Cert.KernelMix.main_arg4)
      ∧ r.2.mem ((c.tc : Thread Cert.KernelMix.nD Cert.KernelMix.τ).loc Cert.KernelMix.main_arg5) = m ((c.tc : Thread Cert.KernelMix.nD Cert.KernelMix.τ).loc Cert.KernelMix.main_arg5))
      ∧ r.2.sem = fun _ => 0)

def quiescent_KernelMixIdeal [hKernelMixIdeal : Cert.KernelMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg), Pre_KernelMixIdeal m →
    θ_run (Cert.KernelMixIdeal.defs (F := Ideal)) (onTc (τ := Cert.KernelMixIdeal.τ) (Cert.KernelMixIdeal.main (F := Ideal))) ⟨m, fun _ => 0, g⟩ (fun r => (∀ c : Dev Cert.KernelMixIdeal.nD,
      r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
      ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
      ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
      ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
      ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
      ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5))
      ∧ r.2.sem = fun _ => 0)

def quiescent_ReferenceMixIdeal [hReferenceMixIdeal : Cert.ReferenceMixIdeal.Facts] : Prop :=
  ∀ (m : (ℓ : Loc Cert.ReferenceMixIdeal.nD Cert.ReferenceMixIdeal.τ Cert.ReferenceMixIdeal.sig) → Buf (Elt Ideal) ℓ) (g : Dev Cert.ReferenceMixIdeal.nD → PrngReg), Pre_ReferenceMixIdeal m →
    θ_run (Cert.ReferenceMixIdeal.defs (F := Ideal)) (onTc (τ := Cert.ReferenceMixIdeal.τ) (Cert.ReferenceMixIdeal.main (F := Ideal))) ⟨m, fun _ => 0, g⟩ (fun r => (∀ c : Dev Cert.ReferenceMixIdeal.nD,
      r.2.mem ((c.tc : Thread Cert.ReferenceMixIdeal.nD Cert.ReferenceMixIdeal.τ).loc Cert.ReferenceMixIdeal.main_arg0) = m ((c.tc : Thread Cert.ReferenceMixIdeal.nD Cert.ReferenceMixIdeal.τ).loc Cert.ReferenceMixIdeal.main_arg0)
      ∧ r.2.mem ((c.tc : Thread Cert.ReferenceMixIdeal.nD Cert.ReferenceMixIdeal.τ).loc Cert.ReferenceMixIdeal.main_arg1) = m ((c.tc : Thread Cert.ReferenceMixIdeal.nD Cert.ReferenceMixIdeal.τ).loc Cert.ReferenceMixIdeal.main_arg1)
      ∧ r.2.mem ((c.tc : Thread Cert.ReferenceMixIdeal.nD Cert.ReferenceMixIdeal.τ).loc Cert.ReferenceMixIdeal.main_arg2) = m ((c.tc : Thread Cert.ReferenceMixIdeal.nD Cert.ReferenceMixIdeal.τ).loc Cert.ReferenceMixIdeal.main_arg2)
      ∧ r.2.mem ((c.tc : Thread Cert.ReferenceMixIdeal.nD Cert.ReferenceMixIdeal.τ).loc Cert.ReferenceMixIdeal.main_arg3) = m ((c.tc : Thread Cert.ReferenceMixIdeal.nD Cert.ReferenceMixIdeal.τ).loc Cert.ReferenceMixIdeal.main_arg3)
      ∧ r.2.mem ((c.tc : Thread Cert.ReferenceMixIdeal.nD Cert.ReferenceMixIdeal.τ).loc Cert.ReferenceMixIdeal.main_arg4) = m ((c.tc : Thread Cert.ReferenceMixIdeal.nD Cert.ReferenceMixIdeal.τ).loc Cert.ReferenceMixIdeal.main_arg4)
      ∧ r.2.mem ((c.tc : Thread Cert.ReferenceMixIdeal.nD Cert.ReferenceMixIdeal.τ).loc Cert.ReferenceMixIdeal.main_arg5) = m ((c.tc : Thread Cert.ReferenceMixIdeal.nD Cert.ReferenceMixIdeal.τ).loc Cert.ReferenceMixIdeal.main_arg5))
      ∧ r.2.sem = fun _ => 0)

def quiescent_KernelSample [hKernelSample : Cert.KernelSample.Facts] : Prop :=
  ∀ (m : (ℓ : Loc Cert.KernelSample.nD Cert.KernelSample.τ Cert.KernelSample.sig) → Buf (Elt Bits) ℓ) (g : Dev Cert.KernelSample.nD → PrngReg), Pre_KernelSample m →
    θ_run (Cert.KernelSample.defs (F := Bits)) (onTc (τ := Cert.KernelSample.τ) (Cert.KernelSample.main (F := Bits))) ⟨m, fun _ => 0, g⟩ (fun r => (∀ c : Dev Cert.KernelSample.nD,
      r.2.mem ((c.tc : Thread Cert.KernelSample.nD Cert.KernelSample.τ).loc Cert.KernelSample.main_arg0) = m ((c.tc : Thread Cert.KernelSample.nD Cert.KernelSample.τ).loc Cert.KernelSample.main_arg0)
      ∧ r.2.mem ((c.tc : Thread Cert.KernelSample.nD Cert.KernelSample.τ).loc Cert.KernelSample.main_arg1) = m ((c.tc : Thread Cert.KernelSample.nD Cert.KernelSample.τ).loc Cert.KernelSample.main_arg1)
      ∧ r.2.mem ((c.tc : Thread Cert.KernelSample.nD Cert.KernelSample.τ).loc Cert.KernelSample.main_arg2) = m ((c.tc : Thread Cert.KernelSample.nD Cert.KernelSample.τ).loc Cert.KernelSample.main_arg2)
      ∧ r.2.mem ((c.tc : Thread Cert.KernelSample.nD Cert.KernelSample.τ).loc Cert.KernelSample.main_arg3) = m ((c.tc : Thread Cert.KernelSample.nD Cert.KernelSample.τ).loc Cert.KernelSample.main_arg3)
      ∧ r.2.mem ((c.tc : Thread Cert.KernelSample.nD Cert.KernelSample.τ).loc Cert.KernelSample.main_arg4) = m ((c.tc : Thread Cert.KernelSample.nD Cert.KernelSample.τ).loc Cert.KernelSample.main_arg4))
      ∧ r.2.sem = fun _ => 0)

def quiescent_KernelSampleIdeal [hKernelSampleIdeal : Cert.KernelSampleIdeal.Facts] : Prop :=
  ∀ (m : (ℓ : Loc Cert.KernelSampleIdeal.nD Cert.KernelSampleIdeal.τ Cert.KernelSampleIdeal.sig) → Buf (Elt Ideal) ℓ) (g : Dev Cert.KernelSampleIdeal.nD → PrngReg), Pre_KernelSampleIdeal m →
    θ_run (Cert.KernelSampleIdeal.defs (F := Ideal)) (onTc (τ := Cert.KernelSampleIdeal.τ) (Cert.KernelSampleIdeal.main (F := Ideal))) ⟨m, fun _ => 0, g⟩ (fun r => (∀ c : Dev Cert.KernelSampleIdeal.nD,
      r.2.mem ((c.tc : Thread Cert.KernelSampleIdeal.nD Cert.KernelSampleIdeal.τ).loc Cert.KernelSampleIdeal.main_arg0) = m ((c.tc : Thread Cert.KernelSampleIdeal.nD Cert.KernelSampleIdeal.τ).loc Cert.KernelSampleIdeal.main_arg0)
      ∧ r.2.mem ((c.tc : Thread Cert.KernelSampleIdeal.nD Cert.KernelSampleIdeal.τ).loc Cert.KernelSampleIdeal.main_arg1) = m ((c.tc : Thread Cert.KernelSampleIdeal.nD Cert.KernelSampleIdeal.τ).loc Cert.KernelSampleIdeal.main_arg1)
      ∧ r.2.mem ((c.tc : Thread Cert.KernelSampleIdeal.nD Cert.KernelSampleIdeal.τ).loc Cert.KernelSampleIdeal.main_arg2) = m ((c.tc : Thread Cert.KernelSampleIdeal.nD Cert.KernelSampleIdeal.τ).loc Cert.KernelSampleIdeal.main_arg2)
      ∧ r.2.mem ((c.tc : Thread Cert.KernelSampleIdeal.nD Cert.KernelSampleIdeal.τ).loc Cert.KernelSampleIdeal.main_arg3) = m ((c.tc : Thread Cert.KernelSampleIdeal.nD Cert.KernelSampleIdeal.τ).loc Cert.KernelSampleIdeal.main_arg3)
      ∧ r.2.mem ((c.tc : Thread Cert.KernelSampleIdeal.nD Cert.KernelSampleIdeal.τ).loc Cert.KernelSampleIdeal.main_arg4) = m ((c.tc : Thread Cert.KernelSampleIdeal.nD Cert.KernelSampleIdeal.τ).loc Cert.KernelSampleIdeal.main_arg4))
      ∧ r.2.sem = fun _ => 0)

def quiescent_ReferenceSampleIdeal [hReferenceSampleIdeal : Cert.ReferenceSampleIdeal.Facts] : Prop :=
  ∀ (m : (ℓ : Loc Cert.ReferenceSampleIdeal.nD Cert.ReferenceSampleIdeal.τ Cert.ReferenceSampleIdeal.sig) → Buf (Elt Ideal) ℓ) (g : Dev Cert.ReferenceSampleIdeal.nD → PrngReg), Pre_ReferenceSampleIdeal m →
    θ_run (Cert.ReferenceSampleIdeal.defs (F := Ideal)) (onTc (τ := Cert.ReferenceSampleIdeal.τ) (Cert.ReferenceSampleIdeal.main (F := Ideal))) ⟨m, fun _ => 0, g⟩ (fun r => (∀ c : Dev Cert.ReferenceSampleIdeal.nD,
      r.2.mem ((c.tc : Thread Cert.ReferenceSampleIdeal.nD Cert.ReferenceSampleIdeal.τ).loc Cert.ReferenceSampleIdeal.main_arg0) = m ((c.tc : Thread Cert.ReferenceSampleIdeal.nD Cert.ReferenceSampleIdeal.τ).loc Cert.ReferenceSampleIdeal.main_arg0)
      ∧ r.2.mem ((c.tc : Thread Cert.ReferenceSampleIdeal.nD Cert.ReferenceSampleIdeal.τ).loc Cert.ReferenceSampleIdeal.main_arg1) = m ((c.tc : Thread Cert.ReferenceSampleIdeal.nD Cert.ReferenceSampleIdeal.τ).loc Cert.ReferenceSampleIdeal.main_arg1)
      ∧ r.2.mem ((c.tc : Thread Cert.ReferenceSampleIdeal.nD Cert.ReferenceSampleIdeal.τ).loc Cert.ReferenceSampleIdeal.main_arg2) = m ((c.tc : Thread Cert.ReferenceSampleIdeal.nD Cert.ReferenceSampleIdeal.τ).loc Cert.ReferenceSampleIdeal.main_arg2)
      ∧ r.2.mem ((c.tc : Thread Cert.ReferenceSampleIdeal.nD Cert.ReferenceSampleIdeal.τ).loc Cert.ReferenceSampleIdeal.main_arg3) = m ((c.tc : Thread Cert.ReferenceSampleIdeal.nD Cert.ReferenceSampleIdeal.τ).loc Cert.ReferenceSampleIdeal.main_arg3)
      ∧ r.2.mem ((c.tc : Thread Cert.ReferenceSampleIdeal.nD Cert.ReferenceSampleIdeal.τ).loc Cert.ReferenceSampleIdeal.main_arg4) = m ((c.tc : Thread Cert.ReferenceSampleIdeal.nD Cert.ReferenceSampleIdeal.τ).loc Cert.ReferenceSampleIdeal.main_arg4))
      ∧ r.2.sem = fun _ => 0)

def preserves_Kernel_KernelIdeal : Prop :=
  IdealRules.named_const.Statement Cert.KernelIdeal.κ "scale_log2e" .f32 0x3DD53B95#32 (((Real.sqrt 192)⁻¹ * (Real.log 2)⁻¹ : ℝ) : EReal)

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)
      ∧ m' ((c.tc : Thread Cert.ReferenceOutIdeal.nD Cert.ReferenceOutIdeal.τ).loc Cert.ReferenceOutIdeal.main_arg4) = m ((c.tc : Thread Cert.KernelOutIdeal.nD Cert.KernelOutIdeal.τ).loc Cert.KernelOutIdeal.main_arg4)) →
    ∃ (v0 : (c : Dev Cert.KernelOutIdeal.nD) → Buf (Elt Ideal) ((c.tc : Thread Cert.KernelOutIdeal.nD Cert.KernelOutIdeal.τ).loc Cert.KernelOutIdeal.main_v6_0)) (v1 : (c : Dev Cert.KernelOutIdeal.nD) → Buf (Elt Ideal) ((c.tc : Thread Cert.KernelOutIdeal.nD Cert.KernelOutIdeal.τ).loc Cert.KernelOutIdeal.main_v6_1)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v6_0) = v0 c
          ∧ r.2.mem ((c.tc : Thread Cert.KernelOutIdeal.nD Cert.KernelOutIdeal.τ).loc Cert.KernelOutIdeal.main_v6_1) = v1 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
          ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v28) = v0 c
          ∧ r.2.mem ((c.tc : Thread Cert.ReferenceOutIdeal.nD Cert.ReferenceOutIdeal.τ).loc Cert.ReferenceOutIdeal.main_v29) = v1 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3)
          ∧ r.2.mem ((c.tc : Thread Cert.ReferenceOutIdeal.nD Cert.ReferenceOutIdeal.τ).loc Cert.ReferenceOutIdeal.main_arg4) = m' ((c.tc : Thread Cert.ReferenceOutIdeal.nD Cert.ReferenceOutIdeal.τ).loc Cert.ReferenceOutIdeal.main_arg4))

def preserves_KernelGate_KernelGateIdeal : Prop :=
  True

def algebraic_KernelGateIdeal_ReferenceGateIdeal [hKernelGateIdeal : Cert.KernelGateIdeal.Facts] [hReferenceGateIdeal : Cert.ReferenceGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg)
    (m' : (ℓ : Loc Cert.ReferenceGateIdeal.nD Cert.ReferenceGateIdeal.τ Cert.ReferenceGateIdeal.sig) → Buf (Elt Ideal) ℓ) (g' : Dev Cert.ReferenceGateIdeal.nD → PrngReg), Pre_KernelGateIdeal m →
    (∀ c : Dev Cert.KernelGateIdeal.nD,
      m' ((c.tc : Thread Cert.ReferenceGateIdeal.nD Cert.ReferenceGateIdeal.τ).loc Cert.ReferenceGateIdeal.main_arg0) = m ((c.tc : Thread Cert.KernelGateIdeal.nD Cert.KernelGateIdeal.τ).loc Cert.KernelGateIdeal.main_arg0)
      ∧ m' ((c.tc : Thread Cert.ReferenceGateIdeal.nD Cert.ReferenceGateIdeal.τ).loc Cert.ReferenceGateIdeal.main_arg1) = m ((c.tc : Thread Cert.KernelGateIdeal.nD Cert.KernelGateIdeal.τ).loc Cert.KernelGateIdeal.main_arg1)) →
    ∃ (v0 : (c : Dev Cert.KernelGateIdeal.nD) → Buf (Elt Ideal) ((c.tc : Thread Cert.KernelGateIdeal.nD Cert.KernelGateIdeal.τ).loc Cert.KernelGateIdeal.main_v3)),
      θ_run (Cert.KernelGateIdeal.defs (F := Ideal)) (onTc (τ := Cert.KernelGateIdeal.τ) (Cert.KernelGateIdeal.main (F := Ideal))) ⟨m, fun _ => 0, g⟩ (fun r => ∀ c : Dev Cert.KernelGateIdeal.nD,
          r.2.mem ((c.tc : Thread Cert.KernelGateIdeal.nD Cert.KernelGateIdeal.τ).loc Cert.KernelGateIdeal.main_v3) = v0 c
          ∧ r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
          ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1))
      ∧ θ_run (Cert.ReferenceGateIdeal.defs (F := Ideal)) (onTc (τ := Cert.ReferenceGateIdeal.τ) (Cert.ReferenceGateIdeal.main (F := Ideal))) ⟨m', fun _ => 0, g'⟩ (fun r => ∀ c : Dev Cert.ReferenceGateIdeal.nD,
          r.2.mem ((c.tc : Thread Cert.ReferenceGateIdeal.nD Cert.ReferenceGateIdeal.τ).loc Cert.ReferenceGateIdeal.main_v6) = v0 c
          ∧ r.2.mem ((c.tc : Thread Cert.ReferenceGateIdeal.nD Cert.ReferenceGateIdeal.τ).loc Cert.ReferenceGateIdeal.main_arg0) = m' ((c.tc : Thread Cert.ReferenceGateIdeal.nD Cert.ReferenceGateIdeal.τ).loc Cert.ReferenceGateIdeal.main_arg0)
          ∧ r.2.mem ((c.tc : Thread Cert.ReferenceGateIdeal.nD Cert.ReferenceGateIdeal.τ).loc Cert.ReferenceGateIdeal.main_arg1) = m' ((c.tc : Thread Cert.ReferenceGateIdeal.nD Cert.ReferenceGateIdeal.τ).loc Cert.ReferenceGateIdeal.main_arg1))

def preserves_KernelTail_KernelTailIdeal : Prop :=
  True

def algebraic_KernelTailIdeal_ReferenceTailIdeal [hKernelTailIdeal : Cert.KernelTailIdeal.Facts] [hReferenceTailIdeal : Cert.ReferenceTailIdeal.Facts] : Prop :=
  ∀ (m : (ℓ : Loc Cert.KernelTailIdeal.nD Cert.KernelTailIdeal.τ Cert.KernelTailIdeal.sig) → Buf (Elt Ideal) ℓ) (g : Dev Cert.KernelTailIdeal.nD → PrngReg)
    (m' : (ℓ : Loc Cert.ReferenceTailIdeal.nD Cert.ReferenceTailIdeal.τ Cert.ReferenceTailIdeal.sig) → Buf (Elt Ideal) ℓ) (g' : Dev Cert.ReferenceTailIdeal.nD → PrngReg), Pre_KernelTailIdeal m →
    (∀ c : Dev Cert.KernelTailIdeal.nD,
      m' ((c.tc : Thread Cert.ReferenceTailIdeal.nD Cert.ReferenceTailIdeal.τ).loc Cert.ReferenceTailIdeal.main_arg0) = m ((c.tc : Thread Cert.KernelTailIdeal.nD Cert.KernelTailIdeal.τ).loc Cert.KernelTailIdeal.main_arg0)
      ∧ m' ((c.tc : Thread Cert.ReferenceTailIdeal.nD Cert.ReferenceTailIdeal.τ).loc Cert.ReferenceTailIdeal.main_arg1) = m ((c.tc : Thread Cert.KernelTailIdeal.nD Cert.KernelTailIdeal.τ).loc Cert.KernelTailIdeal.main_arg1)) →
    ∃ (v0 : (c : Dev Cert.KernelTailIdeal.nD) → Buf (Elt Ideal) ((c.tc : Thread Cert.KernelTailIdeal.nD Cert.KernelTailIdeal.τ).loc Cert.KernelTailIdeal.main_v8)),
      θ_run (Cert.KernelTailIdeal.defs (F := Ideal)) (onTc (τ := Cert.KernelTailIdeal.τ) (Cert.KernelTailIdeal.main (F := Ideal))) ⟨m, fun _ => 0, g⟩ (fun r => ∀ c : Dev Cert.KernelTailIdeal.nD,
          r.2.mem ((c.tc : Thread Cert.KernelTailIdeal.nD Cert.KernelTailIdeal.τ).loc Cert.KernelTailIdeal.main_v8) = v0 c
          ∧ r.2.mem ((c.tc : Thread Cert.KernelTailIdeal.nD Cert.KernelTailIdeal.τ).loc Cert.KernelTailIdeal.main_arg0) = m ((c.tc : Thread Cert.KernelTailIdeal.nD Cert.KernelTailIdeal.τ).loc Cert.KernelTailIdeal.main_arg0)
          ∧ r.2.mem ((c.tc : Thread Cert.KernelTailIdeal.nD Cert.KernelTailIdeal.τ).loc Cert.KernelTailIdeal.main_arg1) = m ((c.tc : Thread Cert.KernelTailIdeal.nD Cert.KernelTailIdeal.τ).loc Cert.KernelTailIdeal.main_arg1))
      ∧ θ_run (Cert.ReferenceTailIdeal.defs (F := Ideal)) (onTc (τ := Cert.ReferenceTailIdeal.τ) (Cert.ReferenceTailIdeal.main (F := Ideal))) ⟨m', fun _ => 0, g'⟩ (fun r => ∀ c : Dev Cert.ReferenceTailIdeal.nD,
          r.2.mem ((c.tc : Thread Cert.ReferenceTailIdeal.nD Cert.ReferenceTailIdeal.τ).loc Cert.ReferenceTailIdeal.main_v6) = v0 c
          ∧ r.2.mem ((c.tc : Thread Cert.ReferenceTailIdeal.nD Cert.ReferenceTailIdeal.τ).loc Cert.ReferenceTailIdeal.main_arg0) = m' ((c.tc : Thread Cert.ReferenceTailIdeal.nD Cert.ReferenceTailIdeal.τ).loc Cert.ReferenceTailIdeal.main_arg0)
          ∧ r.2.mem ((c.tc : Thread Cert.ReferenceTailIdeal.nD Cert.ReferenceTailIdeal.τ).loc Cert.ReferenceTailIdeal.main_arg1) = m' ((c.tc : Thread Cert.ReferenceTailIdeal.nD Cert.ReferenceTailIdeal.τ).loc Cert.ReferenceTailIdeal.main_arg1))

def preserves_KernelVals_KernelValsIdeal : Prop :=
  True

def algebraic_KernelValsIdeal_ReferenceValsIdeal [hKernelValsIdeal : Cert.KernelValsIdeal.Facts] [hReferenceValsIdeal : Cert.ReferenceValsIdeal.Facts] : Prop :=
  ∀ (m : (ℓ : Loc Cert.KernelValsIdeal.nD Cert.KernelValsIdeal.τ Cert.KernelValsIdeal.sig) → Buf (Elt Ideal) ℓ) (g : Dev Cert.KernelValsIdeal.nD → PrngReg)
    (m' : (ℓ : Loc Cert.ReferenceValsIdeal.nD Cert.ReferenceValsIdeal.τ Cert.ReferenceValsIdeal.sig) → Buf (Elt Ideal) ℓ) (g' : Dev Cert.ReferenceValsIdeal.nD → PrngReg), Pre_KernelValsIdeal m →
    (∀ c : Dev Cert.KernelValsIdeal.nD,
      m' ((c.tc : Thread Cert.ReferenceValsIdeal.nD Cert.ReferenceValsIdeal.τ).loc Cert.ReferenceValsIdeal.main_arg0) = m ((c.tc : Thread Cert.KernelValsIdeal.nD Cert.KernelValsIdeal.τ).loc Cert.KernelValsIdeal.main_arg0)
      ∧ m' ((c.tc : Thread Cert.ReferenceValsIdeal.nD Cert.ReferenceValsIdeal.τ).loc Cert.ReferenceValsIdeal.main_arg1) = m ((c.tc : Thread Cert.KernelValsIdeal.nD Cert.KernelValsIdeal.τ).loc Cert.KernelValsIdeal.main_arg1)) →
    ∃ (v0 : (c : Dev Cert.KernelValsIdeal.nD) → Buf (Elt Ideal) ((c.tc : Thread Cert.KernelValsIdeal.nD Cert.KernelValsIdeal.τ).loc Cert.KernelValsIdeal.main_v5)),
      θ_run (Cert.KernelValsIdeal.defs (F := Ideal)) (onTc (τ := Cert.KernelValsIdeal.τ) (Cert.KernelValsIdeal.main (F := Ideal))) ⟨m, fun _ => 0, g⟩ (fun r => ∀ c : Dev Cert.KernelValsIdeal.nD,
          r.2.mem ((c.tc : Thread Cert.KernelValsIdeal.nD Cert.KernelValsIdeal.τ).loc Cert.KernelValsIdeal.main_v5) = v0 c
          ∧ r.2.mem ((c.tc : Thread Cert.KernelValsIdeal.nD Cert.KernelValsIdeal.τ).loc Cert.KernelValsIdeal.main_arg0) = m ((c.tc : Thread Cert.KernelValsIdeal.nD Cert.KernelValsIdeal.τ).loc Cert.KernelValsIdeal.main_arg0)
          ∧ r.2.mem ((c.tc : Thread Cert.KernelValsIdeal.nD Cert.KernelValsIdeal.τ).loc Cert.KernelValsIdeal.main_arg1) = m ((c.tc : Thread Cert.KernelValsIdeal.nD Cert.KernelValsIdeal.τ).loc Cert.KernelValsIdeal.main_arg1))
      ∧ θ_run (Cert.ReferenceValsIdeal.defs (F := Ideal)) (onTc (τ := Cert.ReferenceValsIdeal.τ) (Cert.ReferenceValsIdeal.main (F := Ideal))) ⟨m', fun _ => 0, g'⟩ (fun r => ∀ c : Dev Cert.ReferenceValsIdeal.nD,
          r.2.mem ((c.tc : Thread Cert.ReferenceValsIdeal.nD Cert.ReferenceValsIdeal.τ).loc Cert.ReferenceValsIdeal.main_v3) = v0 c
          ∧ r.2.mem ((c.tc : Thread Cert.ReferenceValsIdeal.nD Cert.ReferenceValsIdeal.τ).loc Cert.ReferenceValsIdeal.main_arg0) = m' ((c.tc : Thread Cert.ReferenceValsIdeal.nD Cert.ReferenceValsIdeal.τ).loc Cert.ReferenceValsIdeal.main_arg0)
          ∧ r.2.mem ((c.tc : Thread Cert.ReferenceValsIdeal.nD Cert.ReferenceValsIdeal.τ).loc Cert.ReferenceValsIdeal.main_arg1) = m' ((c.tc : Thread Cert.ReferenceValsIdeal.nD Cert.ReferenceValsIdeal.τ).loc Cert.ReferenceValsIdeal.main_arg1))

def preserves_KernelHeads_KernelHeadsIdeal : Prop :=
  True

def algebraic_KernelHeadsIdeal_ReferenceHeadsIdeal [hKernelHeadsIdeal : Cert.KernelHeadsIdeal.Facts] [hReferenceHeadsIdeal : Cert.ReferenceHeadsIdeal.Facts] : Prop :=
  ∀ (m : (ℓ : Loc Cert.KernelHeadsIdeal.nD Cert.KernelHeadsIdeal.τ Cert.KernelHeadsIdeal.sig) → Buf (Elt Ideal) ℓ) (g : Dev Cert.KernelHeadsIdeal.nD → PrngReg)
    (m' : (ℓ : Loc Cert.ReferenceHeadsIdeal.nD Cert.ReferenceHeadsIdeal.τ Cert.ReferenceHeadsIdeal.sig) → Buf (Elt Ideal) ℓ) (g' : Dev Cert.ReferenceHeadsIdeal.nD → PrngReg), Pre_KernelHeadsIdeal m →
    (∀ c : Dev Cert.KernelHeadsIdeal.nD,
      m' ((c.tc : Thread Cert.ReferenceHeadsIdeal.nD Cert.ReferenceHeadsIdeal.τ).loc Cert.ReferenceHeadsIdeal.main_arg0) = m ((c.tc : Thread Cert.KernelHeadsIdeal.nD Cert.KernelHeadsIdeal.τ).loc Cert.KernelHeadsIdeal.main_arg0)
      ∧ m' ((c.tc : Thread Cert.ReferenceHeadsIdeal.nD Cert.ReferenceHeadsIdeal.τ).loc Cert.ReferenceHeadsIdeal.main_arg1) = m ((c.tc : Thread Cert.KernelHeadsIdeal.nD Cert.KernelHeadsIdeal.τ).loc Cert.KernelHeadsIdeal.main_arg1)) →
    ∃ (v0 : (c : Dev Cert.KernelHeadsIdeal.nD) → Buf (Elt Ideal) ((c.tc : Thread Cert.KernelHeadsIdeal.nD Cert.KernelHeadsIdeal.τ).loc Cert.KernelHeadsIdeal.main_v21_0)) (v1 : (c : Dev Cert.KernelHeadsIdeal.nD) → Buf (Elt Ideal) ((c.tc : Thread Cert.KernelHeadsIdeal.nD Cert.KernelHeadsIdeal.τ).loc Cert.KernelHeadsIdeal.main_v21_1)) (v2 : (c : Dev Cert.KernelHeadsIdeal.nD) → Buf (Elt Ideal) ((c.tc : Thread Cert.KernelHeadsIdeal.nD Cert.KernelHeadsIdeal.τ).loc Cert.KernelHeadsIdeal.main_v21_2)),
      θ_run (Cert.KernelHeadsIdeal.defs (F := Ideal)) (onTc (τ := Cert.KernelHeadsIdeal.τ) (Cert.KernelHeadsIdeal.main (F := Ideal))) ⟨m, fun _ => 0, g⟩ (fun r => ∀ c : Dev Cert.KernelHeadsIdeal.nD,
          r.2.mem ((c.tc : Thread Cert.KernelHeadsIdeal.nD Cert.KernelHeadsIdeal.τ).loc Cert.KernelHeadsIdeal.main_v21_0) = v0 c
          ∧ r.2.mem ((c.tc : Thread Cert.KernelHeadsIdeal.nD Cert.KernelHeadsIdeal.τ).loc Cert.KernelHeadsIdeal.main_v21_1) = v1 c
          ∧ r.2.mem ((c.tc : Thread Cert.KernelHeadsIdeal.nD Cert.KernelHeadsIdeal.τ).loc Cert.KernelHeadsIdeal.main_v21_2) = v2 c
          ∧ r.2.mem ((c.tc : Thread Cert.KernelHeadsIdeal.nD Cert.KernelHeadsIdeal.τ).loc Cert.KernelHeadsIdeal.main_arg0) = m ((c.tc : Thread Cert.KernelHeadsIdeal.nD Cert.KernelHeadsIdeal.τ).loc Cert.KernelHeadsIdeal.main_arg0)
          ∧ r.2.mem ((c.tc : Thread Cert.KernelHeadsIdeal.nD Cert.KernelHeadsIdeal.τ).loc Cert.KernelHeadsIdeal.main_arg1) = m ((c.tc : Thread Cert.KernelHeadsIdeal.nD Cert.KernelHeadsIdeal.τ).loc Cert.KernelHeadsIdeal.main_arg1))
      ∧ θ_run (Cert.ReferenceHeadsIdeal.defs (F := Ideal)) (onTc (τ := Cert.ReferenceHeadsIdeal.τ) (Cert.ReferenceHeadsIdeal.main (F := Ideal))) ⟨m', fun _ => 0, g'⟩ (fun r => ∀ c : Dev Cert.ReferenceHeadsIdeal.nD,
          r.2.mem ((c.tc : Thread Cert.ReferenceHeadsIdeal.nD Cert.ReferenceHeadsIdeal.τ).loc Cert.ReferenceHeadsIdeal.main_v38) = v0 c
          ∧ r.2.mem ((c.tc : Thread Cert.ReferenceHeadsIdeal.nD Cert.ReferenceHeadsIdeal.τ).loc Cert.ReferenceHeadsIdeal.main_v39) = v1 c
          ∧ r.2.mem ((c.tc : Thread Cert.ReferenceHeadsIdeal.nD Cert.ReferenceHeadsIdeal.τ).loc Cert.ReferenceHeadsIdeal.main_v40) = v2 c
          ∧ r.2.mem ((c.tc : Thread Cert.ReferenceHeadsIdeal.nD Cert.ReferenceHeadsIdeal.τ).loc Cert.ReferenceHeadsIdeal.main_arg0) = m' ((c.tc : Thread Cert.ReferenceHeadsIdeal.nD Cert.ReferenceHeadsIdeal.τ).loc Cert.ReferenceHeadsIdeal.main_arg0)
          ∧ r.2.mem ((c.tc : Thread Cert.ReferenceHeadsIdeal.nD Cert.ReferenceHeadsIdeal.τ).loc Cert.ReferenceHeadsIdeal.main_arg1) = m' ((c.tc : Thread Cert.ReferenceHeadsIdeal.nD Cert.ReferenceHeadsIdeal.τ).loc Cert.ReferenceHeadsIdeal.main_arg1))

def preserves_KernelViews_KernelViewsIdeal : Prop :=
  True

def algebraic_KernelViewsIdeal_ReferenceViewsIdeal [hKernelViewsIdeal : Cert.KernelViewsIdeal.Facts] [hReferenceViewsIdeal : Cert.ReferenceViewsIdeal.Facts] : Prop :=
  ∀ (m : (ℓ : Loc Cert.KernelViewsIdeal.nD Cert.KernelViewsIdeal.τ Cert.KernelViewsIdeal.sig) → Buf (Elt Ideal) ℓ) (g : Dev Cert.KernelViewsIdeal.nD → PrngReg)
    (m' : (ℓ : Loc Cert.ReferenceViewsIdeal.nD Cert.ReferenceViewsIdeal.τ Cert.ReferenceViewsIdeal.sig) → Buf (Elt Ideal) ℓ) (g' : Dev Cert.ReferenceViewsIdeal.nD → PrngReg), Pre_KernelViewsIdeal m →
    (∀ c : Dev Cert.KernelViewsIdeal.nD,
      m' ((c.tc : Thread Cert.ReferenceViewsIdeal.nD Cert.ReferenceViewsIdeal.τ).loc Cert.ReferenceViewsIdeal.main_arg0) = m ((c.tc : Thread Cert.KernelViewsIdeal.nD Cert.KernelViewsIdeal.τ).loc Cert.KernelViewsIdeal.main_arg0)
      ∧ m' ((c.tc : Thread Cert.ReferenceViewsIdeal.nD Cert.ReferenceViewsIdeal.τ).loc Cert.ReferenceViewsIdeal.main_arg1) = m ((c.tc : Thread Cert.KernelViewsIdeal.nD Cert.KernelViewsIdeal.τ).loc Cert.KernelViewsIdeal.main_arg1)) →
    ∃ (v0 : (c : Dev Cert.KernelViewsIdeal.nD) → Buf (Elt Ideal) ((c.tc : Thread Cert.KernelViewsIdeal.nD Cert.KernelViewsIdeal.τ).loc Cert.KernelViewsIdeal.main_v21_0)) (v1 : (c : Dev Cert.KernelViewsIdeal.nD) → Buf (Elt Ideal) ((c.tc : Thread Cert.KernelViewsIdeal.nD Cert.KernelViewsIdeal.τ).loc Cert.KernelViewsIdeal.main_v21_1)) (v2 : (c : Dev Cert.KernelViewsIdeal.nD) → Buf (Elt Ideal) ((c.tc : Thread Cert.KernelViewsIdeal.nD Cert.KernelViewsIdeal.τ).loc Cert.KernelViewsIdeal.main_v21_2)),
      θ_run (Cert.KernelViewsIdeal.defs (F := Ideal)) (onTc (τ := Cert.KernelViewsIdeal.τ) (Cert.KernelViewsIdeal.main (F := Ideal))) ⟨m, fun _ => 0, g⟩ (fun r => ∀ c : Dev Cert.KernelViewsIdeal.nD,
          r.2.mem ((c.tc : Thread Cert.KernelViewsIdeal.nD Cert.KernelViewsIdeal.τ).loc Cert.KernelViewsIdeal.main_v21_0) = v0 c
          ∧ r.2.mem ((c.tc : Thread Cert.KernelViewsIdeal.nD Cert.KernelViewsIdeal.τ).loc Cert.KernelViewsIdeal.main_v21_1) = v1 c
          ∧ r.2.mem ((c.tc : Thread Cert.KernelViewsIdeal.nD Cert.KernelViewsIdeal.τ).loc Cert.KernelViewsIdeal.main_v21_2) = v2 c
          ∧ r.2.mem ((c.tc : Thread Cert.KernelViewsIdeal.nD Cert.KernelViewsIdeal.τ).loc Cert.KernelViewsIdeal.main_arg0) = m ((c.tc : Thread Cert.KernelViewsIdeal.nD Cert.KernelViewsIdeal.τ).loc Cert.KernelViewsIdeal.main_arg0)
          ∧ r.2.mem ((c.tc : Thread Cert.KernelViewsIdeal.nD Cert.KernelViewsIdeal.τ).loc Cert.KernelViewsIdeal.main_arg1) = m ((c.tc : Thread Cert.KernelViewsIdeal.nD Cert.KernelViewsIdeal.τ).loc Cert.KernelViewsIdeal.main_arg1))
      ∧ θ_run (Cert.ReferenceViewsIdeal.defs (F := Ideal)) (onTc (τ := Cert.ReferenceViewsIdeal.τ) (Cert.ReferenceViewsIdeal.main (F := Ideal))) ⟨m', fun _ => 0, g'⟩ (fun r => ∀ c : Dev Cert.ReferenceViewsIdeal.nD,
          r.2.mem ((c.tc : Thread Cert.ReferenceViewsIdeal.nD Cert.ReferenceViewsIdeal.τ).loc Cert.ReferenceViewsIdeal.main_v8) = v0 c
          ∧ r.2.mem ((c.tc : Thread Cert.ReferenceViewsIdeal.nD Cert.ReferenceViewsIdeal.τ).loc Cert.ReferenceViewsIdeal.main_v9) = v1 c
          ∧ r.2.mem ((c.tc : Thread Cert.ReferenceViewsIdeal.nD Cert.ReferenceViewsIdeal.τ).loc Cert.ReferenceViewsIdeal.main_v10) = v2 c
          ∧ r.2.mem ((c.tc : Thread Cert.ReferenceViewsIdeal.nD Cert.ReferenceViewsIdeal.τ).loc Cert.ReferenceViewsIdeal.main_arg0) = m' ((c.tc : Thread Cert.ReferenceViewsIdeal.nD Cert.ReferenceViewsIdeal.τ).loc Cert.ReferenceViewsIdeal.main_arg0)
          ∧ r.2.mem ((c.tc : Thread Cert.ReferenceViewsIdeal.nD Cert.ReferenceViewsIdeal.τ).loc Cert.ReferenceViewsIdeal.main_arg1) = m' ((c.tc : Thread Cert.ReferenceViewsIdeal.nD Cert.ReferenceViewsIdeal.τ).loc Cert.ReferenceViewsIdeal.main_arg1))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)
      ∧ m' ((c.tc : Thread Cert.ReferenceUpIdeal.nD Cert.ReferenceUpIdeal.τ).loc Cert.ReferenceUpIdeal.main_arg2) = m ((c.tc : Thread Cert.KernelUpIdeal.nD Cert.KernelUpIdeal.τ).loc Cert.KernelUpIdeal.main_arg2)
      ∧ m' ((c.tc : Thread Cert.ReferenceUpIdeal.nD Cert.ReferenceUpIdeal.τ).loc Cert.ReferenceUpIdeal.main_arg3) = m ((c.tc : Thread Cert.KernelUpIdeal.nD Cert.KernelUpIdeal.τ).loc Cert.KernelUpIdeal.main_arg3)) →
    ∃ (v0 : (c : Dev Cert.KernelUpIdeal.nD) → Buf (Elt Ideal) ((c.tc : Thread Cert.KernelUpIdeal.nD Cert.KernelUpIdeal.τ).loc Cert.KernelUpIdeal.main_v24_0)) (v1 : (c : Dev Cert.KernelUpIdeal.nD) → Buf (Elt Ideal) ((c.tc : Thread Cert.KernelUpIdeal.nD Cert.KernelUpIdeal.τ).loc Cert.KernelUpIdeal.main_v24_1)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v24_0) = v0 c
          ∧ r.2.mem ((c.tc : Thread Cert.KernelUpIdeal.nD Cert.KernelUpIdeal.τ).loc Cert.KernelUpIdeal.main_v24_1) = v1 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
          ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2)
          ∧ r.2.mem ((c.tc : Thread Cert.KernelUpIdeal.nD Cert.KernelUpIdeal.τ).loc Cert.KernelUpIdeal.main_arg3) = m ((c.tc : Thread Cert.KernelUpIdeal.nD Cert.KernelUpIdeal.τ).loc Cert.KernelUpIdeal.main_arg3))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v53) = v0 c
          ∧ r.2.mem ((c.tc : Thread Cert.ReferenceUpIdeal.nD Cert.ReferenceUpIdeal.τ).loc Cert.ReferenceUpIdeal.main_v56) = v1 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1)
          ∧ r.2.mem ((c.tc : Thread Cert.ReferenceUpIdeal.nD Cert.ReferenceUpIdeal.τ).loc Cert.ReferenceUpIdeal.main_arg2) = m' ((c.tc : Thread Cert.ReferenceUpIdeal.nD Cert.ReferenceUpIdeal.τ).loc Cert.ReferenceUpIdeal.main_arg2)
          ∧ r.2.mem ((c.tc : Thread Cert.ReferenceUpIdeal.nD Cert.ReferenceUpIdeal.τ).loc Cert.ReferenceUpIdeal.main_arg3) = m' ((c.tc : Thread Cert.ReferenceUpIdeal.nD Cert.ReferenceUpIdeal.τ).loc Cert.ReferenceUpIdeal.main_arg3))

def preserves_KernelQueries_KernelQueriesIdeal : Prop :=
  True

def algebraic_KernelQueriesIdeal_ReferenceQueriesIdeal [hKernelQueriesIdeal : Cert.KernelQueriesIdeal.Facts] [hReferenceQueriesIdeal : Cert.ReferenceQueriesIdeal.Facts] : Prop :=
  ∀ (m : (ℓ : Loc Cert.KernelQueriesIdeal.nD Cert.KernelQueriesIdeal.τ Cert.KernelQueriesIdeal.sig) → Buf (Elt Ideal) ℓ) (g : Dev Cert.KernelQueriesIdeal.nD → PrngReg)
    (m' : (ℓ : Loc Cert.ReferenceQueriesIdeal.nD Cert.ReferenceQueriesIdeal.τ Cert.ReferenceQueriesIdeal.sig) → Buf (Elt Ideal) ℓ) (g' : Dev Cert.ReferenceQueriesIdeal.nD → PrngReg), Pre_KernelQueriesIdeal m →
    (∀ c : Dev Cert.KernelQueriesIdeal.nD,
      m' ((c.tc : Thread Cert.ReferenceQueriesIdeal.nD Cert.ReferenceQueriesIdeal.τ).loc Cert.ReferenceQueriesIdeal.main_arg0) = m ((c.tc : Thread Cert.KernelQueriesIdeal.nD Cert.KernelQueriesIdeal.τ).loc Cert.KernelQueriesIdeal.main_arg0)
      ∧ m' ((c.tc : Thread Cert.ReferenceQueriesIdeal.nD Cert.ReferenceQueriesIdeal.τ).loc Cert.ReferenceQueriesIdeal.main_arg1) = m ((c.tc : Thread Cert.KernelQueriesIdeal.nD Cert.KernelQueriesIdeal.τ).loc Cert.KernelQueriesIdeal.main_arg1)
      ∧ m' ((c.tc : Thread Cert.ReferenceQueriesIdeal.nD Cert.ReferenceQueriesIdeal.τ).loc Cert.ReferenceQueriesIdeal.main_arg2) = m ((c.tc : Thread Cert.KernelQueriesIdeal.nD Cert.KernelQueriesIdeal.τ).loc Cert.KernelQueriesIdeal.main_arg2)) →
    ∃ (v0 : (c : Dev Cert.KernelQueriesIdeal.nD) → Buf (Elt Ideal) ((c.tc : Thread Cert.KernelQueriesIdeal.nD Cert.KernelQueriesIdeal.τ).loc Cert.KernelQueriesIdeal.main_v25)),
      θ_run (Cert.KernelQueriesIdeal.defs (F := Ideal)) (onTc (τ := Cert.KernelQueriesIdeal.τ) (Cert.KernelQueriesIdeal.main (F := Ideal))) ⟨m, fun _ => 0, g⟩ (fun r => ∀ c : Dev Cert.KernelQueriesIdeal.nD,
          r.2.mem ((c.tc : Thread Cert.KernelQueriesIdeal.nD Cert.KernelQueriesIdeal.τ).loc Cert.KernelQueriesIdeal.main_v25) = v0 c
          ∧ r.2.mem ((c.tc : Thread Cert.KernelQueriesIdeal.nD Cert.KernelQueriesIdeal.τ).loc Cert.KernelQueriesIdeal.main_arg0) = m ((c.tc : Thread Cert.KernelQueriesIdeal.nD Cert.KernelQueriesIdeal.τ).loc Cert.KernelQueriesIdeal.main_arg0)
          ∧ r.2.mem ((c.tc : Thread Cert.KernelQueriesIdeal.nD Cert.KernelQueriesIdeal.τ).loc Cert.KernelQueriesIdeal.main_arg1) = m ((c.tc : Thread Cert.KernelQueriesIdeal.nD Cert.KernelQueriesIdeal.τ).loc Cert.KernelQueriesIdeal.main_arg1)
          ∧ r.2.mem ((c.tc : Thread Cert.KernelQueriesIdeal.nD Cert.KernelQueriesIdeal.τ).loc Cert.KernelQueriesIdeal.main_arg2) = m ((c.tc : Thread Cert.KernelQueriesIdeal.nD Cert.KernelQueriesIdeal.τ).loc Cert.KernelQueriesIdeal.main_arg2))
      ∧ θ_run (Cert.ReferenceQueriesIdeal.defs (F := Ideal)) (onTc (τ := Cert.ReferenceQueriesIdeal.τ) (Cert.ReferenceQueriesIdeal.main (F := Ideal))) ⟨m', fun _ => 0, g'⟩ (fun r => ∀ c : Dev Cert.ReferenceQueriesIdeal.nD,
          r.2.mem ((c.tc : Thread Cert.ReferenceQueriesIdeal.nD Cert.ReferenceQueriesIdeal.τ).loc Cert.ReferenceQueriesIdeal.main_v50) = v0 c
          ∧ r.2.mem ((c.tc : Thread Cert.ReferenceQueriesIdeal.nD Cert.ReferenceQueriesIdeal.τ).loc Cert.ReferenceQueriesIdeal.main_arg0) = m' ((c.tc : Thread Cert.ReferenceQueriesIdeal.nD Cert.ReferenceQueriesIdeal.τ).loc Cert.ReferenceQueriesIdeal.main_arg0)
          ∧ r.2.mem ((c.tc : Thread Cert.ReferenceQueriesIdeal.nD Cert.ReferenceQueriesIdeal.τ).loc Cert.ReferenceQueriesIdeal.main_arg1) = m' ((c.tc : Thread Cert.ReferenceQueriesIdeal.nD Cert.ReferenceQueriesIdeal.τ).loc Cert.ReferenceQueriesIdeal.main_arg1)
          ∧ r.2.mem ((c.tc : Thread Cert.ReferenceQueriesIdeal.nD Cert.ReferenceQueriesIdeal.τ).loc Cert.ReferenceQueriesIdeal.main_arg2) = m' ((c.tc : Thread Cert.ReferenceQueriesIdeal.nD Cert.ReferenceQueriesIdeal.τ).loc Cert.ReferenceQueriesIdeal.main_arg2))

def preserves_KernelMain_KernelMainIdeal : Prop :=
  True

def algebraic_KernelMainIdeal_ReferenceMainIdeal [hKernelMainIdeal : Cert.KernelMainIdeal.Facts] [hReferenceMainIdeal : Cert.ReferenceMainIdeal.Facts] : Prop :=
  ∀ (m : (ℓ : Loc Cert.KernelMainIdeal.nD Cert.KernelMainIdeal.τ Cert.KernelMainIdeal.sig) → Buf (Elt Ideal) ℓ) (g : Dev Cert.KernelMainIdeal.nD → PrngReg)
    (m' : (ℓ : Loc Cert.ReferenceMainIdeal.nD Cert.ReferenceMainIdeal.τ Cert.ReferenceMainIdeal.sig) → Buf (Elt Ideal) ℓ) (g' : Dev Cert.ReferenceMainIdeal.nD → PrngReg), Pre_KernelMainIdeal m →
    (∀ c : Dev Cert.KernelMainIdeal.nD,
      m' ((c.tc : Thread Cert.ReferenceMainIdeal.nD Cert.ReferenceMainIdeal.τ).loc Cert.ReferenceMainIdeal.main_arg0) = m ((c.tc : Thread Cert.KernelMainIdeal.nD Cert.KernelMainIdeal.τ).loc Cert.KernelMainIdeal.main_arg0)
      ∧ m' ((c.tc : Thread Cert.ReferenceMainIdeal.nD Cert.ReferenceMainIdeal.τ).loc Cert.ReferenceMainIdeal.main_arg1) = m ((c.tc : Thread Cert.KernelMainIdeal.nD Cert.KernelMainIdeal.τ).loc Cert.KernelMainIdeal.main_arg1)) →
    ∃ (v0 : (c : Dev Cert.KernelMainIdeal.nD) → Buf (Elt Ideal) ((c.tc : Thread Cert.KernelMainIdeal.nD Cert.KernelMainIdeal.τ).loc Cert.KernelMainIdeal.main_v3_0)) (v1 : (c : Dev Cert.KernelMainIdeal.nD) → Buf (Elt Ideal) ((c.tc : Thread Cert.KernelMainIdeal.nD Cert.KernelMainIdeal.τ).loc Cert.KernelMainIdeal.main_v3_1)),
      θ_run (Cert.KernelMainIdeal.defs (F := Ideal)) (onTc (τ := Cert.KernelMainIdeal.τ) (Cert.KernelMainIdeal.main (F := Ideal))) ⟨m, fun _ => 0, g⟩ (fun r => ∀ c : Dev Cert.KernelMainIdeal.nD,
          r.2.mem ((c.tc : Thread Cert.KernelMainIdeal.nD Cert.KernelMainIdeal.τ).loc Cert.KernelMainIdeal.main_v3_0) = v0 c
          ∧ r.2.mem ((c.tc : Thread Cert.KernelMainIdeal.nD Cert.KernelMainIdeal.τ).loc Cert.KernelMainIdeal.main_v3_1) = v1 c
          ∧ r.2.mem ((c.tc : Thread Cert.KernelMainIdeal.nD Cert.KernelMainIdeal.τ).loc Cert.KernelMainIdeal.main_arg0) = m ((c.tc : Thread Cert.KernelMainIdeal.nD Cert.KernelMainIdeal.τ).loc Cert.KernelMainIdeal.main_arg0)
          ∧ r.2.mem ((c.tc : Thread Cert.KernelMainIdeal.nD Cert.KernelMainIdeal.τ).loc Cert.KernelMainIdeal.main_arg1) = m ((c.tc : Thread Cert.KernelMainIdeal.nD Cert.KernelMainIdeal.τ).loc Cert.KernelMainIdeal.main_arg1))
      ∧ θ_run (Cert.ReferenceMainIdeal.defs (F := Ideal)) (onTc (τ := Cert.ReferenceMainIdeal.τ) (Cert.ReferenceMainIdeal.main (F := Ideal))) ⟨m', fun _ => 0, g'⟩ (fun r => ∀ c : Dev Cert.ReferenceMainIdeal.nD,
          r.2.mem ((c.tc : Thread Cert.ReferenceMainIdeal.nD Cert.ReferenceMainIdeal.τ).loc Cert.ReferenceMainIdeal.main_v5) = v0 c
          ∧ r.2.mem ((c.tc : Thread Cert.ReferenceMainIdeal.nD Cert.ReferenceMainIdeal.τ).loc Cert.ReferenceMainIdeal.main_v7) = v1 c
          ∧ r.2.mem ((c.tc : Thread Cert.ReferenceMainIdeal.nD Cert.ReferenceMainIdeal.τ).loc Cert.ReferenceMainIdeal.main_arg0) = m' ((c.tc : Thread Cert.ReferenceMainIdeal.nD Cert.ReferenceMainIdeal.τ).loc Cert.ReferenceMainIdeal.main_arg0)
          ∧ r.2.mem ((c.tc : Thread Cert.ReferenceMainIdeal.nD Cert.ReferenceMainIdeal.τ).loc Cert.ReferenceMainIdeal.main_arg1) = m' ((c.tc : Thread Cert.ReferenceMainIdeal.nD Cert.ReferenceMainIdeal.τ).loc Cert.ReferenceMainIdeal.main_arg1))

def preserves_KernelMix_KernelMixIdeal : Prop :=
  True

def algebraic_KernelMixIdeal_ReferenceMixIdeal [hKernelMixIdeal : Cert.KernelMixIdeal.Facts] [hReferenceMixIdeal : Cert.ReferenceMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg)
    (m' : (ℓ : Loc Cert.ReferenceMixIdeal.nD Cert.ReferenceMixIdeal.τ Cert.ReferenceMixIdeal.sig) → Buf (Elt Ideal) ℓ) (g' : Dev Cert.ReferenceMixIdeal.nD → PrngReg), Pre_KernelMixIdeal m →
    (∀ c : Dev Cert.KernelMixIdeal.nD,
      m' ((c.tc : Thread Cert.ReferenceMixIdeal.nD Cert.ReferenceMixIdeal.τ).loc Cert.ReferenceMixIdeal.main_arg0) = m ((c.tc : Thread Cert.KernelMixIdeal.nD Cert.KernelMixIdeal.τ).loc Cert.KernelMixIdeal.main_arg0)
      ∧ m' ((c.tc : Thread Cert.ReferenceMixIdeal.nD Cert.ReferenceMixIdeal.τ).loc Cert.ReferenceMixIdeal.main_arg1) = m ((c.tc : Thread Cert.KernelMixIdeal.nD Cert.KernelMixIdeal.τ).loc Cert.KernelMixIdeal.main_arg1)
      ∧ m' ((c.tc : Thread Cert.ReferenceMixIdeal.nD Cert.ReferenceMixIdeal.τ).loc Cert.ReferenceMixIdeal.main_arg2) = m ((c.tc : Thread Cert.KernelMixIdeal.nD Cert.KernelMixIdeal.τ).loc Cert.KernelMixIdeal.main_arg2)
      ∧ m' ((c.tc : Thread Cert.ReferenceMixIdeal.nD Cert.ReferenceMixIdeal.τ).loc Cert.ReferenceMixIdeal.main_arg3) = m ((c.tc : Thread Cert.KernelMixIdeal.nD Cert.KernelMixIdeal.τ).loc Cert.KernelMixIdeal.main_arg3)
      ∧ m' ((c.tc : Thread Cert.ReferenceMixIdeal.nD Cert.ReferenceMixIdeal.τ).loc Cert.ReferenceMixIdeal.main_arg4) = m ((c.tc : Thread Cert.KernelMixIdeal.nD Cert.KernelMixIdeal.τ).loc Cert.KernelMixIdeal.main_arg4)
      ∧ m' ((c.tc : Thread Cert.ReferenceMixIdeal.nD Cert.ReferenceMixIdeal.τ).loc Cert.ReferenceMixIdeal.main_arg5) = m ((c.tc : Thread Cert.KernelMixIdeal.nD Cert.KernelMixIdeal.τ).loc Cert.KernelMixIdeal.main_arg5)) →
    ∃ (v0 : (c : Dev Cert.KernelMixIdeal.nD) → Buf (Elt Ideal) ((c.tc : Thread Cert.KernelMixIdeal.nD Cert.KernelMixIdeal.τ).loc Cert.KernelMixIdeal.main_v8_0)) (v1 : (c : Dev Cert.KernelMixIdeal.nD) → Buf (Elt Ideal) ((c.tc : Thread Cert.KernelMixIdeal.nD Cert.KernelMixIdeal.τ).loc Cert.KernelMixIdeal.main_v8_1)),
      θ_run (Cert.KernelMixIdeal.defs (F := Ideal)) (onTc (τ := Cert.KernelMixIdeal.τ) (Cert.KernelMixIdeal.main (F := Ideal))) ⟨m, fun _ => 0, g⟩ (fun r => ∀ c : Dev Cert.KernelMixIdeal.nD,
          r.2.mem ((c.tc : Thread Cert.KernelMixIdeal.nD Cert.KernelMixIdeal.τ).loc Cert.KernelMixIdeal.main_v8_0) = v0 c
          ∧ r.2.mem ((c.tc : Thread Cert.KernelMixIdeal.nD Cert.KernelMixIdeal.τ).loc Cert.KernelMixIdeal.main_v8_1) = v1 c
          ∧ r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
          ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
          ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
          ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
          ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
          ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5))
      ∧ θ_run (Cert.ReferenceMixIdeal.defs (F := Ideal)) (onTc (τ := Cert.ReferenceMixIdeal.τ) (Cert.ReferenceMixIdeal.main (F := Ideal))) ⟨m', fun _ => 0, g'⟩ (fun r => ∀ c : Dev Cert.ReferenceMixIdeal.nD,
          r.2.mem ((c.tc : Thread Cert.ReferenceMixIdeal.nD Cert.ReferenceMixIdeal.τ).loc Cert.ReferenceMixIdeal.main_v29) = v0 c
          ∧ r.2.mem ((c.tc : Thread Cert.ReferenceMixIdeal.nD Cert.ReferenceMixIdeal.τ).loc Cert.ReferenceMixIdeal.main_v30) = v1 c
          ∧ r.2.mem ((c.tc : Thread Cert.ReferenceMixIdeal.nD Cert.ReferenceMixIdeal.τ).loc Cert.ReferenceMixIdeal.main_arg0) = m' ((c.tc : Thread Cert.ReferenceMixIdeal.nD Cert.ReferenceMixIdeal.τ).loc Cert.ReferenceMixIdeal.main_arg0)
          ∧ r.2.mem ((c.tc : Thread Cert.ReferenceMixIdeal.nD Cert.ReferenceMixIdeal.τ).loc Cert.ReferenceMixIdeal.main_arg1) = m' ((c.tc : Thread Cert.ReferenceMixIdeal.nD Cert.ReferenceMixIdeal.τ).loc Cert.ReferenceMixIdeal.main_arg1)
          ∧ r.2.mem ((c.tc : Thread Cert.ReferenceMixIdeal.nD Cert.ReferenceMixIdeal.τ).loc Cert.ReferenceMixIdeal.main_arg2) = m' ((c.tc : Thread Cert.ReferenceMixIdeal.nD Cert.ReferenceMixIdeal.τ).loc Cert.ReferenceMixIdeal.main_arg2)
          ∧ r.2.mem ((c.tc : Thread Cert.ReferenceMixIdeal.nD Cert.ReferenceMixIdeal.τ).loc Cert.ReferenceMixIdeal.main_arg3) = m' ((c.tc : Thread Cert.ReferenceMixIdeal.nD Cert.ReferenceMixIdeal.τ).loc Cert.ReferenceMixIdeal.main_arg3)
          ∧ r.2.mem ((c.tc : Thread Cert.ReferenceMixIdeal.nD Cert.ReferenceMixIdeal.τ).loc Cert.ReferenceMixIdeal.main_arg4) = m' ((c.tc : Thread Cert.ReferenceMixIdeal.nD Cert.ReferenceMixIdeal.τ).loc Cert.ReferenceMixIdeal.main_arg4)
          ∧ r.2.mem ((c.tc : Thread Cert.ReferenceMixIdeal.nD Cert.ReferenceMixIdeal.τ).loc Cert.ReferenceMixIdeal.main_arg5) = m' ((c.tc : Thread Cert.ReferenceMixIdeal.nD Cert.ReferenceMixIdeal.τ).loc Cert.ReferenceMixIdeal.main_arg5))

def preserves_KernelSample_KernelSampleIdeal : Prop :=
  True

def algebraic_KernelSampleIdeal_ReferenceSampleIdeal [hKernelSampleIdeal : Cert.KernelSampleIdeal.Facts] [hReferenceSampleIdeal : Cert.ReferenceSampleIdeal.Facts] : Prop :=
  ∀ (m : (ℓ : Loc Cert.KernelSampleIdeal.nD Cert.KernelSampleIdeal.τ Cert.KernelSampleIdeal.sig) → Buf (Elt Ideal) ℓ) (g : Dev Cert.KernelSampleIdeal.nD → PrngReg)
    (m' : (ℓ : Loc Cert.ReferenceSampleIdeal.nD Cert.ReferenceSampleIdeal.τ Cert.ReferenceSampleIdeal.sig) → Buf (Elt Ideal) ℓ) (g' : Dev Cert.ReferenceSampleIdeal.nD → PrngReg), Pre_KernelSampleIdeal m →
    (∀ c : Dev Cert.KernelSampleIdeal.nD,
      m' ((c.tc : Thread Cert.ReferenceSampleIdeal.nD Cert.ReferenceSampleIdeal.τ).loc Cert.ReferenceSampleIdeal.main_arg0) = m ((c.tc : Thread Cert.KernelSampleIdeal.nD Cert.KernelSampleIdeal.τ).loc Cert.KernelSampleIdeal.main_arg0)
      ∧ m' ((c.tc : Thread Cert.ReferenceSampleIdeal.nD Cert.ReferenceSampleIdeal.τ).loc Cert.ReferenceSampleIdeal.main_arg1) = m ((c.tc : Thread Cert.KernelSampleIdeal.nD Cert.KernelSampleIdeal.τ).loc Cert.KernelSampleIdeal.main_arg1)
      ∧ m' ((c.tc : Thread Cert.ReferenceSampleIdeal.nD Cert.ReferenceSampleIdeal.τ).loc Cert.ReferenceSampleIdeal.main_arg2) = m ((c.tc : Thread Cert.KernelSampleIdeal.nD Cert.KernelSampleIdeal.τ).loc Cert.KernelSampleIdeal.main_arg2)
      ∧ m' ((c.tc : Thread Cert.ReferenceSampleIdeal.nD Cert.ReferenceSampleIdeal.τ).loc Cert.ReferenceSampleIdeal.main_arg3) = m ((c.tc : Thread Cert.KernelSampleIdeal.nD Cert.KernelSampleIdeal.τ).loc Cert.KernelSampleIdeal.main_arg3)
      ∧ m' ((c.tc : Thread Cert.ReferenceSampleIdeal.nD Cert.ReferenceSampleIdeal.τ).loc Cert.ReferenceSampleIdeal.main_arg4) = m ((c.tc : Thread Cert.KernelSampleIdeal.nD Cert.KernelSampleIdeal.τ).loc Cert.KernelSampleIdeal.main_arg4)) →
    ∃ (v0 : (c : Dev Cert.KernelSampleIdeal.nD) → Buf (Elt Ideal) ((c.tc : Thread Cert.KernelSampleIdeal.nD Cert.KernelSampleIdeal.τ).loc Cert.KernelSampleIdeal.main_v6_0)) (v1 : (c : Dev Cert.KernelSampleIdeal.nD) → Buf (Elt Ideal) ((c.tc : Thread Cert.KernelSampleIdeal.nD Cert.KernelSampleIdeal.τ).loc Cert.KernelSampleIdeal.main_v6_1)),
      θ_run (Cert.KernelSampleIdeal.defs (F := Ideal)) (onTc (τ := Cert.KernelSampleIdeal.τ) (Cert.KernelSampleIdeal.main (F := Ideal))) ⟨m, fun _ => 0, g⟩ (fun r => ∀ c : Dev Cert.KernelSampleIdeal.nD,
          r.2.mem ((c.tc : Thread Cert.KernelSampleIdeal.nD Cert.KernelSampleIdeal.τ).loc Cert.KernelSampleIdeal.main_v6_0) = v0 c
          ∧ r.2.mem ((c.tc : Thread Cert.KernelSampleIdeal.nD Cert.KernelSampleIdeal.τ).loc Cert.KernelSampleIdeal.main_v6_1) = v1 c
          ∧ r.2.mem ((c.tc : Thread Cert.KernelSampleIdeal.nD Cert.KernelSampleIdeal.τ).loc Cert.KernelSampleIdeal.main_arg0) = m ((c.tc : Thread Cert.KernelSampleIdeal.nD Cert.KernelSampleIdeal.τ).loc Cert.KernelSampleIdeal.main_arg0)
          ∧ r.2.mem ((c.tc : Thread Cert.KernelSampleIdeal.nD Cert.KernelSampleIdeal.τ).loc Cert.KernelSampleIdeal.main_arg1) = m ((c.tc : Thread Cert.KernelSampleIdeal.nD Cert.KernelSampleIdeal.τ).loc Cert.KernelSampleIdeal.main_arg1)
          ∧ r.2.mem ((c.tc : Thread Cert.KernelSampleIdeal.nD Cert.KernelSampleIdeal.τ).loc Cert.KernelSampleIdeal.main_arg2) = m ((c.tc : Thread Cert.KernelSampleIdeal.nD Cert.KernelSampleIdeal.τ).loc Cert.KernelSampleIdeal.main_arg2)
          ∧ r.2.mem ((c.tc : Thread Cert.KernelSampleIdeal.nD Cert.KernelSampleIdeal.τ).loc Cert.KernelSampleIdeal.main_arg3) = m ((c.tc : Thread Cert.KernelSampleIdeal.nD Cert.KernelSampleIdeal.τ).loc Cert.KernelSampleIdeal.main_arg3)
          ∧ r.2.mem ((c.tc : Thread Cert.KernelSampleIdeal.nD Cert.KernelSampleIdeal.τ).loc Cert.KernelSampleIdeal.main_arg4) = m ((c.tc : Thread Cert.KernelSampleIdeal.nD Cert.KernelSampleIdeal.τ).loc Cert.KernelSampleIdeal.main_arg4))
      ∧ θ_run (Cert.ReferenceSampleIdeal.defs (F := Ideal)) (onTc (τ := Cert.ReferenceSampleIdeal.τ) (Cert.ReferenceSampleIdeal.main (F := Ideal))) ⟨m', fun _ => 0, g'⟩ (fun r => ∀ c : Dev Cert.ReferenceSampleIdeal.nD,
          r.2.mem ((c.tc : Thread Cert.ReferenceSampleIdeal.nD Cert.ReferenceSampleIdeal.τ).loc Cert.ReferenceSampleIdeal.main_v28) = v0 c
          ∧ r.2.mem ((c.tc : Thread Cert.ReferenceSampleIdeal.nD Cert.ReferenceSampleIdeal.τ).loc Cert.ReferenceSampleIdeal.main_v29) = v1 c
          ∧ r.2.mem ((c.tc : Thread Cert.ReferenceSampleIdeal.nD Cert.ReferenceSampleIdeal.τ).loc Cert.ReferenceSampleIdeal.main_arg0) = m' ((c.tc : Thread Cert.ReferenceSampleIdeal.nD Cert.ReferenceSampleIdeal.τ).loc Cert.ReferenceSampleIdeal.main_arg0)
          ∧ r.2.mem ((c.tc : Thread Cert.ReferenceSampleIdeal.nD Cert.ReferenceSampleIdeal.τ).loc Cert.ReferenceSampleIdeal.main_arg1) = m' ((c.tc : Thread Cert.ReferenceSampleIdeal.nD Cert.ReferenceSampleIdeal.τ).loc Cert.ReferenceSampleIdeal.main_arg1)
          ∧ r.2.mem ((c.tc : Thread Cert.ReferenceSampleIdeal.nD Cert.ReferenceSampleIdeal.τ).loc Cert.ReferenceSampleIdeal.main_arg2) = m' ((c.tc : Thread Cert.ReferenceSampleIdeal.nD Cert.ReferenceSampleIdeal.τ).loc Cert.ReferenceSampleIdeal.main_arg2)
          ∧ r.2.mem ((c.tc : Thread Cert.ReferenceSampleIdeal.nD Cert.ReferenceSampleIdeal.τ).loc Cert.ReferenceSampleIdeal.main_arg3) = m' ((c.tc : Thread Cert.ReferenceSampleIdeal.nD Cert.ReferenceSampleIdeal.τ).loc Cert.ReferenceSampleIdeal.main_arg3)
          ∧ r.2.mem ((c.tc : Thread Cert.ReferenceSampleIdeal.nD Cert.ReferenceSampleIdeal.τ).loc Cert.ReferenceSampleIdeal.main_arg4) = m' ((c.tc : Thread Cert.ReferenceSampleIdeal.nD Cert.ReferenceSampleIdeal.τ).loc Cert.ReferenceSampleIdeal.main_arg4))

def Claim : Prop :=
  ∃ (hKernel : Cert.Kernel.Facts) (hKernelIdeal : Cert.KernelIdeal.Facts) (hReferenceIdeal : Cert.ReferenceIdeal.Facts) (hKernelOut : Cert.KernelOut.Facts) (hKernelOutIdeal : Cert.KernelOutIdeal.Facts) (hReferenceOutIdeal : Cert.ReferenceOutIdeal.Facts) (hKernelGate : Cert.KernelGate.Facts) (hKernelGateIdeal : Cert.KernelGateIdeal.Facts) (hReferenceGateIdeal : Cert.ReferenceGateIdeal.Facts) (hKernelTail : Cert.KernelTail.Facts) (hKernelTailIdeal : Cert.KernelTailIdeal.Facts) (hReferenceTailIdeal : Cert.ReferenceTailIdeal.Facts) (hKernelVals : Cert.KernelVals.Facts) (hKernelValsIdeal : Cert.KernelValsIdeal.Facts) (hReferenceValsIdeal : Cert.ReferenceValsIdeal.Facts) (hKernelHeads : Cert.KernelHeads.Facts) (hKernelHeadsIdeal : Cert.KernelHeadsIdeal.Facts) (hReferenceHeadsIdeal : Cert.ReferenceHeadsIdeal.Facts) (hKernelViews : Cert.KernelViews.Facts) (hKernelViewsIdeal : Cert.KernelViewsIdeal.Facts) (hReferenceViewsIdeal : Cert.ReferenceViewsIdeal.Facts) (hKernelUp : Cert.KernelUp.Facts) (hKernelUpIdeal : Cert.KernelUpIdeal.Facts) (hReferenceUpIdeal : Cert.ReferenceUpIdeal.Facts) (hKernelQueries : Cert.KernelQueries.Facts) (hKernelQueriesIdeal : Cert.KernelQueriesIdeal.Facts) (hReferenceQueriesIdeal : Cert.ReferenceQueriesIdeal.Facts) (hKernelMain : Cert.KernelMain.Facts) (hKernelMainIdeal : Cert.KernelMainIdeal.Facts) (hReferenceMainIdeal : Cert.ReferenceMainIdeal.Facts) (hKernelMix : Cert.KernelMix.Facts) (hKernelMixIdeal : Cert.KernelMixIdeal.Facts) (hReferenceMixIdeal : Cert.ReferenceMixIdeal.Facts) (hKernelSample : Cert.KernelSample.Facts) (hKernelSampleIdeal : Cert.KernelSampleIdeal.Facts) (hReferenceSampleIdeal : Cert.ReferenceSampleIdeal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelGate (hKernelGate := hKernelGate)
    ∧ quiescent_KernelGateIdeal (hKernelGateIdeal := hKernelGateIdeal)
    ∧ quiescent_ReferenceGateIdeal (hReferenceGateIdeal := hReferenceGateIdeal)
    ∧ quiescent_KernelTail (hKernelTail := hKernelTail)
    ∧ quiescent_KernelTailIdeal (hKernelTailIdeal := hKernelTailIdeal)
    ∧ quiescent_ReferenceTailIdeal (hReferenceTailIdeal := hReferenceTailIdeal)
    ∧ quiescent_KernelVals (hKernelVals := hKernelVals)
    ∧ quiescent_KernelValsIdeal (hKernelValsIdeal := hKernelValsIdeal)
    ∧ quiescent_ReferenceValsIdeal (hReferenceValsIdeal := hReferenceValsIdeal)
    ∧ quiescent_KernelHeads (hKernelHeads := hKernelHeads)
    ∧ quiescent_KernelHeadsIdeal (hKernelHeadsIdeal := hKernelHeadsIdeal)
    ∧ quiescent_ReferenceHeadsIdeal (hReferenceHeadsIdeal := hReferenceHeadsIdeal)
    ∧ quiescent_KernelViews (hKernelViews := hKernelViews)
    ∧ quiescent_KernelViewsIdeal (hKernelViewsIdeal := hKernelViewsIdeal)
    ∧ quiescent_ReferenceViewsIdeal (hReferenceViewsIdeal := hReferenceViewsIdeal)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelQueries (hKernelQueries := hKernelQueries)
    ∧ quiescent_KernelQueriesIdeal (hKernelQueriesIdeal := hKernelQueriesIdeal)
    ∧ quiescent_ReferenceQueriesIdeal (hReferenceQueriesIdeal := hReferenceQueriesIdeal)
    ∧ quiescent_KernelMain (hKernelMain := hKernelMain)
    ∧ quiescent_KernelMainIdeal (hKernelMainIdeal := hKernelMainIdeal)
    ∧ quiescent_ReferenceMainIdeal (hReferenceMainIdeal := hReferenceMainIdeal)
    ∧ quiescent_KernelMix (hKernelMix := hKernelMix)
    ∧ quiescent_KernelMixIdeal (hKernelMixIdeal := hKernelMixIdeal)
    ∧ quiescent_ReferenceMixIdeal (hReferenceMixIdeal := hReferenceMixIdeal)
    ∧ quiescent_KernelSample (hKernelSample := hKernelSample)
    ∧ quiescent_KernelSampleIdeal (hKernelSampleIdeal := hKernelSampleIdeal)
    ∧ quiescent_ReferenceSampleIdeal (hReferenceSampleIdeal := hReferenceSampleIdeal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_KernelOut_KernelOutIdeal
    ∧ algebraic_KernelOutIdeal_ReferenceOutIdeal (hKernelOutIdeal := hKernelOutIdeal) (hReferenceOutIdeal := hReferenceOutIdeal)
    ∧ preserves_KernelGate_KernelGateIdeal
    ∧ algebraic_KernelGateIdeal_ReferenceGateIdeal (hKernelGateIdeal := hKernelGateIdeal) (hReferenceGateIdeal := hReferenceGateIdeal)
    ∧ preserves_KernelTail_KernelTailIdeal
    ∧ algebraic_KernelTailIdeal_ReferenceTailIdeal (hKernelTailIdeal := hKernelTailIdeal) (hReferenceTailIdeal := hReferenceTailIdeal)
    ∧ preserves_KernelVals_KernelValsIdeal
    ∧ algebraic_KernelValsIdeal_ReferenceValsIdeal (hKernelValsIdeal := hKernelValsIdeal) (hReferenceValsIdeal := hReferenceValsIdeal)
    ∧ preserves_KernelHeads_KernelHeadsIdeal
    ∧ algebraic_KernelHeadsIdeal_ReferenceHeadsIdeal (hKernelHeadsIdeal := hKernelHeadsIdeal) (hReferenceHeadsIdeal := hReferenceHeadsIdeal)
    ∧ preserves_KernelViews_KernelViewsIdeal
    ∧ algebraic_KernelViewsIdeal_ReferenceViewsIdeal (hKernelViewsIdeal := hKernelViewsIdeal) (hReferenceViewsIdeal := hReferenceViewsIdeal)
    ∧ preserves_KernelUp_KernelUpIdeal
    ∧ algebraic_KernelUpIdeal_ReferenceUpIdeal (hKernelUpIdeal := hKernelUpIdeal) (hReferenceUpIdeal := hReferenceUpIdeal)
    ∧ preserves_KernelQueries_KernelQueriesIdeal
    ∧ algebraic_KernelQueriesIdeal_ReferenceQueriesIdeal (hKernelQueriesIdeal := hKernelQueriesIdeal) (hReferenceQueriesIdeal := hReferenceQueriesIdeal)
    ∧ preserves_KernelMain_KernelMainIdeal
    ∧ algebraic_KernelMainIdeal_ReferenceMainIdeal (hKernelMainIdeal := hKernelMainIdeal) (hReferenceMainIdeal := hReferenceMainIdeal)
    ∧ preserves_KernelMix_KernelMixIdeal
    ∧ algebraic_KernelMixIdeal_ReferenceMixIdeal (hKernelMixIdeal := hKernelMixIdeal) (hReferenceMixIdeal := hReferenceMixIdeal)
    ∧ preserves_KernelSample_KernelSampleIdeal
    ∧ algebraic_KernelSampleIdeal_ReferenceSampleIdeal (hKernelSampleIdeal := hKernelSampleIdeal) (hReferenceSampleIdeal := hReferenceSampleIdeal)
-- ==== Pre_finite_qk.lean ====
abbrev S2x8192x8x192 : Shape := ⟨4, ![2, 8192, 8, 192]⟩
abbrev S2x8192x8x128 : Shape := ⟨4, ![2, 8192, 8, 128]⟩
abbrev S2x8192x1024 : Shape := ⟨3, ![2, 8192, 1024]⟩
abbrev S_ : Shape := ⟨0, ![]⟩

class Facts : Prop where
  bcast_S_S2x8192x8x192 : S_.BroadcastsInDim S2x8192x8x192 (![] : Fin 0 → Fin S2x8192x8x192.rank)

variable [Facts]

def fn {F : FTy → Type} [FloatOps F] (main_arg0 : FVec F S2x8192x8x192 .f32) (main_arg1 : FVec F S2x8192x8x192 .f32) (main_arg2 : FVec F S2x8192x8x128 .f32) (main_arg3 : FVec F S2x8192x1024 .f32) : IVec S2x8192x8x192 1 :=
  let main_v0 : FVec F S2x8192x8x192 .f32 := Host.absf main_arg0
  let main_cst : FVec F S_ .f32 := constant S_ .f32 0x7F800000#32
  let main_v1 : FVec F S2x8192x8x192 .f32 := broadcastInDim S2x8192x8x192 ![] bcast_S_S2x8192x8x192 main_cst
  let main_v2 : IVec S2x8192x8x192 1 := cmpf .olt main_v0 main_v1
  let main_v3 : FVec F S2x8192x8x192 .f32 := Host.absf main_arg1
  let main_cst_0 : FVec F S_ .f32 := constant S_ .f32 0x7F800000#32
  let main_v4 : FVec F S2x8192x8x192 .f32 := broadcastInDim S2x8192x8x192 ![] bcast_S_S2x8192x8x192 main_cst_0
  let main_v5 : IVec S2x8192x8x192 1 := cmpf .olt main_v3 main_v4
  let main_v6 : IVec S2x8192x8x192 1 := andi main_v2 main_v5
  main_v6
-- ==== Kernel.lean ====
abbrev S2x8192x8x192 : Shape := ⟨4, ![2, 8192, 8, 192]⟩
abbrev S2x8192x8x128 : Shape := ⟨4, ![2, 8192, 8, 128]⟩
abbrev S2x8192x1024 : Shape := ⟨3, ![2, 8192, 1024]⟩
abbrev S16384x8x192 : Shape := ⟨3, ![16384, 8, 192]⟩
abbrev S_ : Shape := ⟨0, ![]⟩
abbrev S16384x8x256 : Shape := ⟨3, ![16384, 8, 256]⟩
abbrev S16384x2048 : Shape := ⟨2, ![16384, 2048]⟩
abbrev S16384x1024 : Shape := ⟨2, ![16384, 1024]⟩
abbrev S1024x16384 : Shape := ⟨2, ![1024, 16384]⟩
abbrev S1024x256 : Shape := ⟨2, ![1024, 256]⟩
abbrev S8192x256 : Shape := ⟨2, ![8192, 256]⟩
abbrev S128x8192 : Shape := ⟨2, ![128, 8192]⟩
abbrev S1024x128 : Shape := ⟨2, ![1024, 128]⟩
abbrev S1024x1024 : Shape := ⟨2, ![1024, 1024]⟩
abbrev S1x1024 : Shape := ⟨2, ![1, 1024]⟩
abbrev S128x1024 : Shape := ⟨2, ![128, 1024]⟩
abbrev S1024 : Shape := ⟨1, ![1024]⟩

abbrev nBuf : Space → Nat
  | .hbm => 22
  | .vmem => 15
  | .smem => 0
  | _ => 0

abbrev bufTy : (tb : Table) → Fin (tcTables nBuf tb) → BufTy
  | .hbm, ⟨0, _⟩ => ⟨S2x8192x8x192, .f32⟩
  | .hbm, ⟨1, _⟩ => ⟨S2x8192x8x192, .f32⟩
  | .hbm, ⟨2, _⟩ => ⟨S2x8192x8x128, .f32⟩
  | .hbm, ⟨3, _⟩ => ⟨S2x8192x1024, .f32⟩
  | .hbm, ⟨4, _⟩ => ⟨S16384x8x192, .f32⟩
  | .hbm, ⟨5, _⟩ => ⟨S_, .i32⟩
  | .hbm, ⟨6, _⟩ => ⟨S_, .f32⟩
  | .hbm, ⟨7, _⟩ => ⟨S16384x8x256, .f32⟩
  | .hbm, ⟨8, _⟩ => ⟨S16384x2048, .f32⟩
  | .hbm, ⟨9, _⟩ => ⟨S16384x2048, .bf16⟩
  | .hbm, ⟨10, _⟩ => ⟨S16384x8x192, .f32⟩
  | .hbm, ⟨11, _⟩ => ⟨S_, .i32⟩
  | .hbm, ⟨12, _⟩ => ⟨S_, .f32⟩
  | .hbm, ⟨13, _⟩ => ⟨S16384x8x256, .f32⟩
  | .hbm, ⟨14, _⟩ => ⟨S16384x2048, .f32⟩
  | .hbm, ⟨15, _⟩ => ⟨S16384x2048, .bf16⟩
  | .hbm, ⟨16, _⟩ => ⟨S16384x1024, .f32⟩
  | .hbm, ⟨17, _⟩ => ⟨S1024x16384, .f32⟩
  | .hbm, ⟨18, _⟩ => ⟨S1024x16384, .bf16⟩
  | .hbm, ⟨19, _⟩ => ⟨S16384x1024, .f32⟩
  | .hbm, ⟨20, _⟩ => ⟨S16384x1024, .bf16⟩
  | .hbm, ⟨21, _⟩ => ⟨S16384x1024, .bf16⟩
  | .local _ .vmem, ⟨0, _⟩ => ⟨S1024x256, .bf16⟩
  | .local _ .vmem, ⟨1, _⟩ => ⟨S1024x256, .bf16⟩
  | .local _ .vmem, ⟨2, _⟩ => ⟨S8192x256, .bf16⟩
  | .local _ .vmem, ⟨3, _⟩ => ⟨S8192x256, .bf16⟩
  | .local _ .vmem, ⟨4, _⟩ => ⟨S128x8192, .bf16⟩
  | .local _ .vmem, ⟨5, _⟩ => ⟨S128x8192, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .bf16⟩
  | .local _ .vmem, ⟨9, _⟩ => ⟨S1024x128, .bf16⟩
  | .local _ .vmem, ⟨10, _⟩ => ⟨S1024x1024, .f32⟩
  | .local _ .vmem, ⟨11, _⟩ => ⟨S1024x1024, .f32⟩
  | .local _ .vmem, ⟨12, _⟩ => ⟨S1x1024, .f32⟩
  | .local _ .vmem, ⟨13, _⟩ => ⟨S1x1024, .f32⟩
  | .local _ .vmem, ⟨14, _⟩ => ⟨S128x1024, .f32⟩
  | _, _ => ⟨S2x8192x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 8, 8], ![false, false, false]⟩

def k0_mult1 : BitVec 32 :=
  let c0_i32 : BitVec 32 := 0#32
  c0_i32
def k0_mult2 : BitVec 32 :=
  let c8_i32 : BitVec 32 := 8#32
  let c0_i32_14 : BitVec 32 := 0#32
  let v26 : BitVec 32 := Scalar.muli c8_i32 c0_i32_14
  let c0_i32_15 : BitVec 32 := 0#32
  let v27 : BitVec 32 := Scalar.addi v26 c0_i32_15
  let c1_i32 : BitVec 32 := 1#32
  let v28 : BitVec 32 := Scalar.addi v27 c1_i32
  let c7_i32 : BitVec 32 := 7#32
  let v29 : BitVec 32 := Scalar.minsi v28 c7_i32
  let c1024_i32 : BitVec 32 := 1024#32
  let v30 : BitVec 32 := Scalar.muli v29 c1024_i32
  v30
def k0_off1 (c0_i32_15 : BitVec 32) : Fin 2 → Nat :=
  let c8_i32 : BitVec 32 := 8#32
  let c0_i32_14 : BitVec 32 := 0#32
  let v26 : BitVec 32 := Scalar.muli c8_i32 c0_i32_14
  let v27 : BitVec 32 := Scalar.addi v26 c0_i32_15
  let c1_i32 : BitVec 32 := 1#32
  let v28 : BitVec 32 := Scalar.addi v27 c1_i32
  let c7_i32 : BitVec 32 := 7#32
  let v29 : BitVec 32 := Scalar.minsi v28 c7_i32
  let c1024_i32 : BitVec 32 := 1024#32
  let v30 : BitVec 32 := Scalar.muli v29 c1024_i32
  let v31 : BitVec 32 := v30
  let v32 : Index := Scalar.indexCast v31
  let c0_16 : Index := 0#32
  ![v32.toNat, 0]
def k0_mult3 : BitVec 32 :=
  let c8_i32 : BitVec 32 := 8#32
  let c0_i32_14 : BitVec 32 := 0#32
  let v26 : BitVec 32 := Scalar.muli c8_i32 c0_i32_14
  let c0_i32_20 : BitVec 32 := 0#32
  let v39 : BitVec 32 := Scalar.addi v26 c0_i32_20
  let c1024_i32_23 : BitVec 32 := 1024#32
  let v41 : BitVec 32 := Scalar.muli v39 c1024_i32_23
  v41
def k0_off2 (c0_i32_20 : BitVec 32) : Fin 2 → Nat :=
  let c0_24 : Index := 0#32
  let c8_i32 : BitVec 32 := 8#32
  let c0_i32_14 : BitVec 32 := 0#32
  let v26 : BitVec 32 := Scalar.muli c8_i32 c0_i32_14
  let v39 : BitVec 32 := Scalar.addi v26 c0_i32_20
  let c1024_i32_23 : BitVec 32 := 1024#32
  let v41 : BitVec 32 := Scalar.muli v39 c1024_i32_23
  let v42 : BitVec 32 := v41
  let v43 : Index := Scalar.indexCast v42
  ![0, v43.toNat]
def k0_mult4 : BitVec 32 :=
  let c8_i32 : BitVec 32 := 8#32
  let c0_i32_14 : BitVec 32 := 0#32
  let v26 : BitVec 32 := Scalar.muli c8_i32 c0_i32_14
  let c1_i32_40 : BitVec 32 := 1#32
  let v75 : BitVec 32 := Scalar.addi v26 c1_i32_40
  let c1_i32_41 : BitVec 32 := 1#32
  let v76 : BitVec 32 := Scalar.addi v75 c1_i32_41
  let c7_i32_42 : BitVec 32 := 7#32
  let v77 : BitVec 32 := Scalar.minsi v76 c7_i32_42
  let c1024_i32_43 : BitVec 32 := 1024#32
  let v78 : BitVec 32 := Scalar.muli v77 c1024_i32_43
  v78
def k0_mult5 : BitVec 32 :=
  let c8_i32 : BitVec 32 := 8#32
  let c0_i32_14 : BitVec 32 := 0#32
  let v26 : BitVec 32 := Scalar.muli c8_i32 c0_i32_14
  let c1_i32_48 : BitVec 32 := 1#32
  let v87 : BitVec 32 := Scalar.addi v26 c1_i32_48
  let c1024_i32_51 : BitVec 32 := 1024#32
  let v89 : BitVec 32 := Scalar.muli v87 c1024_i32_51
  v89
def k0_mult6 : BitVec 32 :=
  let c8_i32 : BitVec 32 := 8#32
  let c0_i32_14 : BitVec 32 := 0#32
  let v26 : BitVec 32 := Scalar.muli c8_i32 c0_i32_14
  let c2_i32 : BitVec 32 := 2#32
  let v123 : BitVec 32 := Scalar.addi v26 c2_i32
  let c1_i32_68 : BitVec 32 := 1#32
  let v124 : BitVec 32 := Scalar.addi v123 c1_i32_68
  let c7_i32_69 : BitVec 32 := 7#32
  let v125 : BitVec 32 := Scalar.minsi v124 c7_i32_69
  let c1024_i32_70 : BitVec 32 := 1024#32
  let v126 : BitVec 32 := Scalar.muli v125 c1024_i32_70
  v126
def k0_mult7 : BitVec 32 :=
  let c8_i32 : BitVec 32 := 8#32
  let c0_i32_14 : BitVec 32 := 0#32
  let v26 : BitVec 32 := Scalar.muli c8_i32 c0_i32_14
  let c2_i32_75 : BitVec 32 := 2#32
  let v135 : BitVec 32 := Scalar.addi v26 c2_i32_75
  let c1024_i32_78 : BitVec 32 := 1024#32
  let v137 : BitVec 32 := Scalar.muli v135 c1024_i32_78
  v137
def k0_mult8 : BitVec 32 :=
  let c8_i32 : BitVec 32 := 8#32
  let c0_i32_14 : BitVec 32 := 0#32
  let v26 : BitVec 32 := Scalar.muli c8_i32 c0_i32_14
  let c3_i32 : BitVec 32 := 3#32
  let v171 : BitVec 32 := Scalar.addi v26 c3_i32
  let c1_i32_95 : BitVec 32 := 1#32
  let v172 : BitVec 32 := Scalar.addi v171 c1_i32_95
  let c7_i32_96 : BitVec 32 := 7#32
  let v173 : BitVec 32 := Scalar.minsi v172 c7_i32_96
  let c1024_i32_97 : BitVec 32 := 1024#32
  let v174 : BitVec 32 := Scalar.muli v173 c1024_i32_97
  v174
def k0_mult9 : BitVec 32 :=
  let c8_i32 : BitVec 32 := 8#32
  let c0_i32_14 : BitVec 32 := 0#32
  let v26 : BitVec 32 := Scalar.muli c8_i32 c0_i32_14
  let c3_i32_102 : BitVec 32 := 3#32
  let v183 : BitVec 32 := Scalar.addi v26 c3_i32_102
  let c1024_i32_105 : BitVec 32 := 1024#32
  let v185 : BitVec 32 := Scalar.muli v183 c1024_i32_105
  v185
def k0_mult10 : BitVec 32 :=
  let c8_i32 : BitVec 32 := 8#32
  let c0_i32_14 : BitVec 32 := 0#32
  let v26 : BitVec 32 := Scalar.muli c8_i32 c0_i32_14
  let c4_i32 : BitVec 32 := 4#32
  let v219 : BitVec 32 := Scalar.addi v26 c4_i32
  let c1_i32_122 : BitVec 32 := 1#32
  let v220 : BitVec 32 := Scalar.addi v219 c1_i32_122
  let c7_i32_123 : BitVec 32 := 7#32
  let v221 : BitVec 32 := Scalar.minsi v220 c7_i32_123
  let c1024_i32_124 : BitVec 32 := 1024#32
  let v222 : BitVec 32 := Scalar.muli v221 c1024_i32_124
  v222
def k0_mult11 : BitVec 32 :=
  let c8_i32 : BitVec 32 := 8#32
  let c0_i32_14 : BitVec 32 := 0#32
  let v26 : BitVec 32 := Scalar.muli c8_i32 c0_i32_14
  let c4_i32_129 : BitVec 32 := 4#32
  let v231 : BitVec 32 := Scalar.addi v26 c4_i32_129
  let c1024_i32_132 : BitVec 32 := 1024#32
  let v233 : BitVec 32 := Scalar.muli v231 c1024_i32_132
  v233
def k0_mult12 : BitVec 32 :=
  let c8_i32 : BitVec 32 := 8#32
  let c0_i32_14 : BitVec 32 := 0#32
  let v26 : BitVec 32 := Scalar.muli c8_i32 c0_i32_14
  let c5_i32 : BitVec 32 := 5#32
  let v267 : BitVec 32 := Scalar.addi v26 c5_i32
  let c1_i32_149 : BitVec 32 := 1#32
  let v268 : BitVec 32 := Scalar.addi v267 c1_i32_149
  let c7_i32_150 : BitVec 32 := 7#32
  let v269 : BitVec 32 := Scalar.minsi v268 c7_i32_150
  let c1024_i32_151 : BitVec 32 := 1024#32
  let v270 : BitVec 32 := Scalar.muli v269 c1024_i32_151
  v270
def k0_mult13 : BitVec 32 :=
  let c8_i32 : BitVec 32 := 8#32
  let c0_i32_14 : BitVec 32 := 0#32
  let v26 : BitVec 32 := Scalar.muli c8_i32 c0_i32_14
  let c5_i32_156 : BitVec 32 := 5#32
  let v279 : BitVec 32 := Scalar.addi v26 c5_i32_156
  let c1024_i32_159 : BitVec 32 := 1024#32
  let v281 : BitVec 32 := Scalar.muli v279 c1024_i32_159
  v281
def k0_mult14 : BitVec 32 :=
  let c8_i32 : BitVec 32 := 8#32
  let c0_i32_14 : BitVec 32 := 0#32
  let v26 : BitVec 32 := Scalar.muli c8_i32 c0_i32_14
  let c6_i32 : BitVec 32 := 6#32
  let v315 : BitVec 32 := Scalar.addi v26 c6_i32
  let c1_i32_176 : BitVec 32 := 1#32
  let v316 : BitVec 32 := Scalar.addi v315 c1_i32_176
  let c7_i32_177 : BitVec 32 := 7#32
  let v317 : BitVec 32 := Scalar.minsi v316 c7_i32_177
  let c1024_i32_178 : BitVec 32 := 1024#32
  let v318 : BitVec 32 := Scalar.muli v317 c1024_i32_178
  v318
def k0_mult15 : BitVec 32 :=
  let c8_i32 : BitVec 32 := 8#32
  let c0_i32_14 : BitVec 32 := 0#32
  let v26 : BitVec 32 := Scalar.muli c8_i32 c0_i32_14
  let c6_i32_183 : BitVec 32 := 6#32
  let v327 : BitVec 32 := Scalar.addi v26 c6_i32_183
  let c1024_i32_186 : BitVec 32 := 1024#32
  let v329 : BitVec 32 := Scalar.muli v327 c1024_i32_186
  v329
def k0_mult16 : BitVec 32 :=
  let c8_i32 : BitVec 32 := 8#32
  let c0_i32_14 : BitVec 32 := 0#32
  let v26 : BitVec 32 := Scalar.muli c8_i32 c0_i32_14
  let c7_i32_203 : BitVec 32 := 7#32
  let v363 : BitVec 32 := Scalar.addi v26 c7_i32_203
  let c1_i32_204 : BitVec 32 := 1#32
  let v364 : BitVec 32 := Scalar.addi v363 c1_i32_204
  let c7_i32_205 : BitVec 32 := 7#32
  let v365 : BitVec 32 := Scalar.minsi v364 c7_i32_205
  let c1024_i32_206 : BitVec 32 := 1024#32
  let v366 : BitVec 32 := Scalar.muli v365 c1024_i32_206
  v366
def k0_mult17 : BitVec 32 :=
  let c8_i32 : BitVec 32 := 8#32
  let c0_i32_14 : BitVec 32 := 0#32
  let v26 : BitVec 32 := Scalar.muli c8_i32 c0_i32_14
  let c7_i32_211 : BitVec 32 := 7#32
  let v375 : BitVec 32 := Scalar.addi v26 c7_i32_211
  let c1024_i32_214 : BitVec 32 := 1024#32
  let v377 : BitVec 32 := Scalar.muli v375 c1024_i32_214
  v377
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S128x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "scale_log2e" => some (((Real.sqrt 192)⁻¹ * (Real.log 2)⁻¹ : ℝ) : EReal)
  | _ => none
-- ==== ReferenceIdeal.lean ====
abbrev S2x8192x8x192 : Shape := ⟨4, ![2, 8192, 8, 192]⟩
abbrev S2x8192x8x128 : Shape := ⟨4, ![2, 8192, 8, 128]⟩
abbrev S2x8192x1024 : Shape := ⟨3, ![2, 8192, 1024]⟩
abbrev S_ : Shape := ⟨0, ![]⟩
abbrev S2x8x8192x8192 : Shape := ⟨4, ![2, 8, 8192, 8192]⟩
abbrev S2x8x8192 : Shape := ⟨3, ![2, 8, 8192]⟩
abbrev S2x8x8192x1 : Shape := ⟨4, ![2, 8, 8192, 1]⟩
abbrev S2x8x128x8192 : Shape := ⟨4, ![2, 8, 128, 8192]⟩
abbrev S16384x1024 : Shape := ⟨2, ![16384, 1024]⟩

abbrev nBuf : Space → Nat
  | .hbm => 38
  | .vmem => 0
  | .smem => 0
  | _ => 0

abbrev bufTy : (tb : Table) → Fin (tcTables nBuf tb) → BufTy
  | .hbm, ⟨0, _⟩ => ⟨S2x8192x8x192, .f32⟩
  | .hbm, ⟨1, _⟩ => ⟨S2x8192x8x192, .f32⟩
  | .hbm, ⟨2, _⟩ => ⟨S2x8192x8x128, .f32⟩
  | .hbm, ⟨3, _⟩ => ⟨S2x8192x1024, .f32⟩
  | .hbm, ⟨4, _⟩ => ⟨S_, .f32⟩
  | .hbm, ⟨5, _⟩ => ⟨S_, .f32⟩
  | .hbm, ⟨6, _⟩ => ⟨S2x8192x8x192, .f32⟩
  | .hbm, ⟨7, _⟩ => ⟨S2x8192x8x192, .f32⟩
  | .hbm, ⟨8, _⟩ => ⟨S2x8x8192x8192, .f32⟩
  | .hbm, ⟨9, _⟩ => ⟨S_, .f32⟩
  | .hbm, ⟨10, _⟩ => ⟨S2x8x8192, .f32⟩
  | .hbm, ⟨11, _⟩ => ⟨S_, .f32⟩
  | .hbm, ⟨12, _⟩ => ⟨S2x8x8192, .f32⟩
  | .hbm, ⟨13, _⟩ => ⟨S2x8x8192, .f32⟩
  | .hbm, ⟨14, _⟩ => ⟨S2x8x8192x1, .f32⟩
  | .hbm, ⟨15, _⟩ => ⟨S2x8x8192x8192, .f32⟩
  | .hbm, ⟨16, _⟩ => ⟨S2x8x8192x8192, .f32⟩
  | .hbm, ⟨17, _⟩ => ⟨S2x8x8192x8192, .f32⟩
  | .hbm, ⟨18, _⟩ => ⟨S_, .f32⟩
  | .hbm, ⟨19, _⟩ => ⟨S2x8x8192, .f32⟩
  | .hbm, ⟨20, _⟩ => ⟨S2x8x8192x1, .f32⟩
  | .hbm, ⟨21, _⟩ => ⟨S2x8x8192x8192, .f32⟩
  | .hbm, ⟨22, _⟩ => ⟨S2x8x8192x8192, .f32⟩
  | .hbm, ⟨23, _⟩ => ⟨S2x8x128x8192, .f32⟩
  | .hbm, ⟨24, _⟩ => ⟨S2x8192x8x128, .f32⟩
  | .hbm, ⟨25, _⟩ => ⟨S2x8192x1024, .f32⟩
  | .hbm, ⟨26, _⟩ => ⟨S2x8192x1024, .f32⟩
  | .hbm, ⟨27, _⟩ => ⟨S2x8192x1024, .f32⟩
  | .hbm, ⟨28, _⟩ => ⟨S_, .f32⟩
  | .hbm, ⟨29, _⟩ => ⟨S2x8192x1024, .f32⟩
  | .hbm, ⟨30, _⟩ => ⟨S2x8192x1024, .f32⟩
  | .hbm, ⟨31, _⟩ => ⟨S_, .f32⟩
  | .hbm, ⟨32, _⟩ => ⟨S2x8192x1024, .f32⟩
  | .hbm, ⟨33, _⟩ => ⟨S2x8192x1024, .f32⟩
  | .hbm, ⟨34, _⟩ => ⟨S2x8192x1024, .f32⟩
  | .hbm, ⟨35, _⟩ => ⟨S2x8192x1024, .f32⟩
  | .hbm, ⟨36, _⟩ => ⟨S16384x1024, .f32⟩
  | .hbm, ⟨37, _⟩ => ⟨S16384x1024, .bf16⟩
  | _, _ => ⟨S2x8192x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩

abbrev nD : Nat := 1
abbrev τ : Topo := Topo.v7x

variable {F : FTy → Type} [FloatOps F]
-- ==== KernelOut.lean ====
abbrev S2x8192x2048 : Shape := ⟨3, ![2, 8192, 2048]⟩
abbrev S2048x2048 : Shape := ⟨2, ![2048, 2048]⟩
abbrev S2048 : Shape := ⟨1, ![2048]⟩
abbrev S16384x2048 : Shape := ⟨2, ![16384, 2048]⟩
abbrev S1x2048 : Shape := ⟨2, ![1, 2048]⟩
abbrev S512x1024 : Shape := ⟨2, ![512, 1024]⟩
abbrev S512x2048 : Shape := ⟨2, ![512, 2048]⟩
abbrev S256x1024 : Shape := ⟨2, ![256, 1024]⟩
abbrev S1024x2048 : Shape := ⟨2, ![1024, 2048]⟩
abbrev S256x2048 : Shape := ⟨2, ![256, 2048]⟩
abbrev S256 : Shape := ⟨1, ![256]⟩
abbrev S256x1 : Shape := ⟨2, ![256, 1]⟩

abbrev nBuf : Space → Nat
  | .hbm => 13
  | .vmem => 13
  | .smem => 0
  | _ => 0

abbrev bufTy : (tb : Table) → Fin (tcTables nBuf tb) → BufTy
  | .hbm, ⟨0, _⟩ => ⟨S2x8192x2048, .f32⟩
  | .hbm, ⟨1, _⟩ => ⟨S2048x2048, .f32⟩
  | .hbm, ⟨2, _⟩ => ⟨S2x8192x2048, .f32⟩
  | .hbm, ⟨3, _⟩ => ⟨S2048, .f32⟩
  | .hbm, ⟨4, _⟩ => ⟨S2048, .f32⟩
  | .hbm, ⟨5, _⟩ => ⟨S16384x2048, .f32⟩
  | .hbm, ⟨6, _⟩ => ⟨S16384x2048, .bf16⟩
  | .hbm, ⟨7, _⟩ => ⟨S2048x2048, .bf16⟩
  | .hbm, ⟨8, _⟩ => ⟨S16384x2048, .f32⟩
  | .hbm, ⟨9, _⟩ => ⟨S1x2048, .f32⟩
  | .hbm, ⟨10, _⟩ => ⟨S1x2048, .f32⟩
  | .hbm, ⟨11, _⟩ => ⟨S16384x2048, .f32⟩
  | .hbm, ⟨12, _⟩ => ⟨S16384x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x2048, .bf16⟩
  | .local _ .vmem, ⟨5, _⟩ => ⟨S512x2048, .f32⟩
  | .local _ .vmem, ⟨6, _⟩ => ⟨S512x2048, .f32⟩
  | .local _ .vmem, ⟨7, _⟩ => ⟨S1x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceOutIdeal.lean ====
abbrev S2x8192x2048 : Shape := ⟨3, ![2, 8192, 2048]⟩
abbrev S2048x2048 : Shape := ⟨2, ![2048, 2048]⟩
abbrev S2048 : Shape := ⟨1, ![2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S16384x2048 : Shape := ⟨2, ![16384, 2048]⟩

abbrev nBuf : Space → Nat
  | .hbm => 41
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2048x2048, .f32⟩
  | .hbm, ⟨2, _⟩ => ⟨S2x8192x2048, .f32⟩
  | .hbm, ⟨3, _⟩ => ⟨S2048, .f32⟩
  | .hbm, ⟨4, _⟩ => ⟨S2048, .f32⟩
  | .hbm, ⟨5, _⟩ => ⟨S_, .f32⟩
  | .hbm, ⟨6, _⟩ => ⟨S2x8192x2048, .f32⟩
  | .hbm, ⟨7, _⟩ => ⟨S2x8192x2048, .f32⟩
  | .hbm, ⟨8, _⟩ => ⟨S2x8192x2048, .f32⟩
  | .hbm, ⟨9, _⟩ => ⟨S2x8192x2048, .f32⟩
  | .hbm, ⟨10, _⟩ => ⟨S_, .f32⟩
  | .hbm, ⟨11, _⟩ => ⟨S2x8192, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S2x8192x2048, .f32⟩
  | .hbm, ⟨17, _⟩ => ⟨S2x8192x2048, .f32⟩
  | .hbm, ⟨18, _⟩ => ⟨S2x8192x2048, .f32⟩
  | .hbm, ⟨19, _⟩ => ⟨S_, .f32⟩
  | .hbm, ⟨20, _⟩ => ⟨S2x8192, .f32⟩
  | .hbm, ⟨21, _⟩ => ⟨S2x8192x1, .f32⟩
  | .hbm, ⟨22, _⟩ => ⟨S_, .f32⟩
  | .hbm, ⟨23, _⟩ => ⟨S2x8192x1, .f32⟩
  | .hbm, ⟨24, _⟩ => ⟨S2x8192x1, .f32⟩
  | .hbm, ⟨25, _⟩ => ⟨S2x8192x2048, .f32⟩
  | .hbm, ⟨26, _⟩ => ⟨S2x8192x2048, .f32⟩
  | .hbm, ⟨27, _⟩ => ⟨S_, .f32⟩
  | .hbm, ⟨28, _⟩ => ⟨S2x8192x1, .f32⟩
  | .hbm, ⟨29, _⟩ => ⟨S2x8192x1, .f32⟩
  | .hbm, ⟨30, _⟩ => ⟨S2x8192x1, .f32⟩
  | .hbm, ⟨31, _⟩ => ⟨S2x8192x2048, .f32⟩
  | .hbm, ⟨32, _⟩ => ⟨S2x8192x2048, .f32⟩
  | .hbm, ⟨33, _⟩ => ⟨S1x1x2048, .f32⟩
  | .hbm, ⟨34, _⟩ => ⟨S2x8192x2048, .f32⟩
  | .hbm, ⟨35, _⟩ => ⟨S2x8192x2048, .f32⟩
  | .hbm, ⟨36, _⟩ => ⟨S1x1x2048, .f32⟩
  | .hbm, ⟨37, _⟩ => ⟨S2x8192x2048, .f32⟩
  | .hbm, ⟨38, _⟩ => ⟨S2x8192x2048, .f32⟩
  | .hbm, ⟨39, _⟩ => ⟨S16384x2048, .f32⟩
  | .hbm, ⟨40, _⟩ => ⟨S16384x2048, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== KernelGate.lean ====
abbrev S2x8192x2048 : Shape := ⟨3, ![2, 8192, 2048]⟩
abbrev S2048x8192 : Shape := ⟨2, ![2048, 8192]⟩
abbrev S16384x2048 : Shape := ⟨2, ![16384, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S2x8192x2048, .f32⟩
  | .hbm, ⟨1, _⟩ => ⟨S2048x8192, .f32⟩
  | .hbm, ⟨2, _⟩ => ⟨S16384x2048, .f32⟩
  | .hbm, ⟨3, _⟩ => ⟨S16384x2048, .bf16⟩
  | .hbm, ⟨4, _⟩ => ⟨S2048x8192, .bf16⟩
  | .hbm, ⟨5, _⟩ => ⟨S16384x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceGateIdeal.lean ====
abbrev S2x8192x2048 : Shape := ⟨3, ![2, 8192, 2048]⟩
abbrev S2048x8192 : Shape := ⟨2, ![2048, 8192]⟩
abbrev S2x8192x8192 : Shape := ⟨3, ![2, 8192, 8192]⟩
abbrev S16384x2048 : Shape := ⟨2, ![16384, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2048x8192, .f32⟩
  | .hbm, ⟨2, _⟩ => ⟨S2x8192x8192, .f32⟩
  | .hbm, ⟨3, _⟩ => ⟨S2x8192x2048, .f32⟩
  | .hbm, ⟨4, _⟩ => ⟨S2x8192x2048, .f32⟩
  | .hbm, ⟨5, _⟩ => ⟨S2x8192x2048, .f32⟩
  | .hbm, ⟨6, _⟩ => ⟨S2x8192x2048, .f32⟩
  | .hbm, ⟨7, _⟩ => ⟨S16384x2048, .f32⟩
  | .hbm, ⟨8, _⟩ => ⟨S16384x2048, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== KernelTail.lean ====
abbrev S2x8192x2048 : Shape := ⟨3, ![2, 8192, 2048]⟩
abbrev S2048x6208 : Shape := ⟨2, ![2048, 6208]⟩
abbrev S6208x2048 : Shape := ⟨2, ![6208, 2048]⟩
abbrev S1024x2048 : Shape := ⟨2, ![1024, 2048]⟩
abbrev S64x2048 : Shape := ⟨2, ![64, 2048]⟩
abbrev S_ : Shape := ⟨0, ![]⟩
abbrev S192x2048 : Shape := ⟨2, ![192, 2048]⟩
abbrev S1280x2048 : Shape := ⟨2, ![1280, 2048]⟩
abbrev S16384x2048 : Shape := ⟨2, ![16384, 2048]⟩
abbrev S16384x1280 : Shape := ⟨2, ![16384, 1280]⟩
abbrev S1024x1280 : Shape := ⟨2, ![1024, 1280]⟩

abbrev nBuf : Space → Nat
  | .hbm => 12
  | .vmem => 5
  | .smem => 0
  | _ => 0

abbrev bufTy : (tb : Table) → Fin (tcTables nBuf tb) → BufTy
  | .hbm, ⟨0, _⟩ => ⟨S2x8192x2048, .f32⟩
  | .hbm, ⟨1, _⟩ => ⟨S2048x6208, .f32⟩
  | .hbm, ⟨2, _⟩ => ⟨S6208x2048, .f32⟩
  | .hbm, ⟨3, _⟩ => ⟨S6208x2048, .bf16⟩
  | .hbm, ⟨4, _⟩ => ⟨S1024x2048, .bf16⟩
  | .hbm, ⟨5, _⟩ => ⟨S64x2048, .bf16⟩
  | .hbm, ⟨6, _⟩ => ⟨S_, .bf16⟩
  | .hbm, ⟨7, _⟩ => ⟨S192x2048, .bf16⟩
  | .hbm, ⟨8, _⟩ => ⟨S1280x2048, .bf16⟩
  | .hbm, ⟨9, _⟩ => ⟨S16384x2048, .f32⟩
  | .hbm, ⟨10, _⟩ => ⟨S16384x2048, .bf16⟩
  | .hbm, ⟨11, _⟩ => ⟨S16384x1280, .bf16⟩
  | .local _ .vmem, ⟨0, _⟩ => ⟨S1024x2048, .bf16⟩
  | .local _ .vmem, ⟨1, _⟩ => ⟨S1024x2048, .bf16⟩
  | .local _ .vmem, ⟨2, _⟩ => ⟨S1280x2048, .bf16⟩
  | .local _ .vmem, ⟨3, _⟩ => ⟨S1024x1280, .bf16⟩
  | .local _ .vmem, ⟨4, _⟩ => ⟨S1024x1280, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1280x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceTailIdeal.lean ====
abbrev S2x8192x2048 : Shape := ⟨3, ![2, 8192, 2048]⟩
abbrev S2048x6208 : Shape := ⟨2, ![2048, 6208]⟩
abbrev S2x8192x6208 : Shape := ⟨3, ![2, 8192, 6208]⟩
abbrev S16384x6208 : Shape := ⟨2, ![16384, 6208]⟩
abbrev S16384x1024 : Shape := ⟨2, ![16384, 1024]⟩
abbrev S16384x64 : Shape := ⟨2, ![16384, 64]⟩
abbrev S16384x1088 : Shape := ⟨2, ![16384, 1088]⟩
abbrev S_ : Shape := ⟨0, ![]⟩
abbrev S16384x1280 : Shape := ⟨2, ![16384, 1280]⟩

abbrev nBuf : Space → Nat
  | .hbm => 11
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2048x6208, .f32⟩
  | .hbm, ⟨2, _⟩ => ⟨S2x8192x6208, .f32⟩
  | .hbm, ⟨3, _⟩ => ⟨S16384x6208, .f32⟩
  | .hbm, ⟨4, _⟩ => ⟨S16384x1024, .f32⟩
  | .hbm, ⟨5, _⟩ => ⟨S16384x64, .f32⟩
  | .hbm, ⟨6, _⟩ => ⟨S16384x1088, .f32⟩
  | .hbm, ⟨7, _⟩ => ⟨S_, .i32⟩
  | .hbm, ⟨8, _⟩ => ⟨S_, .f32⟩
  | .hbm, ⟨9, _⟩ => ⟨S16384x1280, .f32⟩
  | .hbm, ⟨10, _⟩ => ⟨S16384x1280, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== KernelVals.lean ====
abbrev S2x8192x2048 : Shape := ⟨3, ![2, 8192, 2048]⟩
abbrev S2048x6208 : Shape := ⟨2, ![2048, 6208]⟩
abbrev S6208x2048 : Shape := ⟨2, ![6208, 2048]⟩
abbrev S1024x2048 : Shape := ⟨2, ![1024, 2048]⟩
abbrev S16384x2048 : Shape := ⟨2, ![16384, 2048]⟩
abbrev S2x1024x8192 : Shape := ⟨3, ![2, 1024, 8192]⟩
abbrev S1x1024x1024 : Shape := ⟨3, ![1, 1024, 1024]⟩
abbrev S1024x1024 : Shape := ⟨2, ![1024, 1024]⟩

abbrev nBuf : Space → Nat
  | .hbm => 8
  | .vmem => 5
  | .smem => 0
  | _ => 0

abbrev bufTy : (tb : Table) → Fin (tcTables nBuf tb) → BufTy
  | .hbm, ⟨0, _⟩ => ⟨S2x8192x2048, .f32⟩
  | .hbm, ⟨1, _⟩ => ⟨S2048x6208, .f32⟩
  | .hbm, ⟨2, _⟩ => ⟨S6208x2048, .f32⟩
  | .hbm, ⟨3, _⟩ => ⟨S6208x2048, .bf16⟩
  | .hbm, ⟨4, _⟩ => ⟨S1024x2048, .bf16⟩
  | .hbm, ⟨5, _⟩ => ⟨S16384x2048, .f32⟩
  | .hbm, ⟨6, _⟩ => ⟨S16384x2048, .bf16⟩
  | .hbm, ⟨7, _⟩ => ⟨S2x1024x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1x1024x1024, .bf16⟩
  | .local _ .vmem, ⟨4, _⟩ => ⟨S1x1024x1024, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceValsIdeal.lean ====
abbrev S2x8192x2048 : Shape := ⟨3, ![2, 8192, 2048]⟩
abbrev S2048x6208 : Shape := ⟨2, ![2048, 6208]⟩
abbrev S2x8192x6208 : Shape := ⟨3, ![2, 8192, 6208]⟩
abbrev S2x8192x1024 : Shape := ⟨3, ![2, 8192, 1024]⟩
abbrev S2x1024x8192 : Shape := ⟨3, ![2, 1024, 8192]⟩

abbrev nBuf : Space → Nat
  | .hbm => 6
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2048x6208, .f32⟩
  | .hbm, ⟨2, _⟩ => ⟨S2x8192x6208, .f32⟩
  | .hbm, ⟨3, _⟩ => ⟨S2x8192x1024, .f32⟩
  | .hbm, ⟨4, _⟩ => ⟨S2x1024x8192, .f32⟩
  | .hbm, ⟨5, _⟩ => ⟨S2x1024x8192, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelHeads.lean ====
abbrev S2x8192x2048 : Shape := ⟨3, ![2, 8192, 2048]⟩
abbrev S2048x8192 : Shape := ⟨2, ![2048, 8192]⟩
abbrev S64 : Shape := ⟨1, ![64]⟩
abbrev S_ : Shape := ⟨0, ![]⟩
abbrev S8192 : Shape := ⟨1, ![8192]⟩
abbrev S8192x1 : Shape := ⟨2, ![8192, 1]⟩
abbrev S1x64 : Shape := ⟨2, ![1, 64]⟩
abbrev S8192x64 : Shape := ⟨2, ![8192, 64]⟩
abbrev S8192x0 : Shape := ⟨2, ![8192, 0]⟩
abbrev S8192x128 : Shape := ⟨2, ![8192, 128]⟩
abbrev S16384x2048 : Shape := ⟨2, ![16384, 2048]⟩
abbrev S32x16384x128 : Shape := ⟨3, ![32, 16384, 128]⟩
abbrev S32x4096x512 : Shape := ⟨3, ![32, 4096, 512]⟩
abbrev S32x1024x2048 : Shape := ⟨3, ![32, 1024, 2048]⟩
abbrev S1024x2048 : Shape := ⟨2, ![1024, 2048]⟩
abbrev S2048x1024 : Shape := ⟨2, ![2048, 1024]⟩
abbrev S1024x128 : Shape := ⟨2, ![1024, 128]⟩
abbrev S8x1024x128 : Shape := ⟨3, ![8, 1024, 128]⟩
abbrev S8x256x512 : Shape := ⟨3, ![8, 256, 512]⟩
abbrev S8x64x2048 : Shape := ⟨3, ![8, 64, 2048]⟩
abbrev S8x1x1024x128 : Shape := ⟨4, ![8, 1, 1024, 128]⟩
abbrev S8x4x256x128 : Shape := ⟨4, ![8, 4, 256, 128]⟩
abbrev S512x2048 : Shape := ⟨2, ![512, 2048]⟩
abbrev S512x1024 : Shape := ⟨2, ![512, 1024]⟩
abbrev S512x128 : Shape := ⟨2, ![512, 128]⟩
abbrev S1x512x128 : Shape := ⟨3, ![1, 512, 128]⟩
abbrev S1x1x512x128 : Shape := ⟨4, ![1, 1, 512, 128]⟩
abbrev S1x1x128x128 : Shape := ⟨4, ![1, 1, 128, 128]⟩
abbrev S128x128 : Shape := ⟨2, ![128, 128]⟩
abbrev S1x128x128 : Shape := ⟨3, ![1, 128, 128]⟩
abbrev S1x1x32x128 : Shape := ⟨4, ![1, 1, 32, 128]⟩
abbrev S32x128 : Shape := ⟨2, ![32, 128]⟩
abbrev S1x32x128 : Shape := ⟨3, ![1, 32, 128]⟩

abbrev nBuf : Space → Nat
  | .hbm => 29
  | .vmem => 16
  | .smem => 0
  | _ => 0

abbrev bufTy : (tb : Table) → Fin (tcTables nBuf tb) → BufTy
  | .hbm, ⟨0, _⟩ => ⟨S2x8192x2048, .f32⟩
  | .hbm, ⟨1, _⟩ => ⟨S2048x8192, .f32⟩
  | .hbm, ⟨2, _⟩ => ⟨S64, .f32⟩
  | .hbm, ⟨3, _⟩ => ⟨S64, .f32⟩
  | .hbm, ⟨4, _⟩ => ⟨S_, .f32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S8192, .f32⟩
  | .hbm, ⟨11, _⟩ => ⟨S8192x1, .f32⟩
  | .hbm, ⟨12, _⟩ => ⟨S1x64, .f32⟩
  | .hbm, ⟨13, _⟩ => ⟨S8192x64, .f32⟩
  | .hbm, ⟨14, _⟩ => ⟨S8192x64, .f32⟩
  | .hbm, ⟨15, _⟩ => ⟨S8192x64, .f32⟩
  | .hbm, ⟨16, _⟩ => ⟨S8192x64, .f32⟩
  | .hbm, ⟨17, _⟩ => ⟨S8192x64, .f32⟩
  | .hbm, ⟨18, _⟩ => ⟨S_, .f32⟩
  | .hbm, ⟨19, _⟩ => ⟨S8192x0, .f32⟩
  | .hbm, ⟨20, _⟩ => ⟨S8192x128, .f32⟩
  | .hbm, ⟨21, _⟩ => ⟨S8192x64, .f32⟩
  | .hbm, ⟨22, _⟩ => ⟨S8192x128, .f32⟩
  | .hbm, ⟨23, _⟩ => ⟨S16384x2048, .f32⟩
  | .hbm, ⟨24, _⟩ => ⟨S16384x2048, .bf16⟩
  | .hbm, ⟨25, _⟩ => ⟨S2048x8192, .bf16⟩
  | .hbm, ⟨26, _⟩ => ⟨S32x16384x128, .bf16⟩
  | .hbm, ⟨27, _⟩ => ⟨S32x4096x512, .bf16⟩
  | .hbm, ⟨28, _⟩ => ⟨S32x1024x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S8x1024x128, .bf16⟩
  | .local _ .vmem, ⟨9, _⟩ => ⟨S8x1024x128, .bf16⟩
  | .local _ .vmem, ⟨10, _⟩ => ⟨S8x256x512, .bf16⟩
  | .local _ .vmem, ⟨11, _⟩ => ⟨S8x256x512, .bf16⟩
  | .local _ .vmem, ⟨12, _⟩ => ⟨S8x64x2048, .bf16⟩
  | .local _ .vmem, ⟨13, _⟩ => ⟨S8x64x2048, .bf16⟩
  | .local _ .vmem, ⟨14, _⟩ => ⟨S8x1x1024x128, .f32⟩
  | .local _ .vmem, ⟨15, _⟩ => ⟨S8x4x256x128, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21_0 : Ref sig .tc := ⟨.hbm, 26, rfl⟩
abbrev main_v21_1 : Ref sig .tc := ⟨.hbm, 27, rfl⟩
abbrev main_v21_2 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x64x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceHeadsIdeal.lean ====
abbrev S2x8192x2048 : Shape := ⟨3, ![2, 8192, 2048]⟩
abbrev S2048x8192 : Shape := ⟨2, ![2048, 8192]⟩
abbrev S2x8192x8192 : Shape := ⟨3, ![2, 8192, 8192]⟩
abbrev S2x8192x4096 : Shape := ⟨3, ![2, 8192, 4096]⟩
abbrev S2x8192x32x128 : Shape := ⟨4, ![2, 8192, 32, 128]⟩
abbrev S64 : Shape := ⟨1, ![64]⟩
abbrev S_ : Shape := ⟨0, ![]⟩
abbrev S8192 : Shape := ⟨1, ![8192]⟩
abbrev S8192x1 : Shape := ⟨2, ![8192, 1]⟩
abbrev S1x64 : Shape := ⟨2, ![1, 64]⟩
abbrev S8192x64 : Shape := ⟨2, ![8192, 64]⟩
abbrev S1x8192x1x64 : Shape := ⟨4, ![1, 8192, 1, 64]⟩
abbrev S2x8192x32x64 : Shape := ⟨4, ![2, 8192, 32, 64]⟩
abbrev S32x2x8192x128 : Shape := ⟨4, ![32, 2, 8192, 128]⟩
abbrev S32x16384x128 : Shape := ⟨3, ![32, 16384, 128]⟩
abbrev S32x4096x512 : Shape := ⟨3, ![32, 4096, 512]⟩
abbrev S32x1024x2048 : Shape := ⟨3, ![32, 1024, 2048]⟩

abbrev nBuf : Space → Nat
  | .hbm => 45
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2048x8192, .f32⟩
  | .hbm, ⟨2, _⟩ => ⟨S2x8192x8192, .f32⟩
  | .hbm, ⟨3, _⟩ => ⟨S2x8192x2048, .f32⟩
  | .hbm, ⟨4, _⟩ => ⟨S2x8192x2048, .f32⟩
  | .hbm, ⟨5, _⟩ => ⟨S2x8192x2048, .f32⟩
  | .hbm, ⟨6, _⟩ => ⟨S2x8192x2048, .f32⟩
  | .hbm, ⟨7, _⟩ => ⟨S2x8192x4096, .f32⟩
  | .hbm, ⟨8, _⟩ => ⟨S2x8192x32x128, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S8192, .f32⟩
  | .hbm, ⟨18, _⟩ => ⟨S8192x1, .f32⟩
  | .hbm, ⟨19, _⟩ => ⟨S1x64, .f32⟩
  | .hbm, ⟨20, _⟩ => ⟨S8192x64, .f32⟩
  | .hbm, ⟨21, _⟩ => ⟨S8192x64, .f32⟩
  | .hbm, ⟨22, _⟩ => ⟨S8192x64, .f32⟩
  | .hbm, ⟨23, _⟩ => ⟨S8192x64, .f32⟩
  | .hbm, ⟨24, _⟩ => ⟨S1x8192x1x64, .f32⟩
  | .hbm, ⟨25, _⟩ => ⟨S8192x64, .f32⟩
  | .hbm, ⟨26, _⟩ => ⟨S1x8192x1x64, .f32⟩
  | .hbm, ⟨27, _⟩ => ⟨S2x8192x32x64, .f32⟩
  | .hbm, ⟨28, _⟩ => ⟨S2x8192x32x64, .f32⟩
  | .hbm, ⟨29, _⟩ => ⟨S2x8192x32x64, .f32⟩
  | .hbm, ⟨30, _⟩ => ⟨S2x8192x32x64, .f32⟩
  | .hbm, ⟨31, _⟩ => ⟨S2x8192x32x64, .f32⟩
  | .hbm, ⟨32, _⟩ => ⟨S2x8192x32x64, .f32⟩
  | .hbm, ⟨33, _⟩ => ⟨S2x8192x32x64, .f32⟩
  | .hbm, ⟨34, _⟩ => ⟨S2x8192x32x64, .f32⟩
  | .hbm, ⟨35, _⟩ => ⟨S2x8192x32x64, .f32⟩
  | .hbm, ⟨36, _⟩ => ⟨S2x8192x32x64, .f32⟩
  | .hbm, ⟨37, _⟩ => ⟨S2x8192x32x64, .f32⟩
  | .hbm, ⟨38, _⟩ => ⟨S2x8192x32x64, .f32⟩
  | .hbm, ⟨39, _⟩ => ⟨S2x8192x32x128, .f32⟩
  | .hbm, ⟨40, _⟩ => ⟨S32x2x8192x128, .f32⟩
  | .hbm, ⟨41, _⟩ => ⟨S32x2x8192x128, .bf16⟩
  | .hbm, ⟨42, _⟩ => ⟨S32x16384x128, .bf16⟩
  | .hbm, ⟨43, _⟩ => ⟨S32x4096x512, .bf16⟩
  | .hbm, ⟨44, _⟩ => ⟨S32x1024x2048, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩

abbrev nD : Nat := 1
abbrev τ : Topo := Topo.v7x

variable {F : FTy → Type} [FloatOps F]
-- ==== KernelViews.lean ====
abbrev S2x8192x2048 : Shape := ⟨3, ![2, 8192, 2048]⟩
abbrev S2048x8192 : Shape := ⟨2, ![2048, 8192]⟩
abbrev S64 : Shape := ⟨1, ![64]⟩
abbrev S_ : Shape := ⟨0, ![]⟩
abbrev S8192 : Shape := ⟨1, ![8192]⟩
abbrev S8192x1 : Shape := ⟨2, ![8192, 1]⟩
abbrev S1x64 : Shape := ⟨2, ![1, 64]⟩
abbrev S8192x64 : Shape := ⟨2, ![8192, 64]⟩
abbrev S8192x0 : Shape := ⟨2, ![8192, 0]⟩
abbrev S8192x128 : Shape := ⟨2, ![8192, 128]⟩
abbrev S16384x2048 : Shape := ⟨2, ![16384, 2048]⟩
abbrev S16x16384x128 : Shape := ⟨3, ![16, 16384, 128]⟩
abbrev S16x4096x512 : Shape := ⟨3, ![16, 4096, 512]⟩
abbrev S16x1024x2048 : Shape := ⟨3, ![16, 1024, 2048]⟩
abbrev S1024x2048 : Shape := ⟨2, ![1024, 2048]⟩
abbrev S2048x1024 : Shape := ⟨2, ![2048, 1024]⟩
abbrev S1024x128 : Shape := ⟨2, ![1024, 128]⟩
abbrev S8x1024x128 : Shape := ⟨3, ![8, 1024, 128]⟩
abbrev S8x256x512 : Shape := ⟨3, ![8, 256, 512]⟩
abbrev S8x64x2048 : Shape := ⟨3, ![8, 64, 2048]⟩
abbrev S8x1x1024x128 : Shape := ⟨4, ![8, 1, 1024, 128]⟩
abbrev S8x4x256x128 : Shape := ⟨4, ![8, 4, 256, 128]⟩
abbrev S512x2048 : Shape := ⟨2, ![512, 2048]⟩
abbrev S512x1024 : Shape := ⟨2, ![512, 1024]⟩
abbrev S512x128 : Shape := ⟨2, ![512, 128]⟩
abbrev S1x512x128 : Shape := ⟨3, ![1, 512, 128]⟩
abbrev S1x1x512x128 : Shape := ⟨4, ![1, 1, 512, 128]⟩
abbrev S1x1x128x128 : Shape := ⟨4, ![1, 1, 128, 128]⟩
abbrev S128x128 : Shape := ⟨2, ![128, 128]⟩
abbrev S1x128x128 : Shape := ⟨3, ![1, 128, 128]⟩
abbrev S1x1x32x128 : Shape := ⟨4, ![1, 1, 32, 128]⟩
abbrev S32x128 : Shape := ⟨2, ![32, 128]⟩
abbrev S1x32x128 : Shape := ⟨3, ![1, 32, 128]⟩

abbrev nBuf : Space → Nat
  | .hbm => 29
  | .vmem => 16
  | .smem => 0
  | _ => 0

abbrev bufTy : (tb : Table) → Fin (tcTables nBuf tb) → BufTy
  | .hbm, ⟨0, _⟩ => ⟨S2x8192x2048, .f32⟩
  | .hbm, ⟨1, _⟩ => ⟨S2048x8192, .f32⟩
  | .hbm, ⟨2, _⟩ => ⟨S64, .f32⟩
  | .hbm, ⟨3, _⟩ => ⟨S64, .f32⟩
  | .hbm, ⟨4, _⟩ => ⟨S_, .f32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S8192, .f32⟩
  | .hbm, ⟨11, _⟩ => ⟨S8192x1, .f32⟩
  | .hbm, ⟨12, _⟩ => ⟨S1x64, .f32⟩
  | .hbm, ⟨13, _⟩ => ⟨S8192x64, .f32⟩
  | .hbm, ⟨14, _⟩ => ⟨S8192x64, .f32⟩
  | .hbm, ⟨15, _⟩ => ⟨S8192x64, .f32⟩
  | .hbm, ⟨16, _⟩ => ⟨S8192x64, .f32⟩
  | .hbm, ⟨17, _⟩ => ⟨S8192x64, .f32⟩
  | .hbm, ⟨18, _⟩ => ⟨S_, .f32⟩
  | .hbm, ⟨19, _⟩ => ⟨S8192x0, .f32⟩
  | .hbm, ⟨20, _⟩ => ⟨S8192x128, .f32⟩
  | .hbm, ⟨21, _⟩ => ⟨S8192x64, .f32⟩
  | .hbm, ⟨22, _⟩ => ⟨S8192x128, .f32⟩
  | .hbm, ⟨23, _⟩ => ⟨S16384x2048, .f32⟩
  | .hbm, ⟨24, _⟩ => ⟨S16384x2048, .bf16⟩
  | .hbm, ⟨25, _⟩ => ⟨S2048x8192, .bf16⟩
  | .hbm, ⟨26, _⟩ => ⟨S16x16384x128, .bf16⟩
  | .hbm, ⟨27, _⟩ => ⟨S16x4096x512, .bf16⟩
  | .hbm, ⟨28, _⟩ => ⟨S16x1024x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S8x1024x128, .bf16⟩
  | .local _ .vmem, ⟨9, _⟩ => ⟨S8x1024x128, .bf16⟩
  | .local _ .vmem, ⟨10, _⟩ => ⟨S8x256x512, .bf16⟩
  | .local _ .vmem, ⟨11, _⟩ => ⟨S8x256x512, .bf16⟩
  | .local _ .vmem, ⟨12, _⟩ => ⟨S8x64x2048, .bf16⟩
  | .local _ .vmem, ⟨13, _⟩ => ⟨S8x64x2048, .bf16⟩
  | .local _ .vmem, ⟨14, _⟩ => ⟨S8x1x1024x128, .f32⟩
  | .local _ .vmem, ⟨15, _⟩ => ⟨S8x4x256x128, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21_0 : Ref sig .tc := ⟨.hbm, 26, rfl⟩
abbrev main_v21_1 : Ref sig .tc := ⟨.hbm, 27, rfl⟩
abbrev main_v21_2 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x64x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceViewsIdeal.lean ====
abbrev S2x8192x2048 : Shape := ⟨3, ![2, 8192, 2048]⟩
abbrev S2048x8192 : Shape := ⟨2, ![2048, 8192]⟩
abbrev S2x8192x8192 : Shape := ⟨3, ![2, 8192, 8192]⟩
abbrev S2x8192x16x128 : Shape := ⟨4, ![2, 8192, 16, 128]⟩
abbrev S16x2x8192x128 : Shape := ⟨4, ![16, 2, 8192, 128]⟩
abbrev S16x16384x128 : Shape := ⟨3, ![16, 16384, 128]⟩
abbrev S16x4096x512 : Shape := ⟨3, ![16, 4096, 512]⟩
abbrev S16x1024x2048 : Shape := ⟨3, ![16, 1024, 2048]⟩

abbrev nBuf : Space → Nat
  | .hbm => 13
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2048x8192, .f32⟩
  | .hbm, ⟨2, _⟩ => ⟨S2x8192x8192, .f32⟩
  | .hbm, ⟨3, _⟩ => ⟨S2x8192x2048, .f32⟩
  | .hbm, ⟨4, _⟩ => ⟨S2x8192x2048, .f32⟩
  | .hbm, ⟨5, _⟩ => ⟨S2x8192x2048, .f32⟩
  | .hbm, ⟨6, _⟩ => ⟨S2x8192x2048, .f32⟩
  | .hbm, ⟨7, _⟩ => ⟨S2x8192x16x128, .f32⟩
  | .hbm, ⟨8, _⟩ => ⟨S16x2x8192x128, .f32⟩
  | .hbm, ⟨9, _⟩ => ⟨S16x2x8192x128, .bf16⟩
  | .hbm, ⟨10, _⟩ => ⟨S16x16384x128, .bf16⟩
  | .hbm, ⟨11, _⟩ => ⟨S16x4096x512, .bf16⟩
  | .hbm, ⟨12, _⟩ => ⟨S16x1024x2048, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== KernelUp.lean ====
abbrev S2x8192x4096 : Shape := ⟨3, ![2, 8192, 4096]⟩
abbrev S2x8192x1280 : Shape := ⟨3, ![2, 8192, 1280]⟩
abbrev S512 : Shape := ⟨1, ![512]⟩
abbrev S512x2048 : Shape := ⟨2, ![512, 2048]⟩
abbrev S32 : Shape := ⟨1, ![32]⟩
abbrev S_ : Shape := ⟨0, ![]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S8192x64 : Shape := ⟨2, ![8192, 64]⟩
abbrev S8192x128 : Shape := ⟨2, ![8192, 128]⟩
abbrev S16384x4096 : Shape := ⟨2, ![16384, 4096]⟩
abbrev S16384x1280 : Shape := ⟨2, ![16384, 1280]⟩
abbrev S1x512 : Shape := ⟨2, ![1, 512]⟩
abbrev S16384x2048 : Shape := ⟨2, ![16384, 2048]⟩
abbrev S1024x16384 : Shape := ⟨2, ![1024, 16384]⟩
abbrev S512x512 : Shape := ⟨2, ![512, 512]⟩
abbrev S512x128 : Shape := ⟨2, ![512, 128]⟩
abbrev S1024x512 : Shape := ⟨2, ![1024, 512]⟩
abbrev S512x1 : Shape := ⟨2, ![512, 1]⟩
abbrev S128x512 : Shape := ⟨2, ![128, 512]⟩

abbrev nBuf : Space → Nat
  | .hbm => 33
  | .vmem => 14
  | .smem => 0
  | _ => 0

abbrev bufTy : (tb : Table) → Fin (tcTables nBuf tb) → BufTy
  | .hbm, ⟨0, _⟩ => ⟨S2x8192x4096, .f32⟩
  | .hbm, ⟨1, _⟩ => ⟨S2x8192x1280, .f32⟩
  | .hbm, ⟨2, _⟩ => ⟨S512, .f32⟩
  | .hbm, ⟨3, _⟩ => ⟨S512x2048, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S8192, .f32⟩
  | .hbm, ⟨13, _⟩ => ⟨S8192x1, .f32⟩
  | .hbm, ⟨14, _⟩ => ⟨S1x32, .f32⟩
  | .hbm, ⟨15, _⟩ => ⟨S8192x32, .f32⟩
  | .hbm, ⟨16, _⟩ => ⟨S8192x32, .f32⟩
  | .hbm, ⟨17, _⟩ => ⟨S8192x32, .f32⟩
  | .hbm, ⟨18, _⟩ => ⟨S8192x32, .f32⟩
  | .hbm, ⟨19, _⟩ => ⟨S8192x32, .f32⟩
  | .hbm, ⟨20, _⟩ => ⟨S_, .f32⟩
  | .hbm, ⟨21, _⟩ => ⟨S8192x64, .f32⟩
  | .hbm, ⟨22, _⟩ => ⟨S8192x128, .f32⟩
  | .hbm, ⟨23, _⟩ => ⟨S8192x32, .f32⟩
  | .hbm, ⟨24, _⟩ => ⟨S8192x128, .f32⟩
  | .hbm, ⟨25, _⟩ => ⟨S16384x4096, .f32⟩
  | .hbm, ⟨26, _⟩ => ⟨S16384x4096, .bf16⟩
  | .hbm, ⟨27, _⟩ => ⟨S16384x1280, .f32⟩
  | .hbm, ⟨28, _⟩ => ⟨S16384x1280, .bf16⟩
  | .hbm, ⟨29, _⟩ => ⟨S1x512, .f32⟩
  | .hbm, ⟨30, _⟩ => ⟨S512x2048, .bf16⟩
  | .hbm, ⟨31, _⟩ => ⟨S16384x2048, .bf16⟩
  | .hbm, ⟨32, _⟩ => ⟨S1024x16384, .bf16⟩
  | .local _ .vmem, ⟨0, _⟩ => ⟨S512x512, .bf16⟩
  | .local _ .vmem, ⟨1, _⟩ => ⟨S512x512, .bf16⟩
  | .local _ .vmem, ⟨2, _⟩ => ⟨S1x512, .f32⟩
  | .local _ .vmem, ⟨3, _⟩ => ⟨S512x2048, .bf16⟩
  | .local _ .vmem, ⟨4, _⟩ => ⟨S512x128, .bf16⟩
  | .local _ .vmem, ⟨5, _⟩ => ⟨S512x128, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x2048, .bf16⟩
  | .local _ .vmem, ⟨11, _⟩ => ⟨S512x2048, .bf16⟩
  | .local _ .vmem, ⟨12, _⟩ => ⟨S1024x512, .bf16⟩
  | .local _ .vmem, ⟨13, _⟩ => ⟨S1024x512, .bf16⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24_0 : Ref sig .tc := ⟨.hbm, 31, rfl⟩
abbrev main_v24_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_4 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceUpIdeal.lean ====
abbrev S2x8192x4096 : Shape := ⟨3, ![2, 8192, 4096]⟩
abbrev S2x8192x1280 : Shape := ⟨3, ![2, 8192, 1280]⟩
abbrev S512 : Shape := ⟨1, ![512]⟩
abbrev S512x2048 : Shape := ⟨2, ![512, 2048]⟩
abbrev S2x8192x512 : Shape := ⟨3, ![2, 8192, 512]⟩
abbrev S2x8192x64 : Shape := ⟨3, ![2, 8192, 64]⟩
abbrev S_ : Shape := ⟨0, ![]⟩
abbrev S2x8192 : Shape := ⟨2, ![2, 8192]⟩
abbrev S2x8192x1 : Shape := ⟨3, ![2, 8192, 1]⟩
abbrev S1x1x512 : Shape := ⟨3, ![1, 1, 512]⟩
abbrev S2x8192x2048 : Shape := ⟨3, ![2, 8192, 2048]⟩
abbrev S2x8192x8x256 : Shape := ⟨4, ![2, 8192, 8, 256]⟩
abbrev S2x8192x8x128 : Shape := ⟨4, ![2, 8192, 8, 128]⟩
abbrev S2x8192x1x64 : Shape := ⟨4, ![2, 8192, 1, 64]⟩
abbrev S32 : Shape := ⟨1, ![32]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S2x8192x1x32 : Shape := ⟨4, ![2, 8192, 1, 32]⟩
abbrev S2x8192x8x64 : Shape := ⟨4, ![2, 8192, 8, 64]⟩
abbrev S2x8192x8x192 : Shape := ⟨4, ![2, 8192, 8, 192]⟩
abbrev S16384x2048 : Shape := ⟨2, ![16384, 2048]⟩
abbrev S16384x1024 : Shape := ⟨2, ![16384, 1024]⟩
abbrev S1024x16384 : Shape := ⟨2, ![1024, 16384]⟩

abbrev nBuf : Space → Nat
  | .hbm => 68
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S2x8192x1280, .f32⟩
  | .hbm, ⟨2, _⟩ => ⟨S512, .f32⟩
  | .hbm, ⟨3, _⟩ => ⟨S512x2048, .f32⟩
  | .hbm, ⟨4, _⟩ => ⟨S2x8192x512, .f32⟩
  | .hbm, ⟨5, _⟩ => ⟨S2x8192x64, .f32⟩
  | .hbm, ⟨6, _⟩ => ⟨S2x8192x512, .f32⟩
  | .hbm, ⟨7, _⟩ => ⟨S_, .f32⟩
  | .hbm, ⟨8, _⟩ => ⟨S2x8192, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S2x8192x1, .f32⟩
  | .hbm, ⟨17, _⟩ => ⟨S2x8192x512, .f32⟩
  | .hbm, ⟨18, _⟩ => ⟨S2x8192x512, .f32⟩
  | .hbm, ⟨19, _⟩ => ⟨S1x1x512, .f32⟩
  | .hbm, ⟨20, _⟩ => ⟨S2x8192x512, .f32⟩
  | .hbm, ⟨21, _⟩ => ⟨S2x8192x512, .f32⟩
  | .hbm, ⟨22, _⟩ => ⟨S2x8192x2048, .f32⟩
  | .hbm, ⟨23, _⟩ => ⟨S2x8192x8x256, .f32⟩
  | .hbm, ⟨24, _⟩ => ⟨S2x8192x8x128, .f32⟩
  | .hbm, ⟨25, _⟩ => ⟨S2x8192x8x128, .f32⟩
  | .hbm, ⟨26, _⟩ => ⟨S2x8192x1x64, .f32⟩
  | .hbm, ⟨27, _⟩ => ⟨S32, .f32⟩
  | .hbm, ⟨28, _⟩ => ⟨S32, .f32⟩
  | .hbm, ⟨29, _⟩ => ⟨S_, .f32⟩
  | .hbm, ⟨30, _⟩ => ⟨S32, .f32⟩
  | .hbm, ⟨31, _⟩ => ⟨S32, .f32⟩
  | .hbm, ⟨32, _⟩ => ⟨S_, .f32⟩
  | .hbm, ⟨33, _⟩ => ⟨S32, .f32⟩
  | .hbm, ⟨34, _⟩ => ⟨S32, .f32⟩
  | .hbm, ⟨35, _⟩ => ⟨S8192, .f32⟩
  | .hbm, ⟨36, _⟩ => ⟨S8192x1, .f32⟩
  | .hbm, ⟨37, _⟩ => ⟨S1x32, .f32⟩
  | .hbm, ⟨38, _⟩ => ⟨S8192x32, .f32⟩
  | .hbm, ⟨39, _⟩ => ⟨S8192x32, .f32⟩
  | .hbm, ⟨40, _⟩ => ⟨S8192x32, .f32⟩
  | .hbm, ⟨41, _⟩ => ⟨S8192x32, .f32⟩
  | .hbm, ⟨42, _⟩ => ⟨S1x8192x1x32, .f32⟩
  | .hbm, ⟨43, _⟩ => ⟨S8192x32, .f32⟩
  | .hbm, ⟨44, _⟩ => ⟨S1x8192x1x32, .f32⟩
  | .hbm, ⟨45, _⟩ => ⟨S2x8192x1x32, .f32⟩
  | .hbm, ⟨46, _⟩ => ⟨S2x8192x1x32, .f32⟩
  | .hbm, ⟨47, _⟩ => ⟨S2x8192x1x32, .f32⟩
  | .hbm, ⟨48, _⟩ => ⟨S2x8192x1x32, .f32⟩
  | .hbm, ⟨49, _⟩ => ⟨S2x8192x1x32, .f32⟩
  | .hbm, ⟨50, _⟩ => ⟨S2x8192x1x32, .f32⟩
  | .hbm, ⟨51, _⟩ => ⟨S2x8192x1x32, .f32⟩
  | .hbm, ⟨52, _⟩ => ⟨S2x8192x1x32, .f32⟩
  | .hbm, ⟨53, _⟩ => ⟨S2x8192x1x32, .f32⟩
  | .hbm, ⟨54, _⟩ => ⟨S2x8192x1x32, .f32⟩
  | .hbm, ⟨55, _⟩ => ⟨S2x8192x1x32, .f32⟩
  | .hbm, ⟨56, _⟩ => ⟨S2x8192x1x32, .f32⟩
  | .hbm, ⟨57, _⟩ => ⟨S2x8192x1x64, .f32⟩
  | .hbm, ⟨58, _⟩ => ⟨S2x8192x8x64, .f32⟩
  | .hbm, ⟨59, _⟩ => ⟨S2x8192x8x192, .f32⟩
  | .hbm, ⟨60, _⟩ => ⟨S_, .i32⟩
  | .hbm, ⟨61, _⟩ => ⟨S_, .f32⟩
  | .hbm, ⟨62, _⟩ => ⟨S2x8192x8x256, .f32⟩
  | .hbm, ⟨63, _⟩ => ⟨S16384x2048, .f32⟩
  | .hbm, ⟨64, _⟩ => ⟨S16384x2048, .bf16⟩
  | .hbm, ⟨65, _⟩ => ⟨S16384x1024, .f32⟩
  | .hbm, ⟨66, _⟩ => ⟨S1024x16384, .f32⟩
  | .hbm, ⟨67, _⟩ => ⟨S1024x16384, .bf16⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_c : Ref sig .tc := ⟨.hbm, 60, rfl⟩
abbrev main_call0_v0 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩

abbrev nD : Nat := 1
abbrev τ : Topo := Topo.v7x

variable {F : FTy → Type} [FloatOps F]
-- ==== KernelQueries.lean ====
abbrev S2x8192x4096 : Shape := ⟨3, ![2, 8192, 4096]⟩
abbrev S512 : Shape := ⟨1, ![512]⟩
abbrev S512x1536 : Shape := ⟨2, ![512, 1536]⟩
abbrev S32 : Shape := ⟨1, ![32]⟩
abbrev S_ : Shape := ⟨0, ![]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S8192x64 : Shape := ⟨2, ![8192, 64]⟩
abbrev S8192x128 : Shape := ⟨2, ![8192, 128]⟩
abbrev S512x8x192 : Shape := ⟨3, ![512, 8, 192]⟩
abbrev S512x8x256 : Shape := ⟨3, ![512, 8, 256]⟩
abbrev S512x2048 : Shape := ⟨2, ![512, 2048]⟩
abbrev S16384x4096 : Shape := ⟨2, ![16384, 4096]⟩
abbrev S1x512 : Shape := ⟨2, ![1, 512]⟩
abbrev S16384x2048 : Shape := ⟨2, ![16384, 2048]⟩
abbrev S512x512 : Shape := ⟨2, ![512, 512]⟩
abbrev S512x128 : Shape := ⟨2, ![512, 128]⟩
abbrev S512x1 : Shape := ⟨2, ![512, 1]⟩

abbrev nBuf : Space → Nat
  | .hbm => 34
  | .vmem => 10
  | .smem => 0
  | _ => 0

abbrev bufTy : (tb : Table) → Fin (tcTables nBuf tb) → BufTy
  | .hbm, ⟨0, _⟩ => ⟨S2x8192x4096, .f32⟩
  | .hbm, ⟨1, _⟩ => ⟨S512, .f32⟩
  | .hbm, ⟨2, _⟩ => ⟨S512x1536, .f32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S8192, .f32⟩
  | .hbm, ⟨12, _⟩ => ⟨S8192x1, .f32⟩
  | .hbm, ⟨13, _⟩ => ⟨S1x32, .f32⟩
  | .hbm, ⟨14, _⟩ => ⟨S8192x32, .f32⟩
  | .hbm, ⟨15, _⟩ => ⟨S8192x32, .f32⟩
  | .hbm, ⟨16, _⟩ => ⟨S8192x32, .f32⟩
  | .hbm, ⟨17, _⟩ => ⟨S8192x32, .f32⟩
  | .hbm, ⟨18, _⟩ => ⟨S8192x32, .f32⟩
  | .hbm, ⟨19, _⟩ => ⟨S_, .f32⟩
  | .hbm, ⟨20, _⟩ => ⟨S8192x64, .f32⟩
  | .hbm, ⟨21, _⟩ => ⟨S8192x128, .f32⟩
  | .hbm, ⟨22, _⟩ => ⟨S8192x32, .f32⟩
  | .hbm, ⟨23, _⟩ => ⟨S8192x128, .f32⟩
  | .hbm, ⟨24, _⟩ => ⟨S512x8x192, .f32⟩
  | .hbm, ⟨25, _⟩ => ⟨S_, .i32⟩
  | .hbm, ⟨26, _⟩ => ⟨S_, .f32⟩
  | .hbm, ⟨27, _⟩ => ⟨S512x8x256, .f32⟩
  | .hbm, ⟨28, _⟩ => ⟨S512x2048, .f32⟩
  | .hbm, ⟨29, _⟩ => ⟨S512x2048, .bf16⟩
  | .hbm, ⟨30, _⟩ => ⟨S16384x4096, .f32⟩
  | .hbm, ⟨31, _⟩ => ⟨S16384x4096, .bf16⟩
  | .hbm, ⟨32, _⟩ => ⟨S1x512, .f32⟩
  | .hbm, ⟨33, _⟩ => ⟨S16384x2048, .bf16⟩
  | .local _ .vmem, ⟨0, _⟩ => ⟨S512x512, .bf16⟩
  | .local _ .vmem, ⟨1, _⟩ => ⟨S512x512, .bf16⟩
  | .local _ .vmem, ⟨2, _⟩ => ⟨S1x512, .f32⟩
  | .local _ .vmem, ⟨3, _⟩ => ⟨S512x2048, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x2048, .bf16⟩
  | .local _ .vmem, ⟨9, _⟩ => ⟨S512x2048, .bf16⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_call0_v0 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceQueriesIdeal.lean ====
abbrev S2x8192x4096 : Shape := ⟨3, ![2, 8192, 4096]⟩
abbrev S512 : Shape := ⟨1, ![512]⟩
abbrev S512x1536 : Shape := ⟨2, ![512, 1536]⟩
abbrev S2x8192x512 : Shape := ⟨3, ![2, 8192, 512]⟩
abbrev S_ : Shape := ⟨0, ![]⟩
abbrev S2x8192 : Shape := ⟨2, ![2, 8192]⟩
abbrev S2x8192x1 : Shape := ⟨3, ![2, 8192, 1]⟩
abbrev S1x1x512 : Shape := ⟨3, ![1, 1, 512]⟩
abbrev S2x8192x1536 : Shape := ⟨3, ![2, 8192, 1536]⟩
abbrev S2x8192x8x192 : Shape := ⟨4, ![2, 8192, 8, 192]⟩
abbrev S2x8192x8x128 : Shape := ⟨4, ![2, 8192, 8, 128]⟩
abbrev S2x8192x8x64 : Shape := ⟨4, ![2, 8192, 8, 64]⟩
abbrev S32 : Shape := ⟨1, ![32]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S2x8192x8x32 : Shape := ⟨4, ![2, 8192, 8, 32]⟩
abbrev S2x8192x8x256 : Shape := ⟨4, ![2, 8192, 8, 256]⟩
abbrev S16384x2048 : Shape := ⟨2, ![16384, 2048]⟩

abbrev nBuf : Space → Nat
  | .hbm => 61
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S512, .f32⟩
  | .hbm, ⟨2, _⟩ => ⟨S512x1536, .f32⟩
  | .hbm, ⟨3, _⟩ => ⟨S2x8192x512, .f32⟩
  | .hbm, ⟨4, _⟩ => ⟨S2x8192x512, .f32⟩
  | .hbm, ⟨5, _⟩ => ⟨S_, .f32⟩
  | .hbm, ⟨6, _⟩ => ⟨S2x8192, .f32⟩
  | .hbm, ⟨7, _⟩ => ⟨S2x8192x1, .f32⟩
  | .hbm, ⟨8, _⟩ => ⟨S_, .f32⟩
  | .hbm, ⟨9, _⟩ => ⟨S2x8192x1, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S2x8192x1, .f32⟩
  | .hbm, ⟨15, _⟩ => ⟨S2x8192x512, .f32⟩
  | .hbm, ⟨16, _⟩ => ⟨S2x8192x512, .f32⟩
  | .hbm, ⟨17, _⟩ => ⟨S1x1x512, .f32⟩
  | .hbm, ⟨18, _⟩ => ⟨S2x8192x512, .f32⟩
  | .hbm, ⟨19, _⟩ => ⟨S2x8192x512, .f32⟩
  | .hbm, ⟨20, _⟩ => ⟨S2x8192x1536, .f32⟩
  | .hbm, ⟨21, _⟩ => ⟨S2x8192x8x192, .f32⟩
  | .hbm, ⟨22, _⟩ => ⟨S2x8192x8x128, .f32⟩
  | .hbm, ⟨23, _⟩ => ⟨S2x8192x8x64, .f32⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S_, .f32⟩
  | .hbm, ⟨30, _⟩ => ⟨S32, .f32⟩
  | .hbm, ⟨31, _⟩ => ⟨S32, .f32⟩
  | .hbm, ⟨32, _⟩ => ⟨S8192, .f32⟩
  | .hbm, ⟨33, _⟩ => ⟨S8192x1, .f32⟩
  | .hbm, ⟨34, _⟩ => ⟨S1x32, .f32⟩
  | .hbm, ⟨35, _⟩ => ⟨S8192x32, .f32⟩
  | .hbm, ⟨36, _⟩ => ⟨S8192x32, .f32⟩
  | .hbm, ⟨37, _⟩ => ⟨S8192x32, .f32⟩
  | .hbm, ⟨38, _⟩ => ⟨S8192x32, .f32⟩
  | .hbm, ⟨39, _⟩ => ⟨S1x8192x1x32, .f32⟩
  | .hbm, ⟨40, _⟩ => ⟨S8192x32, .f32⟩
  | .hbm, ⟨41, _⟩ => ⟨S1x8192x1x32, .f32⟩
  | .hbm, ⟨42, _⟩ => ⟨S2x8192x8x32, .f32⟩
  | .hbm, ⟨43, _⟩ => ⟨S2x8192x8x32, .f32⟩
  | .hbm, ⟨44, _⟩ => ⟨S2x8192x8x32, .f32⟩
  | .hbm, ⟨45, _⟩ => ⟨S2x8192x8x32, .f32⟩
  | .hbm, ⟨46, _⟩ => ⟨S2x8192x8x32, .f32⟩
  | .hbm, ⟨47, _⟩ => ⟨S2x8192x8x32, .f32⟩
  | .hbm, ⟨48, _⟩ => ⟨S2x8192x8x32, .f32⟩
  | .hbm, ⟨49, _⟩ => ⟨S2x8192x8x32, .f32⟩
  | .hbm, ⟨50, _⟩ => ⟨S2x8192x8x32, .f32⟩
  | .hbm, ⟨51, _⟩ => ⟨S2x8192x8x32, .f32⟩
  | .hbm, ⟨52, _⟩ => ⟨S2x8192x8x32, .f32⟩
  | .hbm, ⟨53, _⟩ => ⟨S2x8192x8x32, .f32⟩
  | .hbm, ⟨54, _⟩ => ⟨S2x8192x8x64, .f32⟩
  | .hbm, ⟨55, _⟩ => ⟨S2x8192x8x192, .f32⟩
  | .hbm, ⟨56, _⟩ => ⟨S_, .i32⟩
  | .hbm, ⟨57, _⟩ => ⟨S_, .f32⟩
  | .hbm, ⟨58, _⟩ => ⟨S2x8192x8x256, .f32⟩
  | .hbm, ⟨59, _⟩ => ⟨S16384x2048, .f32⟩
  | .hbm, ⟨60, _⟩ => ⟨S16384x2048, .bf16⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_c : Ref sig .tc := ⟨.hbm, 56, rfl⟩
abbrev main_call0_v0 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩

abbrev nD : Nat := 1
abbrev τ : Topo := Topo.v7x

variable {F : FTy → Type} [FloatOps F]
-- ==== KernelMain.lean ====
abbrev S2x8192x2048 : Shape := ⟨3, ![2, 8192, 2048]⟩
abbrev S2048x6208 : Shape := ⟨2, ![2048, 6208]⟩
abbrev S16384x2048 : Shape := ⟨2, ![16384, 2048]⟩
abbrev S6208x2048 : Shape := ⟨2, ![6208, 2048]⟩
abbrev S16384x4096 : Shape := ⟨2, ![16384, 4096]⟩
abbrev S1024x2048 : Shape := ⟨2, ![1024, 2048]⟩
abbrev S1024x1024 : Shape := ⟨2, ![1024, 1024]⟩

abbrev nBuf : Space → Nat
  | .hbm => 7
  | .vmem => 8
  | .smem => 0
  | _ => 0

abbrev bufTy : (tb : Table) → Fin (tcTables nBuf tb) → BufTy
  | .hbm, ⟨0, _⟩ => ⟨S2x8192x2048, .f32⟩
  | .hbm, ⟨1, _⟩ => ⟨S2048x6208, .f32⟩
  | .hbm, ⟨2, _⟩ => ⟨S16384x2048, .f32⟩
  | .hbm, ⟨3, _⟩ => ⟨S6208x2048, .f32⟩
  | .hbm, ⟨4, _⟩ => ⟨S6208x2048, .bf16⟩
  | .hbm, ⟨5, _⟩ => ⟨S16384x4096, .bf16⟩
  | .hbm, ⟨6, _⟩ => ⟨S16384x2048, .bf16⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x2048, .bf16⟩
  | .local _ .vmem, ⟨7, _⟩ => ⟨S1024x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c2_i32 : BitVec 32 := 2#32
  let v1 : BitVec 1 := Scalar.cmpi .sge v0 c2_i32
  let v2 : BitVec 32 := Scalar.extui v1
  let v3 : BitVec 32 := Scalar.addi v0 v2
  let c0_i32_0 : BitVec 32 := 0#32
  let c0_i32_1 : BitVec 32 := 0#32
  ![v3.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== ReferenceMainIdeal.lean ====
abbrev S2x8192x2048 : Shape := ⟨3, ![2, 8192, 2048]⟩
abbrev S2048x6208 : Shape := ⟨2, ![2048, 6208]⟩
abbrev S2x8192x6208 : Shape := ⟨3, ![2, 8192, 6208]⟩
abbrev S2x8192x4096 : Shape := ⟨3, ![2, 8192, 4096]⟩
abbrev S16384x4096 : Shape := ⟨2, ![16384, 4096]⟩
abbrev S16384x2048 : Shape := ⟨2, ![16384, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2048x6208, .f32⟩
  | .hbm, ⟨2, _⟩ => ⟨S2x8192x6208, .f32⟩
  | .hbm, ⟨3, _⟩ => ⟨S2x8192x2048, .f32⟩
  | .hbm, ⟨4, _⟩ => ⟨S2x8192x2048, .f32⟩
  | .hbm, ⟨5, _⟩ => ⟨S2x8192x4096, .f32⟩
  | .hbm, ⟨6, _⟩ => ⟨S16384x4096, .f32⟩
  | .hbm, ⟨7, _⟩ => ⟨S16384x4096, .bf16⟩
  | .hbm, ⟨8, _⟩ => ⟨S16384x2048, .f32⟩
  | .hbm, ⟨9, _⟩ => ⟨S16384x2048, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== KernelMix.lean ====
abbrev S2x8192x1024 : Shape := ⟨3, ![2, 8192, 1024]⟩
abbrev S2048x2048 : Shape := ⟨2, ![2048, 2048]⟩
abbrev S2x8192x2048 : Shape := ⟨3, ![2, 8192, 2048]⟩
abbrev S2048 : Shape := ⟨1, ![2048]⟩
abbrev S16384x1024 : Shape := ⟨2, ![16384, 1024]⟩
abbrev S16384x2048 : Shape := ⟨2, ![16384, 2048]⟩
abbrev S1x2048 : Shape := ⟨2, ![1, 2048]⟩
abbrev S512x1024 : Shape := ⟨2, ![512, 1024]⟩
abbrev S512x2048 : Shape := ⟨2, ![512, 2048]⟩
abbrev S256x1024 : Shape := ⟨2, ![256, 1024]⟩
abbrev S1024x2048 : Shape := ⟨2, ![1024, 2048]⟩
abbrev S256x2048 : Shape := ⟨2, ![256, 2048]⟩
abbrev S256 : Shape := ⟨1, ![256]⟩
abbrev S256x1 : Shape := ⟨2, ![256, 1]⟩

abbrev nBuf : Space → Nat
  | .hbm => 16
  | .vmem => 13
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S2048x2048, .f32⟩
  | .hbm, ⟨3, _⟩ => ⟨S2x8192x2048, .f32⟩
  | .hbm, ⟨4, _⟩ => ⟨S2048, .f32⟩
  | .hbm, ⟨5, _⟩ => ⟨S2048, .f32⟩
  | .hbm, ⟨6, _⟩ => ⟨S16384x1024, .f32⟩
  | .hbm, ⟨7, _⟩ => ⟨S16384x1024, .bf16⟩
  | .hbm, ⟨8, _⟩ => ⟨S16384x1024, .f32⟩
  | .hbm, ⟨9, _⟩ => ⟨S16384x1024, .bf16⟩
  | .hbm, ⟨10, _⟩ => ⟨S2048x2048, .bf16⟩
  | .hbm, ⟨11, _⟩ => ⟨S16384x2048, .f32⟩
  | .hbm, ⟨12, _⟩ => ⟨S1x2048, .f32⟩
  | .hbm, ⟨13, _⟩ => ⟨S1x2048, .f32⟩
  | .hbm, ⟨14, _⟩ => ⟨S16384x2048, .f32⟩
  | .hbm, ⟨15, _⟩ => ⟨S16384x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x2048, .bf16⟩
  | .local _ .vmem, ⟨5, _⟩ => ⟨S512x2048, .f32⟩
  | .local _ .vmem, ⟨6, _⟩ => ⟨S512x2048, .f32⟩
  | .local _ .vmem, ⟨7, _⟩ => ⟨S1x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceMixIdeal.lean ====
abbrev S2x8192x1024 : Shape := ⟨3, ![2, 8192, 1024]⟩
abbrev S2048x2048 : Shape := ⟨2, ![2048, 2048]⟩
abbrev S2x8192x2048 : Shape := ⟨3, ![2, 8192, 2048]⟩
abbrev S2048 : Shape := ⟨1, ![2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S16384x2048 : Shape := ⟨2, ![16384, 2048]⟩

abbrev nBuf : Space → Nat
  | .hbm => 43
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S2048x2048, .f32⟩
  | .hbm, ⟨3, _⟩ => ⟨S2x8192x2048, .f32⟩
  | .hbm, ⟨4, _⟩ => ⟨S2048, .f32⟩
  | .hbm, ⟨5, _⟩ => ⟨S2048, .f32⟩
  | .hbm, ⟨6, _⟩ => ⟨S2x8192x2048, .f32⟩
  | .hbm, ⟨7, _⟩ => ⟨S2x8192x2048, .f32⟩
  | .hbm, ⟨8, _⟩ => ⟨S_, .f32⟩
  | .hbm, ⟨9, _⟩ => ⟨S2x8192x2048, .f32⟩
  | .hbm, ⟨10, _⟩ => ⟨S2x8192x2048, .f32⟩
  | .hbm, ⟨11, _⟩ => ⟨S2x8192x2048, .f32⟩
  | .hbm, ⟨12, _⟩ => ⟨S_, .f32⟩
  | .hbm, ⟨13, _⟩ => ⟨S2x8192, .f32⟩
  | .hbm, ⟨14, _⟩ => ⟨S2x8192x1, .f32⟩
  | .hbm, ⟨15, _⟩ => ⟨S_, .f32⟩
  | .hbm, ⟨16, _⟩ => ⟨S2x8192x1, .f32⟩
  | .hbm, ⟨17, _⟩ => ⟨S2x8192x1, .f32⟩
  | .hbm, ⟨18, _⟩ => ⟨S2x8192x2048, .f32⟩
  | .hbm, ⟨19, _⟩ => ⟨S2x8192x2048, .f32⟩
  | .hbm, ⟨20, _⟩ => ⟨S2x8192x2048, .f32⟩
  | .hbm, ⟨21, _⟩ => ⟨S_, .f32⟩
  | .hbm, ⟨22, _⟩ => ⟨S2x8192, .f32⟩
  | .hbm, ⟨23, _⟩ => ⟨S2x8192x1, .f32⟩
  | .hbm, ⟨24, _⟩ => ⟨S_, .f32⟩
  | .hbm, ⟨25, _⟩ => ⟨S2x8192x1, .f32⟩
  | .hbm, ⟨26, _⟩ => ⟨S2x8192x1, .f32⟩
  | .hbm, ⟨27, _⟩ => ⟨S2x8192x2048, .f32⟩
  | .hbm, ⟨28, _⟩ => ⟨S2x8192x2048, .f32⟩
  | .hbm, ⟨29, _⟩ => ⟨S_, .f32⟩
  | .hbm, ⟨30, _⟩ => ⟨S2x8192x1, .f32⟩
  | .hbm, ⟨31, _⟩ => ⟨S2x8192x1, .f32⟩
  | .hbm, ⟨32, _⟩ => ⟨S2x8192x1, .f32⟩
  | .hbm, ⟨33, _⟩ => ⟨S2x8192x2048, .f32⟩
  | .hbm, ⟨34, _⟩ => ⟨S2x8192x2048, .f32⟩
  | .hbm, ⟨35, _⟩ => ⟨S1x1x2048, .f32⟩
  | .hbm, ⟨36, _⟩ => ⟨S2x8192x2048, .f32⟩
  | .hbm, ⟨37, _⟩ => ⟨S2x8192x2048, .f32⟩
  | .hbm, ⟨38, _⟩ => ⟨S1x1x2048, .f32⟩
  | .hbm, ⟨39, _⟩ => ⟨S2x8192x2048, .f32⟩
  | .hbm, ⟨40, _⟩ => ⟨S2x8192x2048, .f32⟩
  | .hbm, ⟨41, _⟩ => ⟨S16384x2048, .f32⟩
  | .hbm, ⟨42, _⟩ => ⟨S16384x2048, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== KernelSample.lean ====
abbrev S4x2048x2048 : Shape := ⟨3, ![4, 2048, 2048]⟩
abbrev S2048x2048 : Shape := ⟨2, ![2048, 2048]⟩
abbrev S2048 : Shape := ⟨1, ![2048]⟩
abbrev S8192x2048 : Shape := ⟨2, ![8192, 2048]⟩
abbrev S1x2048 : Shape := ⟨2, ![1, 2048]⟩
abbrev S512x1024 : Shape := ⟨2, ![512, 1024]⟩
abbrev S512x2048 : Shape := ⟨2, ![512, 2048]⟩
abbrev S256x1024 : Shape := ⟨2, ![256, 1024]⟩
abbrev S1024x2048 : Shape := ⟨2, ![1024, 2048]⟩
abbrev S256x2048 : Shape := ⟨2, ![256, 2048]⟩
abbrev S256 : Shape := ⟨1, ![256]⟩
abbrev S256x1 : Shape := ⟨2, ![256, 1]⟩

abbrev nBuf : Space → Nat
  | .hbm => 13
  | .vmem => 13
  | .smem => 0
  | _ => 0

abbrev bufTy : (tb : Table) → Fin (tcTables nBuf tb) → BufTy
  | .hbm, ⟨0, _⟩ => ⟨S4x2048x2048, .f32⟩
  | .hbm, ⟨1, _⟩ => ⟨S2048x2048, .f32⟩
  | .hbm, ⟨2, _⟩ => ⟨S4x2048x2048, .f32⟩
  | .hbm, ⟨3, _⟩ => ⟨S2048, .f32⟩
  | .hbm, ⟨4, _⟩ => ⟨S2048, .f32⟩
  | .hbm, ⟨5, _⟩ => ⟨S8192x2048, .f32⟩
  | .hbm, ⟨6, _⟩ => ⟨S8192x2048, .bf16⟩
  | .hbm, ⟨7, _⟩ => ⟨S2048x2048, .bf16⟩
  | .hbm, ⟨8, _⟩ => ⟨S8192x2048, .f32⟩
  | .hbm, ⟨9, _⟩ => ⟨S1x2048, .f32⟩
  | .hbm, ⟨10, _⟩ => ⟨S1x2048, .f32⟩
  | .hbm, ⟨11, _⟩ => ⟨S8192x2048, .f32⟩
  | .hbm, ⟨12, _⟩ => ⟨S8192x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x2048, .bf16⟩
  | .local _ .vmem, ⟨5, _⟩ => ⟨S512x2048, .f32⟩
  | .local _ .vmem, ⟨6, _⟩ => ⟨S512x2048, .f32⟩
  | .local _ .vmem, ⟨7, _⟩ => ⟨S1x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceSampleIdeal.lean ====
abbrev S4x2048x2048 : Shape := ⟨3, ![4, 2048, 2048]⟩
abbrev S2048x2048 : Shape := ⟨2, ![2048, 2048]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S8192x2048 : Shape := ⟨2, ![8192, 2048]⟩

abbrev nBuf : Space → Nat
  | .hbm => 41
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048x2048, .f32⟩
  | .hbm, ⟨2, _⟩ => ⟨S4x2048x2048, .f32⟩
  | .hbm, ⟨3, _⟩ => ⟨S2048, .f32⟩
  | .hbm, ⟨4, _⟩ => ⟨S2048, .f32⟩
  | .hbm, ⟨5, _⟩ => ⟨S_, .f32⟩
  | .hbm, ⟨6, _⟩ => ⟨S4x2048x2048, .f32⟩
  | .hbm, ⟨7, _⟩ => ⟨S4x2048x2048, .f32⟩
  | .hbm, ⟨8, _⟩ => ⟨S4x2048x2048, .f32⟩
  | .hbm, ⟨9, _⟩ => ⟨S4x2048x2048, .f32⟩
  | .hbm, ⟨10, _⟩ => ⟨S_, .f32⟩
  | .hbm, ⟨11, _⟩ => ⟨S4x2048, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S4x2048x2048, .f32⟩
  | .hbm, ⟨17, _⟩ => ⟨S4x2048x2048, .f32⟩
  | .hbm, ⟨18, _⟩ => ⟨S4x2048x2048, .f32⟩
  | .hbm, ⟨19, _⟩ => ⟨S_, .f32⟩
  | .hbm, ⟨20, _⟩ => ⟨S4x2048, .f32⟩
  | .hbm, ⟨21, _⟩ => ⟨S4x2048x1, .f32⟩
  | .hbm, ⟨22, _⟩ => ⟨S_, .f32⟩
  | .hbm, ⟨23, _⟩ => ⟨S4x2048x1, .f32⟩
  | .hbm, ⟨24, _⟩ => ⟨S4x2048x1, .f32⟩
  | .hbm, ⟨25, _⟩ => ⟨S4x2048x2048, .f32⟩
  | .hbm, ⟨26, _⟩ => ⟨S4x2048x2048, .f32⟩
  | .hbm, ⟨27, _⟩ => ⟨S_, .f32⟩
  | .hbm, ⟨28, _⟩ => ⟨S4x2048x1, .f32⟩
  | .hbm, ⟨29, _⟩ => ⟨S4x2048x1, .f32⟩
  | .hbm, ⟨30, _⟩ => ⟨S4x2048x1, .f32⟩
  | .hbm, ⟨31, _⟩ => ⟨S4x2048x2048, .f32⟩
  | .hbm, ⟨32, _⟩ => ⟨S4x2048x2048, .f32⟩
  | .hbm, ⟨33, _⟩ => ⟨S1x1x2048, .f32⟩
  | .hbm, ⟨34, _⟩ => ⟨S4x2048x2048, .f32⟩
  | .hbm, ⟨35, _⟩ => ⟨S4x2048x2048, .f32⟩
  | .hbm, ⟨36, _⟩ => ⟨S1x1x2048, .f32⟩
  | .hbm, ⟨37, _⟩ => ⟨S4x2048x2048, .f32⟩
  | .hbm, ⟨38, _⟩ => ⟨S4x2048x2048, .f32⟩
  | .hbm, ⟨39, _⟩ => ⟨S8192x2048, .f32⟩
  | .hbm, ⟨40, _⟩ => ⟨S8192x2048, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Proof.OnlineSoftmax.lean ====
/- The mathematics of a softmax read in pieces: one query's scores arrive in chunks of keys, and a running
   maximum, a running sum of weights and a running weighted sum of values are rescaled when the maximum moves.
   After all chunks the weighted sum over the sum of weights is the softmax average, whatever real number
   the running maximum was started at. -/
module

public import Idealize.ShloMosaic.PureOps.Ideal

@[expose] public section

noncomputable section

namespace Cert.Softmax

open Idealize.ShloMosaic

/-- The greatest of a finite family of reals above a real start is a real. -/
theorem fold_max_real {ι : Type} (s : Finset ι) (f : ι → ℝ) (μ : ℝ) :
    ∃ ν : ℝ, max (μ : EReal) (s.fold max (⊥ : EReal) fun k => (f k : EReal)) = (ν : EReal) := by
  classical
  induction s using Finset.induction_on with
  | empty => exact ⟨μ, by simp⟩
  | insert a s ha ih =>
    obtain ⟨ν, hν⟩ := ih
    refine ⟨max (f a) ν, ?_⟩
    rw [Finset.fold_insert ha, max_left_comm, hν]
    exact (EReal.coe_strictMono.monotone.map_max).symm

/-- The greatest of a nonempty finite family of reals, taken from −∞, is a real. -/
theorem fold_max_real_of_nonempty {ι : Type} (s : Finset ι) (hs : s.Nonempty) (f : ι → ℝ) :
    ∃ ν : ℝ, (s.fold max (⊥ : EReal) fun k => (f k : EReal)) = (ν : EReal) := by
  classical
  obtain ⟨a, ha⟩ := hs
  rw [← Finset.insert_erase ha, Finset.fold_insert (Finset.notMem_erase a s)]
  exact fold_max_real _ f (f a)

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor goes through a finite sum of extended reals. -/
theorem mul_sum {ι : Type} (s : Finset ι) (f : ι → EReal) (r : ℝ) (hr : 0 ≤ r) :
    (r : EReal) * ∑ i ∈ s, f i = ∑ i ∈ s, (r : EReal) * f i := by
  classical
  induction s using Finset.induction_on with
  | empty => simp
  | insert a s ha ih =>
    rw [Finset.sum_insert ha, Finset.sum_insert ha,
      EReal.left_distrib_of_nonneg_of_ne_top (EReal.coe_nonneg.mpr hr) (EReal.coe_ne_top r), ih]

theorem exp2_coe_sub (x y : ℝ) : Ideal.exp2 ((x : EReal) - (y : EReal)) = (((2 : ℝ) ^ (x - y) : ℝ) : EReal) := by
  rw [← EReal.coe_sub, Ideal.exp2_coe]; rfl

theorem pow_shift (x y z : ℝ) : (2 : ℝ) ^ (y - z) * (2 : ℝ) ^ (x - y) = (2 : ℝ) ^ (x - z) := by
  rw [← Real.rpow_add (by norm_num)]; congr 1; ring

/-- What the three running values are after `U` chunks: the maximum is some real, and the two sums are the
    sums over the keys read so far of the weights at that real. -/
def Running {n : ℕ} (st : ℕ → Fin n → ℝ) (v : ℕ → Fin n → EReal) (U : ℕ) (m l a : EReal) : Prop :=
  ∃ μ : ℝ, m = (μ : EReal) ∧ l = ∑ u ∈ Finset.range U, ∑ k, (((2 : ℝ) ^ (st u k - μ) : ℝ) : EReal)
    ∧ a = ∑ u ∈ Finset.range U, ∑ k, (((2 : ℝ) ^ (st u k - μ) : ℝ) : EReal) * v u k

theorem running_zero {n : ℕ} (st : ℕ → Fin n → ℝ) (v : ℕ → Fin n → EReal) (μ : ℝ) : Running st v 0 (μ : EReal) 0 0 :=
  ⟨μ, rfl, by simp, by simp⟩

/-- One chunk more: the new maximum, and both sums rescaled by the old maximum against the new one. -/
theorem running_succ {n : ℕ} (st : ℕ → Fin n → ℝ) (v : ℕ → Fin n → EReal) (U : ℕ) (m l a m' : EReal)
    (h : Running st v U m l a)
    (hm : m' = max m (Finset.univ.fold max (⊥ : EReal) fun k => (st U k : EReal))) :
    Running st v (U + 1) m'
      (Ideal.exp2 (m - m') * l + ∑ k, Ideal.exp2 ((st U k : EReal) - m'))
      (Ideal.exp2 (m - m') * a + ∑ k, v U k * Ideal.exp2 ((st U k : EReal) - m')) := by
  obtain ⟨μ, rfl, rfl, rfl⟩ := h
  obtain ⟨ν, hν⟩ := fold_max_real Finset.univ (st U) μ
  rw [hν] at hm
  subst hm
  have h0 : (0 : ℝ) ≤ (2 : ℝ) ^ (μ - ν) := Real.rpow_nonneg (by norm_num) _
  refine ⟨ν, rfl, ?_, ?_⟩
  · rw [Finset.sum_range_succ, exp2_coe_sub, mul_sum _ _ _ h0]
    refine congrArg₂ (· + ·) (Finset.sum_congr rfl fun u _ => ?_) (Finset.sum_congr rfl fun k _ => exp2_coe_sub _ _)
    rw [mul_sum _ _ _ h0]
    refine Finset.sum_congr rfl fun k _ => ?_
    rw [← EReal.coe_mul, pow_shift]
  · rw [Finset.sum_range_succ, exp2_coe_sub, mul_sum _ _ _ h0]
    refine congrArg₂ (· + ·) (Finset.sum_congr rfl fun u _ => ?_) (Finset.sum_congr rfl fun k _ => ?_)
    · rw [mul_sum _ _ _ h0]
      refine Finset.sum_congr rfl fun k _ => ?_
      rw [← mul_assoc, ← EReal.coe_mul, pow_shift]
    · rw [exp2_coe_sub, mul_comm]

/-- A weighted sum over a sum of weights, at a common positive factor. -/
theorem average {ι : Type} [Fintype ι] [Nonempty ι] (w : ι → ℝ) (hw : ∀ i, 0 < w i) (c : ℝ) (hc : 0 < c) (v : ι → EReal) :
    (∑ i, ((w i * c : ℝ) : EReal) * v i) * Ideal.div 1 (∑ i, ((w i * c : ℝ) : EReal))
      = ∑ i, ((w i / ∑ k, w k : ℝ) : EReal) * v i := by
  have hW : 0 < ∑ k, w k := Finset.sum_pos (fun i _ => hw i) Finset.univ_nonempty
  have hL : 0 < ∑ k, w k * c := Finset.sum_pos (fun i _ => mul_pos (hw i) hc) Finset.univ_nonempty
  have hdiv : Ideal.div 1 (∑ i, ((w i * c : ℝ) : EReal)) = (((∑ k, w k * c)⁻¹ : ℝ) : EReal) := by
    rw [← coe_sum, Ideal.div, if_neg (by exact_mod_cast hL.ne'), one_mul, EReal.coe_inv]
  rw [hdiv, mul_comm, mul_sum _ _ _ (inv_nonneg.mpr hL.le)]
  refine Finset.sum_congr rfl fun i _ => ?_
  rw [← mul_assoc, ← EReal.coe_mul]
  congr 2
  rw [← Finset.sum_mul]
  field_simp

/-- The running values after the last chunk give the softmax average of the values, the scores being in units of
    the binary logarithm. -/
theorem running_average {n N : ℕ} (hn : 0 < n) (hN : 0 < N) (s : ℕ → Fin n → ℝ) (v : ℕ → Fin n → EReal) (m l a : EReal)
    (h : Running (fun u k => s u k * (Real.log 2)⁻¹) v N m l a) :
    a * Ideal.div 1 l = ∑ i : Fin N × Fin n,
      ((Real.exp (s i.1 i.2) / ∑ k : Fin N × Fin n, Real.exp (s k.1 k.2) : ℝ) : EReal) * v i.1 i.2 := by
  obtain ⟨μ, -, rfl, rfl⟩ := h
  haveI : Nonempty (Fin N × Fin n) := ⟨(⟨0, hN⟩, ⟨0, hn⟩)⟩
  have h2 : Real.log 2 ≠ 0 := (Real.log_pos (by norm_num)).ne'
  have hw : ∀ x : ℝ, (2 : ℝ) ^ (x * (Real.log 2)⁻¹ - μ) = Real.exp x * Real.exp (-(μ * Real.log 2)) := fun x => by
    rw [Real.rpow_def_of_pos (by norm_num), ← Real.exp_add]
    congr 1
    field_simp
    ring
  rw [← average (fun i : Fin N × Fin n => Real.exp (s i.1 i.2)) (fun _ => Real.exp_pos _) _ (Real.exp_pos (-(μ * Real.log 2)))
    fun i => v i.1 i.2]
  simp only [hw, Finset.sum_range, Fintype.sum_prod_type]

/-- The softmax average as it is written in one piece: every score less the greatest, exponentials, their sum from
    zero, the quotient, and the sum against the values. -/
theorem whole_average {ι : Type} [Fintype ι] [Nonempty ι] (s : ι → ℝ) (v : ι → EReal) (M : ℝ) :
    (∑ i, v i * Ideal.div (Ideal.exp ((s i : EReal) - (M : EReal))) (0 + ∑ k, Ideal.exp ((s k : EReal) - (M : EReal))))
      = ∑ i, ((Real.exp (s i) / ∑ k, Real.exp (s k) : ℝ) : EReal) * v i := by
  have he : ∀ i, Ideal.exp ((s i : EReal) - (M : EReal)) = ((Real.exp (s i) * Real.exp (-M) : ℝ) : EReal) := fun i => by
    rw [← EReal.coe_sub, Ideal.exp_coe, ← Real.exp_add]; rfl
  have hL : 0 < ∑ k, Real.exp (s k) * Real.exp (-M) :=
    Finset.sum_pos (fun i _ => mul_pos (Real.exp_pos _) (Real.exp_pos _)) Finset.univ_nonempty
  have hW : 0 < ∑ k, Real.exp (s k) := Finset.sum_pos (fun i _ => Real.exp_pos _) Finset.univ_nonempty
  simp only [he, zero_add]
  refine Finset.sum_congr rfl fun i _ => ?_
  rw [mul_comm, ← coe_sum, Ideal.div, if_neg (by exact_mod_cast hL.ne'), ← EReal.coe_inv, ← EReal.coe_mul]
  congr 2
  rw [← Finset.sum_mul]
  have := Real.exp_pos (-M)
  field_simp

end Cert.Softmax

end
-- ==== Proof.Block.lean ====
/- What one grid point of the attention call leaves in its output block: the running maximum, sum and weighted
   sum after the eight key chunks of the sequence, as one function of the four blocks the point reads. -/
module

public import proofs.«01_k».proof.Proof.Gen.KernelIdeal.Value
public import Idealize.ShloMosaic.Lib.Pipeline.ValueKit
public import Idealize.ShloMosaic.Lib.Pointwise
public import Idealize.ShloMosaic.Lib.Pipeline.ValueKit.Tiles
public import proofs.«01_k».proof.Proof.OnlineSoftmax

@[expose] public section

set_option maxRecDepth 65536

noncomputable section

namespace Cert.KernelIdeal.Value

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ)

/-- The running maximum, the running sum and the running weighted sum. -/
structure State where
  top : FVec Ideal S1x1024 .f32
  sum : FVec Ideal S1x1024 .f32
  acc : FVec Ideal S128x1024 .f32

/-- The running values before the first chunk. -/
def start : State := ⟨k0_pay3, k0_pay4, k0_pay5⟩

/-- Chunk `u` of the keys' rows, and of the values' columns. -/
def keys (K : FVec Ideal S8192x256 .bf16) (u : ℕ) (h : ∀ a, (![u, 0] : Fin 2 → ℕ) a + S1024x256.size a ≤ S8192x256.size a) :
    FVec Ideal S1024x256 .bf16 :=
  View.ld (S := S8192x256) (Val := Elt Ideal) (e' := .bf16) K (Rect.unit (s := S8192x256) ![u, 0] S1024x256.size h)
def vals (V : FVec Ideal S128x8192 .bf16) (u : ℕ) (h : ∀ a, (![0, u] : Fin 2 → ℕ) a + S128x1024.size a ≤ S128x8192.size a) :
    FVec Ideal S128x1024 .bf16 :=
  View.ld (S := S128x8192) (Val := Elt Ideal) (e' := .bf16) V (Rect.unit (s := S128x8192) ![0, u] S128x1024.size h)

theorem keys_at (K : FVec Ideal S8192x256 .bf16) (u : ℕ) (h) (r : Fin 1024) (d : Fin 256) (hr : u + r < 8192) :
    keys K u h (ix2 r d) = K (ix2 ⟨u + r, hr⟩ d) := by
  unfold keys
  exact View.ld_unit_apply_of _ _ _ _ _ _ (by intro a; fin_cases a <;> simp)

theorem vals_at (V : FVec Ideal S128x8192 .bf16) (u : ℕ) (h) (d : Fin 128) (r : Fin 1024) (hr : u + r < 8192) :
    vals V u h (ix2 d r) = V (ix2 d ⟨u + r, hr⟩) := by
  unfold vals
  exact View.ld_unit_apply_of _ _ _ _ _ _ (by intro a; fin_cases a <;> simp)

/-- One chunk more. -/
def step (q : FVec Ideal S1024x256 .bf16) (k : FVec Ideal S1024x256 .bf16) (v : FVec Ideal S128x1024 .bf16) (s : State) : State :=
  ⟨k0_pay12 (k0_pay7 q k) s.top, k0_pay13 (k0_pay7 q k) s.top s.sum,
   k0_pay14 (k0_pay8 v) (k0_pay10 (k0_pay7 q k) s.top) (k0_pay11 (k0_pay7 q k) s.top) s.acc⟩

/-- After the eight chunks. -/
def after8 (q : FVec Ideal S1024x256 .bf16) (K : FVec Ideal S8192x256 .bf16) (V : FVec Ideal S128x8192 .bf16) : State :=
  step q (keys K 7168 (by decide)) (vals V 7168 (by decide)) <| step q (keys K 6144 (by decide)) (vals V 6144 (by decide)) <|
  step q (keys K 5120 (by decide)) (vals V 5120 (by decide)) <| step q (keys K 4096 (by decide)) (vals V 4096 (by decide)) <|
  step q (keys K 3072 (by decide)) (vals V 3072 (by decide)) <| step q (keys K 2048 (by decide)) (vals V 2048 (by decide)) <|
  step q (keys K 1024 (by decide)) (vals V 1024 (by decide)) <| step q (keys K 0 (by decide)) (vals V 0 (by decide)) start

set_option maxHeartbeats 2000000 in
theorem outs_eq (c : Dev nD) (t : Fin cfg0.N) : outsAt0 m c t
    = k0_pay1 (k0_pay69 (iblk m c 3 t)) (after8 (k0_pay2 (iblk m c 0 t)) (iblk m c 1 t) (iblk m c 2 t)).acc
        (k0_pay70 (after8 (k0_pay2 (iblk m c 0 t)) (iblk m c 1 t) (iblk m c 2 t)).sum) := by
  unfold outsAt0
  frame_out
  delta k0_pay1 k0_pay69 k0_pay70
  rfl

/-! ## One step, at a query's column -/

theorem score_at (q : FVec Ideal S1024x256 .bf16) (k : FVec Ideal S1024x256 .bf16) (i r : Fin 1024) :
    k0_pay7 (F := Ideal) q k (ix2 i r) = ∑ d : Fin 256, k (ix2 i d) * q (ix2 r d) := by
  pointwise [k0_pay7]

theorem top_at (st : FVec Ideal S1024x1024 .f32) (μ : FVec Ideal S1x1024 .f32) (r : Fin 1024) :
    k0_pay12 (F := Ideal) st μ (ix2 0 r) = max (μ (ix2 0 r)) (Finset.univ.fold max (⊥ : EReal) fun i : Fin 1024 => st (ix2 i r)) := by
  pointwise [k0_pay12, k0_pay9]
  simp [Ideal.ofBits, Ideal.ieee]

theorem new_at (st : FVec Ideal S1024x1024 .f32) (μ : FVec Ideal S1x1024 .f32) (r : Fin 1024) :
    k0_pay9 (F := Ideal) st μ (ix2 0 r) = k0_pay12 (F := Ideal) st μ (ix2 0 r) := by
  pointwise [k0_pay12]

theorem sum_at (st : FVec Ideal S1024x1024 .f32) (μ l : FVec Ideal S1x1024 .f32) (r : Fin 1024) :
    k0_pay13 (F := Ideal) st μ l (ix2 0 r)
      = Ideal.exp2 (μ (ix2 0 r) - k0_pay12 (F := Ideal) st μ (ix2 0 r)) * l (ix2 0 r)
        + ∑ i : Fin 1024, Ideal.exp2 (st (ix2 i r) - k0_pay12 (F := Ideal) st μ (ix2 0 r)) := by
  rw [← new_at]
  pointwise [k0_pay13, k0_pay10, k0_pay11]
  rfl

theorem acc_at (st : FVec Ideal S1024x1024 .f32) (μ : FVec Ideal S1x1024 .f32) (v : FVec Ideal S128x1024 .bf16)
    (a : FVec Ideal S128x1024 .f32) (d : Fin 128) (r : Fin 1024) :
    k0_pay14 (F := Ideal) (k0_pay8 v) (k0_pay10 st μ) (k0_pay11 st μ) a (ix2 d r)
      = Ideal.exp2 (μ (ix2 0 r) - k0_pay12 (F := Ideal) st μ (ix2 0 r)) * a (ix2 d r)
        + ∑ i : Fin 1024, v (ix2 d i) * Ideal.exp2 (st (ix2 i r) - k0_pay12 (F := Ideal) st μ (ix2 0 r)) := by
  rw [← new_at]
  pointwise [k0_pay14, k0_pay8, k0_pay10, k0_pay11]
  rfl

/-- What the point stores at row `r`, column `d`: the average times the gate. -/
theorem out_at (g : FVec Ideal S1024x128 .bf16) (a : FVec Ideal S128x1024 .f32) (l : FVec Ideal S1x1024 .f32)
    (r : Fin 1024) (d : Fin 128) :
    k0_pay1 (F := Ideal) (k0_pay69 g) a (k0_pay70 l) (ix2 r d)
      = (a (ix2 d r) * Ideal.div 1 (l (ix2 0 r))) * (g (ix2 r d) * Ideal.logistic (g (ix2 r d))) := by
  pointwise [k0_pay1, k0_pay69, k0_pay70]

theorem start_top (r : Fin 1024) : start.top (ix2 0 r) = Ideal.ofBits .f32 0xF149F2CA#32 := by
  pointwise [start, k0_pay3]
theorem start_sum (r : Fin 1024) : start.sum (ix2 0 r) = 0 := by
  pointwise [start, k0_pay4]
theorem start_acc (d : Fin 128) (r : Fin 1024) : start.acc (ix2 d r) = 0 := by
  pointwise [start, k0_pay5]

theorem start_top_real : ∃ μ : ℝ, Ideal.ofBits .f32 0xF149F2CA#32 = (μ : EReal) := by
  simp [Ideal.ofBits, Ideal.ieee, -EReal.coe_mul]
  exact ⟨_, rfl⟩

/-! ## The eight steps, at a query's column and a value's column -/

open Cert.Softmax

theorem step_running (q k : FVec Ideal S1024x256 .bf16) (v : FVec Ideal S128x1024 .bf16) (s : State) (r : Fin 1024) (d : Fin 128)
    (st : ℕ → Fin 1024 → ℝ) (w : ℕ → Fin 1024 → EReal) (U : ℕ)
    (hk : ∀ i : Fin 1024, ∑ e : Fin 256, k (ix2 i e) * q (ix2 r e) = (st U i : EReal)) (hv : ∀ i : Fin 1024, v (ix2 d i) = w U i)
    (hs : Running st w U (s.top (ix2 0 r)) (s.sum (ix2 0 r)) (s.acc (ix2 d r))) :
    Running st w (U + 1) ((step q k v s).top (ix2 0 r)) ((step q k v s).sum (ix2 0 r)) ((step q k v s).acc (ix2 d r)) := by
  have hst : ∀ i : Fin 1024, k0_pay7 (F := Ideal) q k (ix2 i r) = (st U i : EReal) := fun i => (score_at q k i r).trans (hk i)
  have hm := top_at (k0_pay7 (F := Ideal) q k) s.top r
  simp only [hst] at hm
  have h := running_succ st w U _ _ _ _ hs hm
  have h1 := sum_at (k0_pay7 (F := Ideal) q k) s.top s.sum r
  have h2 := acc_at (k0_pay7 (F := Ideal) q k) s.top v s.acc d r
  simp only [hst] at h1 h2
  simp only [hv] at h2
  show Running st w (U + 1) (k0_pay12 (F := Ideal) (k0_pay7 q k) s.top (ix2 0 r)) (k0_pay13 (F := Ideal) (k0_pay7 q k) s.top s.sum (ix2 0 r))
    (k0_pay14 (F := Ideal) (k0_pay8 v) (k0_pay10 (k0_pay7 q k) s.top) (k0_pay11 (k0_pay7 q k) s.top) s.acc (ix2 d r))
  rw [h1, h2]
  exact h

theorem after8_running (q : FVec Ideal S1024x256 .bf16) (K : FVec Ideal S8192x256 .bf16) (V : FVec Ideal S128x8192 .bf16)
    (r : Fin 1024) (d : Fin 128) (st : Fin 8192 → ℝ)
    (hk : ∀ n : Fin 8192, ∑ e : Fin 256, K (ix2 n e) * q (ix2 r e) = (st n : EReal)) :
    Running (fun u (i : Fin 1024) => st ⟨(u * 1024 + i) % 8192, Nat.mod_lt _ (by norm_num)⟩)
      (fun u i => V (ix2 d ⟨(u * 1024 + i) % 8192, Nat.mod_lt _ (by norm_num)⟩)) 8
      ((after8 q K V).top (ix2 0 r)) ((after8 q K V).sum (ix2 0 r)) ((after8 q K V).acc (ix2 d r)) := by
  have hK : ∀ (u : ℕ) (h) (_ : u + 1024 ≤ 8192) (i : Fin 1024), ∑ e : Fin 256, keys K u h (ix2 i e) * q (ix2 r e)
      = (st ⟨(u + i) % 8192, Nat.mod_lt _ (by norm_num)⟩ : EReal) := fun u h hu i => by
    have hlt : u + i < 8192 := by have := i.isLt; omega
    simp only [keys_at K u h i _ hlt, hk]
    congr 3
    exact (Nat.mod_eq_of_lt hlt).symm
  have hV : ∀ (u : ℕ) (h) (_ : u + 1024 ≤ 8192) (i : Fin 1024), vals V u h (ix2 d i)
      = V (ix2 d ⟨(u + i) % 8192, Nat.mod_lt _ (by norm_num)⟩) := fun u h hu i => by
    have hlt : u + i < 8192 := by have := i.isLt; omega
    rw [vals_at V u h d i hlt]
    congr 3
    exact (Nat.mod_eq_of_lt hlt).symm
  obtain ⟨μ, hμ⟩ := start_top_real
  have h0 := running_zero (fun u (i : Fin 1024) => st ⟨(u * 1024 + i) % 8192, Nat.mod_lt _ (by norm_num)⟩)
      (fun u i => V (ix2 d ⟨(u * 1024 + i) % 8192, Nat.mod_lt _ (by norm_num)⟩)) μ
  rw [← hμ, ← start_top r] at h0
  unfold after8
  refine step_running q _ _ _ r d _ _ 7 (hK 7168 _ (by norm_num)) (hV 7168 _ (by norm_num)) <|
    step_running q _ _ _ r d _ _ 6 (hK 6144 _ (by norm_num)) (hV 6144 _ (by norm_num)) <|
    step_running q _ _ _ r d _ _ 5 (hK 5120 _ (by norm_num)) (hV 5120 _ (by norm_num)) <|
    step_running q _ _ _ r d _ _ 4 (hK 4096 _ (by norm_num)) (hV 4096 _ (by norm_num)) <|
    step_running q _ _ _ r d _ _ 3 (hK 3072 _ (by norm_num)) (hV 3072 _ (by norm_num)) <|
    step_running q _ _ _ r d _ _ 2 (hK 2048 _ (by norm_num)) (hV 2048 _ (by norm_num)) <|
    step_running q _ _ _ r d _ _ 1 (hK 1024 _ (by norm_num)) (hV 1024 _ (by norm_num)) <|
    step_running q _ _ _ r d _ _ 0 (hK 0 _ (by norm_num)) (hV 0 _ (by norm_num)) ?_
  rw [start_sum, start_acc]
  exact h0

theorem average_at (q : FVec Ideal S1024x256 .bf16) (K : FVec Ideal S8192x256 .bf16) (V : FVec Ideal S128x8192 .bf16)
    (r : Fin 1024) (d : Fin 128) (s : Fin 8192 → ℝ)
    (hk : ∀ n : Fin 8192, ∑ e : Fin 256, K (ix2 n e) * q (ix2 r e) = ((s n * (Real.log 2)⁻¹ : ℝ) : EReal)) :
    (after8 q K V).acc (ix2 d r) * Ideal.div 1 ((after8 q K V).sum (ix2 0 r))
      = ∑ n : Fin 8192, ((Real.exp (s n) / ∑ k, Real.exp (s k) : ℝ) : EReal) * V (ix2 d n) := by
  have hr := after8_running q K V r d (fun n => s n * (Real.log 2)⁻¹) hk
  generalize (after8 q K V).top (ix2 0 r) = m at hr
  generalize (after8 q K V).sum (ix2 0 r) = l at hr ⊢
  generalize (after8 q K V).acc (ix2 d r) = a at hr ⊢
  refine (running_average (n := 1024) (N := 8) (by norm_num) (by norm_num)
    (fun u i => s ⟨(u * 1024 + i) % 8192, Nat.mod_lt _ (by norm_num)⟩) _ m l a hr).trans ?_
  have hi : ∀ (u : Fin 8) (i : Fin 1024), (⟨(u * 1024 + i) % 8192, Nat.mod_lt _ (by norm_num)⟩ : Fin 8192)
      = ⟨u * 1024 + i, by have := u.isLt; have := i.isLt; omega⟩ := fun u i => Fin.ext (Nat.mod_eq_of_lt (by
        have := u.isLt; have := i.isLt; omega))
  simp only [Fintype.sum_prod_type, hi]
  rw [← Fin.sum_univ_tiles 8 1024 rfl fun k => Real.exp (s k)]
  exact (Fin.sum_univ_tiles 8 1024 rfl fun n => ((Real.exp (s n) / ∑ k, Real.exp (s k) : ℝ) : EReal) * V (ix2 d n)).symm

/-- THE BLOCK: where the scores of the row's query are the reals `s` in units of the binary logarithm, the point
    stores the softmax average of the values' column, times the gate. -/
theorem block_at (q : FVec Ideal S1024x256 .bf16) (K : FVec Ideal S8192x256 .bf16) (V : FVec Ideal S128x8192 .bf16)
    (g : FVec Ideal S1024x128 .bf16) (r : Fin 1024) (d : Fin 128) (s : Fin 8192 → ℝ)
    (hk : ∀ n : Fin 8192, ∑ e : Fin 256, K (ix2 n e) * q (ix2 r e) = ((s n * (Real.log 2)⁻¹ : ℝ) : EReal)) :
    k0_pay1 (F := Ideal) (k0_pay69 g) (after8 q K V).acc (k0_pay70 (after8 q K V).sum) (ix2 r d)
      = (∑ n : Fin 8192, ((Real.exp (s n) / ∑ k, Real.exp (s k) : ℝ) : EReal) * V (ix2 d n))
        * (g (ix2 r d) * Ideal.logistic (g (ix2 r d))) := by
  refine (out_at g _ _ r d).trans (Ideal.mul_congr (average_at q K V r d s hk) rfl)

end Cert.KernelIdeal.Value

end
-- ==== Proof.Attention.lean ====
/- The attention both programs compute, as one function of the four arrays: the real scores of a query against the
   keys of its head, and the softmax average of the values under them, times the gate. -/
module

public import Idealize.ShloMosaic.Lib.Pointwise
public import proofs.«01_k».proof.Proof.OnlineSoftmax

@[expose] public section

noncomputable section

namespace Cert.Attention

open Idealize.ShloMosaic

/-- Queries and keys, values, gates: batch, position, head, component (the gate's heads and components flattened). -/
abbrev QK := FVec Ideal ⟨4, ![2, 8192, 8, 192]⟩ .f32
abbrev VS := FVec Ideal ⟨4, ![2, 8192, 8, 128]⟩ .f32
abbrev GS := FVec Ideal ⟨3, ![2, 8192, 1024]⟩ .f32

/-- The score of query position `p` against key position `n`, of real queries and keys. -/
def score (q k : QK) (b : Fin 2) (h : Fin 8) (p n : Fin 8192) : ℝ :=
  (∑ e : Fin 192, EReal.toReal (q (ix4 b p h e)) * EReal.toReal (k (ix4 b n h e))) * (Real.sqrt 192)⁻¹

/-- The gated attention at batch `b`, position `p`, head `h`, component `d`. -/
def attended (q k : QK) (v : VS) (g : GS) (b : Fin 2) (p : Fin 8192) (h : Fin 8) (d : Fin 128) : EReal :=
  (∑ n : Fin 8192, ((Real.exp (score q k b h p n) / ∑ k', Real.exp (score q k b h p k') : ℝ) : EReal) * v (ix4 b n h d))
    * (g (ix3 b p ⟨h.val * 128 + d.val, by omega⟩) * Ideal.logistic (g (ix3 b p ⟨h.val * 128 + d.val, by omega⟩)))

/-- The same as an array, batch and position flattened, head and component flattened. -/
def result (q k : QK) (v : VS) (g : GS) : FVec Ideal ⟨2, ![16384, 1024]⟩ .bf16 := fun j =>
  attended q k v g ⟨(j 0).val / 8192, by have := (j 0).isLt; simp at this; omega⟩ ⟨(j 0).val % 8192, by omega⟩
    ⟨(j 1).val / 128, by have := (j 1).isLt; simp at this; omega⟩ ⟨(j 1).val % 128, by omega⟩

theorem result_at (q k : QK) (v : VS) (g : GS) (b : Fin 2) (p : Fin 8192) (h : Fin 8) (d : Fin 128) (j : (⟨2, ![16384, 1024]⟩ : Shape).Idx)
    (h0 : (j 0).val = b.val * 8192 + p.val) (h1 : (j 1).val = h.val * 128 + d.val) :
    result q k v g j = attended q k v g b p h d := by
  unfold result
  congr 1 <;> apply Fin.ext <;> dsimp only <;> omega

end Cert.Attention

end
-- ==== Proof.Operands.lean ====
/- The operands of the attention call, which host code lays out, at an index: the padded queries and keys, the
   transposed values and the gate. -/
module

public import proofs.«01_k».proof.Proof.Block
public import proofs.«01_k».proof.Proof.Attention

@[expose] public section

set_option maxRecDepth 65536

noncomputable section

namespace Cert.KernelIdeal.Value

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ)

theorem idx : ∀ t : Fin cfg0.N, win0_0.index t = ![t.val / 64 * 8 + t.val % 8, t.val / 8 % 8] ∧ win0_1.index t = ![t.val / 64, t.val / 8 % 8]
    ∧ win0_2.index t = ![t.val / 8 % 8, t.val / 64] ∧ win0_3.index t = ![t.val / 64 * 8 + t.val % 8, t.val / 8 % 8]
    ∧ win0_4.index t = ![t.val / 64 * 8 + t.val % 8, t.val / 8 % 8] :=
  (by decide +kernel : ∀ t : Fin grid0.N, _)

theorem dite_pair {α : Type} {P Q : Prop} [Decidable P] [Decidable Q] {x : P → α} {y : Q → α} {z w : α} (h : P ↔ Q)
    (hx : ∀ p q, x p = y q) (hz : z = w) : (if p : P then x p else z) = if q : Q then y q else w := by
  by_cases p : P
  · simp only [dif_pos p, dif_pos (h.mp p)]; exact hx _ _
  · simp only [dif_neg p, dif_neg (fun q => p (h.mpr q))]; exact hz

theorem sitofp_zero : (FloatOps.sitofp (F := Ideal) FTy.f32 (0#32 : BitVec 32) : EReal) = 0 := by
  simp [FloatOps.sitofp]

theorem queries_op (c : Dev nD) (b : Fin 2) (p : Fin 8192) (h : Fin 8) (e : Fin 256) (i : Fin 16384) (j : Fin 2048)
    (hi : i.val = b.val * 8192 + p.val) (hj : j.val = h.val * 256 + e.val) :
    V m c main_v3 (ix2 i j) = if he : e.val < 192 then m ((c : Thread nD τ).loc main_arg0) (ix4 b p h ⟨e.val, he⟩) else (0 : EReal) := by
  unfold V
  simp only [List.flatten_cons, List.flatten_nil, List.append_nil, hostOps0, hostOps0_1, hostOps0_2, hostOps0_3, hostOps0_4, List.cons_append, List.nil_append]
  after_results_simp
  pointwise
  simp only [StableHlo.TRef.ofBuf, StableHlo.TRef.toBuf, cast_eq, eq_mpr_eq_cast]
  pointwise
  refine dite_pair (by omega) (fun _ _ => ?_) ?_
  · blk_ext []
  · exact sitofp_zero

theorem keys_op (c : Dev nD) (b : Fin 2) (p : Fin 8192) (h : Fin 8) (e : Fin 256) (i : Fin 16384) (j : Fin 2048)
    (hi : i.val = b.val * 8192 + p.val) (hj : j.val = h.val * 256 + e.val) :
    V m c main_v7 (ix2 i j) = if he : e.val < 192 then m ((c : Thread nD τ).loc main_arg1) (ix4 b p h ⟨e.val, he⟩) else (0 : EReal) := by
  unfold V
  simp only [List.flatten_cons, List.flatten_nil, List.append_nil, hostOps0, hostOps0_1, hostOps0_2, hostOps0_3, hostOps0_4, List.cons_append, List.nil_append]
  after_results_simp
  pointwise
  simp only [StableHlo.TRef.ofBuf, StableHlo.TRef.toBuf, cast_eq, eq_mpr_eq_cast]
  pointwise
  refine dite_pair (by omega) (fun _ _ => ?_) ?_
  · blk_ext []
  · exact sitofp_zero

theorem vals_op (c : Dev nD) (b : Fin 2) (p : Fin 8192) (h : Fin 8) (d : Fin 128) (i : Fin 16384) (j : Fin 1024)
    (hi : i.val = b.val * 8192 + p.val) (hj : j.val = h.val * 128 + d.val) :
    V m c main_v10 (ix2 j i) = m ((c : Thread nD τ).loc main_arg2) (ix4 b p h d) := by
  unfold V
  simp only [List.flatten_cons, List.flatten_nil, List.append_nil, hostOps0, hostOps0_1, hostOps0_2, hostOps0_3, hostOps0_4, List.cons_append, List.nil_append]
  after_results_simp
  pointwise
  blk_ext []

theorem gate_op (c : Dev nD) (b : Fin 2) (p : Fin 8192) (i : Fin 16384) (j : Fin 1024)
    (hi : i.val = b.val * 8192 + p.val) :
    V m c main_v12 (ix2 i j) = m ((c : Thread nD τ).loc main_arg3) (ix3 b p j) := by
  unfold V
  simp only [List.flatten_cons, List.flatten_nil, List.append_nil, hostOps0, hostOps0_1, hostOps0_2, hostOps0_3, hostOps0_4, List.cons_append, List.nil_append]
  after_results_simp
  pointwise
  blk_ext []

end Cert.KernelIdeal.Value

end
-- ==== Proof.KernelValue.lean ====
/- The result array of the attention call: every block is `Attention.result` at its place. -/
module

public import proofs.«01_k».proof.Proof.Operands

@[expose] public section

set_option maxRecDepth 65536

noncomputable section

namespace Cert.KernelIdeal.Value

open Idealize.ShloMosaic Idealize.ShloMosaic.TcCoe Idealize.SL.Sem Cert.KernelIdeal Cert.KernelIdeal.Gen
open Idealize.ShloMosaic.Pipeline (Dat)
open Cert.Attention

/-- A sum over the padded components is the sum over the components. -/
theorem sum_padded (f : Fin 192 → ℝ) : (∑ e : Fin 256, if he : e.val < 192 then f ⟨e.val, he⟩ else 0) = ∑ e, f e := by
  have h := Fin.sum_univ_add (a := 192) (b := 64) (fun e : Fin 256 => if he : e.val < 192 then f ⟨e.val, he⟩ else 0)
  rw [h]
  simp

/-- Padded keys against padded, scaled queries: the score in units of the binary logarithm. -/
theorem score_padded (q k : QK) (hq : ∀ i, ((EReal.toReal (q i) : ℝ) : EReal) = q i) (hk : ∀ i, ((EReal.toReal (k i) : ℝ) : EReal) = k i)
    (b : Fin 2) (h : Fin 8) (p n : Fin 8192) (Q K : Fin 256 → EReal)
    (hQ : ∀ e, Q e = (if he : e.val < 192 then q (ix4 b p h ⟨e.val, he⟩) else (0 : EReal)) * (((Real.sqrt 192)⁻¹ * (Real.log 2)⁻¹ : ℝ) : EReal))
    (hK : ∀ e, K e = if he : e.val < 192 then k (ix4 b n h ⟨e.val, he⟩) else (0 : EReal)) :
    ∑ e, K e * Q e = ((score q k b h p n * (Real.log 2)⁻¹ : ℝ) : EReal) := by
  have ht : ∀ e, K e * Q e = (((if he : e.val < 192 then EReal.toReal (q (ix4 b p h ⟨e.val, he⟩)) * EReal.toReal (k (ix4 b n h ⟨e.val, he⟩)) else 0)
      * ((Real.sqrt 192)⁻¹ * (Real.log 2)⁻¹) : ℝ) : EReal) := fun e => by
    rw [hQ, hK]
    by_cases he : e.val < 192
    · simp only [dif_pos he]
      rw [← hq, ← hk, ← EReal.coe_mul, ← EReal.coe_mul]
      simp only [EReal.toReal_coe]
      congr 1; ring
    · simp only [dif_neg he, zero_mul, EReal.coe_zero]
  simp only [ht]
  rw [← Cert.Softmax.coe_sum, ← Finset.sum_mul, sum_padded fun e => EReal.toReal (q (ix4 b p h e)) * EReal.toReal (k (ix4 b n h e)), score]
  congr 1; ring

variable (m : (ℓ : Loc nD τ sig) → Buf (Elt Ideal) ℓ)

theorem lt_points (t : Fin cfg0.N) : t.val < 128 := t.isLt

theorem queries_block (c : Dev nD) (t : Fin cfg0.N) (b : Fin 2) (h : Fin 8) (p : Fin 8192) (r : Fin 1024) (e : Fin 256)
    (hb : b.val = t.val / 64) (hh : h.val = t.val / 8 % 8) (hp : p.val = t.val % 8 * 1024 + r.val) :
    iblk m c 0 t (ix2 r e) = if he : e.val < 192 then m ((c : Thread nD τ).loc main_arg0) (ix4 b p h ⟨e.val, he⟩) else (0 : EReal) := by
  have ht := lt_points t
  refine Eq.trans ?_ (queries_op m c b p h e ⟨b.val * 8192 + p.val, by omega⟩ ⟨h.val * 256 + e.val, by omega⟩ rfl rfl)
  blk_ext [iblk, idx t]

theorem keys_block (c : Dev nD) (t : Fin cfg0.N) (b : Fin 2) (h : Fin 8) (n : Fin 8192) (e : Fin 256)
    (hb : b.val = t.val / 64) (hh : h.val = t.val / 8 % 8) :
    iblk m c 1 t (ix2 n e) = if he : e.val < 192 then m ((c : Thread nD τ).loc main_arg1) (ix4 b n h ⟨e.val, he⟩) else (0 : EReal) := by
  have ht := lt_points t
  refine Eq.trans ?_ (keys_op m c b n h e ⟨b.val * 8192 + n.val, by omega⟩ ⟨h.val * 256 + e.val, by omega⟩ rfl rfl)
  blk_ext [iblk, idx t]

theorem vals_block (c : Dev nD) (t : Fin cfg0.N) (b : Fin 2) (h : Fin 8) (n : Fin 8192) (d : Fin 128)
    (hb : b.val = t.val / 64) (hh : h.val = t.val / 8 % 8) :
    iblk m c 2 t (ix2 d n) = m ((c : Thread nD τ).loc main_arg2) (ix4 b n h d) := by
  have ht := lt_points t
  refine Eq.trans ?_ (vals_op m c b n h d ⟨b.val * 8192 + n.val, by omega⟩ ⟨h.val * 128 + d.val, by omega⟩ rfl rfl)
  blk_ext [iblk, idx t]

theorem gate_block (c : Dev nD) (t : Fin cfg0.N) (b : Fin 2) (h : Fin 8) (p : Fin 8192) (r : Fin 1024) (d : Fin 128)
    (hb : b.val = t.val / 64) (hh : h.val = t.val / 8 % 8) (hp : p.val = t.val % 8 * 1024 + r.val) :
    iblk m c 3 t (ix2 r d) = m ((c : Thread nD τ).loc main_arg3) (ix3 b p ⟨h.val * 128 + d.val, by omega⟩) := by
  have ht := lt_points t
  refine Eq.trans ?_ (gate_op m c b p ⟨b.val * 8192 + p.val, by omega⟩ ⟨h.val * 128 + d.val, by omega⟩ rfl)
  blk_ext [iblk, idx t]

theorem scaled_at (v : FVec Ideal S1024x256 .bf16) (r : Fin 1024) (e : Fin 256) :
    k0_pay2 v (ix2 r e) = v (ix2 r e) * (((Real.sqrt 192)⁻¹ * (Real.log 2)⁻¹ : ℝ) : EReal) := by
  pointwise [k0_pay2]
  exact Ideal.mul_congr rfl (IdealRules.named_const.ideal_named_scalar _ _ _ _ rfl)

/-- Every query and every key of the call is a real number. -/
def Finite (c : Dev nD) : Prop :=
  (∀ i, ((EReal.toReal (m ((c : Thread nD τ).loc main_arg0) i) : ℝ) : EReal) = m ((c : Thread nD τ).loc main_arg0) i)
    ∧ ∀ i, ((EReal.toReal (m ((c : Thread nD τ).loc main_arg1) i) : ℝ) : EReal) = m ((c : Thread nD τ).loc main_arg1) i

/-- POINT: the block of point `t` at row `r` and component `d`. -/
theorem point (c : Dev nD) (hf : Finite m c) (t : Fin cfg0.N) (b : Fin 2) (h : Fin 8) (p : Fin 8192) (r : Fin 1024) (d : Fin 128)
    (hb : b.val = t.val / 64) (hh : h.val = t.val / 8 % 8) (hp : p.val = t.val % 8 * 1024 + r.val) :
    outsAt0 m c t (ix2 r d) = attended (m ((c : Thread nD τ).loc main_arg0)) (m ((c : Thread nD τ).loc main_arg1))
      (m ((c : Thread nD τ).loc main_arg2)) (m ((c : Thread nD τ).loc main_arg3)) b p h d := by
  rw [outs_eq]
  refine (block_at _ _ _ _ r d (score (m ((c : Thread nD τ).loc main_arg0)) (m ((c : Thread nD τ).loc main_arg1)) b h p) fun n => ?_).trans ?_
  · exact score_padded _ _ hf.1 hf.2 b h p n _ _ (fun e => (scaled_at _ r e).trans
      (Ideal.mul_congr (queries_block m c t b h p r e hb hh hp) rfl)) (fun e => keys_block m c t b h n e hb hh)
  · rw [gate_block m c t b h p r d hb hh hp, attended]
    exact Ideal.mul_congr (Finset.sum_congr rfl fun n _ => Ideal.mul_congr rfl (vals_block m c t b h n d hb hh)) rfl

/-- BRIDGE: the result array after the run. -/
theorem final (c : Dev nD) (hf : Finite m c) : (dats m 0 c).arrAt 4 (cfgs 0).N
    = result (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t _ y => ?_
  blk_simp
  rw [after0_4]
  have ht := lt_points t
  have hy0 : (y 0).val < 1024 := (y 0).isLt
  have hy1 : (y 1).val < 128 := (y 1).isLt
  have he : y = ix2 (⟨(y 0).val, hy0⟩ : Fin 1024) (⟨(y 1).val, hy1⟩ : Fin 128) := by
    funext a
    match a with
    | ⟨0, _⟩ => rfl
    | ⟨1, _⟩ => rfl
  refine Eq.trans (congrArg _ he) ((point m c hf t ⟨t.val / 64, by omega⟩ ⟨t.val / 8 % 8, by omega⟩
    ⟨t.val % 8 * 1024 + (y 0).val, by omega⟩ ⟨(y 0).val, hy0⟩ ⟨(y 1).val, hy1⟩ rfl rfl rfl).trans (result_at _ _ _ _ _ _ _ _ _ ?_ ?_).symm)
  · blk_simp [idx t]
    dsimp only
    omega
  · blk_simp [idx t]

end Cert.KernelIdeal.Value

end
-- ==== Proof.RefValue.lean ====
/- The reference's result array is `Attention.result`. -/
module

public import proofs.«01_k».proof.Proof.Gen.ReferenceIdeal.Read
public import proofs.«01_k».proof.Proof.Attention

@[expose] public section

set_option maxRecDepth 65536

noncomputable section

namespace Cert.ReferenceIdeal.Attend

open Idealize.ShloMosaic Idealize.ShloMosaic.TcCoe Idealize.SL.Sem Cert.ReferenceIdeal Cert.ReferenceIdeal.Read
open Cert.Attention

variable (q k : QK) (v : VS) (g : GS) (hq : ∀ i, ((EReal.toReal (q i) : ℝ) : EReal) = q i) (hk : ∀ i, ((EReal.toReal (k i) : ℝ) : EReal) = k i)

theorem scale_at (i) : val_main_v1 (F := Ideal) i = ((Real.sqrt 192 : ℝ) : EReal) := by
  rw [val_main_v1_apply, val_main_v0_apply, val_main_cst_apply]
  have h : (FloatOps.ofBits (F := Ideal) .f32 0x43400000#32 : EReal) = ((192 : ℝ) : EReal) := by
    simp [Ideal.ofBits, Ideal.ieee]
    rw [← EReal.coe_mul]
    norm_num
  rw [h]
  simp

include hq hk in
theorem scores_at (b : Fin 2) (h : Fin 8) (p n : Fin 8192) :
    val_main_v3 (F := Ideal) q k (ix4 b h p n) = ((score q k b h p n : ℝ) : EReal) := by
  rw [val_main_v3_apply]
  have ht : ∀ e : Fin 192, (val_main_v2 (F := Ideal) q (lidx_main_v3 (ix4 b h p n) e) * k (ridx_main_v3 (ix4 b h p n) e) : EReal)
      = ((EReal.toReal (q (ix4 b p h e)) * EReal.toReal (k (ix4 b n h e)) * (Real.sqrt 192)⁻¹ : ℝ) : EReal) := fun e => by
    have hl : lidx_main_v3 (ix4 b h p n) e = ix4 b p h e := by
      funext a
      match a with
      | ⟨0, _⟩ => rfl
      | ⟨1, _⟩ => rfl
      | ⟨2, _⟩ => rfl
      | ⟨3, _⟩ => rfl
    have hr : ridx_main_v3 (ix4 b h p n) e = ix4 b n h e := by
      funext a
      match a with
      | ⟨0, _⟩ => rfl
      | ⟨1, _⟩ => rfl
      | ⟨2, _⟩ => rfl
      | ⟨3, _⟩ => rfl
    rw [hl, hr, val_main_v2_apply, scale_at]
    show Ideal.div (q (ix4 b p h e)) _ * k (ix4 b n h e) = _
    rw [← hq, ← hk, Ideal.div_coe (Real.sqrt_ne_zero'.mpr (by norm_num)), ← EReal.coe_mul, ← EReal.coe_mul]
    simp only [EReal.toReal_coe]
    congr 1; ring
  rw [Finset.sum_congr rfl fun e _ => ht e, ← Cert.Softmax.coe_sum, ← Finset.sum_mul, score]

include hq hk in
theorem top_real (b : Fin 2) (h : Fin 8) (p : Fin 8192) :
    ∃ M : ℝ, val_main_v6 (F := Ideal) q k (ix3 b h p) = (M : EReal) := by
  obtain ⟨M, hM⟩ := Cert.Softmax.fold_max_real_of_nonempty (Finset.univ : Finset (Fin 8192)) ⟨0, Finset.mem_univ _⟩ (score q k b h p)
  refine ⟨M, ?_⟩
  rw [val_main_v6_apply, val_main_v5_apply, val_main_cst_1_apply]
  have hb : (FloatOps.ofBits (F := Ideal) .f32 0xFF800000#32 : EReal) = ⊥ := by simp [Ideal.ofBits, Ideal.ieee]
  have h4 : val_main_v4 (F := Ideal) q k (ix3 b h p) = (M : EReal) := by
    pointwise [val_main_v4]
    rw [val_main_cst_0_apply, hb]
    simp only [scores_at q k hq hk]
    exact hM
  rw [h4]
  rw [hb]
  show max ⊥ _ = _
  exact max_bot_left _

include hq hk in
theorem shifted_at (b : Fin 2) (h : Fin 8) (p : Fin 8192) (M : ℝ) (hM : val_main_v6 (F := Ideal) q k (ix3 b h p) = (M : EReal)) (n : Fin 8192) :
    val_main_v10 (F := Ideal) q k (ix4 b h p n) = Ideal.exp ((score q k b h p n : ℝ) - (M : EReal)) := by
  rw [val_main_v10_apply, val_main_v9_apply, scores_at q k hq hk, val_main_v8_apply, val_main_v7_apply]
  have hi : idx_main_v7 (idx_main_v8 (ix4 b h p n)) = ix3 b h p := by
    funext a
    match a with
    | ⟨0, _⟩ => rfl
    | ⟨1, _⟩ => rfl
    | ⟨2, _⟩ => rfl
  rw [hi, hM]
  simp

include hq hk in
/-- The reference's attention before the gate. -/
theorem average_at (b : Fin 2) (h : Fin 8) (p : Fin 8192) (d : Fin 128) :
    val_main_v15 (F := Ideal) q k v (ix4 b h d p)
      = ∑ n : Fin 8192, ((Real.exp (score q k b h p n) / ∑ k', Real.exp (score q k b h p k') : ℝ) : EReal) * v (ix4 b n h d) := by
  obtain ⟨M, hM⟩ := top_real q k hq hk b h p
  rw [val_main_v15_apply]
  refine Eq.trans (Finset.sum_congr rfl fun n _ => ?_) (Cert.Softmax.whole_average (score q k b h p) (fun n => v (ix4 b n h d)) M)
  have hl : lidx_main_v15 (ix4 b h d p) n = ix4 b n h d := by
    funext a
    match a with
    | ⟨0, _⟩ => rfl
    | ⟨1, _⟩ => rfl
    | ⟨2, _⟩ => rfl
    | ⟨3, _⟩ => rfl
  have hr : ridx_main_v15 (ix4 b h d p) n = ix4 b h p n := by
    funext a
    match a with
    | ⟨0, _⟩ => rfl
    | ⟨1, _⟩ => rfl
    | ⟨2, _⟩ => rfl
    | ⟨3, _⟩ => rfl
  have hi : idx_main_v12 (idx_main_v13 (ix4 b h p n)) = ix3 b h p := by
    funext a
    match a with
    | ⟨0, _⟩ => rfl
    | ⟨1, _⟩ => rfl
    | ⟨2, _⟩ => rfl
  have hs : val_main_v11 (F := Ideal) q k (ix3 b h p) = 0 + ∑ n : Fin 8192, Ideal.exp ((score q k b h p n : ℝ) - (M : EReal)) := by
    rw [val_main_v11_apply, val_main_cst_2_apply]
    refine congrArg₂ (· + ·) (by simp [Ideal.ofBits, Ideal.ieee]) (Finset.sum_congr rfl fun n _ => ?_)
    have hx : idx_main_v11 (ix3 b h p) n = ix4 b h p n := by
      funext a
      match a with
      | ⟨0, _⟩ => rfl
      | ⟨1, _⟩ => rfl
      | ⟨2, _⟩ => rfl
      | ⟨3, _⟩ => rfl
    rw [hx]
    exact shifted_at q k hq hk b h p M hM n
  rw [hl, hr, val_main_v14_apply, shifted_at q k hq hk b h p M hM n, val_main_v13_apply, val_main_v12_apply, hi, hs]
  rfl

theorem gate_at (i : S2x8192x1024.Idx) : val_main_v18 (F := Ideal) g i = g i * Ideal.logistic (g i) := by
  rw [val_main_v18_apply, val_main_call0_v5_apply, val_main_call0_v4_apply, val_main_call0_v3_apply, val_main_call0_v2_apply,
    val_main_call0_v1_apply, val_main_call0_v0_apply, val_main_call0_cst_0_apply, val_main_call0_cst_apply]
  have h1 : (FloatOps.ofBits (F := Ideal) .f32 0x3F800000#32 : EReal) = 1 := by
    simp [Ideal.ofBits, Ideal.ieee]
    rw [← EReal.coe_mul]
    norm_num
  rw [h1]
  rfl

include hq hk in
theorem value : val_main_v21 (F := Ideal) q k v g = result q k v g := by
  funext j
  have h0 : (j 0).val < 16384 := (j 0).isLt
  have h1 : (j 1).val < 1024 := (j 1).isLt
  rw [val_main_v21_apply, val_main_v20_apply, val_main_v19_apply, val_main_v17_apply, val_main_v16_apply, gate_at]
  have hi : idx_main_v16 (idx_main_v17 (idx_main_v20 j)) = ix4 (⟨(j 0).val / 8192, by omega⟩ : Fin 2) (⟨(j 1).val / 128, by omega⟩ : Fin 8)
      (⟨(j 1).val % 128, by omega⟩ : Fin 128) (⟨(j 0).val % 8192, by omega⟩ : Fin 8192) := by
    funext a
    match a with
    | ⟨0, _⟩ => apply Fin.ext; simp; omega
    | ⟨1, _⟩ => apply Fin.ext; simp; omega
    | ⟨2, _⟩ => apply Fin.ext; simp; omega
    | ⟨3, _⟩ => apply Fin.ext; simp; omega
  have hg : idx_main_v20 j = ix3 (⟨(j 0).val / 8192, by omega⟩ : Fin 2) (⟨(j 0).val % 8192, by omega⟩ : Fin 8192)
      (⟨(j 1).val / 128 * 128 + (j 1).val % 128, by omega⟩ : Fin 1024) := by
    funext a
    match a with
    | ⟨0, _⟩ => apply Fin.ext; simp; omega
    | ⟨1, _⟩ => apply Fin.ext; simp; omega
    | ⟨2, _⟩ => apply Fin.ext; simp; omega
  rw [hi, hg, average_at q k v hq hk]
  rfl

end Cert.ReferenceIdeal.Attend

end
-- ==== Proof.AttentionClaims.lean ====
/- The claims about the attention call. -/
module

public import proofs.«01_k».proof.Defs
public import proofs.«01_k».proof.Proof.KernelValue
public import proofs.«01_k».proof.Proof.RefValue
public import proofs.«01_k».proof.Proof.Gen.Kernel.Frame
public import Idealize.ShloMosaic.Lib.Claim

@[expose] public section

set_option maxRecDepth 65536

noncomputable section

namespace Cert.AttentionClaims

open Idealize.ShloMosaic Idealize.ShloMosaic.TcCoe Idealize.SL.Sem

instance facts_pre : Cert.Pre_finite_qk.Facts := ⟨by decide⟩

theorem frame_kernel : Cert.quiescent_Kernel := fun m g _ => Cert.Kernel.Gen.frame m g
theorem frame_ideal : Cert.quiescent_KernelIdeal := fun m g _ => Cert.KernelIdeal.Gen.frame m g
theorem frame_ideal_finite : Cert.quiescent_KernelIdeal_pre_finite_qk := fun m g _ => Cert.KernelIdeal.Gen.frame m g
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)
theorem frame_reference_finite : Cert.quiescent_ReferenceIdeal_pre_finite_qk := fun m g _ => frame_reference m g trivial
theorem preserves : Cert.preserves_Kernel_KernelIdeal :=
  IdealRules.named_const.statement Cert.KernelIdeal.κ "scale_log2e" .f32 0x3DD53B95#32 (((Real.sqrt 192)⁻¹ * (Real.log 2)⁻¹ : ℝ) : EReal) rfl

/-- An extended real whose magnitude is below infinity is a real. -/
theorem real_of_abs_lt (x : EReal) (h : max x (-x) < ⊤) : ((x.toReal : ℝ) : EReal) = x :=
  EReal.coe_toReal (fun e => by simp [e] at h) (fun e => by simp [e] at h)

theorem inf_at : (FloatOps.ofBits (F := Ideal) .f32 0x7F800000#32 : EReal) = ⊤ := by simp [Ideal.ofBits, Ideal.ieee]

theorem lt_inf (x : EReal) (h : FloatOps.cmpf (F := Ideal) (φ := .f32) .olt (FloatOps.hostAbsf (F := Ideal) (φ := .f32) x) (FloatOps.ofBits (F := Ideal) .f32 0x7F800000#32) = 1#1) :
    max x (-x) < ⊤ := by
  rw [inf_at] at h
  change BitVec.ofBool (decide (max x (-x) < ⊤)) = 1#1 at h
  by_contra hc
  simp [hc] at h

theorem and_one (a b : BitVec 1) (h : a &&& b = 1#1) : a = 1#1 ∧ b = 1#1 := by
  revert h; revert a b; decide

theorem finite_of_pre (m : (ℓ : Loc Cert.KernelIdeal.nD Cert.KernelIdeal.τ Cert.KernelIdeal.sig) → Buf (Elt Ideal) ℓ)
    (h : Cert.Pre_KernelIdeal_finite_qk m) (c : Dev Cert.KernelIdeal.nD) : Cert.KernelIdeal.Value.Finite m c := by
  have hi := fun i => and_one _ _ (congrFun (h c) i)
  exact ⟨fun i => real_of_abs_lt _ (lt_inf _ (hi i).1), fun i => real_of_abs_lt _ (lt_inf _ (hi i).2)⟩

theorem algebraic : Cert.algebraic_KernelIdeal_ReferenceIdeal_pre_finite_qk := by
  pair_intro
  · run_from Cert.KernelIdeal.Gen.run_main m g
    · exact Cert.KernelIdeal.Gen.V_main_arg0 m c
    · exact Cert.KernelIdeal.Gen.V_main_arg1 m c
    · exact Cert.KernelIdeal.Gen.V_main_arg2 m c
    · exact Cert.KernelIdeal.Gen.V_main_arg3 m c
  · run_from Cert.ReferenceIdeal.Value.run m' g'
    rw [Cert.ReferenceIdeal.Read.val_main_v21_eq]
    have hf := finite_of_pre m hpre c
    exact (Cert.ReferenceIdeal.Attend.value _ _ _ _ hf.1 hf.2).trans (Cert.KernelIdeal.Value.final m c hf).symm

end Cert.AttentionClaims

end
-- ==== Proof.OutNorm.lean ====
/- The output projection with the residual and the layer norm, as mathematics over extended reals. -/
module

public import Idealize.ShloMosaic.Lib.Pointwise

@[expose] public section

set_option maxRecDepth 65536

noncomputable section

namespace Cert.OutNorm

open Idealize.ShloMosaic Idealize.ShloMosaic.TcCoe Idealize.SL.Sem

/-- The shapes of the tokens' rows, the weight matrix, a parameter row and the result. -/
abbrev XS : Type := (⟨3, ![2, 8192, 2048]⟩ : Shape).Idx → EReal
abbrev WS : Type := (⟨2, ![2048, 2048]⟩ : Shape).Idx → EReal
abbrev PS : Type := (⟨1, ![2048]⟩ : Shape).Idx → EReal
abbrev OS : Type := (⟨2, ![16384, 2048]⟩ : Shape).Idx → EReal

/-- The mean of a row of 2048 numbers. -/
def mean (z : Fin 2048 → EReal) : EReal := Ideal.div (∑ k, z k) (Ideal.ofBits .f32 0x45000000#32)

/-- The layer norm of a row, at a column. -/
def normed (z : Fin 2048 → EReal) (g b : EReal) (j : Fin 2048) : EReal :=
  (z j - mean z) * Ideal.rsqrt (mean (fun k => (z k - mean z) * (z k - mean z)) + Ideal.ofBits .f32 0x3727C5AC#32) * g + b

/-- The weighted residual plus the projected row, at a token and a column. -/
def mixed (y : XS) (w : WS) (x : XS) (b : Fin 2) (p : Fin 8192) (j : Fin 2048) : EReal :=
  Ideal.ofBits .f32 0x3FB504F3#32 * x (ix3 b p j) + ∑ k : Fin 2048, y (ix3 b p k) * w (ix2 k j)

/-- The result array, one row for each token. -/
def result (y : XS) (w : WS) (x : XS) (g b : PS) : OS := fun i =>
  normed (mixed y w x ⟨(i 0).val / 8192, by have h : (i 0).val < 16384 := (i 0).isLt; omega⟩ ⟨(i 0).val % 8192, by omega⟩)
    (g (ix1 (i 1))) (b (ix1 (i 1))) (i 1)

theorem result_at (y : XS) (w : WS) (x : XS) (g b : PS) (c : Fin 2) (p : Fin 8192) (j : Fin 2048)
    (i : (⟨2, ![16384, 2048]⟩ : Shape).Idx) (h0 : (i 0).val = c.val * 8192 + p.val) (h1 : (i 1).val = j.val) :
    result y w x g b i = normed (mixed y w x c p) (g (ix1 j)) (b (ix1 j)) j := by
  have hc : (⟨(i 0).val / 8192, by have h : (i 0).val < 16384 := (i 0).isLt; omega⟩ : Fin 2) = c := Fin.ext (by show (i 0).val / 8192 = _; omega)
  have hp : (⟨(i 0).val % 8192, by omega⟩ : Fin 8192) = p := Fin.ext (by show (i 0).val % 8192 = _; omega)
  have hj : i 1 = j := Fin.ext h1
  unfold result
  rw [hc, hp, hj]

end Cert.OutNorm

end
-- ==== Proof.OutPay.lean ====
/- What the body of the output projection's call stores, at an index. -/
module

public import proofs.«01_k».proof.Proof.Gen.KernelOutIdeal.Skeleton
public import proofs.«01_k».proof.Proof.OutNorm

@[expose] public section

set_option maxRecDepth 65536

noncomputable section

namespace Cert.KernelOutIdeal.Value

open Idealize.ShloMosaic Idealize.ShloMosaic.TcCoe Idealize.SL.Sem Cert.KernelOutIdeal Cert.KernelOutIdeal.Gen
open Cert.OutNorm

/-- The projected rows: the sum over each half of the features. -/
theorem proj_at (a : FVec Ideal S256x1024 .bf16) (u : FVec Ideal S1024x2048 .bf16) (b : FVec Ideal S256x1024 .bf16) (v : FVec Ideal S1024x2048 .bf16)
    (r : Fin 256) (j : Fin 2048) :
    k0_pay3 (F := Ideal) a u b v (ix2 r j) = (∑ k : Fin 1024, a (ix2 r k) * u (ix2 k j)) + ∑ k : Fin 1024, b (ix2 r k) * v (ix2 k j) := by
  pointwise [k0_pay3]

theorem centred_at (s x : FVec Ideal S256x2048 .f32) (r : Fin 256) (j : Fin 2048) (z : Fin 2048 → EReal)
    (hz : ∀ k, Ideal.ofBits .f32 0x3FB504F3#32 * x (ix2 r k) + s (ix2 r k) = z k) :
    k0_pay8 (F := Ideal) s x (ix2 r j) = z j - mean z := by
  pointwise [k0_pay8, hz]
  rfl

theorem centred_eq (a : FVec Ideal S256x1024 .bf16) (u : FVec Ideal S1024x2048 .bf16) (b : FVec Ideal S256x1024 .bf16) (v : FVec Ideal S1024x2048 .bf16)
    (x : FVec Ideal S256x2048 .f32) : k0_pay4 (F := Ideal) a u b v x = k0_pay8 (F := Ideal) (k0_pay3 (F := Ideal) a u b v) x := rfl

theorem scale_at (s x : FVec Ideal S256x2048 .f32) (r : Fin 256) (z : Fin 2048 → EReal)
    (hz : ∀ k, Ideal.ofBits .f32 0x3FB504F3#32 * x (ix2 r k) + s (ix2 r k) = z k) :
    k0_pay9 (F := Ideal) s x (ix2 r 0) = Ideal.rsqrt (mean (fun k => (z k - mean z) * (z k - mean z)) + Ideal.ofBits .f32 0x3727C5AC#32) := by
  pointwise [k0_pay9, fun k => centred_at s x r k z hz]
  rfl

/-- The second half of a block: the stored rows. -/
theorem second_at (s x : FVec Ideal S256x2048 .f32) (g b : FVec Ideal S1x2048 .f32) (r : Fin 256) (j : Fin 2048) (z : Fin 2048 → EReal)
    (hz : ∀ k, Ideal.ofBits .f32 0x3FB504F3#32 * x (ix2 r k) + s (ix2 r k) = z k) :
    k0_pay1 (F := Ideal) (k0_pay8 (F := Ideal) s x) (k0_pay9 (F := Ideal) s x) g b (ix2 r j) = normed z (g (ix2 0 j)) (b (ix2 0 j)) j := by
  pointwise [k0_pay1]
  rw [centred_at s x r j z hz, scale_at s x r z hz]
  rfl

theorem first_eq (a : FVec Ideal S256x1024 .bf16) (u : FVec Ideal S1024x2048 .bf16) (b : FVec Ideal S256x1024 .bf16) (v : FVec Ideal S1024x2048 .bf16)
    (x : FVec Ideal S256x2048 .f32) (g c : FVec Ideal S1x2048 .f32) :
    k0_pay6 (F := Ideal) (k0_pay4 (F := Ideal) a u b v x) (k0_pay5 (F := Ideal) a u b v x) g c = k0_pay1 (F := Ideal) (k0_pay8 (F := Ideal) (k0_pay3 (F := Ideal) a u b v) x) (k0_pay9 (F := Ideal) (k0_pay3 (F := Ideal) a u b v) x) g c := rfl

theorem cast_second (v : FVec Ideal S256x2048 .f32) (s : FVec Ideal S256x1 .f32) (g b : FVec Ideal S1x2048 .f32) (i : S256x2048.Idx) :
    (k0_pay2 (F := Ideal) v s g b i : EReal) = k0_pay1 (F := Ideal) v s g b i := by
  pointwise [k0_pay2]

theorem cast_first (v w : FVec Ideal S256x2048 .f32) (g b : FVec Ideal S1x2048 .f32) (i : S256x2048.Idx) :
    (k0_pay7 (F := Ideal) v w g b i : EReal) = k0_pay6 (F := Ideal) v w g b i := by
  pointwise [k0_pay7]

/-- Either half of a block, from its loaded operands: the stored rows. -/
theorem rows_at (a : FVec Ideal S256x1024 .bf16) (u : FVec Ideal S1024x2048 .bf16) (b : FVec Ideal S256x1024 .bf16) (v : FVec Ideal S1024x2048 .bf16)
    (x : FVec Ideal S256x2048 .f32) (g c : FVec Ideal S1x2048 .f32) (r : Fin 256) (j : Fin 2048) (z : Fin 2048 → EReal) (g' c' : EReal)
    (hz : ∀ k, Ideal.ofBits .f32 0x3FB504F3#32 * x (ix2 r k)
      + ((∑ l : Fin 1024, a (ix2 r l) * u (ix2 l k)) + ∑ l : Fin 1024, b (ix2 r l) * v (ix2 l k)) = z k)
    (hg : g (ix2 0 j) = g') (hc : c (ix2 0 j) = c') :
    k0_pay1 (F := Ideal) (k0_pay8 (F := Ideal) (k0_pay3 (F := Ideal) a u b v) x) (k0_pay9 (F := Ideal) (k0_pay3 (F := Ideal) a u b v) x) g c (ix2 r j) = normed z g' c' j := by
  rw [second_at _ x g c r j z (fun k => by rw [proj_at]; exact hz k), hg, hc]

end Cert.KernelOutIdeal.Value

end
-- ==== Proof.OutValue.lean ====
/- The result arrays of the output projection's call: every block is `OutNorm.result` at its place. -/
module

public import proofs.«01_k».proof.Proof.Gen.KernelOutIdeal.Value
public import Idealize.ShloMosaic.Lib.Pipeline.ValueKit
public import proofs.«01_k».proof.Proof.OutPay

@[expose] public section

set_option maxRecDepth 65536

noncomputable section

namespace Cert.KernelOutIdeal.Value

open Idealize.ShloMosaic Idealize.ShloMosaic.TcCoe Idealize.SL.Sem Cert.KernelOutIdeal Cert.KernelOutIdeal.Gen
open Idealize.ShloMosaic.Pipeline (Dat)
open Cert.OutNorm

variable (m : (ℓ : Loc nD τ sig) → Buf (Elt Ideal) ℓ)

theorem idx : ∀ t : Fin cfg0.N, win0_0.index t = ![t.val, 0] ∧ win0_1.index t = ![t.val, 1] ∧ win0_2.index t = ![0, 0]
    ∧ win0_3.index t = ![t.val, 0] ∧ win0_4.index t = ![0, 0] ∧ win0_5.index t = ![0, 0]
    ∧ win0_6.index t = ![t.val, 0] ∧ win0_7.index t = ![t.val, 0] :=
  (by decide +kernel : ∀ t : Fin grid0.N, _)

theorem y_op (c : Dev nD) (b : Fin 2) (p : Fin 8192) (i : Fin 16384) (j : Fin 2048) (hi : i.val = b.val * 8192 + p.val) :
    V m c main_v1 (ix2 i j) = m ((c : Thread nD τ).loc main_arg0) (ix3 b p j) := by
  entry_read
  pointwise
  blk_ext []

theorem w_op (c : Dev nD) (k j : Fin 2048) : V m c main_v2 (ix2 k j) = m ((c : Thread nD τ).loc main_arg1) (ix2 k j) := by
  entry_read
  pointwise

theorem x_op (c : Dev nD) (b : Fin 2) (p : Fin 8192) (i : Fin 16384) (j : Fin 2048) (hi : i.val = b.val * 8192 + p.val) :
    V m c main_v3 (ix2 i j) = m ((c : Thread nD τ).loc main_arg2) (ix3 b p j) := by
  entry_read
  pointwise
  blk_ext []

theorem g_op (c : Dev nD) (j : Fin 2048) : V m c main_v4 (ix2 0 j) = m ((c : Thread nD τ).loc main_arg3) (ix1 j) := by
  entry_read
  pointwise

theorem b_op (c : Dev nD) (j : Fin 2048) : V m c main_v5 (ix2 0 j) = m ((c : Thread nD τ).loc main_arg4) (ix1 j) := by
  entry_read
  pointwise

theorem lt_points (t : Fin cfg0.N) : t.val < 32 := t.isLt

theorem y1_block (c : Dev nD) (t : Fin cfg0.N) (b : Fin 2) (p : Fin 8192) (r : Fin 512) (k : Fin 1024)
    (h : b.val * 8192 + p.val = t.val * 512 + r.val) :
    iblk m c 0 t (ix2 r k) = m ((c : Thread nD τ).loc main_arg0) (ix3 b p ⟨k.val, by omega⟩) := by
  have ht := lt_points t
  refine Eq.trans ?_ (y_op m c b p ⟨t.val * 512 + r.val, by omega⟩ ⟨k.val, by omega⟩ h.symm)
  blk_ext [iblk, idx t]

theorem y2_block (c : Dev nD) (t : Fin cfg0.N) (b : Fin 2) (p : Fin 8192) (r : Fin 512) (k : Fin 1024)
    (h : b.val * 8192 + p.val = t.val * 512 + r.val) :
    iblk m c 1 t (ix2 r k) = m ((c : Thread nD τ).loc main_arg0) (ix3 b p ⟨1024 + k.val, by omega⟩) := by
  have ht := lt_points t
  refine Eq.trans ?_ (y_op m c b p ⟨t.val * 512 + r.val, by omega⟩ ⟨1024 + k.val, by omega⟩ h.symm)
  blk_ext [iblk, idx t]

theorem w_block (c : Dev nD) (t : Fin cfg0.N) (k j : Fin 2048) :
    iblk m c 2 t (ix2 k j) = m ((c : Thread nD τ).loc main_arg1) (ix2 k j) := by
  refine Eq.trans ?_ (w_op m c k j)
  blk_ext [iblk, idx t]

theorem x_block (c : Dev nD) (t : Fin cfg0.N) (b : Fin 2) (p : Fin 8192) (r : Fin 512) (k : Fin 2048)
    (h : b.val * 8192 + p.val = t.val * 512 + r.val) :
    iblk m c 3 t (ix2 r k) = m ((c : Thread nD τ).loc main_arg2) (ix3 b p k) := by
  have ht := lt_points t
  refine Eq.trans ?_ (x_op m c b p ⟨t.val * 512 + r.val, by omega⟩ k h.symm)
  blk_ext [iblk, idx t]

theorem g_block (c : Dev nD) (t : Fin cfg0.N) (j : Fin 2048) : iblk m c 4 t (ix2 0 j) = m ((c : Thread nD τ).loc main_arg3) (ix1 j) := by
  refine Eq.trans ?_ (g_op m c j)
  blk_ext [iblk, idx t]

theorem b_block (c : Dev nD) (t : Fin cfg0.N) (j : Fin 2048) : iblk m c 5 t (ix2 0 j) = m ((c : Thread nD τ).loc main_arg4) (ix1 j) := by
  refine Eq.trans ?_ (b_op m c j)
  blk_ext [iblk, idx t]

/-- One row of a block before the norm, from the blocks: the two halves of the features make the whole contraction. -/
theorem row_eq (c : Dev nD) (t : Fin cfg0.N) (b : Fin 2) (p : Fin 8192) (r : Fin 512) (h : b.val * 8192 + p.val = t.val * 512 + r.val) (k : Fin 2048)
    (X : EReal) (a u a' u' : Fin 1024 → EReal)
    (hX : X = iblk m c 3 t (ix2 r k))
    (ha : ∀ l, a l = iblk m c 0 t (ix2 r l)) (hu : ∀ l, u l = iblk m c 2 t (ix2 ⟨l.val, by omega⟩ k))
    (ha' : ∀ l, a' l = iblk m c 1 t (ix2 r l)) (hu' : ∀ l, u' l = iblk m c 2 t (ix2 ⟨1024 + l.val, by omega⟩ k)) :
    Ideal.ofBits .f32 0x3FB504F3#32 * X + ((∑ l, a l * u l) + ∑ l, a' l * u' l)
      = mixed (m ((c : Thread nD τ).loc main_arg0)) (m ((c : Thread nD τ).loc main_arg1)) (m ((c : Thread nD τ).loc main_arg2)) b p k := by
  rw [mixed, hX, x_block m c t b p r k h]
  refine congrArg₂ (· + ·) rfl ?_
  rw [Fin.sum_univ_two_halves 1024 1024 rfl (fun l : Fin 2048 => (show EReal from m ((c : Thread nD τ).loc main_arg0) (ix3 b p l)) * (show EReal from m ((c : Thread nD τ).loc main_arg1) (ix2 l k)))]
  refine congrArg₂ (· + ·) (Finset.sum_congr rfl fun l _ => ?_) (Finset.sum_congr rfl fun l _ => ?_)
  · rw [ha, hu, y1_block m c t b p r l h, w_block]
  · rw [ha', hu', y2_block m c t b p r l h, w_block]

/-- POINT: what a point leaves in output window 6's buffer, at an index. -/
theorem point6 (c : Dev nD) (t : Fin cfg0.N) (y : S512x2048.Idx) (b : Fin 2) (p : Fin 8192) (j : Fin 2048)
    (h : b.val * 8192 + p.val = t.val * 512 + (y 0).val) (hj : j.val = (y 1).val) :
    out0_6 (iblk m c 0 t) (iblk m c 1 t) (iblk m c 2 t) (iblk m c 3 t) (iblk m c 4 t) (iblk m c 5 t) y
      = normed (mixed (m ((c : Thread nD τ).loc main_arg0)) (m ((c : Thread nD τ).loc main_arg1)) (m ((c : Thread nD τ).loc main_arg2)) b p)
        (m ((c : Thread nD τ).loc main_arg3) (ix1 j)) (m ((c : Thread nD τ).loc main_arg4) (ix1 j)) j := by
  have hy : (y 0).val < 512 := (y 0).isLt
  unfold out0_6
  canon_tiles x hx
  case piece0 =>
    have ex : x = ix2 (⟨(x 0).val, x0_lt⟩ : Fin 256) j := by
      funext a
      match a with
      | ⟨0, _⟩ => rfl
      | ⟨1, _⟩ => exact Fin.ext (hx1.symm.trans hj.symm)
    unfold k0_pay13 k0_pay14 k0_pay10
    refine (congrArg _ ex).trans (rows_at _ _ _ _ _ _ _ ⟨(x 0).val, x0_lt⟩ j _ _ _
      (fun k => row_eq m c t b p ⟨(y 0).val, hy⟩ h k _ _ _ _ _ ?_ (fun l => ?_) (fun l => ?_) (fun l => ?_) (fun l => ?_)) ?_ ?_)
    · pointwise
      blk_ext []
    · pointwise
      blk_ext []
    · pointwise
    · pointwise
      blk_ext []
    · pointwise
    · exact Eq.trans (by pointwise) (g_block m c t j)
    · exact Eq.trans (by pointwise) (b_block m c t j)
  case piece1 =>
    have ex : x = ix2 (⟨(x 0).val, x0_lt⟩ : Fin 256) j := by
      funext a
      match a with
      | ⟨0, _⟩ => rfl
      | ⟨1, _⟩ => exact Fin.ext (hx1.symm.trans hj.symm)
    unfold k0_pay11 k0_pay12
    refine (congrArg _ ex).trans ((congrFun (first_eq _ _ _ _ _ _ _) _).trans (rows_at _ _ _ _ _ _ _ ⟨(x 0).val, x0_lt⟩ j _ _ _
      (fun k => row_eq m c t b p ⟨(y 0).val, hy⟩ h k _ _ _ _ _ ?_ (fun l => ?_) (fun l => ?_) (fun l => ?_) (fun l => ?_)) ?_ ?_))
    · pointwise
      blk_ext []
    · pointwise
      blk_ext []
    · pointwise
    · pointwise
      blk_ext []
    · pointwise
    · exact Eq.trans (by pointwise) (g_block m c t j)
    · exact Eq.trans (by pointwise) (b_block m c t j)

/-- POINT: what a point leaves in output window 7's buffer, at an index. -/
theorem point7 (c : Dev nD) (t : Fin cfg0.N) (y : S512x2048.Idx) (b : Fin 2) (p : Fin 8192) (j : Fin 2048)
    (h : b.val * 8192 + p.val = t.val * 512 + (y 0).val) (hj : j.val = (y 1).val) :
    out0_7 (iblk m c 0 t) (iblk m c 1 t) (iblk m c 2 t) (iblk m c 3 t) (iblk m c 4 t) (iblk m c 5 t) y
      = normed (mixed (m ((c : Thread nD τ).loc main_arg0)) (m ((c : Thread nD τ).loc main_arg1)) (m ((c : Thread nD τ).loc main_arg2)) b p)
        (m ((c : Thread nD τ).loc main_arg3) (ix1 j)) (m ((c : Thread nD τ).loc main_arg4) (ix1 j)) j := by
  have hy : (y 0).val < 512 := (y 0).isLt
  unfold out0_7
  canon_tiles x hx
  case piece0 =>
    have ex : x = ix2 (⟨(x 0).val, x0_lt⟩ : Fin 256) j := by
      funext a
      match a with
      | ⟨0, _⟩ => rfl
      | ⟨1, _⟩ => exact Fin.ext (hx1.symm.trans hj.symm)
    unfold k0_pay13 k0_pay14 k0_pay10
    refine (congrArg _ ex).trans ((cast_second _ _ _ _ _).trans (rows_at _ _ _ _ _ _ _ ⟨(x 0).val, x0_lt⟩ j _ _ _
      (fun k => row_eq m c t b p ⟨(y 0).val, hy⟩ h k _ _ _ _ _ ?_ (fun l => ?_) (fun l => ?_) (fun l => ?_) (fun l => ?_)) ?_ ?_))
    · pointwise
      blk_ext []
    · pointwise
      blk_ext []
    · pointwise
    · pointwise
      blk_ext []
    · pointwise
    · exact Eq.trans (by pointwise) (g_block m c t j)
    · exact Eq.trans (by pointwise) (b_block m c t j)
  case piece1 =>
    have ex : x = ix2 (⟨(x 0).val, x0_lt⟩ : Fin 256) j := by
      funext a
      match a with
      | ⟨0, _⟩ => rfl
      | ⟨1, _⟩ => exact Fin.ext (hx1.symm.trans hj.symm)
    unfold k0_pay11 k0_pay12
    refine (congrArg _ ex).trans ((cast_first _ _ _ _ _).trans ((congrFun (first_eq _ _ _ _ _ _ _) _).trans (rows_at _ _ _ _ _ _ _ ⟨(x 0).val, x0_lt⟩ j _ _ _
      (fun k => row_eq m c t b p ⟨(y 0).val, hy⟩ h k _ _ _ _ _ ?_ (fun l => ?_) (fun l => ?_) (fun l => ?_) (fun l => ?_)) ?_ ?_)))
    · pointwise
      blk_ext []
    · pointwise
      blk_ext []
    · pointwise
    · pointwise
      blk_ext []
    · pointwise
    · exact Eq.trans (by pointwise) (g_block m c t j)
    · exact Eq.trans (by pointwise) (b_block m c t j)

/-- BRIDGE: result array 0 after the run. -/
theorem final6 (c : Dev nD) : (dats m 0 c).arrAt 6 (cfgs 0).N
    = result (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 6 _ (by decide +kernel) fun t _ y => ?_
  blk_simp
  rw [after0_6]
  have ht := lt_points t
  have hy0 : (y 0).val < 512 := (y 0).isLt
  have hy1 : (y 1).val < 2048 := (y 1).isLt
  refine (point6 m c t y ⟨(t.val * 512 + (y 0).val) / 8192, by omega⟩ ⟨(t.val * 512 + (y 0).val) % 8192, by omega⟩ ⟨(y 1).val, hy1⟩
    (by dsimp only; omega) rfl).trans (result_at _ _ _ _ _ _ _ _ _ ?_ ?_).symm
  · blk_simp [idx t]
    dsimp only
    omega
  · blk_simp [idx t]

/-- BRIDGE: result array 1 after the run. -/
theorem final7 (c : Dev nD) : (dats m 0 c).arrAt 7 (cfgs 0).N
    = result (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 7 _ (by decide +kernel) fun t _ y => ?_
  blk_simp
  rw [after0_7]
  have ht := lt_points t
  have hy0 : (y 0).val < 512 := (y 0).isLt
  have hy1 : (y 1).val < 2048 := (y 1).isLt
  refine (point7 m c t y ⟨(t.val * 512 + (y 0).val) / 8192, by omega⟩ ⟨(t.val * 512 + (y 0).val) % 8192, by omega⟩ ⟨(y 1).val, hy1⟩
    (by dsimp only; omega) rfl).trans (result_at _ _ _ _ _ _ _ _ _ ?_ ?_).symm
  · blk_simp [idx t]
    dsimp only
    omega
  · blk_simp [idx t]

end Cert.KernelOutIdeal.Value

end
-- ==== Proof.OutRef.lean ====
/- The reference's result of the output projection is `OutNorm.result`. -/
module

public import proofs.«01_k».proof.Proof.Gen.ReferenceOutIdeal.Read
public import proofs.«01_k».proof.Proof.OutNorm

@[expose] public section

set_option maxRecDepth 65536

noncomputable section

namespace Cert.ReferenceOutIdeal.Project

open Idealize.ShloMosaic Idealize.ShloMosaic.TcCoe Idealize.SL.Sem Cert.ReferenceOutIdeal Cert.ReferenceOutIdeal.Read
open Cert.OutNorm

variable (y : XS) (w : WS) (x : XS) (g b : PS)

theorem mixed_at (c : Fin 2) (p : Fin 8192) (j : Fin 2048) : val_main_v3 (F := Ideal) y w x (ix3 c p j) = mixed y w x c p j := by
  pointwise [val_main_v3, val_main_v2, val_main_v1, val_main_v0, val_main_cst]
  rfl

theorem mean_at (c : Fin 2) (p : Fin 8192) : val_main_v7 (F := Ideal) y w x (ix3 c p 0) = mean (mixed y w x c p) := by
  pointwise [val_main_v7, val_main_v6, val_main_v5, val_main_v4, val_main_cst_0, val_main_cst_1, mixed_at]
  rfl

theorem centred_at (c : Fin 2) (p : Fin 8192) (j : Fin 2048) :
    val_main_v9 (F := Ideal) y w x (ix3 c p j) = mixed y w x c p j - mean (mixed y w x c p) := by
  pointwise [val_main_v9, val_main_v8, mixed_at, mean_at]

theorem scale_at (c : Fin 2) (p : Fin 8192) : val_main_v19 (F := Ideal) y w x (ix3 c p 0)
    = Ideal.rsqrt (mean (fun k => (mixed y w x c p k - mean (mixed y w x c p)) * (mixed y w x c p k - mean (mixed y w x c p)))
      + Ideal.ofBits .f32 0x3727C5AC#32) := by
  pointwise [val_main_v19, val_main_v18, val_main_v17, val_main_cst_4, val_main_v14, val_main_v13, val_main_cst_3, val_main_v12,
    val_main_v11, val_main_cst_2, val_main_v10, centred_at]
  rfl

theorem normed_at (c : Fin 2) (p : Fin 8192) (j : Fin 2048) :
    val_main_v27 (F := Ideal) y w x g b (ix3 c p j) = normed (mixed y w x c p) (g (ix1 j)) (b (ix1 j)) j := by
  pointwise [val_main_v27, val_main_v26, val_main_v25, val_main_v24, val_main_v23, val_main_v22, val_main_v21, val_main_v20, val_main_v16,
    val_main_v15, mixed_at, mean_at, scale_at]
  rfl

theorem value : val_main_v28 (F := Ideal) y w x g b = result y w x g b := by
  funext i
  have h0 : (i 0).val < 16384 := (i 0).isLt
  rw [val_main_v28_apply]
  have hi : idx_main_v28 i = ix3 (⟨(i 0).val / 8192, by omega⟩ : Fin 2) (⟨(i 0).val % 8192, by omega⟩ : Fin 8192) (⟨(i 1).val, (i 1).isLt⟩ : Fin 2048) := by
    funext a
    match a with
    | ⟨0, _⟩ => apply Fin.ext; simp; omega
    | ⟨1, _⟩ => apply Fin.ext; simp; omega
    | ⟨2, _⟩ => apply Fin.ext; simp; omega
  rw [hi, normed_at]
  rfl

theorem value_cast : val_main_v29 (F := Ideal) y w x g b = result y w x g b :=
  Eq.trans (funext fun _ => rfl) (value y w x g b)

end Cert.ReferenceOutIdeal.Project

end
-- ==== Proof.OutClaims.lean ====
/- The claims about the output projection's call. -/
module

public import proofs.«01_k».proof.Defs
public import proofs.«01_k».proof.Proof.OutValue
public import proofs.«01_k».proof.Proof.OutRef
public import proofs.«01_k».proof.Proof.Gen.KernelOut.Frame
public import Idealize.ShloMosaic.Lib.Claim

@[expose] public section

set_option maxRecDepth 65536

noncomputable section

namespace Cert.OutClaims

open Idealize.ShloMosaic Idealize.ShloMosaic.TcCoe Idealize.SL.Sem

theorem frame_kernel : Cert.quiescent_KernelOut := fun m g _ => Cert.KernelOut.Gen.frame m g
theorem frame_ideal : Cert.quiescent_KernelOutIdeal := fun m g _ => Cert.KernelOutIdeal.Gen.frame m g
theorem frame_reference : Cert.quiescent_ReferenceOutIdeal := fun m g _ =>
  (θ_run Cert.ReferenceOutIdeal.defs _ _).mono (fun r h => ⟨fun c => (h c).2.2, sem_eq_zero_of_no_sems (by decide) r.2⟩)
    (Cert.ReferenceOutIdeal.Value.run (F := Ideal) m g)
theorem preserves : Cert.preserves_KernelOut_KernelOutIdeal := trivial

theorem algebraic : Cert.algebraic_KernelOutIdeal_ReferenceOutIdeal := by
  pair_intro
  · run_from Cert.KernelOutIdeal.Value.run_blocks m g
  · run_from Cert.ReferenceOutIdeal.Value.run m' g'
    · rw [Cert.ReferenceOutIdeal.Read.val_main_v28_eq]
      exact (Cert.ReferenceOutIdeal.Project.value _ _ _ _ _).trans (Cert.KernelOutIdeal.Value.final6 m c).symm
    · rw [Cert.ReferenceOutIdeal.Read.val_main_v29_eq]
      exact (Cert.ReferenceOutIdeal.Project.value_cast _ _ _ _ _).trans (Cert.KernelOutIdeal.Value.final7 m c).symm

end Cert.OutClaims

end
-- ==== Proof.Projection.lean ====
/- A projection of the tokens' rows by a weight matrix, as mathematics over extended reals. -/
module

public import Idealize.ShloMosaic.Lib.Pointwise

@[expose] public section

noncomputable section

namespace Cert.Projection

open Idealize.ShloMosaic Idealize.ShloMosaic.TcCoe Idealize.SL.Sem

/-- The tokens' rows, and a weight matrix with `n` columns. -/
abbrev XS : Type := (⟨3, ![2, 8192, 2048]⟩ : Shape).Idx → EReal
abbrev WS (n : Nat) : Type := (⟨2, ![2048, n]⟩ : Shape).Idx → EReal

/-- The projected row of token `p` of sequence `b`, at a column. -/
def proj {n : Nat} (x : XS) (w : WS n) (b : Fin 2) (p : Fin 8192) (j : Fin n) : EReal :=
  ∑ k : Fin 2048, x (ix3 b p k) * w (ix2 k j)

/-- The sequence and the place in it of a row of the flattened tokens. -/
def seqOf (i : Fin 16384) : Fin 2 := ⟨i.val / 8192, by omega⟩
def posOf (i : Fin 16384) : Fin 8192 := ⟨i.val % 8192, by omega⟩

theorem row_eq (i : Fin 16384) : i.val = (seqOf i).val * 8192 + (posOf i).val := by
  simp only [seqOf, posOf]; omega

theorem seqOf_eq (i : Fin 16384) (b : Fin 2) (p : Fin 8192) (h : i.val = b.val * 8192 + p.val) : seqOf i = b :=
  Fin.ext (by simp only [seqOf]; omega)
theorem posOf_eq (i : Fin 16384) (b : Fin 2) (p : Fin 8192) (h : i.val = b.val * 8192 + p.val) : posOf i = p :=
  Fin.ext (by simp only [posOf]; omega)

end Cert.Projection

end
-- ==== Proof.GateValue.lean ====
/- The gate's projection: what the call leaves, and what the reference gives. -/
module

public import proofs.«01_k».proof.Proof.Gen.KernelGateIdeal.Value
public import proofs.«01_k».proof.Proof.Gen.ReferenceGateIdeal.Read
public import Idealize.ShloMosaic.Lib.Pipeline.ValueKit
public import proofs.«01_k».proof.Proof.Projection

@[expose] public section

set_option maxRecDepth 65536

noncomputable section

namespace Cert.Gate

open Idealize.ShloMosaic Cert.Projection

/-- The result: the last 2048 of the 8192 columns. -/
def result (x : XS) (w : WS 8192) : (⟨2, ![16384, 2048]⟩ : Shape).Idx → EReal := fun i =>
  proj x w (seqOf (i 0)) (posOf (i 0)) ⟨6144 + (i 1).val, by have h : (i 1).val < 2048 := (i 1).isLt; omega⟩

end Cert.Gate

namespace Cert.KernelGateIdeal.Value

open Idealize.ShloMosaic Idealize.ShloMosaic.TcCoe Idealize.SL.Sem Cert.KernelGateIdeal Cert.KernelGateIdeal.Gen
open Idealize.ShloMosaic.Pipeline (Dat)
open Cert.Projection

variable (m : (ℓ : Loc nD τ sig) → Buf (Elt Ideal) ℓ)

theorem idx : ∀ t : Fin cfg0.N, win0_0.index t = ![t.val / 2, 0] ∧ win0_1.index t = ![0, 6 + t.val % 2]
    ∧ win0_2.index t = ![t.val / 2, t.val % 2] :=
  (by decide +kernel : ∀ t : Fin grid0.N, _)

theorem lt_points (t : Fin cfg0.N) : t.val < 32 := t.isLt

theorem x_op (c : Dev nD) (i : Fin 16384) (k : Fin 2048) :
    V m c main_v1 (ix2 i k) = m ((c : Thread nD τ).loc main_arg0) (ix3 (seqOf i) (posOf i) k) := by
  have hi := Cert.Projection.row_eq i
  entry_read
  pointwise
  blk_ext []

theorem w_op (c : Dev nD) (k : Fin 2048) (j : Fin 8192) : V m c main_v2 (ix2 k j) = m ((c : Thread nD τ).loc main_arg1) (ix2 k j) := by
  entry_read
  pointwise

theorem x_block (c : Dev nD) (t : Fin cfg0.N) (r : Fin 1024) (k : Fin 2048) (i : Fin 16384) (h : i.val = t.val / 2 * 1024 + r.val) :
    iblk m c 0 t (ix2 r k) = m ((c : Thread nD τ).loc main_arg0) (ix3 (seqOf i) (posOf i) k) := by
  refine Eq.trans ?_ (x_op m c i k)
  blk_ext [iblk, idx t]

theorem w_block (c : Dev nD) (t : Fin cfg0.N) (k : Fin 2048) (l : Fin 1024) (j : Fin 8192) (h : j.val = 6144 + (t.val % 2 * 1024 + l.val)) :
    iblk m c 1 t (ix2 k l) = m ((c : Thread nD τ).loc main_arg1) (ix2 k j) := by
  refine Eq.trans ?_ (w_op m c k j)
  blk_ext [iblk, idx t]

theorem pay_at (x : FVec Ideal S1024x2048 .bf16) (w : FVec Ideal S2048x1024 .bf16) (r l : Fin 1024) :
    k0_pay1 (F := Ideal) x w (ix2 r l) = ∑ k : Fin 2048, x (ix2 r k) * w (ix2 k l) := by
  pointwise [k0_pay1]

/-- BRIDGE: the result array after the run. -/
theorem final (c : Dev nD) : (dats m 0 c).arrAt 2 (cfgs 0).N
    = Cert.Gate.result (m ((c : Thread nD τ).loc main_arg0)) (m ((c : Thread nD τ).loc main_arg1)) := by
  refine (dats m 0 c).arrAt_eq_of_covers 2 _ (by decide +kernel) fun t _ y => ?_
  blk_simp
  rw [after0_2]
  frame_out
  have ht := lt_points t
  have hy0 : (y 0).val < 1024 := (y 0).isLt
  have hy1 : (y 1).val < 1024 := (y 1).isLt
  have he : y = ix2 (⟨(y 0).val, hy0⟩ : Fin 1024) (⟨(y 1).val, hy1⟩ : Fin 1024) := by
    funext a
    match a with
    | ⟨0, _⟩ => rfl
    | ⟨1, _⟩ => rfl
  refine (congrArg _ he).trans ((pay_at _ _ _ _).trans ?_)
  refine Finset.sum_congr rfl fun k _ => Ideal.mul_congr (x_block m c t _ k _ ?_) (w_block m c t k _ _ ?_)
  · blk_simp [idx t]
  · blk_simp [idx t]

end Cert.KernelGateIdeal.Value

namespace Cert.ReferenceGateIdeal.Project

open Idealize.ShloMosaic Idealize.ShloMosaic.TcCoe Idealize.SL.Sem Cert.ReferenceGateIdeal Cert.ReferenceGateIdeal.Read
open Cert.Projection

theorem value (x : XS) (w : WS 8192) : val_main_v6 (F := Ideal) x w = Cert.Gate.result x w := by
  funext i
  idx_vars i
  pointwise [val_main_v6, val_main_v5, val_main_v4, val_main_v0]
  rfl

end Cert.ReferenceGateIdeal.Project

end
-- ==== Proof.GateClaims.lean ====
/- The claims about the gate's projection's call. -/
module

public import proofs.«01_k».proof.Defs
public import proofs.«01_k».proof.Proof.GateValue
public import proofs.«01_k».proof.Proof.Gen.KernelGate.Frame
public import Idealize.ShloMosaic.Lib.Claim

@[expose] public section

set_option maxRecDepth 65536

noncomputable section

namespace Cert.GateClaims

open Idealize.ShloMosaic Idealize.ShloMosaic.TcCoe Idealize.SL.Sem

theorem frame_kernel : Cert.quiescent_KernelGate := fun m g _ => Cert.KernelGate.Gen.frame m g
theorem frame_ideal : Cert.quiescent_KernelGateIdeal := fun m g _ => Cert.KernelGateIdeal.Gen.frame m g
theorem frame_reference : Cert.quiescent_ReferenceGateIdeal := fun m g _ =>
  (θ_run Cert.ReferenceGateIdeal.defs _ _).mono (fun r h => ⟨fun c => (h c).2, sem_eq_zero_of_no_sems (by decide) r.2⟩)
    (Cert.ReferenceGateIdeal.Value.run (F := Ideal) m g)
theorem preserves : Cert.preserves_KernelGate_KernelGateIdeal := trivial

theorem algebraic : Cert.algebraic_KernelGateIdeal_ReferenceGateIdeal := by
  pair_intro
  · run_from Cert.KernelGateIdeal.Value.run_blocks m g
  · run_from Cert.ReferenceGateIdeal.Value.run m' g'
    rw [Cert.ReferenceGateIdeal.Read.val_main_v6_eq]
    exact (Cert.ReferenceGateIdeal.Project.value _ _).trans (Cert.KernelGateIdeal.Value.final m c).symm

end Cert.GateClaims

end
-- ==== Proof.TailValue.lean ====
/- The tail of layer 0's input projection (the latents' columns and the rotated key's): what the call leaves, and what
   the reference gives. -/
module

public import proofs.«01_k».proof.Proof.Gen.KernelTailIdeal.Value
public import proofs.«01_k».proof.Proof.Gen.ReferenceTailIdeal.Read
public import Idealize.ShloMosaic.Lib.Pipeline.ValueKit
public import proofs.«01_k».proof.Proof.Projection

@[expose] public section

set_option maxRecDepth 65536

noncomputable section

namespace Cert.Tail

open Idealize.ShloMosaic Cert.Projection

/-- The result: the last 1024 of the 6208 columns, then the 64 before these, then 192 columns of zeros. -/
def result (x : XS) (w : WS 6208) : (⟨2, ![16384, 1280]⟩ : Shape).Idx → EReal := fun i =>
  if h : (i 1).val < 1024 then proj x w (seqOf (i 0)) (posOf (i 0)) ⟨5184 + (i 1).val, by omega⟩
  else if h' : (i 1).val < 1088 then proj x w (seqOf (i 0)) (posOf (i 0)) ⟨4096 + (i 1).val, by omega⟩
  else 0

end Cert.Tail

namespace Cert.KernelTailIdeal.Value

open Idealize.ShloMosaic Idealize.ShloMosaic.TcCoe Idealize.SL.Sem Cert.KernelTailIdeal Cert.KernelTailIdeal.Gen
open Idealize.ShloMosaic.Pipeline (Dat)
open Cert.Projection

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

theorem lt_points (t : Fin cfg0.N) : t.val < 16 := t.isLt

theorem x_op (c : Dev nD) (i : Fin 16384) (k : Fin 2048) :
    V m c main_v7 (ix2 i k) = m ((c : Thread nD τ).loc main_arg0) (ix3 (seqOf i) (posOf i) k) := by
  have hi := Cert.Projection.row_eq i
  entry_read
  pointwise
  blk_ext []

/-- The rows of the laid-out weights: columns of the given ones, or zeros. -/
def wrow (w : WS 6208) (j : Fin 1280) (k : Fin 2048) : EReal :=
  if h : j.val < 1024 then w (ix2 k ⟨5184 + j.val, by omega⟩)
  else if h' : j.val < 1088 then w (ix2 k ⟨4096 + j.val, by omega⟩) else 0

/-- Three blocks of rows, one after the other. -/
theorem rows_at (A : FVec Ideal S1024x2048 .bf16) (B : FVec Ideal S64x2048 .bf16) (C : FVec Ideal S192x2048 .bf16)
    (j : Fin 1280) (k : Fin 2048) :
    concatenate S1280x2048 0 [⟨S1024x2048, A⟩, ⟨S64x2048, B⟩, ⟨S192x2048, C⟩] concatenates_S1024x2048_S64x2048_S192x2048_S1280x2048_d0 (ix2 j k)
      = if h : j.val < 1024 then A (ix2 ⟨j.val, h⟩ k)
        else if h' : j.val < 1088 then B (ix2 ⟨j.val - 1024, by omega⟩ k) else C (ix2 ⟨j.val - 1088, by omega⟩ k) := by
  pointwise
  by_cases h : j.val < 1024
  · rw [dif_pos h, dif_pos h]
  · by_cases h' : j.val < 1088
    · rw [dif_neg h, dif_pos (show j.val - 1024 < 64 by omega), dif_neg h, dif_pos h']
    · rw [dif_neg h, dif_neg (show ¬ j.val - 1024 < 64 by omega), dif_neg h, dif_neg h']
      blk_ext []

theorem w_op (c : Dev nD) (j : Fin 1280) (k : Fin 2048) :
    V m c main_v5 (ix2 j k) = wrow (m ((c : Thread nD τ).loc main_arg1)) j k := by
  unfold wrow
  unfold V
  simp only [StableHlo.after_cons, StableHlo.after_nil]
  rw [StableHlo.unary_result_ne, StableHlo.reshape_result_ne, StableHlo.nary_result]
  rotate_left
  · decide
  · decide
  generalize hσ : HloOp.result (StableHlo.unary main_cst main_v4 _ _ _) _ = σ
  by_cases h : j.val < 1024
  · rw [dif_pos h]
    refine ((rows_at (σ (Proc.tc.devRef main_v2)) (σ (Proc.tc.devRef main_v3)) (σ (Proc.tc.devRef main_v4)) j k).trans (dif_pos h)).trans ?_
    rw [← hσ]
    after_results_simp
    pointwise
  · by_cases h' : j.val < 1088
    · rw [dif_neg h, dif_pos h']
      refine ((rows_at (σ (Proc.tc.devRef main_v2)) (σ (Proc.tc.devRef main_v3)) (σ (Proc.tc.devRef main_v4)) j k).trans
        ((dif_neg h).trans (dif_pos h'))).trans ?_
      rw [← hσ]
      after_results_simp
      pointwise
      blk_ext []
    · rw [dif_neg h, dif_neg h']
      refine ((rows_at (σ (Proc.tc.devRef main_v2)) (σ (Proc.tc.devRef main_v3)) (σ (Proc.tc.devRef main_v4)) j k).trans
        ((dif_neg h).trans (dif_neg h'))).trans ?_
      rw [← hσ]
      after_results_simp
      pointwise

theorem x_block (c : Dev nD) (t : Fin cfg0.N) (r : Fin 1024) (k : Fin 2048) (i : Fin 16384) (h : i.val = t.val * 1024 + r.val) :
    iblk m c 0 t (ix2 r k) = m ((c : Thread nD τ).loc main_arg0) (ix3 (seqOf i) (posOf i) k) := by
  refine Eq.trans ?_ (x_op m c i k)
  blk_ext [iblk, idx t]

theorem w_block (c : Dev nD) (t : Fin cfg0.N) (j : Fin 1280) (k : Fin 2048) :
    iblk m c 1 t (ix2 j k) = wrow (m ((c : Thread nD τ).loc main_arg1)) j k := by
  refine Eq.trans ?_ (w_op m c j k)
  blk_ext [iblk, idx t]

theorem pay_at (x : FVec Ideal S1024x2048 .bf16) (w : FVec Ideal S1280x2048 .bf16) (r : Fin 1024) (l : Fin 1280) :
    k0_pay1 (F := Ideal) x w (ix2 r l) = ∑ k : Fin 2048, x (ix2 r k) * w (ix2 l k) := by
  pointwise [k0_pay1]

/-- A row of tokens against a row of the laid-out weights. -/
theorem sum_wrow (x : XS) (w : WS 6208) (i : Fin 16384) (j : Fin 1280) :
    ∑ k : Fin 2048, x (ix3 (seqOf i) (posOf i) k) * wrow w j k = Cert.Tail.result x w (ix2 i j) := by
  by_cases h : j.val < 1024
  · simp only [wrow, dif_pos h]
    exact Eq.symm (dif_pos (c := j.val < 1024) h)
  · by_cases h' : j.val < 1088
    · simp only [wrow, dif_neg h, dif_pos h']
      exact ((dif_neg h).trans (dif_pos h')).symm
    · simp only [wrow, dif_neg h, dif_neg h', mul_zero]
      exact Finset.sum_const_zero.trans ((dif_neg h).trans (dif_neg h')).symm

/-- BRIDGE: the result array after the run. -/
theorem final (c : Dev nD) : (dats m 0 c).arrAt 2 (cfgs 0).N
    = Cert.Tail.result (m ((c : Thread nD τ).loc main_arg0)) (m ((c : Thread nD τ).loc main_arg1)) := by
  refine (dats m 0 c).arrAt_eq_of_covers 2 _ (by decide +kernel) fun t _ y => ?_
  blk_simp
  rw [after0_2]
  frame_out
  have ht := lt_points t
  have hy0 : (y 0).val < 1024 := (y 0).isLt
  have hy1 : (y 1).val < 1280 := (y 1).isLt
  have he : y = ix2 (⟨(y 0).val, hy0⟩ : Fin 1024) (⟨(y 1).val, hy1⟩ : Fin 1280) := by
    funext a
    match a with
    | ⟨0, _⟩ => rfl
    | ⟨1, _⟩ => rfl
  refine (congrArg _ he).trans ((pay_at _ _ _ _).trans ?_)
  refine (Finset.sum_congr rfl fun k _ => Ideal.mul_congr
    (x_block m c t _ k ⟨t.val * 1024 + (y 0).val, by omega⟩ rfl) (w_block m c t _ k)).trans ((sum_wrow _ _ _ _).trans ?_)
  refine congrArg _ ?_
  blk_ext [idx t]

end Cert.KernelTailIdeal.Value

namespace Cert.ReferenceTailIdeal.Project

open Idealize.ShloMosaic Idealize.ShloMosaic.TcCoe Idealize.SL.Sem Cert.ReferenceTailIdeal Cert.ReferenceTailIdeal.Read
open Cert.Projection

theorem sitofp_zero : (FloatOps.sitofp (F := Ideal) FTy.f32 (0#32 : BitVec 32) : EReal) = 0 := by
  simp [FloatOps.sitofp]

theorem value (x : XS) (w : WS 6208) : val_main_v6 (F := Ideal) x w = Cert.Tail.result x w := by
  funext i
  idx_vars i
  unfold Cert.Tail.result
  pointwise [val_main_v6, val_main_v5, val_main_v4, val_main_v3, val_main_v2, val_main_v1, val_main_v0, val_main_call0_v0, val_main_c]
  by_cases h : i1.val < 1024
  · rw [dif_pos (show i1.val < 1088 by omega), dif_pos h, dif_pos h]
    rfl
  · by_cases h' : i1.val < 1088
    · rw [dif_pos h', dif_neg h, dif_neg h, dif_pos h']
      refine Finset.sum_congr rfl fun k _ => Ideal.mul_congr rfl ?_
      blk_ext []
    · rw [dif_neg h', dif_neg h, dif_neg h']
      exact sitofp_zero

end Cert.ReferenceTailIdeal.Project

end
-- ==== Proof.TailClaims.lean ====
/- The claims about the tail of layer 0's input projection's call. -/
module

public import proofs.«01_k».proof.Defs
public import proofs.«01_k».proof.Proof.TailValue
public import proofs.«01_k».proof.Proof.Gen.KernelTail.Frame
public import Idealize.ShloMosaic.Lib.Claim

@[expose] public section

set_option maxRecDepth 65536

noncomputable section

namespace Cert.TailClaims

open Idealize.ShloMosaic Idealize.ShloMosaic.TcCoe Idealize.SL.Sem

theorem frame_kernel : Cert.quiescent_KernelTail := fun m g _ => Cert.KernelTail.Gen.frame m g
theorem frame_ideal : Cert.quiescent_KernelTailIdeal := fun m g _ => Cert.KernelTailIdeal.Gen.frame m g
theorem frame_reference : Cert.quiescent_ReferenceTailIdeal := fun m g _ =>
  (θ_run Cert.ReferenceTailIdeal.defs _ _).mono (fun r h => ⟨fun c => (h c).2, sem_eq_zero_of_no_sems (by decide) r.2⟩)
    (Cert.ReferenceTailIdeal.Value.run (F := Ideal) m g)
theorem preserves : Cert.preserves_KernelTail_KernelTailIdeal := trivial

theorem algebraic : Cert.algebraic_KernelTailIdeal_ReferenceTailIdeal := by
  pair_intro
  · run_from Cert.KernelTailIdeal.Value.run_blocks m g
  · run_from Cert.ReferenceTailIdeal.Value.run m' g'
    rw [Cert.ReferenceTailIdeal.Read.val_main_v6_eq]
    exact (Cert.ReferenceTailIdeal.Project.value _ _).trans (Cert.KernelTailIdeal.Value.final m c).symm

end Cert.TailClaims

end
-- ==== Proof.ValsValue.lean ====
/- The attention's values, written transposed: what the call leaves, and what the reference gives. -/
module

public import proofs.«01_k».proof.Proof.Gen.KernelValsIdeal.Value
public import proofs.«01_k».proof.Proof.Gen.ReferenceValsIdeal.Read
public import Idealize.ShloMosaic.Lib.Pipeline.ValueKit
public import proofs.«01_k».proof.Proof.Projection

@[expose] public section

set_option maxRecDepth 65536

noncomputable section

namespace Cert.Vals

open Idealize.ShloMosaic Cert.Projection

/-- The result: columns 2048 to 3071 of the projection, a sequence's columns as rows over its tokens. -/
def result (x : XS) (w : WS 6208) : (⟨3, ![2, 1024, 8192]⟩ : Shape).Idx → EReal := fun i =>
  proj x w (i 0) (i 2) ⟨2048 + (i 1).val, by have h : (i 1).val < 1024 := (i 1).isLt; omega⟩

end Cert.Vals

namespace Cert.KernelValsIdeal.Value

open Idealize.ShloMosaic Idealize.ShloMosaic.TcCoe Idealize.SL.Sem Cert.KernelValsIdeal Cert.KernelValsIdeal.Gen
open Idealize.ShloMosaic.Pipeline (Dat)
open Cert.Projection

variable (m : (ℓ : Loc nD τ sig) → Buf (Elt Ideal) ℓ)

theorem idx : ∀ t : Fin cfg0.N, win0_0.index t = ![0, 0] ∧ win0_1.index t = ![t.val, 0]
    ∧ win0_2.index t = ![t.val / 8, 0, t.val % 8] :=
  (by decide +kernel : ∀ t : Fin grid0.N, _)

theorem lt_points (t : Fin cfg0.N) : t.val < 16 := t.isLt

theorem x_op (c : Dev nD) (b : Fin 2) (p : Fin 8192) (i : Fin 16384) (h : i.val = b.val * 8192 + p.val) (k : Fin 2048) :
    V m c main_v4 (ix2 i k) = m ((c : Thread nD τ).loc main_arg0) (ix3 b p k) := by
  entry_read
  pointwise
  blk_ext []

theorem w_op (c : Dev nD) (r : Fin 1024) (k : Fin 2048) (j : Fin 6208) (h : j.val = 2048 + r.val) :
    V m c main_v2 (ix2 r k) = m ((c : Thread nD τ).loc main_arg1) (ix2 k j) := by
  entry_read
  pointwise
  blk_ext []

theorem x_block (c : Dev nD) (t : Fin cfg0.N) (r : Fin 1024) (k : Fin 2048) (b : Fin 2) (p : Fin 8192)
    (hb : b.val = t.val / 8) (hp : p.val = t.val % 8 * 1024 + r.val) :
    iblk m c 1 t (ix2 r k) = m ((c : Thread nD τ).loc main_arg0) (ix3 b p k) := by
  have ht := lt_points t
  refine Eq.trans ?_ (x_op m c b p ⟨b.val * 8192 + p.val, by omega⟩ rfl k)
  blk_ext [iblk, idx t]

theorem w_block (c : Dev nD) (t : Fin cfg0.N) (r : Fin 1024) (k : Fin 2048) (j : Fin 6208) (h : j.val = 2048 + r.val) :
    iblk m c 0 t (ix2 r k) = m ((c : Thread nD τ).loc main_arg1) (ix2 k j) := by
  refine Eq.trans ?_ (w_op m c r k j h)
  blk_ext [iblk, idx t]

theorem pay_at (w : FVec Ideal S1024x2048 .bf16) (x : FVec Ideal S1024x2048 .bf16) (o : Fin 1) (r l : Fin 1024) :
    k0_pay1 (F := Ideal) w x (ix3 o r l) = ∑ k : Fin 2048, w (ix2 r k) * x (ix2 l k) := by
  pointwise [k0_pay1]

/-- BRIDGE: the result array after the run. -/
theorem final (c : Dev nD) : (dats m 0 c).arrAt 2 (cfgs 0).N
    = Cert.Vals.result (m ((c : Thread nD τ).loc main_arg0)) (m ((c : Thread nD τ).loc main_arg1)) := by
  refine (dats m 0 c).arrAt_eq_of_covers 2 _ (by decide +kernel) fun t _ y => ?_
  blk_simp
  rw [after0_2]
  frame_out
  have ht := lt_points t
  have hy0 : (y 0).val < 1 := (y 0).isLt
  have hy1 : (y 1).val < 1024 := (y 1).isLt
  have hy2 : (y 2).val < 1024 := (y 2).isLt
  have he : y = ix3 (⟨(y 0).val, hy0⟩ : Fin 1) (⟨(y 1).val, hy1⟩ : Fin 1024) (⟨(y 2).val, hy2⟩ : Fin 1024) := by
    funext a
    match a with
    | ⟨0, _⟩ => rfl
    | ⟨1, _⟩ => rfl
    | ⟨2, _⟩ => rfl
  refine (congrArg _ he).trans ((pay_at _ _ _ _ _).trans ?_)
  refine Finset.sum_congr rfl fun k _ => (Ideal.mul_congr (w_block m c t _ k _ ?_) (x_block m c t _ k _ _ ?_ ?_)).trans (mul_comm _ _)
  · blk_simp [idx t]
  · blk_simp [idx t]
  · blk_simp [idx t]

end Cert.KernelValsIdeal.Value

namespace Cert.ReferenceValsIdeal.Project

open Idealize.ShloMosaic Idealize.ShloMosaic.TcCoe Idealize.SL.Sem Cert.ReferenceValsIdeal Cert.ReferenceValsIdeal.Read
open Cert.Projection

theorem value (x : XS) (w : WS 6208) : val_main_v3 (F := Ideal) x w = Cert.Vals.result x w := by
  funext i
  idx_vars i
  pointwise [val_main_v3, val_main_v2, val_main_v1, val_main_v0]
  rfl

end Cert.ReferenceValsIdeal.Project

end
-- ==== Proof.ValsClaims.lean ====
/- The claims about the transposed values' projection's call. -/
module

public import proofs.«01_k».proof.Defs
public import proofs.«01_k».proof.Proof.ValsValue
public import proofs.«01_k».proof.Proof.Gen.KernelVals.Frame
public import Idealize.ShloMosaic.Lib.Claim

@[expose] public section

set_option maxRecDepth 65536

noncomputable section

namespace Cert.ValsClaims

open Idealize.ShloMosaic Idealize.ShloMosaic.TcCoe Idealize.SL.Sem

theorem frame_kernel : Cert.quiescent_KernelVals := fun m g _ => Cert.KernelVals.Gen.frame m g
theorem frame_ideal : Cert.quiescent_KernelValsIdeal := fun m g _ => Cert.KernelValsIdeal.Gen.frame m g
theorem frame_reference : Cert.quiescent_ReferenceValsIdeal := fun m g _ =>
  (θ_run Cert.ReferenceValsIdeal.defs _ _).mono (fun r h => ⟨fun c => (h c).2, sem_eq_zero_of_no_sems (by decide) r.2⟩)
    (Cert.ReferenceValsIdeal.Value.run (F := Ideal) m g)
theorem preserves : Cert.preserves_KernelVals_KernelValsIdeal := trivial

theorem algebraic : Cert.algebraic_KernelValsIdeal_ReferenceValsIdeal := by
  pair_intro
  · run_from Cert.KernelValsIdeal.Value.run_blocks m g
  · run_from Cert.ReferenceValsIdeal.Value.run m' g'
    rw [Cert.ReferenceValsIdeal.Read.val_main_v3_eq]
    exact (Cert.ReferenceValsIdeal.Project.value _ _).trans (Cert.KernelValsIdeal.Value.final m c).symm

end Cert.ValsClaims

end
-- ==== Proof.HeadTokens.lean ====
/- A layer's projected rows, arranged per head in views of one, four and sixteen tokens a row. -/
module

public import proofs.«01_k».proof.Proof.Projection
public import Idealize.ShloMosaic.Lib.Pipeline.ValueKit

@[expose] public section

noncomputable section

namespace Cert.HeadTokens

open Idealize.ShloMosaic Idealize.ShloMosaic.TcCoe Idealize.SL.Sem Cert.Projection

/-- A function of a head, a token and a lane. -/
abbrev PerHead (n : ℕ) : Type := Fin n → Fin 16384 → Fin 128 → EReal

/-- One token a row; -/
def one {n : ℕ} (f : PerHead n) : (⟨3, ![n, 16384, 128]⟩ : Shape).Idx → EReal := fun i => f (i 0) (i 1) (i 2)
/-- four tokens a row, side by side; -/
def four {n : ℕ} (f : PerHead n) : (⟨3, ![n, 4096, 512]⟩ : Shape).Idx → EReal := fun i =>
  f (i 0) ⟨4 * (i 1).val + (i 2).val / 128, by
    have h1 : (i 1).val < 4096 := (i 1).isLt
    have h2 : (i 2).val < 512 := (i 2).isLt
    omega⟩ ⟨(i 2).val % 128, by omega⟩
/-- sixteen tokens a row. -/
def sixteen {n : ℕ} (f : PerHead n) : (⟨3, ![n, 1024, 2048]⟩ : Shape).Idx → EReal := fun i =>
  f (i 0) ⟨16 * (i 1).val + (i 2).val / 128, by
    have h1 : (i 1).val < 1024 := (i 1).isLt
    have h2 : (i 2).val < 2048 := (i 2).isLt
    omega⟩ ⟨(i 2).val % 128, by omega⟩

/-- The rows of the heads' tokens, read in another shape. -/
theorem cast_one {n : ℕ} (A : (⟨4, ![n, 2, 8192, 128]⟩ : Shape).Idx → EReal) (f : PerHead n)
    (hA : ∀ h i l, A (ix4 h (seqOf i) (posOf i) l) = f h i l) (hs) : shapeCast ⟨3, ![n, 16384, 128]⟩ A hs = one f := by
  funext i
  have h1 : (i 1).val < 16384 := (i 1).isLt
  refine (shapeCast_apply A hs i (ix4 (i 0) (seqOf (i 1)) (posOf (i 1)) (i 2)) ?_).trans (hA _ _ _)
  have e := row_eq (i 1)
  rewrite [Shape.rowMajor_val_four, Shape.rowMajor_val_three]
  show (((i 0).val * 2 + (seqOf (i 1)).val) * 8192 + (posOf (i 1)).val) * 128 + (i 2).val = ((i 0).val * 16384 + (i 1).val) * 128 + (i 2).val
  omega

theorem cast_four {n : ℕ} (A : (⟨4, ![n, 2, 8192, 128]⟩ : Shape).Idx → EReal) (f : PerHead n)
    (hA : ∀ h i l, A (ix4 h (seqOf i) (posOf i) l) = f h i l) (hs) : shapeCast ⟨3, ![n, 4096, 512]⟩ A hs = four f := by
  funext i
  have h1 : (i 1).val < 4096 := (i 1).isLt
  have h2 : (i 2).val < 512 := (i 2).isLt
  let k : Fin 16384 := ⟨4 * (i 1).val + (i 2).val / 128, by omega⟩
  refine (shapeCast_apply A hs i (ix4 (i 0) (seqOf k) (posOf k) ⟨(i 2).val % 128, by omega⟩) ?_).trans (hA _ _ _)
  have e : 4 * (i 1).val + (i 2).val / 128 = (seqOf k).val * 8192 + (posOf k).val := row_eq k
  rewrite [Shape.rowMajor_val_four, Shape.rowMajor_val_three]
  show (((i 0).val * 2 + (seqOf k).val) * 8192 + (posOf k).val) * 128 + (i 2).val % 128 = ((i 0).val * 4096 + (i 1).val) * 512 + (i 2).val
  omega

theorem cast_sixteen {n : ℕ} (A : (⟨4, ![n, 2, 8192, 128]⟩ : Shape).Idx → EReal) (f : PerHead n)
    (hA : ∀ h i l, A (ix4 h (seqOf i) (posOf i) l) = f h i l) (hs) : shapeCast ⟨3, ![n, 1024, 2048]⟩ A hs = sixteen f := by
  funext i
  have h1 : (i 1).val < 1024 := (i 1).isLt
  have h2 : (i 2).val < 2048 := (i 2).isLt
  let k : Fin 16384 := ⟨16 * (i 1).val + (i 2).val / 128, by omega⟩
  refine (shapeCast_apply A hs i (ix4 (i 0) (seqOf k) (posOf k) ⟨(i 2).val % 128, by omega⟩) ?_).trans (hA _ _ _)
  have e : 16 * (i 1).val + (i 2).val / 128 = (seqOf k).val * 8192 + (posOf k).val := row_eq k
  rewrite [Shape.rowMajor_val_four, Shape.rowMajor_val_three]
  show (((i 0).val * 2 + (seqOf k).val) * 8192 + (posOf k).val) * 128 + (i 2).val % 128 = ((i 0).val * 1024 + (i 1).val) * 2048 + (i 2).val
  omega

/-- The values' columns: head `h` has columns `4096 + 128 h` to `4096 + 128 h + 127`. -/
def values (x : XS) (w : WS 8192) : PerHead 16 := fun h i l =>
  proj x w (seqOf i) (posOf i) ⟨4096 + (h.val * 128 + l.val), by omega⟩

/-- The angle of a position and a frequency: the position times ten thousand to the power of minus the frequency over 64. -/
def angle (p : Fin 8192) (j : Fin 64) : EReal :=
  FloatOps.sitofp (F := Ideal) .f32 (BitVec.ofNat 32 p.val) * Ideal.pow (Ideal.ofBits .f32 0x461C4000#32)
    (Ideal.div (-FloatOps.sitofp (F := Ideal) .f32 (BitVec.ofNat 32 j.val)) (Ideal.ofBits .f32 0x42800000#32))

/-- A head's row turned by the angles of a position: the first half of the lanes and the second half are the two coordinates. -/
def turn (q : Fin 128 → EReal) (p : Fin 8192) (l : Fin 128) : EReal :=
  if h : l.val < 64 then q l * Ideal.cos (angle p ⟨l.val, h⟩) - q ⟨l.val + 64, by omega⟩ * Ideal.sin (angle p ⟨l.val, h⟩)
  else q l * Ideal.cos (angle p ⟨l.val - 64, by omega⟩) + q ⟨l.val - 64, by omega⟩ * Ideal.sin (angle p ⟨l.val - 64, by omega⟩)

/-- The queries' and keys' columns: head `h` has columns `128 h` to `128 h + 127`, turned by the token's position. -/
def rotated (x : XS) (w : WS 8192) : PerHead 32 := fun h i l =>
  turn (fun j => proj x w (seqOf i) (posOf i) ⟨h.val * 128 + j.val, by omega⟩) (posOf i) l

end Cert.HeadTokens

end
-- ==== Proof.HeadViews.lean ====
/- Rows stored per head and read back with a stride, as the heads' projection does: the row `r` of head `h` is written to
   three views, whose rows hold one, four and sixteen tokens. Everything stored is given by one function `E h r l` of the
   head, the row and the lane; the plane keeps it as it is, the fours keep row `4 n + r` at `(r, n)`, and a view of `d`
   tokens a row keeps row `d n + r` at row `n`, lanes `128 r` to `128 r + 127`. -/
module

public import Idealize.ShloMosaic.Lib.Pointwise
public import Idealize.ShloMosaic.Lib.Pipeline.ValueKit
public import Idealize.ShloMosaic.Lib.WholeRead

@[expose] public section

noncomputable section

namespace Cert.HeadViews

open Idealize.ShloMosaic Idealize.ShloMosaic.TcCoe Idealize.SL.Sem

abbrev Plane : Shape := ⟨4, ![8, 1, 1024, 128]⟩
abbrev Fours : Shape := ⟨4, ![8, 4, 256, 128]⟩
abbrev One : Shape := ⟨3, ![8, 1024, 128]⟩
abbrev Four : Shape := ⟨3, ![8, 256, 512]⟩
abbrev Sixteen : Shape := ⟨3, ![8, 64, 2048]⟩

variable (E : ℕ → ℕ → ℕ → EReal)

def plane (y : Plane.Idx) : EReal := E (y 0) (y 2) (y 3)
def fours (y : Fours.Idx) : EReal := E (y 0) (4 * (y 2).val + (y 1).val) (y 3)
def view1 (y : One.Idx) : EReal := E (y 0) (y 1) (y 2)
def view4 (y : Four.Idx) : EReal := E (y 0) (4 * (y 1).val + (y 2).val / 128) ((y 2).val % 128)
def view16 (y : Sixteen.Idx) : EReal := E (y 0) (16 * (y 1).val + (y 2).val / 128) ((y 2).val % 128)

/-- A block of rows times a block of columns, at a row and a column. -/
def dotAt (x : (⟨2, ![1024, 2048]⟩ : Shape).Idx → EReal) (w : (⟨2, ![2048, 1024]⟩ : Shape).Idx → EReal) (r j : ℕ) : EReal :=
  if h : r < 1024 ∧ j < 1024 then ∑ k : Fin 2048, x (ix2 ⟨r, h.1⟩ k) * w (ix2 k ⟨j, h.2⟩) else 0

/-- Every piece of a list stores what `G` says at the place it stores to. -/
def Agrees {s : Shape} {e : EltTy} (G : s.Idx → Elt Ideal e) (L : List (View.Piece (Elt Ideal) s e)) : Prop :=
  ∀ p ∈ L, ∀ x : p.1.shape.Idx, p.2 x = G (p.1.emb x)

theorem agrees_nil {s : Shape} {e : EltTy} (G : s.Idx → Elt Ideal e) : Agrees G [] :=
  fun _ h => absurd h List.not_mem_nil

theorem agrees_cons {s : Shape} {e : EltTy} {G : s.Idx → Elt Ideal e} {r : Rect s} {w : r.shape.Idx → Elt Ideal e}
    {L : List (View.Piece (Elt Ideal) s e)} (hw : ∀ x, w x = G (r.emb x)) (hL : Agrees G L) : Agrees G (⟨r, w⟩ :: L) := by
  intro p hp
  rcases List.mem_cons.mp hp with rfl | hp
  · exact hw
  · exact hL p hp

/-- The pieces cover rows `512 g` to `512 g + 511` of head `h` of the plane; -/
def Plane.Covers (L : List (View.Piece (Elt Ideal) Plane .f32)) (h g : ℕ) : Prop :=
  ∀ y : Plane.Idx, (y 0).val = h → (y 2).val / 512 = g → ∃ p ∈ L, y ∈ p.1.set
/-- and rows `128 g` to `128 g + 127` of all four parts of head `h` of the fours. -/
def Fours.Covers (L : List (View.Piece (Elt Ideal) Fours .f32)) (h g : ℕ) : Prop :=
  ∀ y : Fours.Idx, (y 0).val = h → (y 2).val / 128 = g → ∃ p ∈ L, y ∈ p.1.set

theorem Plane.covers {h R g : ℕ} {inb : ∀ a, (![h, 0, R, 0] : Fin 4 → ℕ) a + (![1, 1, 512, 128] : Fin 4 → ℕ) a ≤ Plane.size a}
    (hR : R = 512 * g) (w) (L : List (View.Piece (Elt Ideal) Plane .f32)) :
    Plane.Covers (⟨Rect.unit (s := Plane) ![h, 0, R, 0] ![1, 1, 512, 128] inb, w⟩ :: L) h g := by
  intro y h0 h2
  have h1 : (y 1).val < 1 := (y 1).isLt
  have h3 : (y 3).val < 128 := (y 3).isLt
  refine ⟨_, List.mem_cons_self, (Rect.mem_set_unit (inb := inb)).mpr fun a => ?_⟩
  match a with
  | ⟨0, _⟩ => show h ≤ (y 0).val ∧ (y 0).val < h + 1; omega
  | ⟨1, _⟩ => show 0 ≤ (y 1).val ∧ (y 1).val < 0 + 1; omega
  | ⟨2, _⟩ => show R ≤ (y 2).val ∧ (y 2).val < R + 512; omega
  | ⟨3, _⟩ => show 0 ≤ (y 3).val ∧ (y 3).val < 0 + 128; omega

theorem mem_part {h r R g : ℕ} (inb : ∀ a, (![h, r, R, 0] : Fin 4 → ℕ) a + (![1, 1, 128, 128] : Fin 4 → ℕ) a ≤ Fours.size a)
    (hR : R = 128 * g) (y : Fours.Idx) (h0 : (y 0).val = h) (h1 : (y 1).val = r) (h2 : (y 2).val / 128 = g) :
    y ∈ (Rect.unit (s := Fours) ![h, r, R, 0] ![1, 1, 128, 128] inb).set := by
  have h3 : (y 3).val < 128 := (y 3).isLt
  refine (Rect.mem_set_unit (inb := inb)).mpr fun a => ?_
  match a with
  | ⟨0, _⟩ => show h ≤ (y 0).val ∧ (y 0).val < h + 1; omega
  | ⟨1, _⟩ => show r ≤ (y 1).val ∧ (y 1).val < r + 1; omega
  | ⟨2, _⟩ => show R ≤ (y 2).val ∧ (y 2).val < R + 128; omega
  | ⟨3, _⟩ => show 0 ≤ (y 3).val ∧ (y 3).val < 0 + 128; omega

theorem Fours.covers {h R g : ℕ}
    {i0 : ∀ a, (![h, 0, R, 0] : Fin 4 → ℕ) a + (![1, 1, 128, 128] : Fin 4 → ℕ) a ≤ Fours.size a}
    {i1 : ∀ a, (![h, 1, R, 0] : Fin 4 → ℕ) a + (![1, 1, 128, 128] : Fin 4 → ℕ) a ≤ Fours.size a}
    {i2 : ∀ a, (![h, 2, R, 0] : Fin 4 → ℕ) a + (![1, 1, 128, 128] : Fin 4 → ℕ) a ≤ Fours.size a}
    {i3 : ∀ a, (![h, 3, R, 0] : Fin 4 → ℕ) a + (![1, 1, 128, 128] : Fin 4 → ℕ) a ≤ Fours.size a}
    (hR : R = 128 * g) (w0 w1 w2 w3) (L : List (View.Piece (Elt Ideal) Fours .f32)) :
    Fours.Covers (⟨Rect.unit (s := Fours) ![h, 3, R, 0] ![1, 1, 128, 128] i3, w3⟩
      :: ⟨Rect.unit (s := Fours) ![h, 2, R, 0] ![1, 1, 128, 128] i2, w2⟩
      :: ⟨Rect.unit (s := Fours) ![h, 1, R, 0] ![1, 1, 128, 128] i1, w1⟩
      :: ⟨Rect.unit (s := Fours) ![h, 0, R, 0] ![1, 1, 128, 128] i0, w0⟩ :: L) h g := by
  intro y h0 h2
  have h1 : (y 1).val < 4 := (y 1).isLt
  have hc : (y 1).val = 3 ∨ (y 1).val = 2 ∨ (y 1).val = 1 ∨ (y 1).val = 0 := by omega
  rcases hc with hc | hc | hc | hc
  · exact ⟨_, List.mem_cons_self, mem_part i3 hR y h0 hc h2⟩
  · exact ⟨_, List.mem_cons_of_mem _ List.mem_cons_self, mem_part i2 hR y h0 hc h2⟩
  · exact ⟨_, List.mem_cons_of_mem _ (List.mem_cons_of_mem _ List.mem_cons_self), mem_part i1 hR y h0 hc h2⟩
  · exact ⟨_, List.mem_cons_of_mem _ (List.mem_cons_of_mem _ (List.mem_cons_of_mem _ List.mem_cons_self)), mem_part i0 hR y h0 hc h2⟩

section Loads
variable {E} {sig : RefSig} {κ : Kind} {sp : Space}

/-- Every fourth row of the plane, read back. -/
theorem load_plane (v : View sig κ sp Plane .f32) {L : List (View.Piece (Elt Ideal) Plane .f32)} {h o : ℕ}
    {inb : ∀ a, (![1, 1, 128, 128] : Fin 4 → ℕ) a = 0 ∨
      (![h, 0, o, 0] : Fin 4 → ℕ) a + (![1, 1, 4, 1] : Fin 4 → ℕ) a * ((![1, 1, 128, 128] : Fin 4 → ℕ) a - 1) < Plane.size a}
    (hL : Agrees (plane E) L) (hc : Plane.Covers L h (o / 512)) (ho : o % 512 < 4) (j : (⟨4, ![1, 1, 128, 128]⟩ : Shape).Idx) :
    v.readCov L (⟨![h, 0, o, 0], ![1, 1, 128, 128], ![1, 1, 4, 1], inb⟩ : LoadRect Plane) j = E h (o + 4 * (j 2).val) (j 3).val := by
  have h0 : (j 0).val < 1 := (j 0).isLt
  have h2 : (j 2).val < 128 := (j 2).isLt
  rw [View.readCov_eq_canon']
  have e0 : h + 1 * (j 0).val = h := by omega
  have e2 : (o + 4 * (j 2).val) / 512 = o / 512 := by omega
  refine (View.canon_apply_of_pieces (Val := Elt Ideal) (S := Plane) (e := .f32) (plane E) L hL _ (hc _ e0 e2)).trans ?_
  show E (h + 1 * (j 0).val) (o + 4 * (j 2).val) (0 + 1 * (j 3).val) = _
  rw [e0, Nat.one_mul, Nat.zero_add]

/-- Every fourth row of a part of the fours, read back. -/
theorem load_fours (v : View sig κ sp Fours .f32) {L : List (View.Piece (Elt Ideal) Fours .f32)} {h r o : ℕ}
    {inb : ∀ a, (![1, 1, 32, 128] : Fin 4 → ℕ) a = 0 ∨
      (![h, r, o, 0] : Fin 4 → ℕ) a + (![1, 1, 4, 1] : Fin 4 → ℕ) a * ((![1, 1, 32, 128] : Fin 4 → ℕ) a - 1) < Fours.size a}
    (hL : Agrees (fours E) L) (hc : Fours.Covers L h (o / 128)) (ho : o % 128 < 4) (j : (⟨4, ![1, 1, 32, 128]⟩ : Shape).Idx) :
    v.readCov L (⟨![h, r, o, 0], ![1, 1, 32, 128], ![1, 1, 4, 1], inb⟩ : LoadRect Fours) j
      = E h (4 * (o + 4 * (j 2).val) + r) (j 3).val := by
  have h0 : (j 0).val < 1 := (j 0).isLt
  have h1 : (j 1).val < 1 := (j 1).isLt
  have h2 : (j 2).val < 32 := (j 2).isLt
  rw [View.readCov_eq_canon']
  have e0 : h + 1 * (j 0).val = h := by omega
  have e1 : r + 1 * (j 1).val = r := by omega
  have e2 : (o + 4 * (j 2).val) / 128 = o / 128 := by omega
  refine (View.canon_apply_of_pieces (Val := Elt Ideal) (S := Fours) (e := .f32) (fours E) L hL _ (hc _ e0 e2)).trans ?_
  show E (h + 1 * (j 0).val) (4 * (o + 4 * (j 2).val) + (r + 1 * (j 1).val)) (0 + 1 * (j 3).val) = _
  rw [e0, e1, Nat.one_mul, Nat.zero_add]

end Loads

section Casts
variable {α : Type} {a b : ℕ}

theorem up4 (x : (⟨2, ![a, b]⟩ : Shape).Idx → α) (s : (⟨2, ![a, b]⟩ : Shape).ShapeCasts ⟨4, ![1, 1, a, b]⟩)
    (j : (⟨4, ![1, 1, a, b]⟩ : Shape).Idx) : shapeCast ⟨4, ![1, 1, a, b]⟩ x s j = x (ix2 (j 2) (j 3)) := by
  have h0 : (j 0).val < 1 := (j 0).isLt
  have h1 : (j 1).val < 1 := (j 1).isLt
  refine shapeCast_apply x s j _ ?_
  have e0 : (j 0).val = 0 := by omega
  have e1 : (j 1).val = 0 := by omega
  simp [Shape.rowMajor_val_two, Shape.rowMajor_val_four, e0, e1]

theorem down4 (x : (⟨4, ![1, 1, a, b]⟩ : Shape).Idx → α) (s : (⟨4, ![1, 1, a, b]⟩ : Shape).ShapeCasts ⟨2, ![a, b]⟩)
    (i : Fin a) (j : Fin b) : shapeCast ⟨2, ![a, b]⟩ x s (ix2 i j) = x (ix4 0 0 i j) := by
  refine shapeCast_apply x s _ _ ?_
  simp [Shape.rowMajor_val_two, Shape.rowMajor_val_four]

theorem up3 (x : (⟨2, ![a, b]⟩ : Shape).Idx → α) (s : (⟨2, ![a, b]⟩ : Shape).ShapeCasts ⟨3, ![1, a, b]⟩)
    (j : (⟨3, ![1, a, b]⟩ : Shape).Idx) : shapeCast ⟨3, ![1, a, b]⟩ x s j = x (ix2 (j 1) (j 2)) := by
  have h0 : (j 0).val < 1 := (j 0).isLt
  refine shapeCast_apply x s j _ ?_
  have e0 : (j 0).val = 0 := by omega
  simp [Shape.rowMajor_val_two, Shape.rowMajor_val_three, e0]

end Casts

section Pieces
variable {E} {sig : RefSig} {κ : Kind} {sp : Space}

/-- A head's rows, stored to the plane; -/
theorem plane_piece {Y : FVec Ideal ⟨2, ![512, 128]⟩ .f32} {h R : ℕ} {s}
    {inb : ∀ a, (![h, 0, R, 0] : Fin 4 → ℕ) a + (![1, 1, 512, 128] : Fin 4 → ℕ) a ≤ Plane.size a}
    (hY : ∀ (r : Fin 512) (l : Fin 128), Y (ix2 r l) = E h (R + r.val) l.val) (x : (⟨4, ![1, 1, 512, 128]⟩ : Shape).Idx) :
    (shapeCast ⟨4, ![1, 1, 512, 128]⟩ Y s : FVec Ideal ⟨4, ![1, 1, 512, 128]⟩ .f32) x
      = plane E ((Rect.unit (s := Plane) ![h, 0, R, 0] ![1, 1, 512, 128] inb).emb x) := by
  have h0 : (x 0).val < 1 := (x 0).isLt
  refine (up4 Y s x).trans ((hY _ _).trans ?_)
  show _ = E (h + 1 * (x 0).val) (R + 1 * (x 2).val) (0 + 1 * (x 3).val)
  rw [show h + 1 * (x 0).val = h by omega, Nat.one_mul, Nat.one_mul, Nat.zero_add]

/-- to the view of one token a row; -/
theorem view1_piece {Y : FVec Ideal ⟨2, ![512, 128]⟩ .f32} {h R : ℕ} {s hb}
    {inb : ∀ a, (![h, R, 0] : Fin 3 → ℕ) a + (![1, 512, 128] : Fin 3 → ℕ) a ≤ One.size a}
    (hY : ∀ (r : Fin 512) (l : Fin 128), Y (ix2 r l) = E h (R + r.val) l.val) (x : (⟨3, ![1, 512, 128]⟩ : Shape).Idx) :
    (shapeCast ⟨3, ![1, 512, 128]⟩ (truncf .bf16 Y hb) s : FVec Ideal ⟨3, ![1, 512, 128]⟩ .bf16) x
      = view1 E ((Rect.unit (s := One) ![h, R, 0] ![1, 512, 128] inb).emb x) := by
  have h0 : (x 0).val < 1 := (x 0).isLt
  refine (up3 (truncf .bf16 Y hb) s x).trans ((hY _ _).trans ?_)
  show _ = E (h + 1 * (x 0).val) (R + 1 * (x 1).val) (0 + 1 * (x 2).val)
  rw [show h + 1 * (x 0).val = h by omega, Nat.one_mul, Nat.one_mul, Nat.zero_add]

/-- every fourth row of the plane, stored to a part of the fours; -/
theorem fours_piece {v : View sig κ sp Plane .f32} {L : List (View.Piece (Elt Ideal) Plane .f32)} {h o r R : ℕ} {i s1 s2}
    {inb : ∀ a, (![h, r, R, 0] : Fin 4 → ℕ) a + (![1, 1, 128, 128] : Fin 4 → ℕ) a ≤ Fours.size a}
    (hL : Agrees (plane E) L) (hc : Plane.Covers L h (o / 512)) (ho : o % 512 < 4) (hR : 4 * R + r = o)
    (x : (⟨4, ![1, 1, 128, 128]⟩ : Shape).Idx) :
    (shapeCast ⟨4, ![1, 1, 128, 128]⟩ (shapeCast ⟨2, ![128, 128]⟩
      (v.readCov L (⟨![h, 0, o, 0], ![1, 1, 128, 128], ![1, 1, 4, 1], i⟩ : LoadRect Plane)) s1) s2
        : FVec Ideal ⟨4, ![1, 1, 128, 128]⟩ .f32) x
      = fours E ((Rect.unit (s := Fours) ![h, r, R, 0] ![1, 1, 128, 128] inb).emb x) := by
  have h0 : (x 0).val < 1 := (x 0).isLt
  have h1 : (x 1).val < 1 := (x 1).isLt
  refine (up4 _ s2 x).trans ((down4 _ s1 _ _).trans ((load_plane v hL hc ho _).trans ?_))
  show E h (o + 4 * (x 2).val) (x 3).val = E (h + 1 * (x 0).val) (4 * (R + 1 * (x 2).val) + (r + 1 * (x 1).val)) (0 + 1 * (x 3).val)
  rw [show h + 1 * (x 0).val = h by omega, show 4 * (R + 1 * (x 2).val) + (r + 1 * (x 1).val) = o + 4 * (x 2).val by omega,
    Nat.one_mul, Nat.zero_add]

/-- to the view of four tokens a row; -/
theorem view4_piece {v : View sig κ sp Plane .f32} {L : List (View.Piece (Elt Ideal) Plane .f32)} {h o R C : ℕ} {i s1 s2 hb}
    {inb : ∀ a, (![h, R, C] : Fin 3 → ℕ) a + (![1, 128, 128] : Fin 3 → ℕ) a ≤ Four.size a}
    (hL : Agrees (plane E) L) (hc : Plane.Covers L h (o / 512)) (ho : o % 512 < 4) (hC : C % 128 = 0) (hR : 4 * R + C / 128 = o)
    (x : (⟨3, ![1, 128, 128]⟩ : Shape).Idx) :
    (shapeCast ⟨3, ![1, 128, 128]⟩ (truncf .bf16 (shapeCast (s := ⟨4, ![1, 1, 128, 128]⟩) ⟨2, ![128, 128]⟩
      (v.readCov L (⟨![h, 0, o, 0], ![1, 1, 128, 128], ![1, 1, 4, 1], i⟩ : LoadRect Plane)) s1
        : FVec Ideal ⟨2, ![128, 128]⟩ .f32) hb) s2
        : FVec Ideal ⟨3, ![1, 128, 128]⟩ .bf16) x
      = view4 E ((Rect.unit (s := Four) ![h, R, C] ![1, 128, 128] inb).emb x) := by
  have h0 : (x 0).val < 1 := (x 0).isLt
  have h2 : (x 2).val < 128 := (x 2).isLt
  refine (up3 _ s2 x).trans ((down4 _ s1 _ _).trans ((load_plane v hL hc ho _).trans ?_))
  show E h (o + 4 * (x 1).val) (x 2).val
    = E (h + 1 * (x 0).val) (4 * (R + 1 * (x 1).val) + (C + 1 * (x 2).val) / 128) ((C + 1 * (x 2).val) % 128)
  rw [show h + 1 * (x 0).val = h by omega, show 4 * (R + 1 * (x 1).val) + (C + 1 * (x 2).val) / 128 = o + 4 * (x 1).val by omega,
    show (C + 1 * (x 2).val) % 128 = (x 2).val by omega]

/-- and every fourth row of a part of the fours, stored to the view of sixteen tokens a row. -/
theorem view16_piece {v : View sig κ sp Fours .f32} {L : List (View.Piece (Elt Ideal) Fours .f32)} {h r o R C : ℕ} {i s1 s2 hb}
    {inb : ∀ a, (![h, R, C] : Fin 3 → ℕ) a + (![1, 32, 128] : Fin 3 → ℕ) a ≤ Sixteen.size a}
    (hL : Agrees (fours E) L) (hc : Fours.Covers L h (o / 128)) (ho : o % 128 < 4) (hC : C % 128 = 0)
    (hR : 16 * R + C / 128 = 4 * o + r) (x : (⟨3, ![1, 32, 128]⟩ : Shape).Idx) :
    (shapeCast ⟨3, ![1, 32, 128]⟩ (truncf .bf16 (shapeCast (s := ⟨4, ![1, 1, 32, 128]⟩) ⟨2, ![32, 128]⟩
      (v.readCov L (⟨![h, r, o, 0], ![1, 1, 32, 128], ![1, 1, 4, 1], i⟩ : LoadRect Fours)) s1
        : FVec Ideal ⟨2, ![32, 128]⟩ .f32) hb) s2
        : FVec Ideal ⟨3, ![1, 32, 128]⟩ .bf16) x
      = view16 E ((Rect.unit (s := Sixteen) ![h, R, C] ![1, 32, 128] inb).emb x) := by
  have h0 : (x 0).val < 1 := (x 0).isLt
  have h2 : (x 2).val < 128 := (x 2).isLt
  refine (up3 _ s2 x).trans ((down4 _ s1 _ _).trans ((load_fours v hL hc ho _).trans ?_))
  show E h (4 * (o + 4 * (x 1).val) + r) (x 2).val
    = E (h + 1 * (x 0).val) (16 * (R + 1 * (x 1).val) + (C + 1 * (x 2).val) / 128) ((C + 1 * (x 2).val) % 128)
  rw [show h + 1 * (x 0).val = h by omega,
    show 16 * (R + 1 * (x 1).val) + (C + 1 * (x 2).val) / 128 = 4 * (o + 4 * (x 1).val) + r by omega,
    show (C + 1 * (x 2).val) % 128 = (x 2).val by omega]

end Pieces

end Cert.HeadViews

end
-- ==== Proof.HeadsRows.lean ====
/- A head's rows of the queries' and keys' call, at an index. -/
module

public import proofs.«01_k».proof.Proof.Gen.KernelHeadsIdeal.Skeleton
public import proofs.«01_k».proof.Proof.HeadViews
public import Idealize.ShloMosaic.Lib.KernelVsHost

@[expose] public section

set_option maxRecDepth 65536

noncomputable section

namespace Cert.KernelHeadsIdeal.Value

open Idealize.ShloMosaic Idealize.ShloMosaic.TcCoe Idealize.SL.Sem Cert.KernelHeadsIdeal Cert.KernelHeadsIdeal.Gen
open Cert.HeadViews

variable (arg2 : Memref sig .tc .vmem S1024x2048 .bf16) (harg2 : arg2.IsWhole) (arg3 : Memref sig .tc .vmem S2048x1024 .bf16) (harg3 : arg3.IsWhole)
  (arg4 : Memref sig .tc .vmem S1024x128 .f32) (harg4 : arg4.IsWhole) (arg5 : Memref sig .tc .vmem S1024x128 .f32) (harg5 : arg5.IsWhole)
  (x0 : Vec Ideal S1024x2048 .bf16) (x1 : Vec Ideal S2048x1024 .bf16) (x2 : Vec Ideal S1024x128 .f32) (x3 : Vec Ideal S1024x128 .f32)

/-- A table at a row and a lane. -/
def tableAt (x : Vec Ideal S1024x128 .f32) (r l : ℕ) : EReal := if h : r < 1024 ∧ l < 128 then x (ix2 ⟨r, h.1⟩ ⟨l, h.2⟩) else 0

/-- Row `r`, lane `l` of head `h` of the product, rotated: the lane by the first table and the lane 64 away by the second. -/
def headAt (h r l : ℕ) : EReal :=
  dotAt x0 x1 r (128 * h + l) * tableAt x2 r l + dotAt x0 x1 r (128 * h + (l + 64) % 128) * tableAt x3 r l

theorem pay_at (a : Vec Ideal S512x2048 .bf16) (b : Vec Ideal S2048x1024 .bf16) (r : Fin 512) (l : Fin 1024) :
    k0_pay2 (F := Ideal) a b (ix2 r l) = ∑ k : Fin 2048, a (ix2 r k) * b (ix2 k l) := by
  pointwise [k0_pay2]

theorem product {R : ℕ} {ia ib} (hR : R + 512 ≤ 1024) (r : Fin 512) (j : Fin 1024) :
    k0_pay2 (F := Ideal) (View.readAt (Elt Ideal) arg2.view (Rect.unit (s := S1024x2048) ![R, 0] S512x2048.size ia).toLoadRect (harg2.unread x0))
      (View.readAt (Elt Ideal) arg3.view (Rect.unit (s := S2048x1024) ![0, 0] S2048x1024.size ib).toLoadRect (harg3.unread x1)) (ix2 r j)
      = dotAt x0 x1 (R + r.val) j.val := by
  rw [pay_at, dotAt, dif_pos ⟨by omega, j.isLt⟩]
  refine Finset.sum_congr rfl fun k _ => ?_
  rw [harg2.readAt_unread, harg3.readAt_unread]
  refine Ideal.mul_congr (congrArg x0 ?_) (congrArg x1 ?_)
  · funext a
    match a with
    | ⟨0, _⟩ => exact Fin.ext (show R + 1 * r.val = R + r.val by omega)
    | ⟨1, _⟩ => exact Fin.ext (show 0 + 1 * k.val = k.val by omega)
  · funext a
    match a with
    | ⟨0, _⟩ => exact Fin.ext (show 0 + 1 * k.val = k.val by omega)
    | ⟨1, _⟩ => exact Fin.ext (show 0 + 1 * j.val = j.val by omega)

theorem table {x : Vec Ideal S1024x128 .f32} {R : ℕ} {ia s} (arg : Memref sig .tc .vmem S1024x128 .f32) (harg : arg.IsWhole) (hR : R + 512 ≤ 1024)
    (r : Fin 512) (l : Fin 128) :
    shapeCast S512x128 (View.readAt (Elt Ideal) arg.view (Rect.unit (s := S1024x128) ![R, 0] S512x128.size ia).toLoadRect (harg.unread x)) s (ix2 r l)
      = tableAt x (R + r.val) l.val := by
  rw [tableAt, dif_pos ⟨by omega, l.isLt⟩]
  refine (shapeCast_apply _ s (ix2 r l) (ix2 r l) rfl).trans ?_
  rw [harg.readAt_unread]
  refine congrArg x ?_
  funext a
  match a with
  | ⟨0, _⟩ => exact Fin.ext (show R + 1 * r.val = R + r.val by omega)
  | ⟨1, _⟩ => exact Fin.ext (show 0 + 1 * l.val = l.val by omega)

theorem cut {h C R : ℕ} {ia ib s} (hC : C = 128 * h) (hR : R + 512 ≤ 1024 ∧ h < 8) (r : Fin 512) (l : Fin 128) :
    extractStridedSlice S512x128 ![0, C]
      (k0_pay2 (F := Ideal) (View.readAt (Elt Ideal) arg2.view (Rect.unit (s := S1024x2048) ![R, 0] S512x2048.size ia).toLoadRect (harg2.unread x0))
        (View.readAt (Elt Ideal) arg3.view (Rect.unit (s := S2048x1024) ![0, 0] S2048x1024.size ib).toLoadRect (harg3.unread x1))) s (ix2 r l)
      = dotAt x0 x1 (R + r.val) (128 * h + l.val) := by
  have hj : 128 * h + l.val < 1024 := by omega
  refine (extractStridedSlice_apply _ _ s _ (ix2 r ⟨128 * h + l.val, hj⟩) fun a => ?_).trans (product arg2 harg2 arg3 harg3 x0 x1 hR.1 r _)
  match a with
  | ⟨0, _⟩ => show r.val = 0 + r.val; omega
  | ⟨1, _⟩ => show 128 * h + l.val = C + l.val; omega

/-- A rotation of the lanes by half of them. -/
theorem turned (Y : FVec Ideal S512x128 .f32) (hr) (r : Fin 512) (l : Fin 128) :
    dynamicRotate (1 : Fin 2) 64#32 none Y hr (ix2 r l) = Y (ix2 r ⟨(l.val + 64) % 128, by omega⟩) := by
  refine dynamicRotate_apply (s := S512x128) (1 : Fin 2) 64#32 Y hr (ix2 r l) _ fun b => ?_
  match b with
  | ⟨0, _⟩ => rfl
  | ⟨1, _⟩ => show (l.val + 64) % 128 = (l.val + 128 - 64 % 128) % 128; omega

theorem rows {h C R : ℕ} {ia ib ic id s s1 s2 hr} (hC : C = 128 * h) (hR : R + 512 ≤ 1024 ∧ h < 8) (r : Fin 512) (l : Fin 128) :
    (addf (F := Ideal)
      (mulf
        (extractStridedSlice S512x128 ![0, C]
          (k0_pay2 (F := Ideal) (View.readAt (Elt Ideal) arg2.view (Rect.unit (s := S1024x2048) ![R, 0] S512x2048.size ia).toLoadRect (harg2.unread x0))
            (View.readAt (Elt Ideal) arg3.view (Rect.unit (s := S2048x1024) ![0, 0] S2048x1024.size ib).toLoadRect (harg3.unread x1))) s)
        (shapeCast S512x128 (View.readAt (Elt Ideal) arg4.view (Rect.unit (s := S1024x128) ![R, 0] S512x128.size ic).toLoadRect (harg4.unread x2)) s1))
      (mulf
        (dynamicRotate (1 : Fin 2) 64#32 none
          (extractStridedSlice S512x128 ![0, C]
            (k0_pay2 (F := Ideal) (View.readAt (Elt Ideal) arg2.view (Rect.unit (s := S1024x2048) ![R, 0] S512x2048.size ia).toLoadRect (harg2.unread x0))
              (View.readAt (Elt Ideal) arg3.view (Rect.unit (s := S2048x1024) ![0, 0] S2048x1024.size ib).toLoadRect (harg3.unread x1))) s) hr)
        (shapeCast S512x128 (View.readAt (Elt Ideal) arg5.view (Rect.unit (s := S1024x128) ![R, 0] S512x128.size id).toLoadRect (harg5.unread x3)) s2))
      : FVec Ideal S512x128 .f32) (ix2 r l) = headAt x0 x1 x2 x3 h (R + r.val) l.val := by
  show _ * _ + _ * _ = _
  refine congrArg₂ (· + ·) (Ideal.mul_congr (cut arg2 harg2 arg3 harg3 x0 x1 hC hR r l) (table arg4 harg4 hR.1 r l))
    (Ideal.mul_congr ((turned _ hr r l).trans (cut arg2 harg2 arg3 harg3 x0 x1 hC hR r _)) (table arg5 harg5 hR.1 r l))

end Cert.KernelHeadsIdeal.Value

end
-- ==== Proof.HeadsStores.lean ====
/- What the body of the queries' and keys' call leaves in its scratch buffers and result blocks, store by store. -/
module

public import proofs.«01_k».proof.Proof.Gen.KernelHeadsIdeal.Value
public import proofs.«01_k».proof.Proof.HeadsRows

@[expose] public section

set_option maxRecDepth 65536
set_option maxHeartbeats 4000000

noncomputable section

namespace Cert.KernelHeadsIdeal.Value

open Idealize.ShloMosaic Idealize.ShloMosaic.TcCoe Idealize.SL.Sem Cert.KernelHeadsIdeal Cert.KernelHeadsIdeal.Gen
open Cert.HeadViews

attribute [local irreducible] shapeCast extractStridedSlice truncf View.readCov dotAt dynamicRotate

variable (c : Dev nD) (i : grid0.Coords) (arg2 : Memref sig .tc .vmem S1024x2048 .bf16) (harg2 : arg2.IsWhole)
  (arg3 : Memref sig .tc .vmem S2048x1024 .bf16) (harg3 : arg3.IsWhole)
  (arg4 : Memref sig .tc .vmem S1024x128 .f32) (harg4 : arg4.IsWhole) (arg5 : Memref sig .tc .vmem S1024x128 .f32) (harg5 : arg5.IsWhole)
  (arg6 : Memref sig .tc .vmem S8x1024x128 .bf16) (harg6 : arg6.IsWhole) (arg7 : Memref sig .tc .vmem S8x256x512 .bf16) (harg7 : arg7.IsWhole)
  (arg8 : Memref sig .tc .vmem S8x64x2048 .bf16) (harg8 : arg8.IsWhole) (arg9 : Memref sig .tc .vmem S8x1x1024x128 .f32) (harg9 : arg9.IsWhole)
  (arg10 : Memref sig .tc .vmem S8x4x256x128 .f32) (harg10 : arg10.IsWhole)
  (x0 : Vec Ideal S1024x2048 .bf16) (x1 : Vec Ideal S2048x1024 .bf16) (x2 : Vec Ideal S1024x128 .f32) (x3 : Vec Ideal S1024x128 .f32)

theorem plane_1 : Agrees (plane (headAt x0 x1 x2 x3)) (kernelRun0_A.sl.HS0_1 c arg2 harg2 arg3 harg3 arg4 harg4 arg5 harg5 x0 x1 x2 x3) :=
  agrees_cons (plane_piece (rows arg2 harg2 arg3 harg3 arg4 harg4 arg5 harg5 x0 x1 x2 x3 (by decide) (by decide))) (agrees_nil _)
theorem plane_cov_1 : Plane.Covers (kernelRun0_A.sl.HS0_1 c arg2 harg2 arg3 harg3 arg4 harg4 arg5 harg5 x0 x1 x2 x3) 0 0 := Plane.covers rfl _ _

theorem plane_2 : Agrees (plane (headAt x0 x1 x2 x3)) (kernelRun0_A.sl.HS0_2 c arg2 harg2 arg3 harg3 arg4 harg4 arg5 harg5 x0 x1 x2 x3) :=
  agrees_cons (plane_piece (rows arg2 harg2 arg3 harg3 arg4 harg4 arg5 harg5 x0 x1 x2 x3 (by decide) (by decide))) (plane_1 c arg2 harg2 arg3 harg3 arg4 harg4 arg5 harg5 x0 x1 x2 x3)
theorem plane_cov_2 : Plane.Covers (kernelRun0_A.sl.HS0_2 c arg2 harg2 arg3 harg3 arg4 harg4 arg5 harg5 x0 x1 x2 x3) 1 0 := Plane.covers rfl _ _

theorem plane_3 : Agrees (plane (headAt x0 x1 x2 x3)) (kernelRun0_A.sl.HS0_3 c arg2 harg2 arg3 harg3 arg4 harg4 arg5 harg5 x0 x1 x2 x3) :=
  agrees_cons (plane_piece (rows arg2 harg2 arg3 harg3 arg4 harg4 arg5 harg5 x0 x1 x2 x3 (by decide) (by decide))) (plane_2 c arg2 harg2 arg3 harg3 arg4 harg4 arg5 harg5 x0 x1 x2 x3)
theorem plane_cov_3 : Plane.Covers (kernelRun0_A.sl.HS0_3 c arg2 harg2 arg3 harg3 arg4 harg4 arg5 harg5 x0 x1 x2 x3) 2 0 := Plane.covers rfl _ _

theorem plane_4 : Agrees (plane (headAt x0 x1 x2 x3)) (kernelRun0_A.sl.HS0_4 c arg2 harg2 arg3 harg3 arg4 harg4 arg5 harg5 x0 x1 x2 x3) :=
  agrees_cons (plane_piece (rows arg2 harg2 arg3 harg3 arg4 harg4 arg5 harg5 x0 x1 x2 x3 (by decide) (by decide))) (plane_3 c arg2 harg2 arg3 harg3 arg4 harg4 arg5 harg5 x0 x1 x2 x3)
theorem plane_cov_4 : Plane.Covers (kernelRun0_A.sl.HS0_4 c arg2 harg2 arg3 harg3 arg4 harg4 arg5 harg5 x0 x1 x2 x3) 3 0 := Plane.covers rfl _ _

theorem plane_5 : Agrees (plane (headAt x0 x1 x2 x3)) (kernelRun0_A.sl.HS0_5 c arg2 harg2 arg3 harg3 arg4 harg4 arg5 harg5 x0 x1 x2 x3) :=
  agrees_cons (plane_piece (rows arg2 harg2 arg3 harg3 arg4 harg4 arg5 harg5 x0 x1 x2 x3 (by decide) (by decide))) (plane_4 c arg2 harg2 arg3 harg3 arg4 harg4 arg5 harg5 x0 x1 x2 x3)
theorem plane_cov_5 : Plane.Covers (kernelRun0_A.sl.HS0_5 c arg2 harg2 arg3 harg3 arg4 harg4 arg5 harg5 x0 x1 x2 x3) 4 0 := Plane.covers rfl _ _

theorem plane_6 : Agrees (plane (headAt x0 x1 x2 x3)) (kernelRun0_A.sl.HS0_6 c arg2 harg2 arg3 harg3 arg4 harg4 arg5 harg5 x0 x1 x2 x3) :=
  agrees_cons (plane_piece (rows arg2 harg2 arg3 harg3 arg4 harg4 arg5 harg5 x0 x1 x2 x3 (by decide) (by decide))) (plane_5 c arg2 harg2 arg3 harg3 arg4 harg4 arg5 harg5 x0 x1 x2 x3)
theorem plane_cov_6 : Plane.Covers (kernelRun0_A.sl.HS0_6 c arg2 harg2 arg3 harg3 arg4 harg4 arg5 harg5 x0 x1 x2 x3) 5 0 := Plane.covers rfl _ _

theorem plane_7 : Agrees (plane (headAt x0 x1 x2 x3)) (kernelRun0_A.sl.HS0_7 c arg2 harg2 arg3 harg3 arg4 harg4 arg5 harg5 x0 x1 x2 x3) :=
  agrees_cons (plane_piece (rows arg2 harg2 arg3 harg3 arg4 harg4 arg5 harg5 x0 x1 x2 x3 (by decide) (by decide))) (plane_6 c arg2 harg2 arg3 harg3 arg4 harg4 arg5 harg5 x0 x1 x2 x3)
theorem plane_cov_7 : Plane.Covers (kernelRun0_A.sl.HS0_7 c arg2 harg2 arg3 harg3 arg4 harg4 arg5 harg5 x0 x1 x2 x3) 6 0 := Plane.covers rfl _ _

theorem plane_8 : Agrees (plane (headAt x0 x1 x2 x3)) (kernelRun0_A.sl.HS0_8 c arg2 harg2 arg3 harg3 arg4 harg4 arg5 harg5 x0 x1 x2 x3) :=
  agrees_cons (plane_piece (rows arg2 harg2 arg3 harg3 arg4 harg4 arg5 harg5 x0 x1 x2 x3 (by decide) (by decide))) (plane_7 c arg2 harg2 arg3 harg3 arg4 harg4 arg5 harg5 x0 x1 x2 x3)
theorem plane_cov_8 : Plane.Covers (kernelRun0_A.sl.HS0_8 c arg2 harg2 arg3 harg3 arg4 harg4 arg5 harg5 x0 x1 x2 x3) 7 0 := Plane.covers rfl _ _

theorem plane_9 : Agrees (plane (headAt x0 x1 x2 x3)) (kernelRun0_A.sl.HS0_9 c arg2 harg2 arg3 harg3 arg4 harg4 arg5 harg5 x0 x1 x2 x3) :=
  agrees_cons (plane_piece (rows arg2 harg2 arg3 harg3 arg4 harg4 arg5 harg5 x0 x1 x2 x3 (by decide) (by decide))) (plane_8 c arg2 harg2 arg3 harg3 arg4 harg4 arg5 harg5 x0 x1 x2 x3)
theorem plane_cov_9 : Plane.Covers (kernelRun0_A.sl.HS0_9 c arg2 harg2 arg3 harg3 arg4 harg4 arg5 harg5 x0 x1 x2 x3) 0 1 := Plane.covers rfl _ _

theorem plane_10 : Agrees (plane (headAt x0 x1 x2 x3)) (kernelRun0_A.sl.HS0_10 c arg2 harg2 arg3 harg3 arg4 harg4 arg5 harg5 x0 x1 x2 x3) :=
  agrees_cons (plane_piece (rows arg2 harg2 arg3 harg3 arg4 harg4 arg5 harg5 x0 x1 x2 x3 (by decide) (by decide))) (plane_9 c arg2 harg2 arg3 harg3 arg4 harg4 arg5 harg5 x0 x1 x2 x3)
theorem plane_cov_10 : Plane.Covers (kernelRun0_A.sl.HS0_10 c arg2 harg2 arg3 harg3 arg4 harg4 arg5 harg5 x0 x1 x2 x3) 1 1 := Plane.covers rfl _ _

theorem plane_11 : Agrees (plane (headAt x0 x1 x2 x3)) (kernelRun0_A.sl.HS0_11 c arg2 harg2 arg3 harg3 arg4 harg4 arg5 harg5 x0 x1 x2 x3) :=
  agrees_cons (plane_piece (rows arg2 harg2 arg3 harg3 arg4 harg4 arg5 harg5 x0 x1 x2 x3 (by decide) (by decide))) (plane_10 c arg2 harg2 arg3 harg3 arg4 harg4 arg5 harg5 x0 x1 x2 x3)
theorem plane_cov_11 : Plane.Covers (kernelRun0_A.sl.HS0_11 c arg2 harg2 arg3 harg3 arg4 harg4 arg5 harg5 x0 x1 x2 x3) 2 1 := Plane.covers rfl _ _

theorem plane_12 : Agrees (plane (headAt x0 x1 x2 x3)) (kernelRun0_A.sl.HS0_12 c arg2 harg2 arg3 harg3 arg4 harg4 arg5 harg5 x0 x1 x2 x3) :=
  agrees_cons (plane_piece (rows arg2 harg2 arg3 harg3 arg4 harg4 arg5 harg5 x0 x1 x2 x3 (by decide) (by decide))) (plane_11 c arg2 harg2 arg3 harg3 arg4 harg4 arg5 harg5 x0 x1 x2 x3)
theorem plane_cov_12 : Plane.Covers (kernelRun0_A.sl.HS0_12 c arg2 harg2 arg3 harg3 arg4 harg4 arg5 harg5 x0 x1 x2 x3) 3 1 := Plane.covers rfl _ _

theorem plane_13 : Agrees (plane (headAt x0 x1 x2 x3)) (kernelRun0_A.sl.HS0_13 c arg2 harg2 arg3 harg3 arg4 harg4 arg5 harg5 x0 x1 x2 x3) :=
  agrees_cons (plane_piece (rows arg2 harg2 arg3 harg3 arg4 harg4 arg5 harg5 x0 x1 x2 x3 (by decide) (by decide))) (plane_12 c arg2 harg2 arg3 harg3 arg4 harg4 arg5 harg5 x0 x1 x2 x3)
theorem plane_cov_13 : Plane.Covers (kernelRun0_A.sl.HS0_13 c arg2 harg2 arg3 harg3 arg4 harg4 arg5 harg5 x0 x1 x2 x3) 4 1 := Plane.covers rfl _ _

theorem plane_14 : Agrees (plane (headAt x0 x1 x2 x3)) (kernelRun0_A.sl.HS0_14 c arg2 harg2 arg3 harg3 arg4 harg4 arg5 harg5 x0 x1 x2 x3) :=
  agrees_cons (plane_piece (rows arg2 harg2 arg3 harg3 arg4 harg4 arg5 harg5 x0 x1 x2 x3 (by decide) (by decide))) (plane_13 c arg2 harg2 arg3 harg3 arg4 harg4 arg5 harg5 x0 x1 x2 x3)
theorem plane_cov_14 : Plane.Covers (kernelRun0_A.sl.HS0_14 c arg2 harg2 arg3 harg3 arg4 harg4 arg5 harg5 x0 x1 x2 x3) 5 1 := Plane.covers rfl _ _

theorem plane_15 : Agrees (plane (headAt x0 x1 x2 x3)) (kernelRun0_A.sl.HS0_15 c arg2 harg2 arg3 harg3 arg4 harg4 arg5 harg5 x0 x1 x2 x3) :=
  agrees_cons (plane_piece (rows arg2 harg2 arg3 harg3 arg4 harg4 arg5 harg5 x0 x1 x2 x3 (by decide) (by decide))) (plane_14 c arg2 harg2 arg3 harg3 arg4 harg4 arg5 harg5 x0 x1 x2 x3)
theorem plane_cov_15 : Plane.Covers (kernelRun0_A.sl.HS0_15 c arg2 harg2 arg3 harg3 arg4 harg4 arg5 harg5 x0 x1 x2 x3) 6 1 := Plane.covers rfl _ _

theorem plane_16 : Agrees (plane (headAt x0 x1 x2 x3)) (kernelRun0_A.sl.HS0_16 c arg2 harg2 arg3 harg3 arg4 harg4 arg5 harg5 x0 x1 x2 x3) :=
  agrees_cons (plane_piece (rows arg2 harg2 arg3 harg3 arg4 harg4 arg5 harg5 x0 x1 x2 x3 (by decide) (by decide))) (plane_15 c arg2 harg2 arg3 harg3 arg4 harg4 arg5 harg5 x0 x1 x2 x3)
theorem plane_cov_16 : Plane.Covers (kernelRun0_A.sl.HS0_16 c arg2 harg2 arg3 harg3 arg4 harg4 arg5 harg5 x0 x1 x2 x3) 7 1 := Plane.covers rfl _ _

theorem fours_1 : Agrees (fours (headAt x0 x1 x2 x3)) (kernelRun0_A.sl.HS1_4 c arg2 harg2 arg3 harg3 arg4 harg4 arg5 harg5 arg9 x0 x1 x2 x3) := by
  unfold kernelRun0_A.sl.HS1_4
  iterate 4 refine agrees_cons (fours_piece (plane_1 c arg2 harg2 arg3 harg3 arg4 harg4 arg5 harg5 x0 x1 x2 x3) (plane_cov_1 c arg2 harg2 arg3 harg3 arg4 harg4 arg5 harg5 x0 x1 x2 x3) (by decide) (by decide)) ?_
  exact (agrees_nil _)
theorem fours_cov_1 : Fours.Covers (kernelRun0_A.sl.HS1_4 c arg2 harg2 arg3 harg3 arg4 harg4 arg5 harg5 arg9 x0 x1 x2 x3) 0 0 := Fours.covers rfl _ _ _ _ _

theorem fours_2 : Agrees (fours (headAt x0 x1 x2 x3)) (kernelRun0_A.sl.HS1_8 c arg2 harg2 arg3 harg3 arg4 harg4 arg5 harg5 arg9 x0 x1 x2 x3) := by
  unfold kernelRun0_A.sl.HS1_8
  iterate 4 refine agrees_cons (fours_piece (plane_2 c arg2 harg2 arg3 harg3 arg4 harg4 arg5 harg5 x0 x1 x2 x3) (plane_cov_2 c arg2 harg2 arg3 harg3 arg4 harg4 arg5 harg5 x0 x1 x2 x3) (by decide) (by decide)) ?_
  exact (fours_1 c arg2 harg2 arg3 harg3 arg4 harg4 arg5 harg5 arg9 x0 x1 x2 x3)
theorem fours_cov_2 : Fours.Covers (kernelRun0_A.sl.HS1_8 c arg2 harg2 arg3 harg3 arg4 harg4 arg5 harg5 arg9 x0 x1 x2 x3) 1 0 := Fours.covers rfl _ _ _ _ _

theorem fours_3 : Agrees (fours (headAt x0 x1 x2 x3)) (kernelRun0_A.sl.HS1_12 c arg2 harg2 arg3 harg3 arg4 harg4 arg5 harg5 arg9 x0 x1 x2 x3) := by
  unfold kernelRun0_A.sl.HS1_12
  iterate 4 refine agrees_cons (fours_piece (plane_3 c arg2 harg2 arg3 harg3 arg4 harg4 arg5 harg5 x0 x1 x2 x3) (plane_cov_3 c arg2 harg2 arg3 harg3 arg4 harg4 arg5 harg5 x0 x1 x2 x3) (by decide) (by decide)) ?_
  exact (fours_2 c arg2 harg2 arg3 harg3 arg4 harg4 arg5 harg5 arg9 x0 x1 x2 x3)
theorem fours_cov_3 : Fours.Covers (kernelRun0_A.sl.HS1_12 c arg2 harg2 arg3 harg3 arg4 harg4 arg5 harg5 arg9 x0 x1 x2 x3) 2 0 := Fours.covers rfl _ _ _ _ _

theorem fours_4 : Agrees (fours (headAt x0 x1 x2 x3)) (kernelRun0_A.sl.HS1_16 c arg2 harg2 arg3 harg3 arg4 harg4 arg5 harg5 arg9 x0 x1 x2 x3) := by
  unfold kernelRun0_A.sl.HS1_16
  iterate 4 refine agrees_cons (fours_piece (plane_4 c arg2 harg2 arg3 harg3 arg4 harg4 arg5 harg5 x0 x1 x2 x3) (plane_cov_4 c arg2 harg2 arg3 harg3 arg4 harg4 arg5 harg5 x0 x1 x2 x3) (by decide) (by decide)) ?_
  exact (fours_3 c arg2 harg2 arg3 harg3 arg4 harg4 arg5 harg5 arg9 x0 x1 x2 x3)
theorem fours_cov_4 : Fours.Covers (kernelRun0_A.sl.HS1_16 c arg2 harg2 arg3 harg3 arg4 harg4 arg5 harg5 arg9 x0 x1 x2 x3) 3 0 := Fours.covers rfl _ _ _ _ _

theorem fours_5 : Agrees (fours (headAt x0 x1 x2 x3)) (kernelRun0_A.sl.HS1_20 c arg2 harg2 arg3 harg3 arg4 harg4 arg5 harg5 arg9 x0 x1 x2 x3) := by
  unfold kernelRun0_A.sl.HS1_20
  iterate 4 refine agrees_cons (fours_piece (plane_5 c arg2 harg2 arg3 harg3 arg4 harg4 arg5 harg5 x0 x1 x2 x3) (plane_cov_5 c arg2 harg2 arg3 harg3 arg4 harg4 arg5 harg5 x0 x1 x2 x3) (by decide) (by decide)) ?_
  exact (fours_4 c arg2 harg2 arg3 harg3 arg4 harg4 arg5 harg5 arg9 x0 x1 x2 x3)
theorem fours_cov_5 : Fours.Covers (kernelRun0_A.sl.HS1_20 c arg2 harg2 arg3 harg3 arg4 harg4 arg5 harg5 arg9 x0 x1 x2 x3) 4 0 := Fours.covers rfl _ _ _ _ _

theorem fours_6 : Agrees (fours (headAt x0 x1 x2 x3)) (kernelRun0_A.sl.HS1_24 c arg2 harg2 arg3 harg3 arg4 harg4 arg5 harg5 arg9 x0 x1 x2 x3) := by
  unfold kernelRun0_A.sl.HS1_24
  iterate 4 refine agrees_cons (fours_piece (plane_6 c arg2 harg2 arg3 harg3 arg4 harg4 arg5 harg5 x0 x1 x2 x3) (plane_cov_6 c arg2 harg2 arg3 harg3 arg4 harg4 arg5 harg5 x0 x1 x2 x3) (by decide) (by decide)) ?_
  exact (fours_5 c arg2 harg2 arg3 harg3 arg4 harg4 arg5 harg5 arg9 x0 x1 x2 x3)
theorem fours_cov_6 : Fours.Covers (kernelRun0_A.sl.HS1_24 c arg2 harg2 arg3 harg3 arg4 harg4 arg5 harg5 arg9 x0 x1 x2 x3) 5 0 := Fours.covers rfl _ _ _ _ _

theorem fours_7 : Agrees (fours (headAt x0 x1 x2 x3)) (kernelRun0_A.sl.HS1_28 c arg2 harg2 arg3 harg3 arg4 harg4 arg5 harg5 arg9 x0 x1 x2 x3) := by
  unfold kernelRun0_A.sl.HS1_28
  iterate 4 refine agrees_cons (fours_piece (plane_7 c arg2 harg2 arg3 harg3 arg4 harg4 arg5 harg5 x0 x1 x2 x3) (plane_cov_7 c arg2 harg2 arg3 harg3 arg4 harg4 arg5 harg5 x0 x1 x2 x3) (by decide) (by decide)) ?_
  exact (fours_6 c arg2 harg2 arg3 harg3 arg4 harg4 arg5 harg5 arg9 x0 x1 x2 x3)
theorem fours_cov_7 : Fours.Covers (kernelRun0_A.sl.HS1_28 c arg2 harg2 arg3 harg3 arg4 harg4 arg5 harg5 arg9 x0 x1 x2 x3) 6 0 := Fours.covers rfl _ _ _ _ _

theorem fours_8 : Agrees (fours (headAt x0 x1 x2 x3)) (kernelRun0_A.sl.HS1_32 c arg2 harg2 arg3 harg3 arg4 harg4 arg5 harg5 arg9 x0 x1 x2 x3) := by
  unfold kernelRun0_A.sl.HS1_32
  iterate 4 refine agrees_cons (fours_piece (plane_8 c arg2 harg2 arg3 harg3 arg4 harg4 arg5 harg5 x0 x1 x2 x3) (plane_cov_8 c arg2 harg2 arg3 harg3 arg4 harg4 arg5 harg5 x0 x1 x2 x3) (by decide) (by decide)) ?_
  exact (fours_7 c arg2 harg2 arg3 harg3 arg4 harg4 arg5 harg5 arg9 x0 x1 x2 x3)
theorem fours_cov_8 : Fours.Covers (kernelRun0_A.sl.HS1_32 c arg2 harg2 arg3 harg3 arg4 harg4 arg5 harg5 arg9 x0 x1 x2 x3) 7 0 := Fours.covers rfl _ _ _ _ _

theorem fours_9 : Agrees (fours (headAt x0 x1 x2 x3)) (kernelRun0_A.sl.HS1_36 c arg2 harg2 arg3 harg3 arg4 harg4 arg5 harg5 arg9 x0 x1 x2 x3) := by
  unfold kernelRun0_A.sl.HS1_36
  iterate 4 refine agrees_cons (fours_piece (plane_9 c arg2 harg2 arg3 harg3 arg4 harg4 arg5 harg5 x0 x1 x2 x3) (plane_cov_9 c arg2 harg2 arg3 harg3 arg4 harg4 arg5 harg5 x0 x1 x2 x3) (by decide) (by decide)) ?_
  exact (fours_8 c arg2 harg2 arg3 harg3 arg4 harg4 arg5 harg5 arg9 x0 x1 x2 x3)
theorem fours_cov_9 : Fours.Covers (kernelRun0_A.sl.HS1_36 c arg2 harg2 arg3 harg3 arg4 harg4 arg5 harg5 arg9 x0 x1 x2 x3) 0 1 := Fours.covers rfl _ _ _ _ _

theorem fours_10 : Agrees (fours (headAt x0 x1 x2 x3)) (kernelRun0_A.sl.HS1_40 c arg2 harg2 arg3 harg3 arg4 harg4 arg5 harg5 arg9 x0 x1 x2 x3) := by
  unfold kernelRun0_A.sl.HS1_40
  iterate 4 refine agrees_cons (fours_piece (plane_10 c arg2 harg2 arg3 harg3 arg4 harg4 arg5 harg5 x0 x1 x2 x3) (plane_cov_10 c arg2 harg2 arg3 harg3 arg4 harg4 arg5 harg5 x0 x1 x2 x3) (by decide) (by decide)) ?_
  exact (fours_9 c arg2 harg2 arg3 harg3 arg4 harg4 arg5 harg5 arg9 x0 x1 x2 x3)
theorem fours_cov_10 : Fours.Covers (kernelRun0_A.sl.HS1_40 c arg2 harg2 arg3 harg3 arg4 harg4 arg5 harg5 arg9 x0 x1 x2 x3) 1 1 := Fours.covers rfl _ _ _ _ _

theorem fours_11 : Agrees (fours (headAt x0 x1 x2 x3)) (kernelRun0_A.sl.HS1_44 c arg2 harg2 arg3 harg3 arg4 harg4 arg5 harg5 arg9 x0 x1 x2 x3) := by
  unfold kernelRun0_A.sl.HS1_44
  iterate 4 refine agrees_cons (fours_piece (plane_11 c arg2 harg2 arg3 harg3 arg4 harg4 arg5 harg5 x0 x1 x2 x3) (plane_cov_11 c arg2 harg2 arg3 harg3 arg4 harg4 arg5 harg5 x0 x1 x2 x3) (by decide) (by decide)) ?_
  exact (fours_10 c arg2 harg2 arg3 harg3 arg4 harg4 arg5 harg5 arg9 x0 x1 x2 x3)
theorem fours_cov_11 : Fours.Covers (kernelRun0_A.sl.HS1_44 c arg2 harg2 arg3 harg3 arg4 harg4 arg5 harg5 arg9 x0 x1 x2 x3) 2 1 := Fours.covers rfl _ _ _ _ _

theorem fours_12 : Agrees (fours (headAt x0 x1 x2 x3)) (kernelRun0_A.sl.HS1_48 c arg2 harg2 arg3 harg3 arg4 harg4 arg5 harg5 arg9 x0 x1 x2 x3) := by
  unfold kernelRun0_A.sl.HS1_48
  iterate 4 refine agrees_cons (fours_piece (plane_12 c arg2 harg2 arg3 harg3 arg4 harg4 arg5 harg5 x0 x1 x2 x3) (plane_cov_12 c arg2 harg2 arg3 harg3 arg4 harg4 arg5 harg5 x0 x1 x2 x3) (by decide) (by decide)) ?_
  exact (fours_11 c arg2 harg2 arg3 harg3 arg4 harg4 arg5 harg5 arg9 x0 x1 x2 x3)
theorem fours_cov_12 : Fours.Covers (kernelRun0_A.sl.HS1_48 c arg2 harg2 arg3 harg3 arg4 harg4 arg5 harg5 arg9 x0 x1 x2 x3) 3 1 := Fours.covers rfl _ _ _ _ _

theorem fours_13 : Agrees (fours (headAt x0 x1 x2 x3)) (kernelRun0_A.sl.HS1_52 c arg2 harg2 arg3 harg3 arg4 harg4 arg5 harg5 arg9 x0 x1 x2 x3) := by
  unfold kernelRun0_A.sl.HS1_52
  iterate 4 refine agrees_cons (fours_piece (plane_13 c arg2 harg2 arg3 harg3 arg4 harg4 arg5 harg5 x0 x1 x2 x3) (plane_cov_13 c arg2 harg2 arg3 harg3 arg4 harg4 arg5 harg5 x0 x1 x2 x3) (by decide) (by decide)) ?_
  exact (fours_12 c arg2 harg2 arg3 harg3 arg4 harg4 arg5 harg5 arg9 x0 x1 x2 x3)
theorem fours_cov_13 : Fours.Covers (kernelRun0_A.sl.HS1_52 c arg2 harg2 arg3 harg3 arg4 harg4 arg5 harg5 arg9 x0 x1 x2 x3) 4 1 := Fours.covers rfl _ _ _ _ _

theorem fours_14 : Agrees (fours (headAt x0 x1 x2 x3)) (kernelRun0_A.sl.HS1_56 c arg2 harg2 arg3 harg3 arg4 harg4 arg5 harg5 arg9 x0 x1 x2 x3) := by
  unfold kernelRun0_A.sl.HS1_56
  iterate 4 refine agrees_cons (fours_piece (plane_14 c arg2 harg2 arg3 harg3 arg4 harg4 arg5 harg5 x0 x1 x2 x3) (plane_cov_14 c arg2 harg2 arg3 harg3 arg4 harg4 arg5 harg5 x0 x1 x2 x3) (by decide) (by decide)) ?_
  exact (fours_13 c arg2 harg2 arg3 harg3 arg4 harg4 arg5 harg5 arg9 x0 x1 x2 x3)
theorem fours_cov_14 : Fours.Covers (kernelRun0_A.sl.HS1_56 c arg2 harg2 arg3 harg3 arg4 harg4 arg5 harg5 arg9 x0 x1 x2 x3) 5 1 := Fours.covers rfl _ _ _ _ _

theorem fours_15 : Agrees (fours (headAt x0 x1 x2 x3)) (kernelRun0_A.sl.HS1_60 c arg2 harg2 arg3 harg3 arg4 harg4 arg5 harg5 arg9 x0 x1 x2 x3) := by
  unfold kernelRun0_A.sl.HS1_60
  iterate 4 refine agrees_cons (fours_piece (plane_15 c arg2 harg2 arg3 harg3 arg4 harg4 arg5 harg5 x0 x1 x2 x3) (plane_cov_15 c arg2 harg2 arg3 harg3 arg4 harg4 arg5 harg5 x0 x1 x2 x3) (by decide) (by decide)) ?_
  exact (fours_14 c arg2 harg2 arg3 harg3 arg4 harg4 arg5 harg5 arg9 x0 x1 x2 x3)
theorem fours_cov_15 : Fours.Covers (kernelRun0_A.sl.HS1_60 c arg2 harg2 arg3 harg3 arg4 harg4 arg5 harg5 arg9 x0 x1 x2 x3) 6 1 := Fours.covers rfl _ _ _ _ _

theorem fours_16 : Agrees (fours (headAt x0 x1 x2 x3)) (kernelRun0_A.sl.HS1_64 c arg2 harg2 arg3 harg3 arg4 harg4 arg5 harg5 arg9 x0 x1 x2 x3) := by
  unfold kernelRun0_A.sl.HS1_64
  iterate 4 refine agrees_cons (fours_piece (plane_16 c arg2 harg2 arg3 harg3 arg4 harg4 arg5 harg5 x0 x1 x2 x3) (plane_cov_16 c arg2 harg2 arg3 harg3 arg4 harg4 arg5 harg5 x0 x1 x2 x3) (by decide) (by decide)) ?_
  exact (fours_15 c arg2 harg2 arg3 harg3 arg4 harg4 arg5 harg5 arg9 x0 x1 x2 x3)
theorem fours_cov_16 : Fours.Covers (kernelRun0_A.sl.HS1_64 c arg2 harg2 arg3 harg3 arg4 harg4 arg5 harg5 arg9 x0 x1 x2 x3) 7 1 := Fours.covers rfl _ _ _ _ _

theorem view1_run : Agrees (view1 (headAt x0 x1 x2 x3)) (kernelRun0_A (F := Ideal) c i arg2 harg2 arg3 harg3 arg4 harg4 arg5 harg5 arg6 harg6 arg7 harg7 arg8 harg8 arg9 harg9 arg10 harg10 x0 x1 x2 x3).1 := by
  unfold kernelRun0_A
  dsimp only
  iterate 16 refine agrees_cons (view1_piece (rows arg2 harg2 arg3 harg3 arg4 harg4 arg5 harg5 x0 x1 x2 x3 (by decide) (by decide))) ?_
  exact agrees_nil _

theorem view4_run : Agrees (view4 (headAt x0 x1 x2 x3)) (kernelRun0_A (F := Ideal) c i arg2 harg2 arg3 harg3 arg4 harg4 arg5 harg5 arg6 harg6 arg7 harg7 arg8 harg8 arg9 harg9 arg10 harg10 x0 x1 x2 x3).2.1 := by
  unfold kernelRun0_A
  dsimp only
  iterate 4 refine agrees_cons (view4_piece (plane_16 c arg2 harg2 arg3 harg3 arg4 harg4 arg5 harg5 x0 x1 x2 x3) (plane_cov_16 c arg2 harg2 arg3 harg3 arg4 harg4 arg5 harg5 x0 x1 x2 x3) (by decide) (by decide) (by decide)) ?_
  iterate 4 refine agrees_cons (view4_piece (plane_15 c arg2 harg2 arg3 harg3 arg4 harg4 arg5 harg5 x0 x1 x2 x3) (plane_cov_15 c arg2 harg2 arg3 harg3 arg4 harg4 arg5 harg5 x0 x1 x2 x3) (by decide) (by decide) (by decide)) ?_
  iterate 4 refine agrees_cons (view4_piece (plane_14 c arg2 harg2 arg3 harg3 arg4 harg4 arg5 harg5 x0 x1 x2 x3) (plane_cov_14 c arg2 harg2 arg3 harg3 arg4 harg4 arg5 harg5 x0 x1 x2 x3) (by decide) (by decide) (by decide)) ?_
  iterate 4 refine agrees_cons (view4_piece (plane_13 c arg2 harg2 arg3 harg3 arg4 harg4 arg5 harg5 x0 x1 x2 x3) (plane_cov_13 c arg2 harg2 arg3 harg3 arg4 harg4 arg5 harg5 x0 x1 x2 x3) (by decide) (by decide) (by decide)) ?_
  iterate 4 refine agrees_cons (view4_piece (plane_12 c arg2 harg2 arg3 harg3 arg4 harg4 arg5 harg5 x0 x1 x2 x3) (plane_cov_12 c arg2 harg2 arg3 harg3 arg4 harg4 arg5 harg5 x0 x1 x2 x3) (by decide) (by decide) (by decide)) ?_
  iterate 4 refine agrees_cons (view4_piece (plane_11 c arg2 harg2 arg3 harg3 arg4 harg4 arg5 harg5 x0 x1 x2 x3) (plane_cov_11 c arg2 harg2 arg3 harg3 arg4 harg4 arg5 harg5 x0 x1 x2 x3) (by decide) (by decide) (by decide)) ?_
  iterate 4 refine agrees_cons (view4_piece (plane_10 c arg2 harg2 arg3 harg3 arg4 harg4 arg5 harg5 x0 x1 x2 x3) (plane_cov_10 c arg2 harg2 arg3 harg3 arg4 harg4 arg5 harg5 x0 x1 x2 x3) (by decide) (by decide) (by decide)) ?_
  iterate 4 refine agrees_cons (view4_piece (plane_9 c arg2 harg2 arg3 harg3 arg4 harg4 arg5 harg5 x0 x1 x2 x3) (plane_cov_9 c arg2 harg2 arg3 harg3 arg4 harg4 arg5 harg5 x0 x1 x2 x3) (by decide) (by decide) (by decide)) ?_
  iterate 4 refine agrees_cons (view4_piece (plane_8 c arg2 harg2 arg3 harg3 arg4 harg4 arg5 harg5 x0 x1 x2 x3) (plane_cov_8 c arg2 harg2 arg3 harg3 arg4 harg4 arg5 harg5 x0 x1 x2 x3) (by decide) (by decide) (by decide)) ?_
  iterate 4 refine agrees_cons (view4_piece (plane_7 c arg2 harg2 arg3 harg3 arg4 harg4 arg5 harg5 x0 x1 x2 x3) (plane_cov_7 c arg2 harg2 arg3 harg3 arg4 harg4 arg5 harg5 x0 x1 x2 x3) (by decide) (by decide) (by decide)) ?_
  iterate 4 refine agrees_cons (view4_piece (plane_6 c arg2 harg2 arg3 harg3 arg4 harg4 arg5 harg5 x0 x1 x2 x3) (plane_cov_6 c arg2 harg2 arg3 harg3 arg4 harg4 arg5 harg5 x0 x1 x2 x3) (by decide) (by decide) (by decide)) ?_
  iterate 4 refine agrees_cons (view4_piece (plane_5 c arg2 harg2 arg3 harg3 arg4 harg4 arg5 harg5 x0 x1 x2 x3) (plane_cov_5 c arg2 harg2 arg3 harg3 arg4 harg4 arg5 harg5 x0 x1 x2 x3) (by decide) (by decide) (by decide)) ?_
  iterate 4 refine agrees_cons (view4_piece (plane_4 c arg2 harg2 arg3 harg3 arg4 harg4 arg5 harg5 x0 x1 x2 x3) (plane_cov_4 c arg2 harg2 arg3 harg3 arg4 harg4 arg5 harg5 x0 x1 x2 x3) (by decide) (by decide) (by decide)) ?_
  iterate 4 refine agrees_cons (view4_piece (plane_3 c arg2 harg2 arg3 harg3 arg4 harg4 arg5 harg5 x0 x1 x2 x3) (plane_cov_3 c arg2 harg2 arg3 harg3 arg4 harg4 arg5 harg5 x0 x1 x2 x3) (by decide) (by decide) (by decide)) ?_
  iterate 4 refine agrees_cons (view4_piece (plane_2 c arg2 harg2 arg3 harg3 arg4 harg4 arg5 harg5 x0 x1 x2 x3) (plane_cov_2 c arg2 harg2 arg3 harg3 arg4 harg4 arg5 harg5 x0 x1 x2 x3) (by decide) (by decide) (by decide)) ?_
  iterate 4 refine agrees_cons (view4_piece (plane_1 c arg2 harg2 arg3 harg3 arg4 harg4 arg5 harg5 x0 x1 x2 x3) (plane_cov_1 c arg2 harg2 arg3 harg3 arg4 harg4 arg5 harg5 x0 x1 x2 x3) (by decide) (by decide) (by decide)) ?_
  exact agrees_nil _

theorem view16_run : Agrees (view16 (headAt x0 x1 x2 x3)) (kernelRun0_A (F := Ideal) c i arg2 harg2 arg3 harg3 arg4 harg4 arg5 harg5 arg6 harg6 arg7 harg7 arg8 harg8 arg9 harg9 arg10 harg10 x0 x1 x2 x3).2.2.1 := by
  unfold kernelRun0_A
  dsimp only
  iterate 16 refine agrees_cons (view16_piece (fours_16 c arg2 harg2 arg3 harg3 arg4 harg4 arg5 harg5 arg9 x0 x1 x2 x3) (fours_cov_16 c arg2 harg2 arg3 harg3 arg4 harg4 arg5 harg5 arg9 x0 x1 x2 x3) (by decide) (by decide) (by decide)) ?_
  iterate 16 refine agrees_cons (view16_piece (fours_15 c arg2 harg2 arg3 harg3 arg4 harg4 arg5 harg5 arg9 x0 x1 x2 x3) (fours_cov_15 c arg2 harg2 arg3 harg3 arg4 harg4 arg5 harg5 arg9 x0 x1 x2 x3) (by decide) (by decide) (by decide)) ?_
  iterate 16 refine agrees_cons (view16_piece (fours_14 c arg2 harg2 arg3 harg3 arg4 harg4 arg5 harg5 arg9 x0 x1 x2 x3) (fours_cov_14 c arg2 harg2 arg3 harg3 arg4 harg4 arg5 harg5 arg9 x0 x1 x2 x3) (by decide) (by decide) (by decide)) ?_
  iterate 16 refine agrees_cons (view16_piece (fours_13 c arg2 harg2 arg3 harg3 arg4 harg4 arg5 harg5 arg9 x0 x1 x2 x3) (fours_cov_13 c arg2 harg2 arg3 harg3 arg4 harg4 arg5 harg5 arg9 x0 x1 x2 x3) (by decide) (by decide) (by decide)) ?_
  iterate 16 refine agrees_cons (view16_piece (fours_12 c arg2 harg2 arg3 harg3 arg4 harg4 arg5 harg5 arg9 x0 x1 x2 x3) (fours_cov_12 c arg2 harg2 arg3 harg3 arg4 harg4 arg5 harg5 arg9 x0 x1 x2 x3) (by decide) (by decide) (by decide)) ?_
  iterate 16 refine agrees_cons (view16_piece (fours_11 c arg2 harg2 arg3 harg3 arg4 harg4 arg5 harg5 arg9 x0 x1 x2 x3) (fours_cov_11 c arg2 harg2 arg3 harg3 arg4 harg4 arg5 harg5 arg9 x0 x1 x2 x3) (by decide) (by decide) (by decide)) ?_
  iterate 16 refine agrees_cons (view16_piece (fours_10 c arg2 harg2 arg3 harg3 arg4 harg4 arg5 harg5 arg9 x0 x1 x2 x3) (fours_cov_10 c arg2 harg2 arg3 harg3 arg4 harg4 arg5 harg5 arg9 x0 x1 x2 x3) (by decide) (by decide) (by decide)) ?_
  iterate 16 refine agrees_cons (view16_piece (fours_9 c arg2 harg2 arg3 harg3 arg4 harg4 arg5 harg5 arg9 x0 x1 x2 x3) (fours_cov_9 c arg2 harg2 arg3 harg3 arg4 harg4 arg5 harg5 arg9 x0 x1 x2 x3) (by decide) (by decide) (by decide)) ?_
  iterate 16 refine agrees_cons (view16_piece (fours_8 c arg2 harg2 arg3 harg3 arg4 harg4 arg5 harg5 arg9 x0 x1 x2 x3) (fours_cov_8 c arg2 harg2 arg3 harg3 arg4 harg4 arg5 harg5 arg9 x0 x1 x2 x3) (by decide) (by decide) (by decide)) ?_
  iterate 16 refine agrees_cons (view16_piece (fours_7 c arg2 harg2 arg3 harg3 arg4 harg4 arg5 harg5 arg9 x0 x1 x2 x3) (fours_cov_7 c arg2 harg2 arg3 harg3 arg4 harg4 arg5 harg5 arg9 x0 x1 x2 x3) (by decide) (by decide) (by decide)) ?_
  iterate 16 refine agrees_cons (view16_piece (fours_6 c arg2 harg2 arg3 harg3 arg4 harg4 arg5 harg5 arg9 x0 x1 x2 x3) (fours_cov_6 c arg2 harg2 arg3 harg3 arg4 harg4 arg5 harg5 arg9 x0 x1 x2 x3) (by decide) (by decide) (by decide)) ?_
  iterate 16 refine agrees_cons (view16_piece (fours_5 c arg2 harg2 arg3 harg3 arg4 harg4 arg5 harg5 arg9 x0 x1 x2 x3) (fours_cov_5 c arg2 harg2 arg3 harg3 arg4 harg4 arg5 harg5 arg9 x0 x1 x2 x3) (by decide) (by decide) (by decide)) ?_
  iterate 16 refine agrees_cons (view16_piece (fours_4 c arg2 harg2 arg3 harg3 arg4 harg4 arg5 harg5 arg9 x0 x1 x2 x3) (fours_cov_4 c arg2 harg2 arg3 harg3 arg4 harg4 arg5 harg5 arg9 x0 x1 x2 x3) (by decide) (by decide) (by decide)) ?_
  iterate 16 refine agrees_cons (view16_piece (fours_3 c arg2 harg2 arg3 harg3 arg4 harg4 arg5 harg5 arg9 x0 x1 x2 x3) (fours_cov_3 c arg2 harg2 arg3 harg3 arg4 harg4 arg5 harg5 arg9 x0 x1 x2 x3) (by decide) (by decide) (by decide)) ?_
  iterate 16 refine agrees_cons (view16_piece (fours_2 c arg2 harg2 arg3 harg3 arg4 harg4 arg5 harg5 arg9 x0 x1 x2 x3) (fours_cov_2 c arg2 harg2 arg3 harg3 arg4 harg4 arg5 harg5 arg9 x0 x1 x2 x3) (by decide) (by decide) (by decide)) ?_
  iterate 16 refine agrees_cons (view16_piece (fours_1 c arg2 harg2 arg3 harg3 arg4 harg4 arg5 harg5 arg9 x0 x1 x2 x3) (fours_cov_1 c arg2 harg2 arg3 harg3 arg4 harg4 arg5 harg5 arg9 x0 x1 x2 x3) (by decide) (by decide) (by decide)) ?_
  exact agrees_nil _

theorem out4 : out0_A_4 (F := Ideal) c i arg2 harg2 arg3 harg3 arg4 harg4 arg5 harg5 arg6 harg6 arg7 harg7 arg8 harg8 arg9 harg9 arg10 harg10 x0 x1 x2 x3 = view1 (headAt x0 x1 x2 x3) := by
  funext y
  unfold out0_A_4
  rw [View.read_writes_junk_eq_canon]
  exact View.canon_apply_of_pieces (Val := Elt Ideal) (S := S8x1024x128) (e := .bf16) _ _ (view1_run c i arg2 harg2 arg3 harg3 arg4 harg4 arg5 harg5 arg6 harg6 arg7 harg7 arg8 harg8 arg9 harg9 arg10 harg10 x0 x1 x2 x3) y (cover0_A_4 c i arg2 harg2 arg3 harg3 arg4 harg4 arg5 harg5 arg6 harg6 arg7 harg7 arg8 harg8 arg9 harg9 arg10 harg10 x0 x1 x2 x3 y)

theorem out5 : out0_A_5 (F := Ideal) c i arg2 harg2 arg3 harg3 arg4 harg4 arg5 harg5 arg6 harg6 arg7 harg7 arg8 harg8 arg9 harg9 arg10 harg10 x0 x1 x2 x3 = view4 (headAt x0 x1 x2 x3) := by
  funext y
  unfold out0_A_5
  rw [View.read_writes_junk_eq_canon]
  exact View.canon_apply_of_pieces (Val := Elt Ideal) (S := S8x256x512) (e := .bf16) _ _ (view4_run c i arg2 harg2 arg3 harg3 arg4 harg4 arg5 harg5 arg6 harg6 arg7 harg7 arg8 harg8 arg9 harg9 arg10 harg10 x0 x1 x2 x3) y (cover0_A_5 c i arg2 harg2 arg3 harg3 arg4 harg4 arg5 harg5 arg6 harg6 arg7 harg7 arg8 harg8 arg9 harg9 arg10 harg10 x0 x1 x2 x3 y)

theorem out6 : out0_A_6 (F := Ideal) c i arg2 harg2 arg3 harg3 arg4 harg4 arg5 harg5 arg6 harg6 arg7 harg7 arg8 harg8 arg9 harg9 arg10 harg10 x0 x1 x2 x3 = view16 (headAt x0 x1 x2 x3) := by
  funext y
  unfold out0_A_6
  rw [View.read_writes_junk_eq_canon]
  exact View.canon_apply_of_pieces (Val := Elt Ideal) (S := S8x64x2048) (e := .bf16) _ _ (view16_run c i arg2 harg2 arg3 harg3 arg4 harg4 arg5 harg5 arg6 harg6 arg7 harg7 arg8 harg8 arg9 harg9 arg10 harg10 x0 x1 x2 x3) y (cover0_A_6 c i arg2 harg2 arg3 harg3 arg4 harg4 arg5 harg5 arg6 harg6 arg7 harg7 arg8 harg8 arg9 harg9 arg10 harg10 x0 x1 x2 x3 y)

end Cert.KernelHeadsIdeal.Value

end
-- ==== Proof.HeadsTables.lean ====
/- The tables of the queries' and keys' call, at an index. -/
module

public import proofs.«01_k».proof.Proof.Gen.KernelHeadsIdeal.Value
public import Idealize.ShloMosaic.Lib.Pipeline.ValueKit
public import proofs.«01_k».proof.Proof.HeadTokens

@[expose] public section

set_option maxRecDepth 65536

noncomputable section

namespace Cert.KernelHeadsIdeal.Value

open Idealize.ShloMosaic Idealize.ShloMosaic.TcCoe Idealize.SL.Sem Cert.KernelHeadsIdeal Cert.KernelHeadsIdeal.Gen
open Cert.HeadTokens

variable (m : (ℓ : Loc nD τ sig) → Buf (Elt Ideal) ℓ)

/-- Two halves side by side, and nothing after them. -/
theorem halves_at (A B : FVec Ideal S8192x64 .f32) (C : FVec Ideal S8192x0 .f32) (p : Fin 8192) (l : Fin 128) :
    concatenate S8192x128 1 [⟨S8192x64, A⟩, ⟨S8192x64, B⟩, ⟨S8192x0, C⟩] concatenates_S8192x64_S8192x64_S8192x0_S8192x128_d1 (ix2 p l)
      = if h : l.val < 64 then A (ix2 p ⟨l.val, h⟩) else B (ix2 p ⟨l.val - 64, by omega⟩) := by
  pointwise
  by_cases h : l.val < 64
  · rw [dif_pos h, dif_pos h]
  · rw [dif_neg h, dif_pos (show l.val - 64 < 64 by omega), dif_neg h]

/-- The two tables: the cosines twice, and the sines with the first half's sign turned. -/
def cosAt (p : Fin 8192) (l : Fin 128) : EReal :=
  if h : l.val < 64 then Ideal.cos (angle p ⟨l.val, h⟩) else Ideal.cos (angle p ⟨l.val - 64, by omega⟩)
def sinAt (p : Fin 8192) (l : Fin 128) : EReal :=
  if h : l.val < 64 then -Ideal.sin (angle p ⟨l.val, h⟩) else Ideal.sin (angle p ⟨l.val - 64, by omega⟩)

theorem cos_op (c : Dev nD) (p : Fin 8192) (l : Fin 128) :
    V m c main_v15 (ix2 p l) = cosAt p l := by
  unfold V cosAt
  simp only [StableHlo.after_cons, StableHlo.after_nil]
  rw [StableHlo.unary_result_ne, StableHlo.unary_result_ne, StableHlo.reshape_result_ne, StableHlo.nary_result_ne, StableHlo.unary_result_ne, StableHlo.nary_result]
  rotate_left
  · decide
  · decide
  · decide
  · decide
  · decide
  generalize hσ : HloOp.result (StableHlo.unary main_cst_1 main_v14 _ _ _) _ = σ
  refine ((halves_at (σ (Proc.tc.devRef main_v12)) (σ (Proc.tc.devRef main_v12)) (σ (Proc.tc.devRef main_v14)) p l)).trans ?_
  by_cases h : l.val < 64
  · rw [dif_pos h, dif_pos h, ← hσ]
    after_results_simp
    pointwise
    rfl
  · rw [dif_neg h, dif_neg h, ← hσ]
    after_results_simp
    pointwise
    rfl

theorem sin_op (c : Dev nD) (p : Fin 8192) (l : Fin 128) :
    V m c main_v17 (ix2 p l) = sinAt p l := by
  unfold V sinAt
  simp only [StableHlo.after_cons, StableHlo.after_nil]
  rw [StableHlo.unary_result_ne, StableHlo.unary_result_ne, StableHlo.reshape_result_ne, StableHlo.nary_result]
  rotate_left
  · decide
  · decide
  · decide
  generalize hσ : HloOp.result (StableHlo.unary main_v13 main_v16 _ _ _) _ = σ
  refine ((halves_at (σ (Proc.tc.devRef main_v16)) (σ (Proc.tc.devRef main_v13)) (σ (Proc.tc.devRef main_v14)) p l)).trans ?_
  by_cases h : l.val < 64
  · rw [dif_pos h, dif_pos h, ← hσ]
    after_results_simp
    pointwise
    rfl
  · rw [dif_neg h, dif_neg h, ← hσ]
    after_results_simp
    pointwise
    rfl

end Cert.KernelHeadsIdeal.Value

end
-- ==== Proof.HeadsValue.lean ====
/- Layer 1's queries and keys per head: what the call leaves. -/
module

public import proofs.«01_k».proof.Proof.Gen.KernelHeadsIdeal.Value
public import Idealize.ShloMosaic.Lib.Pipeline.ValueKit
public import proofs.«01_k».proof.Proof.HeadTokens
public import proofs.«01_k».proof.Proof.HeadsStores
public import proofs.«01_k».proof.Proof.HeadsTables

@[expose] public section

set_option maxRecDepth 65536

noncomputable section

namespace Cert.KernelHeadsIdeal.Value

open Idealize.ShloMosaic Idealize.ShloMosaic.TcCoe Idealize.SL.Sem Cert.KernelHeadsIdeal Cert.KernelHeadsIdeal.Gen
open Idealize.ShloMosaic.Pipeline (Dat)
open Cert.Projection Cert.HeadTokens Cert.HeadViews

variable (m : (ℓ : Loc nD τ sig) → Buf (Elt Ideal) ℓ)

theorem idx : ∀ t : Fin cfg0.N, win0_0.index t = ![t.val / 4, 0] ∧ win0_1.index t = ![0, t.val % 4]
    ∧ win0_2.index t = ![t.val / 4 % 8, 0] ∧ win0_3.index t = ![t.val / 4 % 8, 0]
    ∧ win0_4.index t = ![t.val % 4, t.val / 4, 0] ∧ win0_5.index t = ![t.val % 4, t.val / 4, 0] ∧ win0_6.index t = ![t.val % 4, t.val / 4, 0] :=
  (by decide +kernel : ∀ t : Fin grid0.N, _)

theorem lt_points (t : Fin cfg0.N) : t.val < 64 := t.isLt

theorem x_op (c : Dev nD) (i : Fin 16384) (k : Fin 2048) :
    V m c main_v19 (ix2 i k) = m ((c : Thread nD τ).loc main_arg0) (ix3 (seqOf i) (posOf i) k) := by
  have hi := Cert.Projection.row_eq i
  entry_read
  pointwise
  blk_ext []

theorem w_op (c : Dev nD) (k : Fin 2048) (j : Fin 8192) : V m c main_v20 (ix2 k j) = m ((c : Thread nD τ).loc main_arg1) (ix2 k j) := by
  entry_read
  pointwise

theorem x_block (c : Dev nD) (t : Fin cfg0.N) (r : Fin 1024) (k : Fin 2048) (i : Fin 16384) (h : i.val = t.val / 4 * 1024 + r.val) :
    iblk m c 0 t (ix2 r k) = m ((c : Thread nD τ).loc main_arg0) (ix3 (seqOf i) (posOf i) k) := by
  refine Eq.trans ?_ (x_op m c i k)
  blk_ext [iblk, idx t]

theorem w_block (c : Dev nD) (t : Fin cfg0.N) (k : Fin 2048) (l : Fin 1024) (j : Fin 8192) (h : j.val = t.val % 4 * 1024 + l.val) :
    iblk m c 1 t (ix2 k l) = m ((c : Thread nD τ).loc main_arg1) (ix2 k j) := by
  refine Eq.trans ?_ (w_op m c k j)
  blk_ext [iblk, idx t]

theorem cos_block (c : Dev nD) (t : Fin cfg0.N) (r : Fin 1024) (l : Fin 128) (p : Fin 8192) (h : p.val = t.val / 4 % 8 * 1024 + r.val) :
    iblk m c 2 t (ix2 r l) = cosAt p l := by
  refine Eq.trans ?_ (cos_op m c p l)
  blk_ext [iblk, idx t]

theorem sin_block (c : Dev nD) (t : Fin cfg0.N) (r : Fin 1024) (l : Fin 128) (p : Fin 8192) (h : p.val = t.val / 4 % 8 * 1024 + r.val) :
    iblk m c 3 t (ix2 r l) = sinAt p l := by
  refine Eq.trans ?_ (sin_op m c p l)
  blk_ext [iblk, idx t]

theorem dot_of (x0 : Vec Ideal S1024x2048 .bf16) (x1 : Vec Ideal S2048x1024 .bf16) (r j : ℕ) (hr : r < 1024) (hj : j < 1024)
    (f g : Fin 2048 → EReal) (hf : ∀ k, x0 (ix2 ⟨r, hr⟩ k) = f k) (hg : ∀ k, x1 (ix2 k ⟨j, hj⟩) = g k) :
    dotAt x0 x1 r j = ∑ k : Fin 2048, f k * g k := by
  unfold dotAt
  rw [dif_pos ⟨hr, hj⟩]
  exact Finset.sum_congr rfl fun k _ => Ideal.mul_congr (hf k) (hg k)

theorem dot_eq (c : Dev nD) (t : Fin cfg0.N) (r j : ℕ) (J : Fin 8192) (i : Fin 16384) (hr : r < 1024) (hj : j < 1024)
    (hJ : J.val = t.val % 4 * 1024 + j) (hi : i.val = t.val / 4 * 1024 + r) :
    dotAt (iblk m c 0 t) (iblk m c 1 t) r j
      = proj (m ((c : Thread nD τ).loc main_arg0)) (m ((c : Thread nD τ).loc main_arg1)) (seqOf i) (posOf i) J :=
  dot_of (iblk m c 0 t) (iblk m c 1 t) r j hr hj _ _ (fun k => x_block m c t ⟨r, hr⟩ k i hi) (fun k => w_block m c t k ⟨j, hj⟩ J hJ)

/-- The lane by the cosine and the lane 64 away by the signed sine make the turned row. -/
theorem turn_eq (q : Fin 128 → EReal) (p : Fin 8192) (l : Fin 128) :
    q l * cosAt p l + q ⟨(l.val + 64) % 128, by omega⟩ * sinAt p l = turn q p l := by
  unfold cosAt sinAt turn
  by_cases h : l.val < 64
  · rw [dif_pos h, dif_pos h, dif_pos h, sub_eq_add_neg, mul_neg]
    have e : (⟨(l.val + 64) % 128, by omega⟩ : Fin 128) = ⟨l.val + 64, by omega⟩ := Fin.ext (by show (l.val + 64) % 128 = l.val + 64; omega)
    rw [e]
  · rw [dif_neg h, dif_neg h, dif_neg h]
    have e : (⟨(l.val + 64) % 128, by omega⟩ : Fin 128) = ⟨l.val - 64, by omega⟩ := Fin.ext (by show (l.val + 64) % 128 = l.val - 64; omega)
    rw [e]

theorem table_of (x : Vec Ideal S1024x128 .f32) (r l : ℕ) (hr : r < 1024) (hl : l < 128) : tableAt x r l = x (ix2 ⟨r, hr⟩ ⟨l, hl⟩) :=
  dif_pos ⟨hr, hl⟩

/-- A point's row of a head is the token's row of that head. -/
theorem head_eq (c : Dev nD) (t : Fin cfg0.N) (h r l : ℕ) (H : Fin 32) (i : Fin 16384) (L : Fin 128)
    (hr : r < 1024) (hh : h < 8) (hH : H.val = t.val % 4 * 8 + h) (hi : i.val = t.val / 4 * 1024 + r) (hL : L.val = l) :
    headAt (iblk m c 0 t) (iblk m c 1 t) (iblk m c 2 t) (iblk m c 3 t) h r l
      = rotated (m ((c : Thread nD τ).loc main_arg0)) (m ((c : Thread nD τ).loc main_arg1)) H i L := by
  subst hL
  have hp : (posOf i).val = t.val / 4 % 8 * 1024 + r := by
    show i.val % 8192 = _
    omega
  unfold headAt rotated
  rw [dot_eq m c t r (128 * h + L.val) ⟨H.val * 128 + L.val, by omega⟩ i hr (by omega) (by show H.val * 128 + L.val = _; omega) hi,
    dot_eq m c t r (128 * h + (L.val + 64) % 128) ⟨H.val * 128 + (L.val + 64) % 128, by omega⟩ i hr (by omega) (by show H.val * 128 + (L.val + 64) % 128 = _; omega) hi,
    table_of _ r L.val hr L.isLt, table_of _ r L.val hr L.isLt, cos_block m c t ⟨r, hr⟩ L (posOf i) hp, sin_block m c t ⟨r, hr⟩ L (posOf i) hp]
  exact turn_eq (fun j => proj _ _ (seqOf i) (posOf i) ⟨H.val * 128 + j.val, by omega⟩) (posOf i) L

theorem outs4 (c : Dev nD) (t : Fin cfg0.N) : (outsAt0 m c t).1 = view1 (headAt (iblk m c 0 t) (iblk m c 1 t) (iblk m c 2 t) (iblk m c 3 t)) := by
  simp only [outsAt0, out4]

theorem outs5 (c : Dev nD) (t : Fin cfg0.N) : (outsAt0 m c t).2.1 = view4 (headAt (iblk m c 0 t) (iblk m c 1 t) (iblk m c 2 t) (iblk m c 3 t)) := by
  simp only [outsAt0, out5]

theorem outs6 (c : Dev nD) (t : Fin cfg0.N) : (outsAt0 m c t).2.2 = view16 (headAt (iblk m c 0 t) (iblk m c 1 t) (iblk m c 2 t) (iblk m c 3 t)) := by
  simp only [outsAt0, out6]

/-- BRIDGE: the three result arrays after the run. -/
theorem final4 (c : Dev nD) : (dats m 0 c).arrAt 4 (cfgs 0).N
    = one (rotated (m ((c : Thread nD τ).loc main_arg0)) (m ((c : Thread nD τ).loc main_arg1))) := by
  refine (dats m 0 c).arrAt_eq_of_covers 4 _ (by decide +kernel) fun t _ y => ?_
  blk_simp
  rw [after0_4, outs4]
  have ht := lt_points t
  have hy0 : (y 0).val < 8 := (y 0).isLt
  have hy1 : (y 1).val < 1024 := (y 1).isLt
  have hy2 : (y 2).val < 128 := (y 2).isLt
  refine head_eq m c t _ _ _ _ _ _ hy1 hy0 ?_ ?_ ?_
  · blk_simp [idx t]
  · blk_simp [idx t]
  · blk_simp [idx t]

theorem final5 (c : Dev nD) : (dats m 0 c).arrAt 5 (cfgs 0).N
    = four (rotated (m ((c : Thread nD τ).loc main_arg0)) (m ((c : Thread nD τ).loc main_arg1))) := by
  refine (dats m 0 c).arrAt_eq_of_covers 5 _ (by decide +kernel) fun t _ y => ?_
  blk_simp
  rw [after0_5, outs5]
  have ht := lt_points t
  have hy0 : (y 0).val < 8 := (y 0).isLt
  have hy1 : (y 1).val < 256 := (y 1).isLt
  have hy2 : (y 2).val < 512 := (y 2).isLt
  refine head_eq m c t _ _ _ _ _ _ (show 4 * (y 1).val + (y 2).val / 128 < 1024 by omega) hy0 ?_ ?_ ?_
  · blk_simp [idx t]
  · blk_simp [idx t]
    show 4 * (t.val / 4 * 256 + (y 1).val) + (y 2).val / 128 = t.val / 4 * 1024 + (4 * (y 1).val + (y 2).val / 128)
    omega
  · blk_simp [idx t]

theorem final6 (c : Dev nD) : (dats m 0 c).arrAt 6 (cfgs 0).N
    = sixteen (rotated (m ((c : Thread nD τ).loc main_arg0)) (m ((c : Thread nD τ).loc main_arg1))) := by
  refine (dats m 0 c).arrAt_eq_of_covers 6 _ (by decide +kernel) fun t _ y => ?_
  blk_simp
  rw [after0_6, outs6]
  have ht := lt_points t
  have hy0 : (y 0).val < 8 := (y 0).isLt
  have hy1 : (y 1).val < 64 := (y 1).isLt
  have hy2 : (y 2).val < 2048 := (y 2).isLt
  refine head_eq m c t _ _ _ _ _ _ (show 16 * (y 1).val + (y 2).val / 128 < 1024 by omega) hy0 ?_ ?_ ?_
  · blk_simp [idx t]
  · blk_simp [idx t]
    show 16 * (t.val / 4 * 64 + (y 1).val) + (y 2).val / 128 = t.val / 4 * 1024 + (16 * (y 1).val + (y 2).val / 128)
    omega
  · blk_simp [idx t]

end Cert.KernelHeadsIdeal.Value

end
-- ==== Proof.HeadsReference.lean ====
/- Layer 1's queries and keys per head: what the reference gives. -/
module

public import proofs.«01_k».proof.Proof.Gen.ReferenceHeadsIdeal.Read
public import Idealize.ShloMosaic.Lib.Pipeline.ValueKit
public import proofs.«01_k».proof.Proof.HeadTokens

@[expose] public section

set_option maxRecDepth 65536

noncomputable section

namespace Cert.ReferenceHeadsIdeal.Project

open Idealize.ShloMosaic Idealize.ShloMosaic.TcCoe Idealize.SL.Sem Cert.ReferenceHeadsIdeal Cert.ReferenceHeadsIdeal.Read
open Cert.Projection Cert.HeadTokens

/-- The projected queries and keys, per head. -/
theorem columns_at (x : XS) (w : WS 8192) (b : Fin 2) (p : Fin 8192) (h : Fin 32) (l : Fin 128) :
    val_main_v6 (F := Ideal) x w (ix4 b p h l) = proj x w b p ⟨h.val * 128 + l.val, by omega⟩ := by
  pointwise [val_main_v6, val_main_v5]
  by_cases hh : h.val * 128 + l.val < 2048
  · rw [dif_pos hh]
    pointwise [val_main_v1, val_main_v0]
    rfl
  · rw [dif_neg hh]
    have e : (⟨2048 + (h.val * 128 + l.val - 2048), by omega⟩ : Fin 8192) = ⟨h.val * 128 + l.val, by omega⟩ := Fin.ext (by show 2048 + (h.val * 128 + l.val - 2048) = h.val * 128 + l.val; omega)
    rw [← e]
    pointwise [val_main_v2, val_main_v0]
    rfl

attribute [local irreducible] val_main_v6

theorem angle_at (p : Fin 8192) (j : Fin 64) : val_main_v18 (F := Ideal) (ix2 p j) = angle p j := by
  pointwise [val_main_v18, val_main_v17, val_main_v16, val_main_v15, val_main_v14, val_main_v13, val_main_v12, val_main_v11, val_main_v10, val_main_v9, val_main_v8, val_main_v7, val_main_cst, val_main_cst_0]
  rfl

theorem table25_at (b : Fin 2) (p : Fin 8192) (h : Fin 32) (j : Fin 64) : val_main_v25 (F := Ideal) (ix4 b p h j) = Ideal.cos (angle p j) := by
  have e := angle_at p j
  pointwise [val_main_v25, val_main_v20, val_main_v19]
  rw [e]

theorem table30_at (b : Fin 2) (p : Fin 8192) (h : Fin 32) (j : Fin 64) : val_main_v30 (F := Ideal) (ix4 b p h j) = Ideal.cos (angle p j) := by
  have e := angle_at p j
  pointwise [val_main_v30, val_main_v20, val_main_v19]
  rw [e]

theorem table27_at (b : Fin 2) (p : Fin 8192) (h : Fin 32) (j : Fin 64) : val_main_v27 (F := Ideal) (ix4 b p h j) = Ideal.sin (angle p j) := by
  have e := angle_at p j
  pointwise [val_main_v27, val_main_v22, val_main_v21]
  rw [e]

theorem table32_at (b : Fin 2) (p : Fin 8192) (h : Fin 32) (j : Fin 64) : val_main_v32 (F := Ideal) (ix4 b p h j) = Ideal.sin (angle p j) := by
  have e := angle_at p j
  pointwise [val_main_v32, val_main_v22, val_main_v21]
  rw [e]

/-- The two halves of a row before they are turned. -/
theorem low_at (x : XS) (w : WS 8192) (b : Fin 2) (p : Fin 8192) (h : Fin 32) (j : Fin 64) :
    val_main_v23 (F := Ideal) x w (ix4 b p h j) = proj x w b p ⟨h.val * 128 + j.val, by omega⟩ := by
  have e : idx_main_v23 (ix4 b p h j) = ix4 b p h ⟨j.val, by omega⟩ := by
    funext a
    match a with
    | ⟨0, _⟩ => rfl
    | ⟨1, _⟩ => rfl
    | ⟨2, _⟩ => rfl
    | ⟨3, _⟩ => rfl
  rw [val_main_v23_apply, e]
  exact columns_at x w b p h ⟨j.val, by omega⟩

theorem high_at (x : XS) (w : WS 8192) (b : Fin 2) (p : Fin 8192) (h : Fin 32) (j : Fin 64) :
    val_main_v24 (F := Ideal) x w (ix4 b p h j) = proj x w b p ⟨h.val * 128 + (j.val + 64), by omega⟩ := by
  have e : idx_main_v24 (ix4 b p h j) = ix4 b p h ⟨j.val + 64, by omega⟩ := by
    funext a
    match a with
    | ⟨0, _⟩ => rfl
    | ⟨1, _⟩ => rfl
    | ⟨2, _⟩ => rfl
    | ⟨3, _⟩ => exact Fin.ext (show 64 + j.val = j.val + 64 by omega)
  rw [val_main_v24_apply, e]
  exact columns_at x w b p h ⟨j.val + 64, by omega⟩

attribute [local irreducible] val_main_v23 val_main_v24 val_main_v25 val_main_v27 val_main_v30 val_main_v32

/-- The two halves of a turned row. -/
theorem first_at (x : XS) (w : WS 8192) (b : Fin 2) (p : Fin 8192) (h : Fin 32) (j : Fin 64) :
    val_main_v29 (F := Ideal) x w (ix4 b p h j)
      = proj x w b p ⟨h.val * 128 + j.val, by omega⟩ * Ideal.cos (angle p j) - proj x w b p ⟨h.val * 128 + (j.val + 64), by omega⟩ * Ideal.sin (angle p j) := by
  rw [val_main_v29_apply, val_main_v26_apply, val_main_v28_apply]
  exact congrArg₂ (· - ·) (Ideal.mul_congr (low_at x w b p h j) (table25_at b p h j)) (Ideal.mul_congr (high_at x w b p h j) (table27_at b p h j))

theorem second_at (x : XS) (w : WS 8192) (b : Fin 2) (p : Fin 8192) (h : Fin 32) (j : Fin 64) :
    val_main_v34 (F := Ideal) x w (ix4 b p h j)
      = proj x w b p ⟨h.val * 128 + (j.val + 64), by omega⟩ * Ideal.cos (angle p j) + proj x w b p ⟨h.val * 128 + j.val, by omega⟩ * Ideal.sin (angle p j) := by
  rw [val_main_v34_apply, val_main_v31_apply, val_main_v33_apply]
  exact congrArg₂ (· + ·) (Ideal.mul_congr (high_at x w b p h j) (table30_at b p h j)) (Ideal.mul_congr (low_at x w b p h j) (table32_at b p h j))

/-- Before the rows are put side by side: head `h` of a token. -/
theorem heads_at (x : XS) (w : WS 8192) (h : Fin 32) (i : Fin 16384) (l : Fin 128) :
    val_main_v37 (F := Ideal) x w (ix4 h (seqOf i) (posOf i) l) = rotated x w h i l := by
  unfold rotated turn
  pointwise [val_main_v37, val_main_v36, val_main_v35]
  by_cases hl : l.val < 64
  · rw [dif_pos hl, dif_pos hl]
    exact first_at x w (seqOf i) (posOf i) h ⟨l.val, hl⟩
  · rw [dif_neg hl, dif_neg hl]
    refine (second_at x w (seqOf i) (posOf i) h ⟨l.val - 64, by omega⟩).trans (congrArg (· * _ + _) (congrArg (proj x w _ _) (Fin.ext ?_)))
    show h.val * 128 + (l.val - 64 + 64) = h.val * 128 + l.val
    omega

theorem value38 (x : XS) (w : WS 8192) : val_main_v38 (F := Ideal) x w = one (rotated x w) := cast_one _ _ (heads_at x w) _
theorem value39 (x : XS) (w : WS 8192) : val_main_v39 (F := Ideal) x w = four (rotated x w) := cast_four _ _ (heads_at x w) _
theorem value40 (x : XS) (w : WS 8192) : val_main_v40 (F := Ideal) x w = sixteen (rotated x w) := cast_sixteen _ _ (heads_at x w) _

end Cert.ReferenceHeadsIdeal.Project

end
-- ==== Proof.HeadsClaims.lean ====
/- The claims about layer 1's queries' and keys' call. -/
module

public import proofs.«01_k».proof.Defs
public import proofs.«01_k».proof.Proof.HeadsValue
public import proofs.«01_k».proof.Proof.HeadsReference
public import proofs.«01_k».proof.Proof.Gen.KernelHeads.Frame
public import Idealize.ShloMosaic.Lib.Claim

@[expose] public section

set_option maxRecDepth 65536

noncomputable section

namespace Cert.HeadsClaims

open Idealize.ShloMosaic Idealize.ShloMosaic.TcCoe Idealize.SL.Sem

theorem frame_kernel : Cert.quiescent_KernelHeads := fun m g _ => Cert.KernelHeads.Gen.frame m g
theorem frame_ideal : Cert.quiescent_KernelHeadsIdeal := fun m g _ => Cert.KernelHeadsIdeal.Gen.frame m g
theorem frame_reference : Cert.quiescent_ReferenceHeadsIdeal := fun m g _ =>
  (θ_run Cert.ReferenceHeadsIdeal.defs _ _).mono (fun r h => ⟨fun c => (h c).2.2.2, sem_eq_zero_of_no_sems (by decide) r.2⟩)
    (Cert.ReferenceHeadsIdeal.Value.run (F := Ideal) m g)
theorem preserves : Cert.preserves_KernelHeads_KernelHeadsIdeal := trivial

theorem algebraic : Cert.algebraic_KernelHeadsIdeal_ReferenceHeadsIdeal := by
  pair_intro
  · run_from Cert.KernelHeadsIdeal.Value.run_blocks m g
  · run_from Cert.ReferenceHeadsIdeal.Value.run m' g'
    · obtain ⟨h0, h1⟩ := hagree c
      rw [Cert.ReferenceHeadsIdeal.Read.val_main_v38_eq, h0, h1]
      exact (Cert.ReferenceHeadsIdeal.Project.value38 _ _).trans (Cert.KernelHeadsIdeal.Value.final4 m c).symm
    · obtain ⟨h0, h1⟩ := hagree c
      rw [Cert.ReferenceHeadsIdeal.Read.val_main_v39_eq, h0, h1]
      exact (Cert.ReferenceHeadsIdeal.Project.value39 _ _).trans (Cert.KernelHeadsIdeal.Value.final5 m c).symm
    · obtain ⟨h0, h1⟩ := hagree c
      rw [Cert.ReferenceHeadsIdeal.Read.val_main_v40_eq, h0, h1]
      exact (Cert.ReferenceHeadsIdeal.Project.value40 _ _).trans (Cert.KernelHeadsIdeal.Value.final6 m c).symm

end Cert.HeadsClaims

end
-- ==== Proof.ViewsRows.lean ====
/- A head's rows of the values' call, at an index. -/
module

public import proofs.«01_k».proof.Proof.Gen.KernelViewsIdeal.Skeleton
public import proofs.«01_k».proof.Proof.HeadViews

@[expose] public section

set_option maxRecDepth 65536

noncomputable section

namespace Cert.KernelViewsIdeal.Value

open Idealize.ShloMosaic Idealize.ShloMosaic.TcCoe Idealize.SL.Sem Cert.KernelViewsIdeal Cert.KernelViewsIdeal.Gen
open Cert.HeadViews

variable (arg2 : Memref sig .tc .vmem S1024x2048 .bf16) (harg2 : arg2.IsWhole) (arg3 : Memref sig .tc .vmem S2048x1024 .bf16) (harg3 : arg3.IsWhole)
  (x0 : Vec Ideal S1024x2048 .bf16) (x1 : Vec Ideal S2048x1024 .bf16)

/-- Row `r`, lane `l` of head `h` of the product. -/
def headAt (h r l : ℕ) : EReal := dotAt x0 x1 r (128 * h + l)

theorem pay_at (a : Vec Ideal S512x2048 .bf16) (b : Vec Ideal S2048x1024 .bf16) (r : Fin 512) (l : Fin 1024) :
    k0_pay2 (F := Ideal) a b (ix2 r l) = ∑ k : Fin 2048, a (ix2 r k) * b (ix2 k l) := by
  pointwise [k0_pay2]

theorem product {R : ℕ} {ia ib} (hR : R + 512 ≤ 1024) (r : Fin 512) (j : Fin 1024) :
    k0_pay2 (F := Ideal) (View.readAt (Elt Ideal) arg2.view (Rect.unit (s := S1024x2048) ![R, 0] S512x2048.size ia).toLoadRect (harg2.unread x0))
      (View.readAt (Elt Ideal) arg3.view (Rect.unit (s := S2048x1024) ![0, 0] S2048x1024.size ib).toLoadRect (harg3.unread x1)) (ix2 r j)
      = dotAt x0 x1 (R + r.val) j.val := by
  rw [pay_at, dotAt, dif_pos ⟨by omega, j.isLt⟩]
  refine Finset.sum_congr rfl fun k _ => ?_
  rw [harg2.readAt_unread, harg3.readAt_unread]
  refine Ideal.mul_congr (congrArg x0 ?_) (congrArg x1 ?_)
  · funext a
    match a with
    | ⟨0, _⟩ => exact Fin.ext (show R + 1 * r.val = R + r.val by omega)
    | ⟨1, _⟩ => exact Fin.ext (show 0 + 1 * k.val = k.val by omega)
  · funext a
    match a with
    | ⟨0, _⟩ => exact Fin.ext (show 0 + 1 * k.val = k.val by omega)
    | ⟨1, _⟩ => exact Fin.ext (show 0 + 1 * j.val = j.val by omega)

theorem rows {h C R : ℕ} {ia ib s} (hC : C = 128 * h) (hR : R + 512 ≤ 1024 ∧ h < 8) (r : Fin 512) (l : Fin 128) :
    extractStridedSlice S512x128 ![0, C]
      (k0_pay2 (F := Ideal) (View.readAt (Elt Ideal) arg2.view (Rect.unit (s := S1024x2048) ![R, 0] S512x2048.size ia).toLoadRect (harg2.unread x0))
        (View.readAt (Elt Ideal) arg3.view (Rect.unit (s := S2048x1024) ![0, 0] S2048x1024.size ib).toLoadRect (harg3.unread x1))) s (ix2 r l)
      = headAt x0 x1 h (R + r.val) l.val := by
  have hj : 128 * h + l.val < 1024 := by omega
  refine (extractStridedSlice_apply _ _ s _ (ix2 r ⟨128 * h + l.val, hj⟩) fun a => ?_).trans (product arg2 harg2 arg3 harg3 x0 x1 hR.1 r _)
  match a with
  | ⟨0, _⟩ => show r.val = 0 + r.val; omega
  | ⟨1, _⟩ => show 128 * h + l.val = C + l.val; omega

end Cert.KernelViewsIdeal.Value

end
-- ==== Proof.ViewsStores.lean ====
/- What the body of the values' call leaves in its scratch buffers and result blocks, store by store. -/
module

public import proofs.«01_k».proof.Proof.Gen.KernelViewsIdeal.Value
public import proofs.«01_k».proof.Proof.ViewsRows

@[expose] public section

set_option maxRecDepth 65536
set_option maxHeartbeats 4000000

noncomputable section

namespace Cert.KernelViewsIdeal.Value

open Idealize.ShloMosaic Idealize.ShloMosaic.TcCoe Idealize.SL.Sem Cert.KernelViewsIdeal Cert.KernelViewsIdeal.Gen
open Cert.HeadViews

attribute [local irreducible] shapeCast extractStridedSlice truncf View.readCov dotAt

variable (c : Dev nD) (i : grid0.Coords) (arg2 : Memref sig .tc .vmem S1024x2048 .bf16) (harg2 : arg2.IsWhole)
  (arg3 : Memref sig .tc .vmem S2048x1024 .bf16) (harg3 : arg3.IsWhole)
  (arg4 : Memref sig .tc .vmem S1024x128 .f32) (harg4 : arg4.IsWhole) (arg5 : Memref sig .tc .vmem S1024x128 .f32) (harg5 : arg5.IsWhole)
  (arg6 : Memref sig .tc .vmem S8x1024x128 .bf16) (harg6 : arg6.IsWhole) (arg7 : Memref sig .tc .vmem S8x256x512 .bf16) (harg7 : arg7.IsWhole)
  (arg8 : Memref sig .tc .vmem S8x64x2048 .bf16) (harg8 : arg8.IsWhole) (arg9 : Memref sig .tc .vmem S8x1x1024x128 .f32) (harg9 : arg9.IsWhole)
  (arg10 : Memref sig .tc .vmem S8x4x256x128 .f32) (harg10 : arg10.IsWhole)
  (x0 : Vec Ideal S1024x2048 .bf16) (x1 : Vec Ideal S2048x1024 .bf16) (x2 : Vec Ideal S1024x128 .f32) (x3 : Vec Ideal S1024x128 .f32)

theorem plane_1 : Agrees (plane (headAt x0 x1)) (kernelRun0_A.sl.HS0_1 c arg2 harg2 arg3 harg3 x0 x1) :=
  agrees_cons (plane_piece (rows arg2 harg2 arg3 harg3 x0 x1 (by decide) (by decide))) (agrees_nil _)
theorem plane_cov_1 : Plane.Covers (kernelRun0_A.sl.HS0_1 c arg2 harg2 arg3 harg3 x0 x1) 0 0 := Plane.covers rfl _ _

theorem plane_2 : Agrees (plane (headAt x0 x1)) (kernelRun0_A.sl.HS0_2 c arg2 harg2 arg3 harg3 x0 x1) :=
  agrees_cons (plane_piece (rows arg2 harg2 arg3 harg3 x0 x1 (by decide) (by decide))) (plane_1 c arg2 harg2 arg3 harg3 x0 x1)
theorem plane_cov_2 : Plane.Covers (kernelRun0_A.sl.HS0_2 c arg2 harg2 arg3 harg3 x0 x1) 1 0 := Plane.covers rfl _ _

theorem plane_3 : Agrees (plane (headAt x0 x1)) (kernelRun0_A.sl.HS0_3 c arg2 harg2 arg3 harg3 x0 x1) :=
  agrees_cons (plane_piece (rows arg2 harg2 arg3 harg3 x0 x1 (by decide) (by decide))) (plane_2 c arg2 harg2 arg3 harg3 x0 x1)
theorem plane_cov_3 : Plane.Covers (kernelRun0_A.sl.HS0_3 c arg2 harg2 arg3 harg3 x0 x1) 2 0 := Plane.covers rfl _ _

theorem plane_4 : Agrees (plane (headAt x0 x1)) (kernelRun0_A.sl.HS0_4 c arg2 harg2 arg3 harg3 x0 x1) :=
  agrees_cons (plane_piece (rows arg2 harg2 arg3 harg3 x0 x1 (by decide) (by decide))) (plane_3 c arg2 harg2 arg3 harg3 x0 x1)
theorem plane_cov_4 : Plane.Covers (kernelRun0_A.sl.HS0_4 c arg2 harg2 arg3 harg3 x0 x1) 3 0 := Plane.covers rfl _ _

theorem plane_5 : Agrees (plane (headAt x0 x1)) (kernelRun0_A.sl.HS0_5 c arg2 harg2 arg3 harg3 x0 x1) :=
  agrees_cons (plane_piece (rows arg2 harg2 arg3 harg3 x0 x1 (by decide) (by decide))) (plane_4 c arg2 harg2 arg3 harg3 x0 x1)
theorem plane_cov_5 : Plane.Covers (kernelRun0_A.sl.HS0_5 c arg2 harg2 arg3 harg3 x0 x1) 4 0 := Plane.covers rfl _ _

theorem plane_6 : Agrees (plane (headAt x0 x1)) (kernelRun0_A.sl.HS0_6 c arg2 harg2 arg3 harg3 x0 x1) :=
  agrees_cons (plane_piece (rows arg2 harg2 arg3 harg3 x0 x1 (by decide) (by decide))) (plane_5 c arg2 harg2 arg3 harg3 x0 x1)
theorem plane_cov_6 : Plane.Covers (kernelRun0_A.sl.HS0_6 c arg2 harg2 arg3 harg3 x0 x1) 5 0 := Plane.covers rfl _ _

theorem plane_7 : Agrees (plane (headAt x0 x1)) (kernelRun0_A.sl.HS0_7 c arg2 harg2 arg3 harg3 x0 x1) :=
  agrees_cons (plane_piece (rows arg2 harg2 arg3 harg3 x0 x1 (by decide) (by decide))) (plane_6 c arg2 harg2 arg3 harg3 x0 x1)
theorem plane_cov_7 : Plane.Covers (kernelRun0_A.sl.HS0_7 c arg2 harg2 arg3 harg3 x0 x1) 6 0 := Plane.covers rfl _ _

theorem plane_8 : Agrees (plane (headAt x0 x1)) (kernelRun0_A.sl.HS0_8 c arg2 harg2 arg3 harg3 x0 x1) :=
  agrees_cons (plane_piece (rows arg2 harg2 arg3 harg3 x0 x1 (by decide) (by decide))) (plane_7 c arg2 harg2 arg3 harg3 x0 x1)
theorem plane_cov_8 : Plane.Covers (kernelRun0_A.sl.HS0_8 c arg2 harg2 arg3 harg3 x0 x1) 7 0 := Plane.covers rfl _ _

theorem plane_9 : Agrees (plane (headAt x0 x1)) (kernelRun0_A.sl.HS0_9 c arg2 harg2 arg3 harg3 x0 x1) :=
  agrees_cons (plane_piece (rows arg2 harg2 arg3 harg3 x0 x1 (by decide) (by decide))) (plane_8 c arg2 harg2 arg3 harg3 x0 x1)
theorem plane_cov_9 : Plane.Covers (kernelRun0_A.sl.HS0_9 c arg2 harg2 arg3 harg3 x0 x1) 0 1 := Plane.covers rfl _ _

theorem plane_10 : Agrees (plane (headAt x0 x1)) (kernelRun0_A.sl.HS0_10 c arg2 harg2 arg3 harg3 x0 x1) :=
  agrees_cons (plane_piece (rows arg2 harg2 arg3 harg3 x0 x1 (by decide) (by decide))) (plane_9 c arg2 harg2 arg3 harg3 x0 x1)
theorem plane_cov_10 : Plane.Covers (kernelRun0_A.sl.HS0_10 c arg2 harg2 arg3 harg3 x0 x1) 1 1 := Plane.covers rfl _ _

theorem plane_11 : Agrees (plane (headAt x0 x1)) (kernelRun0_A.sl.HS0_11 c arg2 harg2 arg3 harg3 x0 x1) :=
  agrees_cons (plane_piece (rows arg2 harg2 arg3 harg3 x0 x1 (by decide) (by decide))) (plane_10 c arg2 harg2 arg3 harg3 x0 x1)
theorem plane_cov_11 : Plane.Covers (kernelRun0_A.sl.HS0_11 c arg2 harg2 arg3 harg3 x0 x1) 2 1 := Plane.covers rfl _ _

theorem plane_12 : Agrees (plane (headAt x0 x1)) (kernelRun0_A.sl.HS0_12 c arg2 harg2 arg3 harg3 x0 x1) :=
  agrees_cons (plane_piece (rows arg2 harg2 arg3 harg3 x0 x1 (by decide) (by decide))) (plane_11 c arg2 harg2 arg3 harg3 x0 x1)
theorem plane_cov_12 : Plane.Covers (kernelRun0_A.sl.HS0_12 c arg2 harg2 arg3 harg3 x0 x1) 3 1 := Plane.covers rfl _ _

theorem plane_13 : Agrees (plane (headAt x0 x1)) (kernelRun0_A.sl.HS0_13 c arg2 harg2 arg3 harg3 x0 x1) :=
  agrees_cons (plane_piece (rows arg2 harg2 arg3 harg3 x0 x1 (by decide) (by decide))) (plane_12 c arg2 harg2 arg3 harg3 x0 x1)
theorem plane_cov_13 : Plane.Covers (kernelRun0_A.sl.HS0_13 c arg2 harg2 arg3 harg3 x0 x1) 4 1 := Plane.covers rfl _ _

theorem plane_14 : Agrees (plane (headAt x0 x1)) (kernelRun0_A.sl.HS0_14 c arg2 harg2 arg3 harg3 x0 x1) :=
  agrees_cons (plane_piece (rows arg2 harg2 arg3 harg3 x0 x1 (by decide) (by decide))) (plane_13 c arg2 harg2 arg3 harg3 x0 x1)
theorem plane_cov_14 : Plane.Covers (kernelRun0_A.sl.HS0_14 c arg2 harg2 arg3 harg3 x0 x1) 5 1 := Plane.covers rfl _ _

theorem plane_15 : Agrees (plane (headAt x0 x1)) (kernelRun0_A.sl.HS0_15 c arg2 harg2 arg3 harg3 x0 x1) :=
  agrees_cons (plane_piece (rows arg2 harg2 arg3 harg3 x0 x1 (by decide) (by decide))) (plane_14 c arg2 harg2 arg3 harg3 x0 x1)
theorem plane_cov_15 : Plane.Covers (kernelRun0_A.sl.HS0_15 c arg2 harg2 arg3 harg3 x0 x1) 6 1 := Plane.covers rfl _ _

theorem plane_16 : Agrees (plane (headAt x0 x1)) (kernelRun0_A.sl.HS0_16 c arg2 harg2 arg3 harg3 x0 x1) :=
  agrees_cons (plane_piece (rows arg2 harg2 arg3 harg3 x0 x1 (by decide) (by decide))) (plane_15 c arg2 harg2 arg3 harg3 x0 x1)
theorem plane_cov_16 : Plane.Covers (kernelRun0_A.sl.HS0_16 c arg2 harg2 arg3 harg3 x0 x1) 7 1 := Plane.covers rfl _ _

theorem fours_1 : Agrees (fours (headAt x0 x1)) (kernelRun0_A.sl.HS1_4 c arg2 harg2 arg3 harg3 arg9 x0 x1) := by
  unfold kernelRun0_A.sl.HS1_4
  iterate 4 refine agrees_cons (fours_piece (plane_1 c arg2 harg2 arg3 harg3 x0 x1) (plane_cov_1 c arg2 harg2 arg3 harg3 x0 x1) (by decide) (by decide)) ?_
  exact (agrees_nil _)
theorem fours_cov_1 : Fours.Covers (kernelRun0_A.sl.HS1_4 c arg2 harg2 arg3 harg3 arg9 x0 x1) 0 0 := Fours.covers rfl _ _ _ _ _

theorem fours_2 : Agrees (fours (headAt x0 x1)) (kernelRun0_A.sl.HS1_8 c arg2 harg2 arg3 harg3 arg9 x0 x1) := by
  unfold kernelRun0_A.sl.HS1_8
  iterate 4 refine agrees_cons (fours_piece (plane_2 c arg2 harg2 arg3 harg3 x0 x1) (plane_cov_2 c arg2 harg2 arg3 harg3 x0 x1) (by decide) (by decide)) ?_
  exact (fours_1 c arg2 harg2 arg3 harg3 arg9 x0 x1)
theorem fours_cov_2 : Fours.Covers (kernelRun0_A.sl.HS1_8 c arg2 harg2 arg3 harg3 arg9 x0 x1) 1 0 := Fours.covers rfl _ _ _ _ _

theorem fours_3 : Agrees (fours (headAt x0 x1)) (kernelRun0_A.sl.HS1_12 c arg2 harg2 arg3 harg3 arg9 x0 x1) := by
  unfold kernelRun0_A.sl.HS1_12
  iterate 4 refine agrees_cons (fours_piece (plane_3 c arg2 harg2 arg3 harg3 x0 x1) (plane_cov_3 c arg2 harg2 arg3 harg3 x0 x1) (by decide) (by decide)) ?_
  exact (fours_2 c arg2 harg2 arg3 harg3 arg9 x0 x1)
theorem fours_cov_3 : Fours.Covers (kernelRun0_A.sl.HS1_12 c arg2 harg2 arg3 harg3 arg9 x0 x1) 2 0 := Fours.covers rfl _ _ _ _ _

theorem fours_4 : Agrees (fours (headAt x0 x1)) (kernelRun0_A.sl.HS1_16 c arg2 harg2 arg3 harg3 arg9 x0 x1) := by
  unfold kernelRun0_A.sl.HS1_16
  iterate 4 refine agrees_cons (fours_piece (plane_4 c arg2 harg2 arg3 harg3 x0 x1) (plane_cov_4 c arg2 harg2 arg3 harg3 x0 x1) (by decide) (by decide)) ?_
  exact (fours_3 c arg2 harg2 arg3 harg3 arg9 x0 x1)
theorem fours_cov_4 : Fours.Covers (kernelRun0_A.sl.HS1_16 c arg2 harg2 arg3 harg3 arg9 x0 x1) 3 0 := Fours.covers rfl _ _ _ _ _

theorem fours_5 : Agrees (fours (headAt x0 x1)) (kernelRun0_A.sl.HS1_20 c arg2 harg2 arg3 harg3 arg9 x0 x1) := by
  unfold kernelRun0_A.sl.HS1_20
  iterate 4 refine agrees_cons (fours_piece (plane_5 c arg2 harg2 arg3 harg3 x0 x1) (plane_cov_5 c arg2 harg2 arg3 harg3 x0 x1) (by decide) (by decide)) ?_
  exact (fours_4 c arg2 harg2 arg3 harg3 arg9 x0 x1)
theorem fours_cov_5 : Fours.Covers (kernelRun0_A.sl.HS1_20 c arg2 harg2 arg3 harg3 arg9 x0 x1) 4 0 := Fours.covers rfl _ _ _ _ _

theorem fours_6 : Agrees (fours (headAt x0 x1)) (kernelRun0_A.sl.HS1_24 c arg2 harg2 arg3 harg3 arg9 x0 x1) := by
  unfold kernelRun0_A.sl.HS1_24
  iterate 4 refine agrees_cons (fours_piece (plane_6 c arg2 harg2 arg3 harg3 x0 x1) (plane_cov_6 c arg2 harg2 arg3 harg3 x0 x1) (by decide) (by decide)) ?_
  exact (fours_5 c arg2 harg2 arg3 harg3 arg9 x0 x1)
theorem fours_cov_6 : Fours.Covers (kernelRun0_A.sl.HS1_24 c arg2 harg2 arg3 harg3 arg9 x0 x1) 5 0 := Fours.covers rfl _ _ _ _ _

theorem fours_7 : Agrees (fours (headAt x0 x1)) (kernelRun0_A.sl.HS1_28 c arg2 harg2 arg3 harg3 arg9 x0 x1) := by
  unfold kernelRun0_A.sl.HS1_28
  iterate 4 refine agrees_cons (fours_piece (plane_7 c arg2 harg2 arg3 harg3 x0 x1) (plane_cov_7 c arg2 harg2 arg3 harg3 x0 x1) (by decide) (by decide)) ?_
  exact (fours_6 c arg2 harg2 arg3 harg3 arg9 x0 x1)
theorem fours_cov_7 : Fours.Covers (kernelRun0_A.sl.HS1_28 c arg2 harg2 arg3 harg3 arg9 x0 x1) 6 0 := Fours.covers rfl _ _ _ _ _

theorem fours_8 : Agrees (fours (headAt x0 x1)) (kernelRun0_A.sl.HS1_32 c arg2 harg2 arg3 harg3 arg9 x0 x1) := by
  unfold kernelRun0_A.sl.HS1_32
  iterate 4 refine agrees_cons (fours_piece (plane_8 c arg2 harg2 arg3 harg3 x0 x1) (plane_cov_8 c arg2 harg2 arg3 harg3 x0 x1) (by decide) (by decide)) ?_
  exact (fours_7 c arg2 harg2 arg3 harg3 arg9 x0 x1)
theorem fours_cov_8 : Fours.Covers (kernelRun0_A.sl.HS1_32 c arg2 harg2 arg3 harg3 arg9 x0 x1) 7 0 := Fours.covers rfl _ _ _ _ _

theorem fours_9 : Agrees (fours (headAt x0 x1)) (kernelRun0_A.sl.HS1_36 c arg2 harg2 arg3 harg3 arg9 x0 x1) := by
  unfold kernelRun0_A.sl.HS1_36
  iterate 4 refine agrees_cons (fours_piece (plane_9 c arg2 harg2 arg3 harg3 x0 x1) (plane_cov_9 c arg2 harg2 arg3 harg3 x0 x1) (by decide) (by decide)) ?_
  exact (fours_8 c arg2 harg2 arg3 harg3 arg9 x0 x1)
theorem fours_cov_9 : Fours.Covers (kernelRun0_A.sl.HS1_36 c arg2 harg2 arg3 harg3 arg9 x0 x1) 0 1 := Fours.covers rfl _ _ _ _ _

theorem fours_10 : Agrees (fours (headAt x0 x1)) (kernelRun0_A.sl.HS1_40 c arg2 harg2 arg3 harg3 arg9 x0 x1) := by
  unfold kernelRun0_A.sl.HS1_40
  iterate 4 refine agrees_cons (fours_piece (plane_10 c arg2 harg2 arg3 harg3 x0 x1) (plane_cov_10 c arg2 harg2 arg3 harg3 x0 x1) (by decide) (by decide)) ?_
  exact (fours_9 c arg2 harg2 arg3 harg3 arg9 x0 x1)
theorem fours_cov_10 : Fours.Covers (kernelRun0_A.sl.HS1_40 c arg2 harg2 arg3 harg3 arg9 x0 x1) 1 1 := Fours.covers rfl _ _ _ _ _

theorem fours_11 : Agrees (fours (headAt x0 x1)) (kernelRun0_A.sl.HS1_44 c arg2 harg2 arg3 harg3 arg9 x0 x1) := by
  unfold kernelRun0_A.sl.HS1_44
  iterate 4 refine agrees_cons (fours_piece (plane_11 c arg2 harg2 arg3 harg3 x0 x1) (plane_cov_11 c arg2 harg2 arg3 harg3 x0 x1) (by decide) (by decide)) ?_
  exact (fours_10 c arg2 harg2 arg3 harg3 arg9 x0 x1)
theorem fours_cov_11 : Fours.Covers (kernelRun0_A.sl.HS1_44 c arg2 harg2 arg3 harg3 arg9 x0 x1) 2 1 := Fours.covers rfl _ _ _ _ _

theorem fours_12 : Agrees (fours (headAt x0 x1)) (kernelRun0_A.sl.HS1_48 c arg2 harg2 arg3 harg3 arg9 x0 x1) := by
  unfold kernelRun0_A.sl.HS1_48
  iterate 4 refine agrees_cons (fours_piece (plane_12 c arg2 harg2 arg3 harg3 x0 x1) (plane_cov_12 c arg2 harg2 arg3 harg3 x0 x1) (by decide) (by decide)) ?_
  exact (fours_11 c arg2 harg2 arg3 harg3 arg9 x0 x1)
theorem fours_cov_12 : Fours.Covers (kernelRun0_A.sl.HS1_48 c arg2 harg2 arg3 harg3 arg9 x0 x1) 3 1 := Fours.covers rfl _ _ _ _ _

theorem fours_13 : Agrees (fours (headAt x0 x1)) (kernelRun0_A.sl.HS1_52 c arg2 harg2 arg3 harg3 arg9 x0 x1) := by
  unfold kernelRun0_A.sl.HS1_52
  iterate 4 refine agrees_cons (fours_piece (plane_13 c arg2 harg2 arg3 harg3 x0 x1) (plane_cov_13 c arg2 harg2 arg3 harg3 x0 x1) (by decide) (by decide)) ?_
  exact (fours_12 c arg2 harg2 arg3 harg3 arg9 x0 x1)
theorem fours_cov_13 : Fours.Covers (kernelRun0_A.sl.HS1_52 c arg2 harg2 arg3 harg3 arg9 x0 x1) 4 1 := Fours.covers rfl _ _ _ _ _

theorem fours_14 : Agrees (fours (headAt x0 x1)) (kernelRun0_A.sl.HS1_56 c arg2 harg2 arg3 harg3 arg9 x0 x1) := by
  unfold kernelRun0_A.sl.HS1_56
  iterate 4 refine agrees_cons (fours_piece (plane_14 c arg2 harg2 arg3 harg3 x0 x1) (plane_cov_14 c arg2 harg2 arg3 harg3 x0 x1) (by decide) (by decide)) ?_
  exact (fours_13 c arg2 harg2 arg3 harg3 arg9 x0 x1)
theorem fours_cov_14 : Fours.Covers (kernelRun0_A.sl.HS1_56 c arg2 harg2 arg3 harg3 arg9 x0 x1) 5 1 := Fours.covers rfl _ _ _ _ _

theorem fours_15 : Agrees (fours (headAt x0 x1)) (kernelRun0_A.sl.HS1_60 c arg2 harg2 arg3 harg3 arg9 x0 x1) := by
  unfold kernelRun0_A.sl.HS1_60
  iterate 4 refine agrees_cons (fours_piece (plane_15 c arg2 harg2 arg3 harg3 x0 x1) (plane_cov_15 c arg2 harg2 arg3 harg3 x0 x1) (by decide) (by decide)) ?_
  exact (fours_14 c arg2 harg2 arg3 harg3 arg9 x0 x1)
theorem fours_cov_15 : Fours.Covers (kernelRun0_A.sl.HS1_60 c arg2 harg2 arg3 harg3 arg9 x0 x1) 6 1 := Fours.covers rfl _ _ _ _ _

theorem fours_16 : Agrees (fours (headAt x0 x1)) (kernelRun0_A.sl.HS1_64 c arg2 harg2 arg3 harg3 arg9 x0 x1) := by
  unfold kernelRun0_A.sl.HS1_64
  iterate 4 refine agrees_cons (fours_piece (plane_16 c arg2 harg2 arg3 harg3 x0 x1) (plane_cov_16 c arg2 harg2 arg3 harg3 x0 x1) (by decide) (by decide)) ?_
  exact (fours_15 c arg2 harg2 arg3 harg3 arg9 x0 x1)
theorem fours_cov_16 : Fours.Covers (kernelRun0_A.sl.HS1_64 c arg2 harg2 arg3 harg3 arg9 x0 x1) 7 1 := Fours.covers rfl _ _ _ _ _

theorem view1_run : Agrees (view1 (headAt x0 x1)) (kernelRun0_A (F := Ideal) c i arg2 harg2 arg3 harg3 arg4 harg4 arg5 harg5 arg6 harg6 arg7 harg7 arg8 harg8 arg9 harg9 arg10 harg10 x0 x1 x2 x3).1 := by
  unfold kernelRun0_A
  dsimp only
  iterate 16 refine agrees_cons (view1_piece (rows arg2 harg2 arg3 harg3 x0 x1 (by decide) (by decide))) ?_
  exact agrees_nil _

theorem view4_run : Agrees (view4 (headAt x0 x1)) (kernelRun0_A (F := Ideal) c i arg2 harg2 arg3 harg3 arg4 harg4 arg5 harg5 arg6 harg6 arg7 harg7 arg8 harg8 arg9 harg9 arg10 harg10 x0 x1 x2 x3).2.1 := by
  unfold kernelRun0_A
  dsimp only
  iterate 4 refine agrees_cons (view4_piece (plane_16 c arg2 harg2 arg3 harg3 x0 x1) (plane_cov_16 c arg2 harg2 arg3 harg3 x0 x1) (by decide) (by decide) (by decide)) ?_
  iterate 4 refine agrees_cons (view4_piece (plane_15 c arg2 harg2 arg3 harg3 x0 x1) (plane_cov_15 c arg2 harg2 arg3 harg3 x0 x1) (by decide) (by decide) (by decide)) ?_
  iterate 4 refine agrees_cons (view4_piece (plane_14 c arg2 harg2 arg3 harg3 x0 x1) (plane_cov_14 c arg2 harg2 arg3 harg3 x0 x1) (by decide) (by decide) (by decide)) ?_
  iterate 4 refine agrees_cons (view4_piece (plane_13 c arg2 harg2 arg3 harg3 x0 x1) (plane_cov_13 c arg2 harg2 arg3 harg3 x0 x1) (by decide) (by decide) (by decide)) ?_
  iterate 4 refine agrees_cons (view4_piece (plane_12 c arg2 harg2 arg3 harg3 x0 x1) (plane_cov_12 c arg2 harg2 arg3 harg3 x0 x1) (by decide) (by decide) (by decide)) ?_
  iterate 4 refine agrees_cons (view4_piece (plane_11 c arg2 harg2 arg3 harg3 x0 x1) (plane_cov_11 c arg2 harg2 arg3 harg3 x0 x1) (by decide) (by decide) (by decide)) ?_
  iterate 4 refine agrees_cons (view4_piece (plane_10 c arg2 harg2 arg3 harg3 x0 x1) (plane_cov_10 c arg2 harg2 arg3 harg3 x0 x1) (by decide) (by decide) (by decide)) ?_
  iterate 4 refine agrees_cons (view4_piece (plane_9 c arg2 harg2 arg3 harg3 x0 x1) (plane_cov_9 c arg2 harg2 arg3 harg3 x0 x1) (by decide) (by decide) (by decide)) ?_
  iterate 4 refine agrees_cons (view4_piece (plane_8 c arg2 harg2 arg3 harg3 x0 x1) (plane_cov_8 c arg2 harg2 arg3 harg3 x0 x1) (by decide) (by decide) (by decide)) ?_
  iterate 4 refine agrees_cons (view4_piece (plane_7 c arg2 harg2 arg3 harg3 x0 x1) (plane_cov_7 c arg2 harg2 arg3 harg3 x0 x1) (by decide) (by decide) (by decide)) ?_
  iterate 4 refine agrees_cons (view4_piece (plane_6 c arg2 harg2 arg3 harg3 x0 x1) (plane_cov_6 c arg2 harg2 arg3 harg3 x0 x1) (by decide) (by decide) (by decide)) ?_
  iterate 4 refine agrees_cons (view4_piece (plane_5 c arg2 harg2 arg3 harg3 x0 x1) (plane_cov_5 c arg2 harg2 arg3 harg3 x0 x1) (by decide) (by decide) (by decide)) ?_
  iterate 4 refine agrees_cons (view4_piece (plane_4 c arg2 harg2 arg3 harg3 x0 x1) (plane_cov_4 c arg2 harg2 arg3 harg3 x0 x1) (by decide) (by decide) (by decide)) ?_
  iterate 4 refine agrees_cons (view4_piece (plane_3 c arg2 harg2 arg3 harg3 x0 x1) (plane_cov_3 c arg2 harg2 arg3 harg3 x0 x1) (by decide) (by decide) (by decide)) ?_
  iterate 4 refine agrees_cons (view4_piece (plane_2 c arg2 harg2 arg3 harg3 x0 x1) (plane_cov_2 c arg2 harg2 arg3 harg3 x0 x1) (by decide) (by decide) (by decide)) ?_
  iterate 4 refine agrees_cons (view4_piece (plane_1 c arg2 harg2 arg3 harg3 x0 x1) (plane_cov_1 c arg2 harg2 arg3 harg3 x0 x1) (by decide) (by decide) (by decide)) ?_
  exact agrees_nil _

theorem view16_run : Agrees (view16 (headAt x0 x1)) (kernelRun0_A (F := Ideal) c i arg2 harg2 arg3 harg3 arg4 harg4 arg5 harg5 arg6 harg6 arg7 harg7 arg8 harg8 arg9 harg9 arg10 harg10 x0 x1 x2 x3).2.2.1 := by
  unfold kernelRun0_A
  dsimp only
  iterate 16 refine agrees_cons (view16_piece (fours_16 c arg2 harg2 arg3 harg3 arg9 x0 x1) (fours_cov_16 c arg2 harg2 arg3 harg3 arg9 x0 x1) (by decide) (by decide) (by decide)) ?_
  iterate 16 refine agrees_cons (view16_piece (fours_15 c arg2 harg2 arg3 harg3 arg9 x0 x1) (fours_cov_15 c arg2 harg2 arg3 harg3 arg9 x0 x1) (by decide) (by decide) (by decide)) ?_
  iterate 16 refine agrees_cons (view16_piece (fours_14 c arg2 harg2 arg3 harg3 arg9 x0 x1) (fours_cov_14 c arg2 harg2 arg3 harg3 arg9 x0 x1) (by decide) (by decide) (by decide)) ?_
  iterate 16 refine agrees_cons (view16_piece (fours_13 c arg2 harg2 arg3 harg3 arg9 x0 x1) (fours_cov_13 c arg2 harg2 arg3 harg3 arg9 x0 x1) (by decide) (by decide) (by decide)) ?_
  iterate 16 refine agrees_cons (view16_piece (fours_12 c arg2 harg2 arg3 harg3 arg9 x0 x1) (fours_cov_12 c arg2 harg2 arg3 harg3 arg9 x0 x1) (by decide) (by decide) (by decide)) ?_
  iterate 16 refine agrees_cons (view16_piece (fours_11 c arg2 harg2 arg3 harg3 arg9 x0 x1) (fours_cov_11 c arg2 harg2 arg3 harg3 arg9 x0 x1) (by decide) (by decide) (by decide)) ?_
  iterate 16 refine agrees_cons (view16_piece (fours_10 c arg2 harg2 arg3 harg3 arg9 x0 x1) (fours_cov_10 c arg2 harg2 arg3 harg3 arg9 x0 x1) (by decide) (by decide) (by decide)) ?_
  iterate 16 refine agrees_cons (view16_piece (fours_9 c arg2 harg2 arg3 harg3 arg9 x0 x1) (fours_cov_9 c arg2 harg2 arg3 harg3 arg9 x0 x1) (by decide) (by decide) (by decide)) ?_
  iterate 16 refine agrees_cons (view16_piece (fours_8 c arg2 harg2 arg3 harg3 arg9 x0 x1) (fours_cov_8 c arg2 harg2 arg3 harg3 arg9 x0 x1) (by decide) (by decide) (by decide)) ?_
  iterate 16 refine agrees_cons (view16_piece (fours_7 c arg2 harg2 arg3 harg3 arg9 x0 x1) (fours_cov_7 c arg2 harg2 arg3 harg3 arg9 x0 x1) (by decide) (by decide) (by decide)) ?_
  iterate 16 refine agrees_cons (view16_piece (fours_6 c arg2 harg2 arg3 harg3 arg9 x0 x1) (fours_cov_6 c arg2 harg2 arg3 harg3 arg9 x0 x1) (by decide) (by decide) (by decide)) ?_
  iterate 16 refine agrees_cons (view16_piece (fours_5 c arg2 harg2 arg3 harg3 arg9 x0 x1) (fours_cov_5 c arg2 harg2 arg3 harg3 arg9 x0 x1) (by decide) (by decide) (by decide)) ?_
  iterate 16 refine agrees_cons (view16_piece (fours_4 c arg2 harg2 arg3 harg3 arg9 x0 x1) (fours_cov_4 c arg2 harg2 arg3 harg3 arg9 x0 x1) (by decide) (by decide) (by decide)) ?_
  iterate 16 refine agrees_cons (view16_piece (fours_3 c arg2 harg2 arg3 harg3 arg9 x0 x1) (fours_cov_3 c arg2 harg2 arg3 harg3 arg9 x0 x1) (by decide) (by decide) (by decide)) ?_
  iterate 16 refine agrees_cons (view16_piece (fours_2 c arg2 harg2 arg3 harg3 arg9 x0 x1) (fours_cov_2 c arg2 harg2 arg3 harg3 arg9 x0 x1) (by decide) (by decide) (by decide)) ?_
  iterate 16 refine agrees_cons (view16_piece (fours_1 c arg2 harg2 arg3 harg3 arg9 x0 x1) (fours_cov_1 c arg2 harg2 arg3 harg3 arg9 x0 x1) (by decide) (by decide) (by decide)) ?_
  exact agrees_nil _

theorem out4 : out0_A_4 (F := Ideal) c i arg2 harg2 arg3 harg3 arg4 harg4 arg5 harg5 arg6 harg6 arg7 harg7 arg8 harg8 arg9 harg9 arg10 harg10 x0 x1 x2 x3 = view1 (headAt x0 x1) := by
  funext y
  unfold out0_A_4
  rw [View.read_writes_junk_eq_canon]
  exact View.canon_apply_of_pieces (Val := Elt Ideal) (S := S8x1024x128) (e := .bf16) _ _ (view1_run c i arg2 harg2 arg3 harg3 arg4 harg4 arg5 harg5 arg6 harg6 arg7 harg7 arg8 harg8 arg9 harg9 arg10 harg10 x0 x1 x2 x3) y (cover0_A_4 c i arg2 harg2 arg3 harg3 arg4 harg4 arg5 harg5 arg6 harg6 arg7 harg7 arg8 harg8 arg9 harg9 arg10 harg10 x0 x1 x2 x3 y)

theorem out5 : out0_A_5 (F := Ideal) c i arg2 harg2 arg3 harg3 arg4 harg4 arg5 harg5 arg6 harg6 arg7 harg7 arg8 harg8 arg9 harg9 arg10 harg10 x0 x1 x2 x3 = view4 (headAt x0 x1) := by
  funext y
  unfold out0_A_5
  rw [View.read_writes_junk_eq_canon]
  exact View.canon_apply_of_pieces (Val := Elt Ideal) (S := S8x256x512) (e := .bf16) _ _ (view4_run c i arg2 harg2 arg3 harg3 arg4 harg4 arg5 harg5 arg6 harg6 arg7 harg7 arg8 harg8 arg9 harg9 arg10 harg10 x0 x1 x2 x3) y (cover0_A_5 c i arg2 harg2 arg3 harg3 arg4 harg4 arg5 harg5 arg6 harg6 arg7 harg7 arg8 harg8 arg9 harg9 arg10 harg10 x0 x1 x2 x3 y)

theorem out6 : out0_A_6 (F := Ideal) c i arg2 harg2 arg3 harg3 arg4 harg4 arg5 harg5 arg6 harg6 arg7 harg7 arg8 harg8 arg9 harg9 arg10 harg10 x0 x1 x2 x3 = view16 (headAt x0 x1) := by
  funext y
  unfold out0_A_6
  rw [View.read_writes_junk_eq_canon]
  exact View.canon_apply_of_pieces (Val := Elt Ideal) (S := S8x64x2048) (e := .bf16) _ _ (view16_run c i arg2 harg2 arg3 harg3 arg4 harg4 arg5 harg5 arg6 harg6 arg7 harg7 arg8 harg8 arg9 harg9 arg10 harg10 x0 x1 x2 x3) y (cover0_A_6 c i arg2 harg2 arg3 harg3 arg4 harg4 arg5 harg5 arg6 harg6 arg7 harg7 arg8 harg8 arg9 harg9 arg10 harg10 x0 x1 x2 x3 y)

end Cert.KernelViewsIdeal.Value

end
-- ==== Proof.ViewsValue.lean ====
/- Layer 1's values per head: what the call leaves, and what the reference gives. -/
module

public import proofs.«01_k».proof.Proof.Gen.KernelViewsIdeal.Value
public import proofs.«01_k».proof.Proof.Gen.ReferenceViewsIdeal.Read
public import Idealize.ShloMosaic.Lib.Pipeline.ValueKit
public import proofs.«01_k».proof.Proof.HeadTokens
public import proofs.«01_k».proof.Proof.ViewsStores

@[expose] public section

set_option maxRecDepth 65536

noncomputable section

namespace Cert.KernelViewsIdeal.Value

open Idealize.ShloMosaic Idealize.ShloMosaic.TcCoe Idealize.SL.Sem Cert.KernelViewsIdeal Cert.KernelViewsIdeal.Gen
open Idealize.ShloMosaic.Pipeline (Dat)
open Cert.Projection Cert.HeadTokens Cert.HeadViews

variable (m : (ℓ : Loc nD τ sig) → Buf (Elt Ideal) ℓ)

theorem idx : ∀ t : Fin cfg0.N, win0_0.index t = ![t.val / 2, 0] ∧ win0_1.index t = ![0, 4 + t.val % 2]
    ∧ win0_4.index t = ![t.val % 2, t.val / 2, 0] ∧ win0_5.index t = ![t.val % 2, t.val / 2, 0] ∧ win0_6.index t = ![t.val % 2, t.val / 2, 0] :=
  (by decide +kernel : ∀ t : Fin grid0.N, _)

theorem lt_points (t : Fin cfg0.N) : t.val < 32 := t.isLt

theorem x_op (c : Dev nD) (i : Fin 16384) (k : Fin 2048) :
    V m c main_v19 (ix2 i k) = m ((c : Thread nD τ).loc main_arg0) (ix3 (seqOf i) (posOf i) k) := by
  have hi := Cert.Projection.row_eq i
  entry_read
  pointwise
  blk_ext []

theorem w_op (c : Dev nD) (k : Fin 2048) (j : Fin 8192) : V m c main_v20 (ix2 k j) = m ((c : Thread nD τ).loc main_arg1) (ix2 k j) := by
  entry_read
  pointwise

theorem x_block (c : Dev nD) (t : Fin cfg0.N) (r : Fin 1024) (k : Fin 2048) (i : Fin 16384) (h : i.val = t.val / 2 * 1024 + r.val) :
    iblk m c 0 t (ix2 r k) = m ((c : Thread nD τ).loc main_arg0) (ix3 (seqOf i) (posOf i) k) := by
  refine Eq.trans ?_ (x_op m c i k)
  blk_ext [iblk, idx t]

theorem w_block (c : Dev nD) (t : Fin cfg0.N) (k : Fin 2048) (l : Fin 1024) (j : Fin 8192) (h : j.val = (4 + t.val % 2) * 1024 + l.val) :
    iblk m c 1 t (ix2 k l) = m ((c : Thread nD τ).loc main_arg1) (ix2 k j) := by
  refine Eq.trans ?_ (w_op m c k j)
  blk_ext [iblk, idx t]

theorem head_of (x0 : Vec Ideal S1024x2048 .bf16) (x1 : Vec Ideal S2048x1024 .bf16) (h r l : ℕ) (hr : r < 1024) (hj : 128 * h + l < 1024)
    (f g : Fin 2048 → EReal) (hf : ∀ k, x0 (ix2 ⟨r, hr⟩ k) = f k) (hg : ∀ k, x1 (ix2 k ⟨128 * h + l, hj⟩) = g k) :
    headAt x0 x1 h r l = ∑ k : Fin 2048, f k * g k := by
  unfold headAt dotAt
  rw [dif_pos ⟨hr, hj⟩]
  exact Finset.sum_congr rfl fun k _ => Ideal.mul_congr (hf k) (hg k)

/-- A point's row of a head is the token's row of that head. -/
theorem head_eq (c : Dev nD) (t : Fin cfg0.N) (h r l : ℕ) (H : Fin 16) (i : Fin 16384) (L : Fin 128)
    (hr : r < 1024) (hh : h < 8) (hH : H.val = t.val % 2 * 8 + h) (hi : i.val = t.val / 2 * 1024 + r) (hL : L.val = l) :
    headAt (iblk m c 0 t) (iblk m c 1 t) h r l
      = values (m ((c : Thread nD τ).loc main_arg0)) (m ((c : Thread nD τ).loc main_arg1)) H i L := by
  have hj : 4096 + (H.val * 128 + L.val) = (4 + t.val % 2) * 1024 + (128 * h + l) := by omega
  have hjj : 128 * h + l < 1024 := by omega
  exact head_of (iblk m c 0 t) (iblk m c 1 t) h r l hr hjj _ _ (fun k => x_block m c t ⟨r, hr⟩ k i hi)
    (fun k => w_block m c t k ⟨128 * h + l, hjj⟩ _ hj)

theorem outs4 (c : Dev nD) (t : Fin cfg0.N) : (outsAt0 m c t).1 = view1 (headAt (iblk m c 0 t) (iblk m c 1 t)) := by
  simp only [outsAt0, out4]

theorem outs5 (c : Dev nD) (t : Fin cfg0.N) : (outsAt0 m c t).2.1 = view4 (headAt (iblk m c 0 t) (iblk m c 1 t)) := by
  simp only [outsAt0, out5]

theorem outs6 (c : Dev nD) (t : Fin cfg0.N) : (outsAt0 m c t).2.2 = view16 (headAt (iblk m c 0 t) (iblk m c 1 t)) := by
  simp only [outsAt0, out6]

/-- BRIDGE: the three result arrays after the run. -/
theorem final4 (c : Dev nD) : (dats m 0 c).arrAt 4 (cfgs 0).N
    = one (values (m ((c : Thread nD τ).loc main_arg0)) (m ((c : Thread nD τ).loc main_arg1))) := by
  refine (dats m 0 c).arrAt_eq_of_covers 4 _ (by decide +kernel) fun t _ y => ?_
  blk_simp
  rw [after0_4, outs4]
  have ht := lt_points t
  have hy0 : (y 0).val < 8 := (y 0).isLt
  have hy1 : (y 1).val < 1024 := (y 1).isLt
  have hy2 : (y 2).val < 128 := (y 2).isLt
  refine head_eq m c t _ _ _ _ _ _ hy1 hy0 ?_ ?_ ?_
  · blk_simp [idx t]
  · blk_simp [idx t]
  · blk_simp [idx t]

theorem final5 (c : Dev nD) : (dats m 0 c).arrAt 5 (cfgs 0).N
    = four (values (m ((c : Thread nD τ).loc main_arg0)) (m ((c : Thread nD τ).loc main_arg1))) := by
  refine (dats m 0 c).arrAt_eq_of_covers 5 _ (by decide +kernel) fun t _ y => ?_
  blk_simp
  rw [after0_5, outs5]
  have ht := lt_points t
  have hy0 : (y 0).val < 8 := (y 0).isLt
  have hy1 : (y 1).val < 256 := (y 1).isLt
  have hy2 : (y 2).val < 512 := (y 2).isLt
  refine head_eq m c t _ _ _ _ _ _ (show 4 * (y 1).val + (y 2).val / 128 < 1024 by omega) hy0 ?_ ?_ ?_
  · blk_simp [idx t]
  · blk_simp [idx t]
    show 4 * (t.val / 2 * 256 + (y 1).val) + (y 2).val / 128 = t.val / 2 * 1024 + (4 * (y 1).val + (y 2).val / 128)
    omega
  · blk_simp [idx t]

theorem final6 (c : Dev nD) : (dats m 0 c).arrAt 6 (cfgs 0).N
    = sixteen (values (m ((c : Thread nD τ).loc main_arg0)) (m ((c : Thread nD τ).loc main_arg1))) := by
  refine (dats m 0 c).arrAt_eq_of_covers 6 _ (by decide +kernel) fun t _ y => ?_
  blk_simp
  rw [after0_6, outs6]
  have ht := lt_points t
  have hy0 : (y 0).val < 8 := (y 0).isLt
  have hy1 : (y 1).val < 64 := (y 1).isLt
  have hy2 : (y 2).val < 2048 := (y 2).isLt
  refine head_eq m c t _ _ _ _ _ _ (show 16 * (y 1).val + (y 2).val / 128 < 1024 by omega) hy0 ?_ ?_ ?_
  · blk_simp [idx t]
  · blk_simp [idx t]
    show 16 * (t.val / 2 * 64 + (y 1).val) + (y 2).val / 128 = t.val / 2 * 1024 + (16 * (y 1).val + (y 2).val / 128)
    omega
  · blk_simp [idx t]

end Cert.KernelViewsIdeal.Value

namespace Cert.ReferenceViewsIdeal.Project

open Idealize.ShloMosaic Idealize.ShloMosaic.TcCoe Idealize.SL.Sem Cert.ReferenceViewsIdeal Cert.ReferenceViewsIdeal.Read
open Cert.Projection Cert.HeadTokens

/-- Before the rows are put side by side: head `h` of a token. -/
theorem heads_at (x : XS) (w : WS 8192) (h : Fin 16) (i : Fin 16384) (l : Fin 128) :
    val_main_v7 (F := Ideal) x w (ix4 h (seqOf i) (posOf i) l) = values x w h i l := by
  unfold values
  pointwise [val_main_v7, val_main_v6, val_main_v5, val_main_v3, val_main_v0]
  rfl

theorem value8 (x : XS) (w : WS 8192) : val_main_v8 (F := Ideal) x w = one (values x w) := cast_one _ _ (heads_at x w) _
theorem value9 (x : XS) (w : WS 8192) : val_main_v9 (F := Ideal) x w = four (values x w) := cast_four _ _ (heads_at x w) _
theorem value10 (x : XS) (w : WS 8192) : val_main_v10 (F := Ideal) x w = sixteen (values x w) := cast_sixteen _ _ (heads_at x w) _

end Cert.ReferenceViewsIdeal.Project

end
-- ==== Proof.ViewsClaims.lean ====
/- The claims about layer 1's values' call. -/
module

public import proofs.«01_k».proof.Defs
public import proofs.«01_k».proof.Proof.ViewsValue
public import proofs.«01_k».proof.Proof.Gen.KernelViews.Frame
public import Idealize.ShloMosaic.Lib.Claim

@[expose] public section

set_option maxRecDepth 65536

noncomputable section

namespace Cert.ViewsClaims

open Idealize.ShloMosaic Idealize.ShloMosaic.TcCoe Idealize.SL.Sem

theorem frame_kernel : Cert.quiescent_KernelViews := fun m g _ => Cert.KernelViews.Gen.frame m g
theorem frame_ideal : Cert.quiescent_KernelViewsIdeal := fun m g _ => Cert.KernelViewsIdeal.Gen.frame m g
theorem frame_reference : Cert.quiescent_ReferenceViewsIdeal := fun m g _ =>
  (θ_run Cert.ReferenceViewsIdeal.defs _ _).mono (fun r h => ⟨fun c => (h c).2.2.2, sem_eq_zero_of_no_sems (by decide) r.2⟩)
    (Cert.ReferenceViewsIdeal.Value.run (F := Ideal) m g)
theorem preserves : Cert.preserves_KernelViews_KernelViewsIdeal := trivial

theorem algebraic : Cert.algebraic_KernelViewsIdeal_ReferenceViewsIdeal := by
  pair_intro
  · run_from Cert.KernelViewsIdeal.Value.run_blocks m g
  · run_from Cert.ReferenceViewsIdeal.Value.run m' g'
    · rw [Cert.ReferenceViewsIdeal.Read.val_main_v8_eq]
      exact (Cert.ReferenceViewsIdeal.Project.value8 _ _).trans (Cert.KernelViewsIdeal.Value.final4 m c).symm
    · rw [Cert.ReferenceViewsIdeal.Read.val_main_v9_eq]
      exact (Cert.ReferenceViewsIdeal.Project.value9 _ _).trans (Cert.KernelViewsIdeal.Value.final5 m c).symm
    · rw [Cert.ReferenceViewsIdeal.Read.val_main_v10_eq]
      exact (Cert.ReferenceViewsIdeal.Project.value10 _ _).trans (Cert.KernelViewsIdeal.Value.final6 m c).symm

end Cert.ViewsClaims

end
-- ==== Proof.LatentTokens.lean ====
/- The latent attention's queries, keys and values from the latents, as mathematics over extended reals. -/
module

public import proofs.«01_k».proof.Proof.Projection

@[expose] public section

noncomputable section

namespace Cert.LatentTokens

open Idealize.ShloMosaic Idealize.ShloMosaic.TcCoe Idealize.SL.Sem

theorem sitofp_zero : (FloatOps.sitofp (F := Ideal) FTy.f32 (0#32 : BitVec 32) : EReal) = 0 := by
  simp [FloatOps.sitofp]

/-- The shapes of the tokens' main and tail columns, of a gain and of a weight matrix with `n` columns. -/
abbrev MS : Type := (⟨3, ![2, 8192, 4096]⟩ : Shape).Idx → EReal
abbrev TS : Type := (⟨3, ![2, 8192, 1280]⟩ : Shape).Idx → EReal
abbrev GS : Type := (⟨1, ![512]⟩ : Shape).Idx → EReal
abbrev WS (n : Nat) : Type := (⟨2, ![512, n]⟩ : Shape).Idx → EReal

/-- The root mean square norm of a row of 512 numbers, at a column. -/
def normed (z : Fin 512 → EReal) (g : GS) (k : Fin 512) : EReal :=
  z k * Ideal.rsqrt (Ideal.div (∑ l, z l * z l) (Ideal.ofBits .f32 0x44000000#32) + Ideal.ofBits .f32 0x358637BD#32) * g (ix1 k)

/-- The normed row times a weight matrix, at a column. -/
def up {n : Nat} (z : Fin 512 → EReal) (g : GS) (w : WS n) (j : Fin n) : EReal := ∑ k, normed z g k * w (ix2 k j)

/-- The latents of a token: the keys' and values' 512 columns and the queries' 512 columns of the main columns. -/
def kvLatent (x : MS) (b : Fin 2) (p : Fin 8192) (k : Fin 512) : EReal := x (ix3 b p ⟨3584 + k.val, by omega⟩)
def qLatent (x : MS) (b : Fin 2) (p : Fin 8192) (k : Fin 512) : EReal := x (ix3 b p ⟨3072 + k.val, by omega⟩)

/-- The angle of a position and a frequency: the position times ten thousand to the power of minus the frequency over 32. -/
def angle (p : Fin 8192) (j : Fin 32) : EReal :=
  FloatOps.sitofp (F := Ideal) .f32 (BitVec.ofNat 32 p.val) * Ideal.pow (Ideal.ofBits .f32 0x461C4000#32)
    (Ideal.div (-FloatOps.sitofp (F := Ideal) .f32 (BitVec.ofNat 32 j.val)) (Ideal.ofBits .f32 0x42000000#32))

/-- A row of 64 numbers turned by the angles of a position: the first half and the second half are the two coordinates. -/
def turn (q : Fin 64 → EReal) (p : Fin 8192) (l : Fin 64) : EReal :=
  if h : l.val < 32 then q l * Ideal.cos (angle p ⟨l.val, h⟩) - q ⟨l.val + 32, by omega⟩ * Ideal.sin (angle p ⟨l.val, h⟩)
  else q l * Ideal.cos (angle p ⟨l.val - 32, by omega⟩) + q ⟨l.val - 32, by omega⟩ * Ideal.sin (angle p ⟨l.val - 32, by omega⟩)

/-- The tables a row of 128 lanes is turned by: the cosines twice, the sines with the first half's sign turned, and zeros. -/
def cosAt (p : Fin 8192) (l : Fin 128) : EReal :=
  if h : l.val < 32 then Ideal.cos (angle p ⟨l.val, h⟩) else if h : l.val - 32 < 32 then Ideal.cos (angle p ⟨l.val - 32, h⟩) else 0
def sinAt (p : Fin 8192) (l : Fin 128) : EReal :=
  if h : l.val < 32 then -Ideal.sin (angle p ⟨l.val, h⟩) else if h : l.val - 32 < 32 then Ideal.sin (angle p ⟨l.val - 32, h⟩) else 0

/-- The lane 32 to the right in the first 32 lanes, 32 to the left in the others. -/
def across (q : Fin 128 → EReal) (l : Fin 128) : EReal :=
  if l.val < 32 then q ⟨(l.val + 32) % 128, by omega⟩ else q ⟨l.val - 32, by omega⟩

/-- The turned row with 64 zeros after it. -/
def turnPad (q : Fin 64 → EReal) (p : Fin 8192) (l : ℕ) : EReal := if h : l < 64 then turn q p ⟨l, h⟩ else 0

/-- Turning by the tables turns the first 64 lanes and clears the others. -/
theorem tables_turn (q : Fin 128 → EReal) (q' : Fin 64 → EReal) (p : Fin 8192) (l : Fin 128)
    (hq : ∀ (j : Fin 64) (i : Fin 128), i.val = j.val → q i = q' j) :
    q l * cosAt p l + across q l * sinAt p l = turnPad q' p l.val := by
  unfold cosAt sinAt across turnPad turn
  by_cases h : l.val < 32
  · rw [dif_pos h, dif_pos h, if_pos h, dif_pos (show l.val < 64 by omega), dif_pos h,
      hq ⟨l.val, by omega⟩ l rfl, hq ⟨l.val + 32, by omega⟩ ⟨(l.val + 32) % 128, by omega⟩ (by show (l.val + 32) % 128 = l.val + 32; omega),
      mul_neg, sub_eq_add_neg]
  · by_cases h2 : l.val - 32 < 32
    · rw [dif_neg h, dif_neg h, if_neg h, dif_pos h2, dif_pos h2, dif_pos (show l.val < 64 by omega), dif_neg h,
        hq ⟨l.val, by omega⟩ l rfl, hq ⟨l.val - 32, by omega⟩ ⟨l.val - 32, by omega⟩ rfl]
    · rw [dif_neg h, dif_neg h, dif_neg h2, dif_neg h2, dif_neg (show ¬ l.val < 64 by omega), mul_zero, mul_zero, add_zero]

/-- Columns 1024 to 1151 of the tail: the first 64 are the rotary columns every head's key shares. -/
def tailRow (t : TS) (b : Fin 2) (p : Fin 8192) (k : Fin 128) : EReal := t (ix3 b p ⟨1024 + k.val, by omega⟩)
def shared (t : TS) (b : Fin 2) (p : Fin 8192) (j : Fin 64) : EReal := tailRow t b p ⟨j.val, by omega⟩

/-- Row of the keys: head `h` has columns `256 h` to `256 h + 255`, 128 of its own, 64 turned shared ones and 64 zeros. -/
def key (x : MS) (t : TS) (g : GS) (w : WS 2048) (b : Fin 2) (p : Fin 8192) (c : Fin 2048) : EReal :=
  if c.val % 256 < 128 then up (kvLatent x b p) g w c else turnPad (shared t b p) p (c.val % 256 - 128)

/-- Row of the values: head `h` has rows `128 h` to `128 h + 127`. -/
def value (x : MS) (g : GS) (w : WS 2048) (b : Fin 2) (p : Fin 8192) (r : Fin 1024) : EReal :=
  up (kvLatent x b p) g w ⟨256 * (r.val / 128) + 128 + r.val % 128, by omega⟩

open Cert.Projection

/-- The keys, a row for each token, and the values, a column for each token. -/
def keys (x : MS) (t : TS) (g : GS) (w : WS 2048) : (⟨2, ![16384, 2048]⟩ : Shape).Idx → EReal := fun i =>
  key x t g w (seqOf (i 0)) (posOf (i 0)) (i 1)
def values (x : MS) (g : GS) (w : WS 2048) : (⟨2, ![1024, 16384]⟩ : Shape).Idx → EReal := fun i =>
  value x g w (seqOf (i 1)) (posOf (i 1)) (i 0)

/-- The queries' weights with 64 columns of zeros after each head's 192. -/
def spread (w : WS 1536) : WS 2048 := fun i =>
  if h : (i 1).val % 256 < 192 then w (ix2 (i 0) ⟨192 * ((i 1).val / 256) + (i 1).val % 256, by have h1 : (i 1).val < 2048 := (i 1).isLt; omega⟩) else 0

theorem up_spread (z : Fin 512 → EReal) (g : GS) (w : WS 1536) (c : Fin 2048) (j : Fin 1536) (h : c.val % 256 < 192)
    (hj : 192 * (c.val / 256) + c.val % 256 = j.val) : up z g (spread w) c = up z g w j := by
  refine Finset.sum_congr rfl fun k _ => Ideal.mul_congr rfl ?_
  exact (dif_pos (show ((ix2 k c : (⟨2, ![512, 2048]⟩ : Shape).Idx) 1).val % 256 < 192 from h)).trans (congrArg w (congrArg (ix2 k) (Fin.ext hj)))

/-- Row of the queries: head `h` has 192 columns of weights, and 256 columns here: 128 as they are, 64 turned and 64 zeros. -/
def query (x : MS) (g : GS) (w : WS 1536) (b : Fin 2) (p : Fin 8192) (c : Fin 2048) : EReal :=
  if h : c.val % 256 < 128 then up (qLatent x b p) g w ⟨192 * (c.val / 256) + c.val % 256, by omega⟩
  else turnPad (fun j => up (qLatent x b p) g w ⟨192 * (c.val / 256) + (128 + j.val), by omega⟩) p (c.val % 256 - 128)

/-- The queries, a row for each token. -/
def queries (x : MS) (g : GS) (w : WS 1536) : (⟨2, ![16384, 2048]⟩ : Shape).Idx → EReal := fun i =>
  query x g w (seqOf (i 0)) (posOf (i 0)) (i 1)

end Cert.LatentTokens

end
-- ==== Proof.UpPay.lean ====
/- What the body of the latent keys' and values' call stores, at an index. -/
module

public import proofs.«01_k».proof.Proof.Gen.KernelUpIdeal.Skeleton
public import proofs.«01_k».proof.Proof.LatentTokens

@[expose] public section

set_option maxRecDepth 65536

noncomputable section

namespace Cert.KernelUpIdeal.Value

open Idealize.ShloMosaic Idealize.ShloMosaic.TcCoe Idealize.SL.Sem Cert.KernelUpIdeal Cert.KernelUpIdeal.Gen
open Cert.LatentTokens

theorem product_at (a : FVec Ideal S512x512 .bf16) (s : FVec Ideal S1x512 .f32) (u : FVec Ideal S512x2048 .bf16) (r : Fin 512) (j : Fin 2048)
    (z : Fin 512 → EReal) (g : GS) (w : WS 2048) (hz : ∀ k, a (ix2 r k) = z k) (hg : ∀ k, s (ix2 0 k) = g (ix1 k)) (hw : ∀ k, u (ix2 k j) = w (ix2 k j)) :
    k0_pay2 (F := Ideal) a s u (ix2 r j) = up z g w j := by
  pointwise [k0_pay2, hz, hg, hw]
  rfl

theorem below : ∀ l : Fin 128, IntOp.cmpi CmpIPredicate.slt (BitVec.ofNat 32 l.val) 32#32 = if l.val < 32 then 1#1 else 0#1 := by
  decide +kernel

theorem turned_at (v : FVec Ideal S512x128 .bf16) (c s : FVec Ideal S512x128 .f32) (r : Fin 512) (l : Fin 128)
    (q : Fin 128 → EReal) (p : Fin 8192) (hq : ∀ k, v (ix2 r k) = q k) (hc : c (ix2 r l) = cosAt p l) (hs : s (ix2 r l) = sinAt p l) :
    k0_pay3 (F := Ideal) v c s (ix2 r l) = q l * cosAt p l + across q l * sinAt p l := by
  pointwise [k0_pay3, hq, hc, hs]
  rw [below]
  refine congrArg₂ (· + ·) rfl (Ideal.mul_congr ?_ rfl)
  unfold across
  by_cases h : l.val < 32
  · rw [if_pos h, if_pos h]
    refine (show Scalar.select 1#1 _ _ = _ from rfl).trans (congrArg q (Fin.ext ?_))
    show (l.val + 128 - 96) % 128 = (l.val + 32) % 128
    omega
  · rw [if_neg h, if_neg h]
    refine (show Scalar.select 0#1 _ _ = _ from rfl).trans (congrArg q (Fin.ext ?_))
    show (l.val + 128 - 32) % 128 = l.val - 32
    omega

/-- A head's own 128 columns of the product, -/
theorem own_at {C : ℕ} {s tr} (Y : FVec Ideal S512x2048 .f32) (x : S512x128.Idx) (r : Fin 512) (j : Fin 2048)
    (hr : (x 0).val = r.val) (hj : j.val = C + (x 1).val) :
    (truncf .bf16 (extractStridedSlice S512x128 ![0, C] Y s) tr : FVec Ideal S512x128 .bf16) x = Y (ix2 r j) := by
  show extractStridedSlice S512x128 ![0, C] Y s x = _
  refine extractStridedSlice_apply _ _ s _ _ fun a => ?_
  match a with
  | ⟨0, _⟩ => show r.val = 0 + (x 0).val; omega
  | ⟨1, _⟩ => exact hj

/-- and its values' columns, as rows. -/
theorem value_at {C : ℕ} {s tr tp} (Y : FVec Ideal S512x2048 .f32) (x : S128x512.Idx) (r : Fin 512) (j : Fin 2048)
    (hr : (x 1).val = r.val) (hj : j.val = C + (x 0).val) :
    (truncf .bf16 (transpose S128x512 [1, 0] (extractStridedSlice S512x128 ![0, C] Y s) tp) tr : FVec Ideal S128x512 .bf16) x = Y (ix2 r j) := by
  show transpose S128x512 [1, 0] (extractStridedSlice S512x128 ![0, C] Y s) tp x = _
  have h0 : (x 0).val < 128 := (x 0).isLt
  refine (transpose_apply _ _ tp x (ix2 r ⟨(x 0).val, h0⟩) fun b => ?_).trans (extractStridedSlice_apply _ _ s _ _ fun a => ?_)
  · match b with
    | ⟨0, _⟩ => rfl
    | ⟨1, _⟩ => exact hr.symm
  · match a with
    | ⟨0, _⟩ => show r.val = 0 + r.val; omega
    | ⟨1, _⟩ => exact hj

end Cert.KernelUpIdeal.Value

end
-- ==== Proof.UpValue.lean ====
/- The latent attention's keys and values: what the call leaves in its two result arrays. -/
module

public import proofs.«01_k».proof.Proof.Gen.KernelUpIdeal.Value
public import Idealize.ShloMosaic.Lib.Pipeline.ValueKit
public import proofs.«01_k».proof.Proof.UpPay

@[expose] public section

set_option maxRecDepth 65536

noncomputable section

namespace Cert.KernelUpIdeal.Value

open Idealize.ShloMosaic Idealize.ShloMosaic.TcCoe Idealize.SL.Sem Cert.KernelUpIdeal Cert.KernelUpIdeal.Gen
open Idealize.ShloMosaic.Pipeline (Dat)
open Cert.LatentTokens Cert.Projection

variable (m : (ℓ : Loc nD τ sig) → Buf (Elt Ideal) ℓ)

/-- Two halves side by side, and the rest after them. -/
theorem thirds_at (A B : FVec Ideal S8192x32 .f32) (C : FVec Ideal S8192x64 .f32) (p : Fin 8192) (l : Fin 128) :
    concatenate S8192x128 1 [⟨S8192x32, A⟩, ⟨S8192x32, B⟩, ⟨S8192x64, C⟩] concatenates_S8192x32_S8192x32_S8192x64_S8192x128_d1 (ix2 p l)
      = if h : l.val < 32 then A (ix2 p ⟨l.val, h⟩) else if h : l.val - 32 < 32 then B (ix2 p ⟨l.val - 32, h⟩) else C (ix2 p ⟨l.val - 32 - 32, by omega⟩) := by
  pointwise

theorem cos_op (c : Dev nD) (p : Fin 8192) (l : Fin 128) : V m c main_v15 (ix2 p l) = cosAt p l := by
  unfold V cosAt
  simp only [StableHlo.after_cons, StableHlo.after_nil]
  rw [StableHlo.unary_result_ne, StableHlo.reshape_result_ne, StableHlo.unary_result_ne, StableHlo.reshape_result_ne, StableHlo.unary_result_ne,
    StableHlo.reshape_result_ne, StableHlo.nary_result_ne, StableHlo.unary_result_ne, StableHlo.nary_result]
  rotate_left
  · decide
  · decide
  · decide
  · decide
  · decide
  · decide
  · decide
  · decide
  generalize hσ : HloOp.result (StableHlo.unary main_cst_1 main_v14 _ _ _) _ = σ
  refine (thirds_at (σ (Proc.tc.devRef main_v12)) (σ (Proc.tc.devRef main_v12)) (σ (Proc.tc.devRef main_v14)) p l).trans ?_
  by_cases h : l.val < 32
  · rw [dif_pos h, dif_pos h, ← hσ]
    after_results_simp
    pointwise
    rfl
  · by_cases h2 : l.val - 32 < 32
    · rw [dif_neg h, dif_neg h, dif_pos h2, dif_pos h2, ← hσ]
      after_results_simp
      pointwise
      rfl
    · rw [dif_neg h, dif_neg h, dif_neg h2, dif_neg h2, ← hσ]
      after_results_simp
      pointwise

theorem sin_op (c : Dev nD) (p : Fin 8192) (l : Fin 128) : V m c main_v17 (ix2 p l) = sinAt p l := by
  unfold V sinAt
  simp only [StableHlo.after_cons, StableHlo.after_nil]
  rw [StableHlo.unary_result_ne, StableHlo.reshape_result_ne, StableHlo.unary_result_ne, StableHlo.reshape_result_ne, StableHlo.unary_result_ne,
    StableHlo.reshape_result_ne, StableHlo.nary_result]
  rotate_left
  · decide
  · decide
  · decide
  · decide
  · decide
  · decide
  generalize hσ : HloOp.result (StableHlo.unary main_v13 main_v16 _ _ _) _ = σ
  refine (thirds_at (σ (Proc.tc.devRef main_v16)) (σ (Proc.tc.devRef main_v13)) (σ (Proc.tc.devRef main_v14)) p l).trans ?_
  by_cases h : l.val < 32
  · rw [dif_pos h, dif_pos h, ← hσ]
    after_results_simp
    pointwise
    rfl
  · by_cases h2 : l.val - 32 < 32
    · rw [dif_neg h, dif_neg h, dif_pos h2, dif_pos h2, ← hσ]
      after_results_simp
      pointwise
      rfl
    · rw [dif_neg h, dif_neg h, dif_neg h2, dif_neg h2, ← hσ]
      after_results_simp
      pointwise

theorem idx : ∀ t : Fin cfg0.N, win0_0.index t = ![t.val, 7] ∧ win0_1.index t = ![0, 0] ∧ win0_2.index t = ![0, 0]
    ∧ win0_3.index t = ![t.val, 8] ∧ win0_4.index t = ![t.val % 16, 0] ∧ win0_5.index t = ![t.val % 16, 0]
    ∧ win0_6.index t = ![t.val, 0] ∧ win0_7.index t = ![0, t.val] :=
  (by decide +kernel : ∀ t : Fin grid0.N, _)

theorem lt_points (t : Fin cfg0.N) : t.val < 32 := t.isLt

theorem x_op (c : Dev nD) (b : Fin 2) (p : Fin 8192) (i : Fin 16384) (j : Fin 4096) (hi : i.val = b.val * 8192 + p.val) :
    V m c main_v19 (ix2 i j) = m ((c : Thread nD τ).loc main_arg0) (ix3 b p j) := by
  entry_read
  pointwise
  blk_ext []

theorem t_op (c : Dev nD) (b : Fin 2) (p : Fin 8192) (i : Fin 16384) (j : Fin 1280) (hi : i.val = b.val * 8192 + p.val) :
    V m c main_v21 (ix2 i j) = m ((c : Thread nD τ).loc main_arg1) (ix3 b p j) := by
  entry_read
  pointwise
  blk_ext []

theorem g_op (c : Dev nD) (j : Fin 512) : V m c main_v22 (ix2 0 j) = m ((c : Thread nD τ).loc main_arg2) (ix1 j) := by
  entry_read
  pointwise

theorem w_op (c : Dev nD) (k : Fin 512) (j : Fin 2048) : V m c main_v23 (ix2 k j) = m ((c : Thread nD τ).loc main_arg3) (ix2 k j) := by
  entry_read
  pointwise

theorem x_block (c : Dev nD) (t : Fin cfg0.N) (b : Fin 2) (p : Fin 8192) (r k : Fin 512) (h : b.val * 8192 + p.val = t.val * 512 + r.val) :
    iblk m c 0 t (ix2 r k) = kvLatent (m ((c : Thread nD τ).loc main_arg0)) b p k := by
  have ht := lt_points t
  refine Eq.trans ?_ (x_op m c b p ⟨t.val * 512 + r.val, by omega⟩ ⟨3584 + k.val, by omega⟩ h.symm)
  blk_ext [iblk, idx t]

theorem g_block (c : Dev nD) (t : Fin cfg0.N) (j : Fin 512) : iblk m c 1 t (ix2 0 j) = m ((c : Thread nD τ).loc main_arg2) (ix1 j) := by
  refine Eq.trans ?_ (g_op m c j)
  blk_ext [iblk, idx t]

theorem w_block (c : Dev nD) (t : Fin cfg0.N) (k : Fin 512) (j : Fin 2048) :
    iblk m c 2 t (ix2 k j) = m ((c : Thread nD τ).loc main_arg3) (ix2 k j) := by
  refine Eq.trans ?_ (w_op m c k j)
  blk_ext [iblk, idx t]

theorem t_block (c : Dev nD) (t : Fin cfg0.N) (b : Fin 2) (p : Fin 8192) (r : Fin 512) (l : Fin 128) (h : b.val * 8192 + p.val = t.val * 512 + r.val) :
    iblk m c 3 t (ix2 r l) = tailRow (m ((c : Thread nD τ).loc main_arg1)) b p l := by
  have ht := lt_points t
  refine Eq.trans ?_ (t_op m c b p ⟨t.val * 512 + r.val, by omega⟩ ⟨1024 + l.val, by omega⟩ h.symm)
  blk_ext [iblk, idx t]

theorem cos_block (c : Dev nD) (t : Fin cfg0.N) (b : Fin 2) (p : Fin 8192) (r : Fin 512) (l : Fin 128) (h : b.val * 8192 + p.val = t.val * 512 + r.val) :
    iblk m c 4 t (ix2 r l) = cosAt p l := by
  have ht := lt_points t
  refine Eq.trans ?_ (cos_op m c p l)
  blk_ext [iblk, idx t]

theorem sin_block (c : Dev nD) (t : Fin cfg0.N) (b : Fin 2) (p : Fin 8192) (r : Fin 512) (l : Fin 128) (h : b.val * 8192 + p.val = t.val * 512 + r.val) :
    iblk m c 5 t (ix2 r l) = sinAt p l := by
  have ht := lt_points t
  refine Eq.trans ?_ (sin_op m c p l)
  blk_ext [iblk, idx t]

/-- The product of a point's blocks. -/
theorem product_block (c : Dev nD) (t : Fin cfg0.N) (b : Fin 2) (p : Fin 8192) (r : Fin 512) (j : Fin 2048) (h : b.val * 8192 + p.val = t.val * 512 + r.val) :
    k0_pay20 (iblk m c 0 t) (iblk m c 1 t) (iblk m c 2 t) (iblk m c 3 t) (iblk m c 4 t) (iblk m c 5 t) (ix2 r j)
      = up (kvLatent (m ((c : Thread nD τ).loc main_arg0)) b p) (m ((c : Thread nD τ).loc main_arg2)) (m ((c : Thread nD τ).loc main_arg3)) j := by
  unfold k0_pay20
  refine product_at _ _ _ r j _ _ _ (fun k => Eq.trans (by pointwise) (x_block m c t b p r k h)) (fun k => Eq.trans (by pointwise) (g_block m c t k))
    (fun k => Eq.trans (by pointwise) (w_block m c t k j))

/-- The turned shared columns of a point's blocks. -/
theorem turned_block (c : Dev nD) (t : Fin cfg0.N) (b : Fin 2) (p : Fin 8192) (r : Fin 512) (l : Fin 128) (h : b.val * 8192 + p.val = t.val * 512 + r.val) :
    k0_pay21 (iblk m c 0 t) (iblk m c 1 t) (iblk m c 2 t) (iblk m c 3 t) (iblk m c 4 t) (iblk m c 5 t) (ix2 r l)
      = turnPad (shared (m ((c : Thread nD τ).loc main_arg1)) b p) p l.val := by
  unfold k0_pay21
  refine (turned_at _ _ _ r l (tailRow (m ((c : Thread nD τ).loc main_arg1)) b p) p
    (fun k => Eq.trans (by pointwise) (t_block m c t b p r k h)) (Eq.trans (by pointwise) (cos_block m c t b p r l h))
    (Eq.trans (by pointwise) (sin_block m c t b p r l h))).trans (tables_turn _ _ p l fun j i e => ?_)
  exact congrArg (tailRow (m ((c : Thread nD τ).loc main_arg1)) b p) (Fin.ext e)

/-- A key's own columns and its turned ones, at a column of the stored block. -/
theorem key_own (c : Dev nD) (t : Fin cfg0.N) (b : Fin 2) (p : Fin 8192) (r : Fin 512) (j : Fin 2048) (h : b.val * 8192 + p.val = t.val * 512 + r.val)
    (hj : j.val % 256 < 128) :
    k0_pay20 (iblk m c 0 t) (iblk m c 1 t) (iblk m c 2 t) (iblk m c 3 t) (iblk m c 4 t) (iblk m c 5 t) (ix2 r j)
      = key (m ((c : Thread nD τ).loc main_arg0)) (m ((c : Thread nD τ).loc main_arg1)) (m ((c : Thread nD τ).loc main_arg2))
        (m ((c : Thread nD τ).loc main_arg3)) b p j := by
  rw [key, if_pos hj]
  exact product_block m c t b p r j h

theorem key_turned (c : Dev nD) (t : Fin cfg0.N) (b : Fin 2) (p : Fin 8192) (r : Fin 512) (j : Fin 2048) (h : b.val * 8192 + p.val = t.val * 512 + r.val)
    (x : S512x128.Idx) (hr : (x 0).val = r.val) (hj : ¬ j.val % 256 < 128) (hl : j.val % 256 - 128 = (x 1).val) :
    k0_pay21 (iblk m c 0 t) (iblk m c 1 t) (iblk m c 2 t) (iblk m c 3 t) (iblk m c 4 t) (iblk m c 5 t) x
      = key (m ((c : Thread nD τ).loc main_arg0)) (m ((c : Thread nD τ).loc main_arg1)) (m ((c : Thread nD τ).loc main_arg2))
        (m ((c : Thread nD τ).loc main_arg3)) b p j := by
  have h1 : (x 1).val < 128 := (x 1).isLt
  have ex : x = ix2 r (⟨(x 1).val, h1⟩ : Fin 128) := by
    funext a
    match a with
    | ⟨0, _⟩ => exact Fin.ext hr
    | ⟨1, _⟩ => rfl
  rw [key, if_neg hj, hl]
  exact (congrArg _ ex).trans (turned_block m c t b p r _ h)

/-- POINT: what a point leaves in the keys' buffer, at an index. -/
theorem point6 (c : Dev nD) (t : Fin cfg0.N) (y : S512x2048.Idx) (b : Fin 2) (p : Fin 8192) (r : Fin 512) (j : Fin 2048)
    (h : b.val * 8192 + p.val = t.val * 512 + r.val) (hr : (y 0).val = r.val) (hj : j.val = (y 1).val) :
    out0_6 (iblk m c 0 t) (iblk m c 1 t) (iblk m c 2 t) (iblk m c 3 t) (iblk m c 4 t) (iblk m c 5 t) y
      = key (m ((c : Thread nD τ).loc main_arg0)) (m ((c : Thread nD τ).loc main_arg1)) (m ((c : Thread nD τ).loc main_arg2))
        (m ((c : Thread nD τ).loc main_arg3)) b p j := by
  unfold out0_6
  canon_tiles x e
  case piece0 => exact key_turned m c t b p r j h x (by omega) (by omega) (by omega)
  case piece2 => exact key_turned m c t b p r j h x (by omega) (by omega) (by omega)
  case piece4 => exact key_turned m c t b p r j h x (by omega) (by omega) (by omega)
  case piece6 => exact key_turned m c t b p r j h x (by omega) (by omega) (by omega)
  case piece8 => exact key_turned m c t b p r j h x (by omega) (by omega) (by omega)
  case piece10 => exact key_turned m c t b p r j h x (by omega) (by omega) (by omega)
  case piece12 => exact key_turned m c t b p r j h x (by omega) (by omega) (by omega)
  case piece14 => exact key_turned m c t b p r j h x (by omega) (by omega) (by omega)
  all_goals exact (own_at _ x r j (by omega) (by omega)).trans (key_own m c t b p r j h (by omega))

/-- POINT: what a point leaves in the values' buffer, at an index. -/
theorem point7 (c : Dev nD) (t : Fin cfg0.N) (y : S1024x512.Idx) (b : Fin 2) (p : Fin 8192) (r : Fin 512) (j : Fin 1024)
    (h : b.val * 8192 + p.val = t.val * 512 + r.val) (hr : (y 1).val = r.val) (hj : j.val = (y 0).val) :
    out0_7 (iblk m c 0 t) (iblk m c 1 t) (iblk m c 2 t) (iblk m c 3 t) (iblk m c 4 t) (iblk m c 5 t) y
      = value (m ((c : Thread nD τ).loc main_arg0)) (m ((c : Thread nD τ).loc main_arg2)) (m ((c : Thread nD τ).loc main_arg3)) b p j := by
  unfold out0_7
  canon_tiles x e
  case piece4 =>
    unfold k0_pay12 k0_pay11
    exact (value_at _ x r ⟨256 * (j.val / 128) + 128 + j.val % 128, by omega⟩ (by omega) (by dsimp only; omega)).trans (product_block m c t b p r _ h)
  all_goals exact (value_at _ x r ⟨256 * (j.val / 128) + 128 + j.val % 128, by omega⟩ (by omega) (by dsimp only; omega)).trans (product_block m c t b p r _ h)

/-- BRIDGE: the keys after the run. -/
theorem final6 (c : Dev nD) : (dats m 0 c).arrAt 6 (cfgs 0).N
    = keys (m ((c : Thread nD τ).loc main_arg0)) (m ((c : Thread nD τ).loc main_arg1)) (m ((c : Thread nD τ).loc main_arg2))
      (m ((c : Thread nD τ).loc main_arg3)) := by
  refine (dats m 0 c).arrAt_eq_of_covers 6 _ (by decide +kernel) fun t _ y => ?_
  blk_simp
  rw [after0_6]
  have ht := lt_points t
  have hy0 : (y 0).val < 512 := (y 0).isLt
  have hy1 : (y 1).val < 2048 := (y 1).isLt
  have hi : t.val * 512 + (y 0).val < 16384 := by omega
  refine (point6 m c t y (seqOf ⟨_, hi⟩) (posOf ⟨_, hi⟩) ⟨(y 0).val, hy0⟩ ⟨(y 1).val, hy1⟩ (row_eq ⟨_, hi⟩).symm rfl rfl).trans ?_
  refine Eq.trans ?_ (congrArg (keys _ _ _ _) (show (ix2 ⟨_, hi⟩ ⟨(y 1).val, hy1⟩ : S16384x2048.Idx) = _ from ?_))
  · rfl
  · blk_ext [idx t]

/-- BRIDGE: the values after the run. -/
theorem final7 (c : Dev nD) : (dats m 0 c).arrAt 7 (cfgs 0).N
    = values (m ((c : Thread nD τ).loc main_arg0)) (m ((c : Thread nD τ).loc main_arg2)) (m ((c : Thread nD τ).loc main_arg3)) := by
  refine (dats m 0 c).arrAt_eq_of_covers 7 _ (by decide +kernel) fun t _ y => ?_
  blk_simp
  rw [after0_7]
  have ht := lt_points t
  have hy0 : (y 0).val < 1024 := (y 0).isLt
  have hy1 : (y 1).val < 512 := (y 1).isLt
  have hi : t.val * 512 + (y 1).val < 16384 := by omega
  refine (point7 m c t y (seqOf ⟨_, hi⟩) (posOf ⟨_, hi⟩) ⟨(y 1).val, hy1⟩ ⟨(y 0).val, hy0⟩ (row_eq ⟨_, hi⟩).symm rfl rfl).trans ?_
  refine Eq.trans ?_ (congrArg (values _ _ _) (show (ix2 ⟨(y 0).val, hy0⟩ ⟨_, hi⟩ : S1024x16384.Idx) = _ from ?_))
  · rfl
  · blk_ext [idx t]

end Cert.KernelUpIdeal.Value

end
-- ==== Proof.UpReference.lean ====
/- The latent attention's keys and values: what the reference gives. -/
module

public import proofs.«01_k».proof.Proof.Gen.ReferenceUpIdeal.Read
public import Idealize.ShloMosaic.Lib.Pipeline.ValueKit
public import proofs.«01_k».proof.Proof.LatentTokens

@[expose] public section

set_option maxRecDepth 65536

noncomputable section

namespace Cert.ReferenceUpIdeal.Latent

open Idealize.ShloMosaic Idealize.ShloMosaic.TcCoe Idealize.SL.Sem Cert.ReferenceUpIdeal Cert.ReferenceUpIdeal.Read
open Cert.Projection (seqOf posOf)
open Cert.LatentTokens

theorem latent_at (x : MS) (b : Fin 2) (p : Fin 8192) (k : Fin 512) : val_main_v0 (F := Ideal) x (ix3 b p k) = kvLatent x b p k := by
  pointwise [val_main_v0]
  rfl

attribute [local irreducible] val_main_v0

theorem normed_at (x : MS) (g : GS) (b : Fin 2) (p : Fin 8192) (k : Fin 512) :
    val_main_v14 (F := Ideal) x g (ix3 b p k) = normed (kvLatent x b p) g k := by
  pointwise [val_main_v14, val_main_v13, val_main_v12, val_main_v11, val_main_v10, val_main_v9, val_main_v8, val_main_v7, val_main_v6, val_main_v5,
    val_main_v4, val_main_v3, val_main_v2, val_main_cst, val_main_cst_0, val_main_cst_1, latent_at]
  rfl

attribute [local irreducible] val_main_v14

theorem product_at (x : MS) (g : GS) (w : WS 2048) (b : Fin 2) (p : Fin 8192) (j : Fin 2048) :
    val_main_v15 (F := Ideal) x g w (ix3 b p j) = up (kvLatent x b p) g w j := by
  pointwise [val_main_v15, normed_at]
  rfl

attribute [local irreducible] val_main_v15

theorem columns_at (x : MS) (g : GS) (w : WS 2048) (b : Fin 2) (p : Fin 8192) (h : Fin 8) (l : Fin 256) :
    val_main_v16 (F := Ideal) x g w (ix4 b p h l) = up (kvLatent x b p) g w ⟨h.val * 256 + l.val, by omega⟩ := by
  pointwise [val_main_v16, product_at]

attribute [local irreducible] val_main_v16

theorem own_at (x : MS) (g : GS) (w : WS 2048) (b : Fin 2) (p : Fin 8192) (h : Fin 8) (l : Fin 128) :
    val_main_v17 (F := Ideal) x g w (ix4 b p h l) = up (kvLatent x b p) g w ⟨h.val * 256 + l.val, by omega⟩ := by
  pointwise [val_main_v17, columns_at]

theorem value_at (x : MS) (g : GS) (w : WS 2048) (b : Fin 2) (p : Fin 8192) (h : Fin 8) (l : Fin 128) :
    val_main_v18 (F := Ideal) x g w (ix4 b p h l) = up (kvLatent x b p) g w ⟨h.val * 256 + (128 + l.val), by omega⟩ := by
  pointwise [val_main_v18, columns_at]

theorem shared_at (t : TS) (b : Fin 2) (p : Fin 8192) (j : Fin 64) : val_main_v19 (F := Ideal) t (ix4 b p 0 j) = shared t b p j := by
  pointwise [val_main_v19, val_main_v1]
  rfl

theorem angle_at (p : Fin 8192) (j : Fin 32) : val_main_v31 (F := Ideal) (ix2 p j) = angle p j := by
  pointwise [val_main_v31, val_main_v30, val_main_v29, val_main_v28, val_main_v27, val_main_v26, val_main_v25, val_main_v24, val_main_v23, val_main_v22, val_main_v21, val_main_v20, val_main_cst_2, val_main_cst_3]
  rfl

attribute [local irreducible] val_main_v17 val_main_v18 val_main_v19 val_main_v31

theorem low_at (t : TS) (b : Fin 2) (p : Fin 8192) (j : Fin 32) : val_main_v36 (F := Ideal) t (ix4 b p 0 j) = shared t b p ⟨j.val, by omega⟩ := by
  pointwise [val_main_v36, shared_at]

theorem high_at (t : TS) (b : Fin 2) (p : Fin 8192) (j : Fin 32) : val_main_v37 (F := Ideal) t (ix4 b p 0 j) = shared t b p ⟨32 + j.val, by omega⟩ := by
  pointwise [val_main_v37, shared_at]

attribute [local irreducible] val_main_v36 val_main_v37

theorem first_at (t : TS) (b : Fin 2) (p : Fin 8192) (j : Fin 32) :
    val_main_v42 (F := Ideal) t (ix4 b p 0 j)
      = shared t b p ⟨j.val, by omega⟩ * Ideal.cos (angle p j) - shared t b p ⟨32 + j.val, by omega⟩ * Ideal.sin (angle p j) := by
  pointwise [val_main_v42, val_main_v39, val_main_v41, val_main_v38, val_main_v40, val_main_v33, val_main_v32, val_main_v35, val_main_v34, low_at, high_at, angle_at]

theorem second_at (t : TS) (b : Fin 2) (p : Fin 8192) (j : Fin 32) :
    val_main_v47 (F := Ideal) t (ix4 b p 0 j)
      = shared t b p ⟨32 + j.val, by omega⟩ * Ideal.cos (angle p j) + shared t b p ⟨j.val, by omega⟩ * Ideal.sin (angle p j) := by
  pointwise [val_main_v47, val_main_v44, val_main_v46, val_main_v43, val_main_v45, val_main_v33, val_main_v32, val_main_v35, val_main_v34, low_at, high_at, angle_at]

attribute [local irreducible] val_main_v42 val_main_v47

theorem turned_at (t : TS) (b : Fin 2) (p : Fin 8192) (l : Fin 64) : val_main_v48 (F := Ideal) t (ix4 b p 0 l) = turn (shared t b p) p l := by
  unfold turn
  pointwise [val_main_v48]
  by_cases hl : l.val < 32
  · rw [dif_pos hl, dif_pos hl]
    refine (first_at t b p ⟨l.val, hl⟩).trans (congrArg (_ - · * _) (congrArg (shared t b p) (Fin.ext ?_)))
    show 32 + l.val = l.val + 32
    omega
  · rw [dif_neg hl, dif_neg hl]
    refine (second_at t b p ⟨l.val - 32, by omega⟩).trans (congrArg (· * _ + _) (congrArg (shared t b p) (Fin.ext ?_)))
    show 32 + (l.val - 32) = l.val
    omega

attribute [local irreducible] val_main_v48

theorem heads_at (x : MS) (t : TS) (g : GS) (w : WS 2048) (b : Fin 2) (p : Fin 8192) (h : Fin 8) (l : Fin 256) (c : Fin 2048) (hc : c.val = h.val * 256 + l.val) :
    val_main_v51 (F := Ideal) x t g w (ix4 b p h l) = key x t g w b p c := by
  have e : c.val % 256 = l.val := by omega
  unfold key turnPad
  pointwise [val_main_v51, val_main_v50, val_main_v49, own_at, turned_at]
  by_cases h1 : l.val < 192
  · rw [dif_pos h1]
    by_cases h2 : l.val < 128
    · rw [dif_pos h2, if_pos (show c.val % 256 < 128 by omega)]
      exact congrArg (up (kvLatent x b p) g w) (Fin.ext hc.symm)
    · rw [dif_neg h2, if_neg (show ¬ c.val % 256 < 128 by omega), dif_pos (show c.val % 256 - 128 < 64 by omega)]
      exact congrArg (turn (shared t b p) p) (Fin.ext (show l.val - 128 = c.val % 256 - 128 by omega))
  · rw [dif_neg h1, if_neg (show ¬ c.val % 256 < 128 by omega), dif_neg (show ¬ c.val % 256 - 128 < 64 by omega)]
    pointwise [val_main_call0_v0, val_main_c]
    exact sitofp_zero

attribute [local irreducible] val_main_v51

theorem value53 (x : MS) (t : TS) (g : GS) (w : WS 2048) : val_main_v53 (F := Ideal) x t g w = keys x t g w := by
  funext i
  have h0 : (i 0).val < 16384 := (i 0).isLt
  have h1 : (i 1).val < 2048 := (i 1).isLt
  refine Eq.trans ?_ (heads_at x t g w (seqOf (i 0)) (posOf (i 0)) ⟨(i 1).val / 256, by omega⟩ ⟨(i 1).val % 256, by omega⟩ (i 1)
    (by show (i 1).val = (i 1).val / 256 * 256 + (i 1).val % 256; omega))
  rw [val_main_v53_apply, val_main_v52_apply]
  refine congrArg (val_main_v51 (F := Ideal) x t g w) ?_
  funext a
  match a with
  | ⟨0, _⟩ => exact Fin.ext (by simp only [seqOf, posOf, ix4]; omega)
  | ⟨1, _⟩ => exact Fin.ext (by simp only [seqOf, posOf, ix4]; omega)
  | ⟨2, _⟩ => exact Fin.ext (by simp only [seqOf, posOf, ix4]; omega)
  | ⟨3, _⟩ => exact Fin.ext (by simp only [seqOf, posOf, ix4]; omega)

theorem value56 (x : MS) (g : GS) (w : WS 2048) : val_main_v56 (F := Ideal) x g w = values x g w := by
  funext i
  have h0 : (i 0).val < 1024 := (i 0).isLt
  have h1 : (i 1).val < 16384 := (i 1).isLt
  refine Eq.trans ?_ ((value_at x g w (seqOf (i 1)) (posOf (i 1)) ⟨(i 0).val / 128, by omega⟩ ⟨(i 0).val % 128, by omega⟩).trans
    (congrArg (up (kvLatent x (seqOf (i 1)) (posOf (i 1))) g w) (Fin.ext (show (i 0).val / 128 * 256 + (128 + (i 0).val % 128) = 256 * ((i 0).val / 128) + 128 + (i 0).val % 128 by omega))))
  rw [val_main_v56_apply, val_main_v55_apply, val_main_v54_apply]
  refine congrArg (val_main_v18 (F := Ideal) x g w) ?_
  funext a
  match a with
  | ⟨0, _⟩ => exact Fin.ext (by simp only [seqOf, posOf, ix4]; omega)
  | ⟨1, _⟩ => exact Fin.ext (by simp only [seqOf, posOf, ix4]; omega)
  | ⟨2, _⟩ => exact Fin.ext (by simp only [seqOf, posOf, ix4]; omega)
  | ⟨3, _⟩ => exact Fin.ext (by simp only [seqOf, posOf, ix4]; omega)

end Cert.ReferenceUpIdeal.Latent

end
-- ==== Proof.UpClaims.lean ====
/- The claims about the latent attention's keys' and values' call. -/
module

public import proofs.«01_k».proof.Defs
public import proofs.«01_k».proof.Proof.UpValue
public import proofs.«01_k».proof.Proof.UpReference
public import proofs.«01_k».proof.Proof.Gen.KernelUp.Frame
public import Idealize.ShloMosaic.Lib.Claim

@[expose] public section

set_option maxRecDepth 65536

noncomputable section

namespace Cert.UpClaims

open Idealize.ShloMosaic Idealize.ShloMosaic.TcCoe Idealize.SL.Sem

theorem frame_kernel : Cert.quiescent_KernelUp := fun m g _ => Cert.KernelUp.Gen.frame m g
theorem frame_ideal : Cert.quiescent_KernelUpIdeal := fun m g _ => Cert.KernelUpIdeal.Gen.frame m g
theorem frame_reference : Cert.quiescent_ReferenceUpIdeal := fun m g _ =>
  (θ_run Cert.ReferenceUpIdeal.defs _ _).mono (fun r h => ⟨fun c => (h c).2.2, sem_eq_zero_of_no_sems (by decide) r.2⟩)
    (Cert.ReferenceUpIdeal.Value.run (F := Ideal) m g)
theorem preserves : Cert.preserves_KernelUp_KernelUpIdeal := trivial

theorem algebraic : Cert.algebraic_KernelUpIdeal_ReferenceUpIdeal := by
  pair_intro
  · run_from Cert.KernelUpIdeal.Value.run_blocks m g
  · run_from Cert.ReferenceUpIdeal.Value.run m' g'
    · obtain ⟨h0, h1, h2, h3⟩ := hagree c
      rw [Cert.ReferenceUpIdeal.Read.val_main_v53_eq, h0, h1, h2, h3]
      exact (Cert.ReferenceUpIdeal.Latent.value53 _ _ _ _).trans (Cert.KernelUpIdeal.Value.final6 m c).symm
    · obtain ⟨h0, h1, h2, h3⟩ := hagree c
      rw [Cert.ReferenceUpIdeal.Read.val_main_v56_eq]
      exact (Cert.ReferenceUpIdeal.Latent.value56 _ _ _).trans (Cert.KernelUpIdeal.Value.final7 m c).symm

end Cert.UpClaims

end
-- ==== Proof.QueriesPay.lean ====
/- What the body of the latent queries' call stores, at an index. -/
module

public import proofs.«01_k».proof.Proof.Gen.KernelQueriesIdeal.Skeleton
public import proofs.«01_k».proof.Proof.LatentTokens

@[expose] public section

set_option maxRecDepth 65536

noncomputable section

namespace Cert.KernelQueriesIdeal.Value

open Idealize.ShloMosaic Idealize.ShloMosaic.TcCoe Idealize.SL.Sem Cert.KernelQueriesIdeal Cert.KernelQueriesIdeal.Gen
open Cert.LatentTokens

theorem product_at (a : FVec Ideal S512x512 .bf16) (s : FVec Ideal S1x512 .f32) (u : FVec Ideal S512x2048 .bf16) (r : Fin 512) (j : Fin 2048)
    (z : Fin 512 → EReal) (g : GS) (w : WS 2048) (hz : ∀ k, a (ix2 r k) = z k) (hg : ∀ k, s (ix2 0 k) = g (ix1 k)) (hw : ∀ k, u (ix2 k j) = w (ix2 k j)) :
    k0_pay5 (F := Ideal) a s u (ix2 r j) = up z g w j := by
  pointwise [k0_pay5, hz, hg, hw]
  rfl

theorem below : ∀ l : Fin 128, IntOp.cmpi CmpIPredicate.slt (BitVec.ofNat 32 l.val) 32#32 = if l.val < 32 then 1#1 else 0#1 := by
  decide +kernel

/-- Rows turned by two tables. -/
theorem turned_at (v c s : FVec Ideal S512x128 .f32) (r : Fin 512) (l : Fin 128) (q : Fin 128 → EReal) (p : Fin 8192) {hi hr h2 tr}
    (hq : ∀ k, v (ix2 r k) = q k) (hc : c (ix2 r l) = cosAt p l) (hs : s (ix2 r l) = sinAt p l) :
    (truncf .bf16 (addf (mulf v c) (mulf (select (cmpi .slt (iota .tc S512x128 32 [1] hi) (broadcast S512x128 32#32))
      (dynamicRotate (1 : Fin 2) 96#32 none v hr) (dynamicRotate (1 : Fin 2) 32#32 none v h2)) s)) tr : FVec Ideal S512x128 .bf16) (ix2 r l)
      = q l * cosAt p l + across q l * sinAt p l := by
  pointwise [hq, hc, hs]
  rw [below]
  refine congrArg₂ (· + ·) rfl (Ideal.mul_congr ?_ rfl)
  unfold across
  by_cases h : l.val < 32
  · rw [if_pos h, if_pos h]
    refine (show Scalar.select 1#1 _ _ = _ from rfl).trans (congrArg q (Fin.ext ?_))
    show (l.val + 128 - 96) % 128 = (l.val + 32) % 128
    omega
  · rw [if_neg h, if_neg h]
    refine (show Scalar.select 0#1 _ _ = _ from rfl).trans (congrArg q (Fin.ext ?_))
    show (l.val + 128 - 32) % 128 = l.val - 32
    omega

/-- A cut of 128 columns of the product. -/
theorem cut_at {C : ℕ} {s} (Y : FVec Ideal S512x2048 .f32) (x : S512x128.Idx) (r : Fin 512) (j : Fin 2048)
    (hr : (x 0).val = r.val) (hj : j.val = C + (x 1).val) : extractStridedSlice S512x128 ![0, C] Y s x = Y (ix2 r j) := by
  refine extractStridedSlice_apply _ _ s _ _ fun a => ?_
  match a with
  | ⟨0, _⟩ => show r.val = 0 + (x 0).val; omega
  | ⟨1, _⟩ => exact hj

theorem own_at {C : ℕ} {s tr} (Y : FVec Ideal S512x2048 .f32) (x : S512x128.Idx) (r : Fin 512) (j : Fin 2048)
    (hr : (x 0).val = r.val) (hj : j.val = C + (x 1).val) :
    (truncf .bf16 (extractStridedSlice S512x128 ![0, C] Y s) tr : FVec Ideal S512x128 .bf16) x = Y (ix2 r j) := cut_at (s := s) Y x r j hr hj

end Cert.KernelQueriesIdeal.Value

end
-- ==== Proof.QueriesValue.lean ====
/- The latent attention's queries: what the call leaves in its result array. -/
module

public import proofs.«01_k».proof.Proof.Gen.KernelQueriesIdeal.Value
public import Idealize.ShloMosaic.Lib.Pipeline.ValueKit
public import proofs.«01_k».proof.Proof.QueriesPay

@[expose] public section

set_option maxRecDepth 65536

noncomputable section

namespace Cert.KernelQueriesIdeal.Value

open Idealize.ShloMosaic Idealize.ShloMosaic.TcCoe Idealize.SL.Sem Cert.KernelQueriesIdeal Cert.KernelQueriesIdeal.Gen
open Idealize.ShloMosaic.Pipeline (Dat)
open Cert.LatentTokens Cert.Projection

variable (m : (ℓ : Loc nD τ sig) → Buf (Elt Ideal) ℓ)

/-- Two halves side by side, and the rest after them. -/
theorem thirds_at (A B : FVec Ideal S8192x32 .f32) (C : FVec Ideal S8192x64 .f32) (p : Fin 8192) (l : Fin 128) :
    concatenate S8192x128 1 [⟨S8192x32, A⟩, ⟨S8192x32, B⟩, ⟨S8192x64, C⟩] concatenates_S8192x32_S8192x32_S8192x64_S8192x128_d1 (ix2 p l)
      = if h : l.val < 32 then A (ix2 p ⟨l.val, h⟩) else if h : l.val - 32 < 32 then B (ix2 p ⟨l.val - 32, h⟩) else C (ix2 p ⟨l.val - 32 - 32, by omega⟩) := by
  pointwise

theorem cos_op (c : Dev nD) (p : Fin 8192) (l : Fin 128) : V m c main_v15 (ix2 p l) = cosAt p l := by
  unfold V cosAt
  simp only [List.flatten_cons, List.flatten_nil, List.append_nil, hostOps0, hostOps0_1, hostOps0_2, List.cons_append, List.nil_append,
    StableHlo.after_cons, StableHlo.after_nil, StableHlo.TRef.unary, StableHlo.TRef.binary]
  rw [StableHlo.reshape_result_ne, StableHlo.unary_result_ne, StableHlo.reshape_result_ne, StableHlo.unary_result_ne,
    StableHlo.reshape_result_ne, StableHlo.binary_result_ne, StableHlo.unary_result_ne, StableHlo.nullary_result_ne, StableHlo.reshape_result_ne, StableHlo.nary_result_ne, StableHlo.unary_result_ne, StableHlo.nary_result]
  rotate_left
  · decide
  · decide
  · decide
  · decide
  · decide
  · decide
  · decide
  · decide
  · decide
  · decide
  · decide
  generalize hσ : HloOp.result (StableHlo.unary main_cst_1 main_v14 _ _ _) _ = σ
  refine (thirds_at (σ (Proc.tc.devRef main_v12)) (σ (Proc.tc.devRef main_v12)) (σ (Proc.tc.devRef main_v14)) p l).trans ?_
  by_cases h : l.val < 32
  · rw [dif_pos h, dif_pos h, ← hσ]
    after_results_simp
    pointwise
    rfl
  · by_cases h2 : l.val - 32 < 32
    · rw [dif_neg h, dif_neg h, dif_pos h2, dif_pos h2, ← hσ]
      after_results_simp
      pointwise
      rfl
    · rw [dif_neg h, dif_neg h, dif_neg h2, dif_neg h2, ← hσ]
      after_results_simp
      pointwise

theorem sin_op (c : Dev nD) (p : Fin 8192) (l : Fin 128) : V m c main_v17 (ix2 p l) = sinAt p l := by
  unfold V sinAt
  simp only [List.flatten_cons, List.flatten_nil, List.append_nil, hostOps0, hostOps0_1, hostOps0_2, List.cons_append, List.nil_append,
    StableHlo.after_cons, StableHlo.after_nil, StableHlo.TRef.unary, StableHlo.TRef.binary]
  rw [StableHlo.reshape_result_ne, StableHlo.unary_result_ne, StableHlo.reshape_result_ne, StableHlo.unary_result_ne,
    StableHlo.reshape_result_ne, StableHlo.binary_result_ne, StableHlo.unary_result_ne, StableHlo.nullary_result_ne, StableHlo.reshape_result_ne, StableHlo.nary_result]
  rotate_left
  · decide
  · decide
  · decide
  · decide
  · decide
  · decide
  · decide
  · decide
  · decide
  generalize hσ : HloOp.result (StableHlo.unary main_v13 main_v16 _ _ _) _ = σ
  refine (thirds_at (σ (Proc.tc.devRef main_v16)) (σ (Proc.tc.devRef main_v13)) (σ (Proc.tc.devRef main_v14)) p l).trans ?_
  by_cases h : l.val < 32
  · rw [dif_pos h, dif_pos h, ← hσ]
    after_results_simp
    pointwise
    rfl
  · by_cases h2 : l.val - 32 < 32
    · rw [dif_neg h, dif_neg h, dif_pos h2, dif_pos h2, ← hσ]
      after_results_simp
      pointwise
      rfl
    · rw [dif_neg h, dif_neg h, dif_neg h2, dif_neg h2, ← hσ]
      after_results_simp
      pointwise

theorem idx : ∀ t : Fin cfg0.N, win0_0.index t = ![t.val, 6] ∧ win0_1.index t = ![0, 0] ∧ win0_2.index t = ![0, 0]
    ∧ win0_3.index t = ![t.val % 16, 0] ∧ win0_4.index t = ![t.val % 16, 0] ∧ win0_5.index t = ![t.val, 0] :=
  (by decide +kernel : ∀ t : Fin grid0.N, _)

theorem lt_points (t : Fin cfg0.N) : t.val < 32 := t.isLt

theorem x_op (c : Dev nD) (b : Fin 2) (p : Fin 8192) (i : Fin 16384) (j : Fin 4096) (hi : i.val = b.val * 8192 + p.val) :
    V m c main_v23 (ix2 i j) = m ((c : Thread nD τ).loc main_arg0) (ix3 b p j) := by
  unfold V
  simp only [List.flatten_cons, List.flatten_nil, List.append_nil, hostOps0, hostOps0_1, hostOps0_2, List.cons_append, List.nil_append]
  after_results_simp
  pointwise
  blk_ext []

theorem g_op (c : Dev nD) (j : Fin 512) : V m c main_v24 (ix2 0 j) = m ((c : Thread nD τ).loc main_arg1) (ix1 j) := by
  unfold V
  simp only [List.flatten_cons, List.flatten_nil, List.append_nil, hostOps0, hostOps0_1, hostOps0_2, List.cons_append, List.nil_append]
  after_results_simp
  pointwise

theorem dite_pair {α : Type} {P Q : Prop} [Decidable P] [Decidable Q] {x : P → α} {y : Q → α} {z w : α} (h : P ↔ Q)
    (hx : ∀ p q, x p = y q) (hz : z = w) : (if p : P then x p else z) = if q : Q then y q else w := by
  by_cases p : P
  · simp only [dif_pos p, dif_pos (h.mp p)]; exact hx _ _
  · simp only [dif_neg p, dif_neg (fun q => p (h.mpr q))]; exact hz

theorem w_op (c : Dev nD) (k : Fin 512) (j : Fin 2048) : V m c main_v21 (ix2 k j) = spread (m ((c : Thread nD τ).loc main_arg2)) (ix2 k j) := by
  unfold V
  simp only [List.flatten_cons, List.flatten_nil, List.append_nil, hostOps0, hostOps0_1, hostOps0_2, List.cons_append, List.nil_append]
  after_results_simp
  pointwise
  simp only [StableHlo.TRef.ofBuf, StableHlo.TRef.toBuf, cast_eq, eq_mpr_eq_cast]
  pointwise
  unfold spread
  refine dite_pair ?_ (fun _ _ => ?_) ?_
  · show _ ↔ j.val % 256 < 192
    omega
  · blk_ext []
  · exact sitofp_zero

theorem x_block (c : Dev nD) (t : Fin cfg0.N) (b : Fin 2) (p : Fin 8192) (r k : Fin 512) (h : b.val * 8192 + p.val = t.val * 512 + r.val) :
    iblk m c 0 t (ix2 r k) = qLatent (m ((c : Thread nD τ).loc main_arg0)) b p k := by
  have ht := lt_points t
  refine Eq.trans ?_ (x_op m c b p ⟨t.val * 512 + r.val, by omega⟩ ⟨3072 + k.val, by omega⟩ h.symm)
  blk_ext [iblk, idx t]

theorem g_block (c : Dev nD) (t : Fin cfg0.N) (j : Fin 512) : iblk m c 1 t (ix2 0 j) = m ((c : Thread nD τ).loc main_arg1) (ix1 j) := by
  refine Eq.trans ?_ (g_op m c j)
  blk_ext [iblk, idx t]

theorem w_block (c : Dev nD) (t : Fin cfg0.N) (k : Fin 512) (j : Fin 2048) :
    iblk m c 2 t (ix2 k j) = spread (m ((c : Thread nD τ).loc main_arg2)) (ix2 k j) := by
  refine Eq.trans ?_ (w_op m c k j)
  blk_ext [iblk, idx t]

theorem cos_block (c : Dev nD) (t : Fin cfg0.N) (b : Fin 2) (p : Fin 8192) (r : Fin 512) (l : Fin 128) (h : b.val * 8192 + p.val = t.val * 512 + r.val) :
    k0_pay22 (iblk m c 0 t) (iblk m c 1 t) (iblk m c 2 t) (iblk m c 3 t) (iblk m c 4 t) (ix2 r l) = cosAt p l := by
  have ht := lt_points t
  unfold k0_pay22 k0_pay6
  refine Eq.trans ?_ (cos_op m c p l)
  pointwise
  blk_ext [iblk, idx t]

theorem sin_block (c : Dev nD) (t : Fin cfg0.N) (b : Fin 2) (p : Fin 8192) (r : Fin 512) (l : Fin 128) (h : b.val * 8192 + p.val = t.val * 512 + r.val) :
    k0_pay23 (iblk m c 0 t) (iblk m c 1 t) (iblk m c 2 t) (iblk m c 3 t) (iblk m c 4 t) (ix2 r l) = sinAt p l := by
  have ht := lt_points t
  unfold k0_pay23 k0_pay7
  refine Eq.trans ?_ (sin_op m c p l)
  pointwise
  blk_ext [iblk, idx t]

/-- The product of a point's blocks. -/
theorem product_block (c : Dev nD) (t : Fin cfg0.N) (b : Fin 2) (p : Fin 8192) (r : Fin 512) (j : Fin 2048) (h : b.val * 8192 + p.val = t.val * 512 + r.val) :
    k0_pay21 (iblk m c 0 t) (iblk m c 1 t) (iblk m c 2 t) (iblk m c 3 t) (iblk m c 4 t) (ix2 r j)
      = up (qLatent (m ((c : Thread nD τ).loc main_arg0)) b p) (m ((c : Thread nD τ).loc main_arg1)) (spread (m ((c : Thread nD τ).loc main_arg2))) j := by
  unfold k0_pay21
  refine product_at _ _ _ r j _ _ _ (fun k => Eq.trans (by pointwise) (x_block m c t b p r k h)) (fun k => Eq.trans (by pointwise) (g_block m c t k))
    (fun k => Eq.trans (by pointwise) (w_block m c t k j))

/-- A query's own columns and its turned ones, at a column of the stored block. -/
theorem query_own (c : Dev nD) (t : Fin cfg0.N) (b : Fin 2) (p : Fin 8192) (r : Fin 512) (j : Fin 2048) (h : b.val * 8192 + p.val = t.val * 512 + r.val)
    (hj : j.val % 256 < 128) :
    k0_pay21 (iblk m c 0 t) (iblk m c 1 t) (iblk m c 2 t) (iblk m c 3 t) (iblk m c 4 t) (ix2 r j)
      = query (m ((c : Thread nD τ).loc main_arg0)) (m ((c : Thread nD τ).loc main_arg1)) (m ((c : Thread nD τ).loc main_arg2)) b p j := by
  rw [query, dif_pos hj]
  exact (product_block m c t b p r j h).trans (up_spread _ _ _ j _ (by omega) rfl)

theorem query_turned (c : Dev nD) (t : Fin cfg0.N) (b : Fin 2) (p : Fin 8192) (r : Fin 512) (j : Fin 2048) (h : b.val * 8192 + p.val = t.val * 512 + r.val)
    {C : ℕ} {s hi hr h2 tr} (x : S512x128.Idx) (hx : (x 0).val = r.val) (hj : j.val = C + (x 1).val) (hC : C % 256 = 128) (hC' : C < 2048) :
    (truncf .bf16 (addf
      (mulf (extractStridedSlice S512x128 ![0, C] (k0_pay21 (iblk m c 0 t) (iblk m c 1 t) (iblk m c 2 t) (iblk m c 3 t) (iblk m c 4 t)) s)
        (k0_pay22 (iblk m c 0 t) (iblk m c 1 t) (iblk m c 2 t) (iblk m c 3 t) (iblk m c 4 t)))
      (mulf (select (cmpi .slt (iota .tc S512x128 32 [1] hi) (broadcast S512x128 32#32))
          (dynamicRotate (1 : Fin 2) 96#32 none (extractStridedSlice S512x128 ![0, C] (k0_pay21 (iblk m c 0 t) (iblk m c 1 t) (iblk m c 2 t) (iblk m c 3 t) (iblk m c 4 t)) s) hr)
          (dynamicRotate (1 : Fin 2) 32#32 none (extractStridedSlice S512x128 ![0, C] (k0_pay21 (iblk m c 0 t) (iblk m c 1 t) (iblk m c 2 t) (iblk m c 3 t) (iblk m c 4 t)) s) h2))
        (k0_pay23 (iblk m c 0 t) (iblk m c 1 t) (iblk m c 2 t) (iblk m c 3 t) (iblk m c 4 t)))) tr : FVec Ideal S512x128 .bf16) x
      = query (m ((c : Thread nD τ).loc main_arg0)) (m ((c : Thread nD τ).loc main_arg1)) (m ((c : Thread nD τ).loc main_arg2)) b p j := by
  have h1 : (x 1).val < 128 := (x 1).isLt
  have ex : x = ix2 r (⟨(x 1).val, h1⟩ : Fin 128) := by
    funext a
    match a with
    | ⟨0, _⟩ => exact Fin.ext hx
    | ⟨1, _⟩ => rfl
  rw [query, dif_neg (show ¬ j.val % 256 < 128 by omega), show j.val % 256 - 128 = (x 1).val by omega]
  refine (congrArg _ ex).trans ((turned_at _ _ _ r ⟨(x 1).val, h1⟩
    (fun k => up (qLatent (m ((c : Thread nD τ).loc main_arg0)) b p) (m ((c : Thread nD τ).loc main_arg1)) (spread (m ((c : Thread nD τ).loc main_arg2)))
      (⟨C + k.val, by omega⟩ : Fin 2048)) p
    (fun k => (cut_at _ (ix2 r k) r ⟨C + k.val, by omega⟩ rfl rfl).trans (product_block m c t b p r _ h))
    (cos_block m c t b p r _ h) (sin_block m c t b p r _ h)).trans
    (tables_turn (fun k => up (qLatent (m ((c : Thread nD τ).loc main_arg0)) b p) (m ((c : Thread nD τ).loc main_arg1)) (spread (m ((c : Thread nD τ).loc main_arg2)))
      (⟨C + k.val, by omega⟩ : Fin 2048)) _ p ⟨(x 1).val, h1⟩ fun i l el => ?_))
  have hi : i.val < 64 := i.isLt
  exact up_spread _ _ _ _ _ (show (C + l.val) % 256 < 192 by omega)
    (show 192 * ((C + l.val) / 256) + (C + l.val) % 256 = 192 * (j.val / 256) + (128 + i.val) by omega)

/-- POINT: what a point leaves in the result's buffer, at an index. -/
theorem point5 (c : Dev nD) (t : Fin cfg0.N) (y : S512x2048.Idx) (b : Fin 2) (p : Fin 8192) (r : Fin 512) (j : Fin 2048)
    (h : b.val * 8192 + p.val = t.val * 512 + r.val) (hr : (y 0).val = r.val) (hj : j.val = (y 1).val) :
    out0_5 (iblk m c 0 t) (iblk m c 1 t) (iblk m c 2 t) (iblk m c 3 t) (iblk m c 4 t) y
      = query (m ((c : Thread nD τ).loc main_arg0)) (m ((c : Thread nD τ).loc main_arg1)) (m ((c : Thread nD τ).loc main_arg2)) b p j := by
  unfold out0_5
  canon_tiles x e
  case piece0 =>
    exact query_turned m c t b p r j h x (by omega) (hj.trans e1) (by decide) (by decide)
  case piece2 =>
    exact query_turned m c t b p r j h x (by omega) (hj.trans e1) (by decide) (by decide)
  case piece4 =>
    exact query_turned m c t b p r j h x (by omega) (hj.trans e1) (by decide) (by decide)
  case piece6 =>
    exact query_turned m c t b p r j h x (by omega) (hj.trans e1) (by decide) (by decide)
  case piece8 =>
    unfold k0_pay16 k0_pay15
    exact query_turned m c t b p r j h x (by omega) (hj.trans e1) (by decide) (by decide)
  case piece10 =>
    exact query_turned m c t b p r j h x (by omega) (hj.trans e1) (by decide) (by decide)
  case piece12 =>
    exact query_turned m c t b p r j h x (by omega) (hj.trans e1) (by decide) (by decide)
  case piece14 =>
    exact query_turned m c t b p r j h x (by omega) (hj.trans e1) (by decide) (by decide)
  all_goals exact (own_at _ x r j (by omega) (by omega)).trans (query_own m c t b p r j h (by omega))

/-- BRIDGE: the queries after the run. -/
theorem final5 (c : Dev nD) : (dats m 0 c).arrAt 5 (cfgs 0).N
    = queries (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  have ht := lt_points t
  have hy0 : (y 0).val < 512 := (y 0).isLt
  have hy1 : (y 1).val < 2048 := (y 1).isLt
  have hi : t.val * 512 + (y 0).val < 16384 := by omega
  refine (point5 m c t y (seqOf ⟨_, hi⟩) (posOf ⟨_, hi⟩) ⟨(y 0).val, hy0⟩ ⟨(y 1).val, hy1⟩ (row_eq ⟨_, hi⟩).symm rfl rfl).trans ?_
  refine Eq.trans ?_ (congrArg (queries _ _ _) (show (ix2 ⟨_, hi⟩ ⟨(y 1).val, hy1⟩ : S16384x2048.Idx) = _ from ?_))
  · rfl
  · blk_ext [idx t]

end Cert.KernelQueriesIdeal.Value

end
-- ==== Proof.QueriesReference.lean ====
/- The latent attention's queries: what the reference gives. -/
module

public import proofs.«01_k».proof.Proof.Gen.ReferenceQueriesIdeal.Read
public import Idealize.ShloMosaic.Lib.Pipeline.ValueKit
public import proofs.«01_k».proof.Proof.LatentTokens

@[expose] public section

set_option maxRecDepth 65536

noncomputable section

namespace Cert.ReferenceQueriesIdeal.Latent

open Idealize.ShloMosaic Idealize.ShloMosaic.TcCoe Idealize.SL.Sem Cert.ReferenceQueriesIdeal Cert.ReferenceQueriesIdeal.Read
open Cert.Projection (seqOf posOf)
open Cert.LatentTokens

theorem latent_at (x : MS) (b : Fin 2) (p : Fin 8192) (k : Fin 512) : val_main_v0 (F := Ideal) x (ix3 b p k) = qLatent x b p k := by
  pointwise [val_main_v0]
  rfl

attribute [local irreducible] val_main_v0

theorem normed_at (x : MS) (g : GS) (b : Fin 2) (p : Fin 8192) (k : Fin 512) :
    val_main_v13 (F := Ideal) x g (ix3 b p k) = normed (qLatent x b p) g k := by
  pointwise [val_main_v13, val_main_v12, val_main_v11, val_main_v10, val_main_v9, val_main_v8, val_main_v7, val_main_v6, val_main_v5,
    val_main_v4, val_main_v3, val_main_v2, val_main_v1, val_main_cst, val_main_cst_0, val_main_cst_1, latent_at]
  rfl

attribute [local irreducible] val_main_v13

theorem product_at (x : MS) (g : GS) (w : WS 1536) (b : Fin 2) (p : Fin 8192) (j : Fin 1536) :
    val_main_v14 (F := Ideal) x g w (ix3 b p j) = up (qLatent x b p) g w j := by
  pointwise [val_main_v14, normed_at]
  rfl

attribute [local irreducible] val_main_v14

theorem columns_at (x : MS) (g : GS) (w : WS 1536) (b : Fin 2) (p : Fin 8192) (h : Fin 8) (l : Fin 192) :
    val_main_v15 (F := Ideal) x g w (ix4 b p h l) = up (qLatent x b p) g w ⟨192 * h.val + l.val, by omega⟩ := by
  refine Eq.trans ?_ (product_at x g w b p ⟨192 * h.val + l.val, by omega⟩)
  have hb : b.val < 2 := b.isLt
  have hp : p.val < 8192 := p.isLt
  have hh : h.val < 8 := h.isLt
  have hl : l.val < 192 := l.isLt
  rw [val_main_v15_apply]
  refine congrArg (val_main_v14 (F := Ideal) x g w) ?_
  funext a
  match a with
  | ⟨0, _⟩ => exact Fin.ext (by simp only [ix3, ix4]; omega)
  | ⟨1, _⟩ => exact Fin.ext (by simp only [ix3, ix4]; omega)
  | ⟨2, _⟩ => exact Fin.ext (by simp only [ix3, ix4]; omega)

attribute [local irreducible] val_main_v15

/-- The rotary columns of a head's query. -/
def rotary (x : MS) (g : GS) (w : WS 1536) (b : Fin 2) (p : Fin 8192) (h : Fin 8) (j : Fin 64) : EReal :=
  up (qLatent x b p) g w ⟨192 * h.val + (128 + j.val), by omega⟩

theorem own_at (x : MS) (g : GS) (w : WS 1536) (b : Fin 2) (p : Fin 8192) (h : Fin 8) (l : Fin 128) :
    val_main_v16 (F := Ideal) x g w (ix4 b p h l) = up (qLatent x b p) g w ⟨192 * h.val + l.val, by omega⟩ := by
  pointwise [val_main_v16, columns_at]

theorem rotary_at (x : MS) (g : GS) (w : WS 1536) (b : Fin 2) (p : Fin 8192) (h : Fin 8) (j : Fin 64) :
    val_main_v17 (F := Ideal) x g w (ix4 b p h j) = rotary x g w b p h j := by
  pointwise [val_main_v17, columns_at]
  rfl

theorem angle_at (p : Fin 8192) (j : Fin 32) : val_main_v29 (F := Ideal) (ix2 p j) = angle p j := by
  pointwise [val_main_v29, val_main_v28, val_main_v27, val_main_v26, val_main_v25, val_main_v24, val_main_v23, val_main_v22, val_main_v21, val_main_v20, val_main_v19, val_main_v18, val_main_cst_2, val_main_cst_3]
  rfl

attribute [local irreducible] val_main_v16 val_main_v17 val_main_v29

theorem low_at (x : MS) (g : GS) (w : WS 1536) (b : Fin 2) (p : Fin 8192) (h : Fin 8) (j : Fin 32) :
    val_main_v34 (F := Ideal) x g w (ix4 b p h j) = rotary x g w b p h ⟨j.val, by omega⟩ := by
  pointwise [val_main_v34, rotary_at]

theorem high_at (x : MS) (g : GS) (w : WS 1536) (b : Fin 2) (p : Fin 8192) (h : Fin 8) (j : Fin 32) :
    val_main_v35 (F := Ideal) x g w (ix4 b p h j) = rotary x g w b p h ⟨32 + j.val, by omega⟩ := by
  pointwise [val_main_v35, rotary_at]

attribute [local irreducible] val_main_v34 val_main_v35

theorem first_at (x : MS) (g : GS) (w : WS 1536) (b : Fin 2) (p : Fin 8192) (h : Fin 8) (j : Fin 32) :
    val_main_v40 (F := Ideal) x g w (ix4 b p h j)
      = rotary x g w b p h ⟨j.val, by omega⟩ * Ideal.cos (angle p j) - rotary x g w b p h ⟨32 + j.val, by omega⟩ * Ideal.sin (angle p j) := by
  pointwise [val_main_v40, val_main_v39, val_main_v38, val_main_v37, val_main_v36, val_main_v33, val_main_v32, val_main_v31, val_main_v30, low_at, high_at, angle_at]

theorem second_at (x : MS) (g : GS) (w : WS 1536) (b : Fin 2) (p : Fin 8192) (h : Fin 8) (j : Fin 32) :
    val_main_v45 (F := Ideal) x g w (ix4 b p h j)
      = rotary x g w b p h ⟨32 + j.val, by omega⟩ * Ideal.cos (angle p j) + rotary x g w b p h ⟨j.val, by omega⟩ * Ideal.sin (angle p j) := by
  pointwise [val_main_v45, val_main_v44, val_main_v43, val_main_v42, val_main_v41, val_main_v33, val_main_v32, val_main_v31, val_main_v30, low_at, high_at, angle_at]

attribute [local irreducible] val_main_v40 val_main_v45

theorem turned_at (x : MS) (g : GS) (w : WS 1536) (b : Fin 2) (p : Fin 8192) (h : Fin 8) (l : Fin 64) :
    val_main_v46 (F := Ideal) x g w (ix4 b p h l) = turn (rotary x g w b p h) p l := by
  unfold turn
  pointwise [val_main_v46]
  by_cases hl : l.val < 32
  · rw [dif_pos hl, dif_pos hl]
    refine (first_at x g w b p h ⟨l.val, hl⟩).trans (congrArg (_ - · * _) (congrArg (rotary x g w b p h) (Fin.ext ?_)))
    show 32 + l.val = l.val + 32
    omega
  · rw [dif_neg hl, dif_neg hl]
    refine (second_at x g w b p h ⟨l.val - 32, by omega⟩).trans (congrArg (· * _ + _) (congrArg (rotary x g w b p h) (Fin.ext ?_)))
    show 32 + (l.val - 32) = l.val
    omega

attribute [local irreducible] val_main_v46

theorem heads_at (x : MS) (g : GS) (w : WS 1536) (b : Fin 2) (p : Fin 8192) (h : Fin 8) (l : Fin 256) (c : Fin 2048) (hc : c.val = h.val * 256 + l.val) :
    val_main_v48 (F := Ideal) x g w (ix4 b p h l) = query x g w b p c := by
  have e : c.val % 256 = l.val := by omega
  have e' : c.val / 256 = h.val := by omega
  unfold query turnPad
  pointwise [val_main_v48, val_main_v47, own_at, turned_at]
  by_cases h1 : l.val < 192
  · rw [dif_pos h1]
    by_cases h2 : l.val < 128
    · rw [dif_pos h2, dif_pos (show c.val % 256 < 128 by omega)]
      exact congrArg (up (qLatent x b p) g w) (Fin.ext (show 192 * h.val + l.val = 192 * (c.val / 256) + c.val % 256 by omega))
    · rw [dif_neg h2, dif_neg (show ¬ c.val % 256 < 128 by omega), dif_pos (show c.val % 256 - 128 < 64 by omega)]
      refine congrArg₂ (fun q i => turn q p i) (funext fun j => ?_) (Fin.ext (show l.val - 128 = c.val % 256 - 128 by omega))
      exact congrArg (up (qLatent x b p) g w) (Fin.ext (show 192 * h.val + (128 + j.val) = 192 * (c.val / 256) + (128 + j.val) by omega))
  · rw [dif_neg h1, dif_neg (show ¬ c.val % 256 < 128 by omega), dif_neg (show ¬ c.val % 256 - 128 < 64 by omega)]
    pointwise [val_main_call0_v0, val_main_c]
    exact sitofp_zero

attribute [local irreducible] val_main_v48

theorem value50 (x : MS) (g : GS) (w : WS 1536) : val_main_v50 (F := Ideal) x g w = queries x g w := by
  funext i
  have h0 : (i 0).val < 16384 := (i 0).isLt
  have h1 : (i 1).val < 2048 := (i 1).isLt
  refine Eq.trans ?_ (heads_at x g w (seqOf (i 0)) (posOf (i 0)) ⟨(i 1).val / 256, by omega⟩ ⟨(i 1).val % 256, by omega⟩ (i 1)
    (by show (i 1).val = (i 1).val / 256 * 256 + (i 1).val % 256; omega))
  rw [val_main_v50_apply, val_main_v49_apply]
  refine congrArg (val_main_v48 (F := Ideal) x g w) ?_
  funext a
  match a with
  | ⟨0, _⟩ => exact Fin.ext (by simp only [seqOf, posOf, ix4]; omega)
  | ⟨1, _⟩ => exact Fin.ext (by simp only [seqOf, posOf, ix4]; omega)
  | ⟨2, _⟩ => exact Fin.ext (by simp only [seqOf, posOf, ix4]; omega)
  | ⟨3, _⟩ => exact Fin.ext (by simp only [seqOf, posOf, ix4]; omega)

end Cert.ReferenceQueriesIdeal.Latent

end
-- ==== Proof.QueriesClaims.lean ====
/- The claims about the latent attention's queries' call. -/
module

public import proofs.«01_k».proof.Defs
public import proofs.«01_k».proof.Proof.QueriesValue
public import proofs.«01_k».proof.Proof.QueriesReference
public import proofs.«01_k».proof.Proof.Gen.KernelQueries.Frame
public import Idealize.ShloMosaic.Lib.Claim

@[expose] public section

set_option maxRecDepth 65536

noncomputable section

namespace Cert.QueriesClaims

open Idealize.ShloMosaic Idealize.ShloMosaic.TcCoe Idealize.SL.Sem

theorem frame_kernel : Cert.quiescent_KernelQueries := fun m g _ => Cert.KernelQueries.Gen.frame m g
theorem frame_ideal : Cert.quiescent_KernelQueriesIdeal := fun m g _ => Cert.KernelQueriesIdeal.Gen.frame m g
theorem frame_reference : Cert.quiescent_ReferenceQueriesIdeal := fun m g _ =>
  (θ_run Cert.ReferenceQueriesIdeal.defs _ _).mono (fun r h => ⟨fun c => (h c).2, sem_eq_zero_of_no_sems (by decide) r.2⟩)
    (Cert.ReferenceQueriesIdeal.Value.run (F := Ideal) m g)
theorem preserves : Cert.preserves_KernelQueries_KernelQueriesIdeal := trivial

theorem algebraic : Cert.algebraic_KernelQueriesIdeal_ReferenceQueriesIdeal := by
  pair_intro
  · run_from Cert.KernelQueriesIdeal.Value.run_blocks m g
  · run_from Cert.ReferenceQueriesIdeal.Value.run m' g'
    obtain ⟨h0, h1, h2⟩ := hagree c
    rw [Cert.ReferenceQueriesIdeal.Read.val_main_v50_eq, h0, h1, h2]
    exact (Cert.ReferenceQueriesIdeal.Latent.value50 _ _ _).trans (Cert.KernelQueriesIdeal.Value.final5 m c).symm

end Cert.QueriesClaims

end
-- ==== Proof.MixNorm.lean ====
/- Two arrays of features side by side, as mathematics over extended reals. -/
module

public import proofs.«01_k».proof.Proof.OutNorm

@[expose] public section

set_option maxRecDepth 65536

noncomputable section

namespace Cert.MixNorm

open Idealize.ShloMosaic Idealize.ShloMosaic.TcCoe Idealize.SL.Sem Cert.OutNorm

/-- One half of the features of the tokens. -/
abbrev HS : Type := (⟨3, ![2, 8192, 1024]⟩ : Shape).Idx → EReal

/-- The halves side by side. -/
def cat (u v : HS) : XS := fun i =>
  if h : (i 2).val < 1024 then u (ix3 (i 0) (i 1) ⟨(i 2).val, h⟩)
  else v (ix3 (i 0) (i 1) ⟨(i 2).val - 1024, by have h' : (i 2).val < 2048 := (i 2).isLt; omega⟩)

theorem cat_first (u v : HS) (b : Fin 2) (p : Fin 8192) (k : Fin 1024) (j : Fin 2048) (h : j.val = k.val) :
    cat u v (ix3 b p j) = u (ix3 b p k) := by
  have hk : j.val < 1024 := by omega
  have e : (⟨j.val, hk⟩ : Fin 1024) = k := Fin.ext h
  exact (dif_pos (c := j.val < 1024) hk).trans (congrArg (fun k => u (ix3 b p k)) e)

theorem cat_second (u v : HS) (b : Fin 2) (p : Fin 8192) (k : Fin 1024) (j : Fin 2048) (h : j.val = 1024 + k.val) :
    cat u v (ix3 b p j) = v (ix3 b p k) := by
  have hk : ¬ j.val < 1024 := by omega
  have e : (⟨j.val - 1024, by omega⟩ : Fin 1024) = k := Fin.ext (by show j.val - 1024 = k.val; omega)
  exact (dif_neg (c := j.val < 1024) hk).trans (congrArg (fun k => v (ix3 b p k)) e)

end Cert.MixNorm

end
-- ==== Proof.MixPay.lean ====
/- What the body of the output projection's call in layer 0 stores, at an index. -/
module

public import proofs.«01_k».proof.Proof.Gen.KernelMixIdeal.Skeleton
public import proofs.«01_k».proof.Proof.MixNorm

@[expose] public section

set_option maxRecDepth 65536

noncomputable section

namespace Cert.KernelMixIdeal.Value

open Idealize.ShloMosaic Idealize.ShloMosaic.TcCoe Idealize.SL.Sem Cert.KernelMixIdeal Cert.KernelMixIdeal.Gen
open Cert.OutNorm

/-- The projected rows: the sum over each half of the features. -/
theorem proj_at (a : FVec Ideal S256x1024 .bf16) (u : FVec Ideal S1024x2048 .bf16) (b : FVec Ideal S256x1024 .bf16) (v : FVec Ideal S1024x2048 .bf16)
    (r : Fin 256) (j : Fin 2048) :
    k0_pay3 (F := Ideal) a u b v (ix2 r j) = (∑ k : Fin 1024, a (ix2 r k) * u (ix2 k j)) + ∑ k : Fin 1024, b (ix2 r k) * v (ix2 k j) := by
  pointwise [k0_pay3]

theorem centred_at (s x : FVec Ideal S256x2048 .f32) (r : Fin 256) (j : Fin 2048) (z : Fin 2048 → EReal)
    (hz : ∀ k, Ideal.ofBits .f32 0x3FB504F3#32 * x (ix2 r k) + s (ix2 r k) = z k) :
    k0_pay8 (F := Ideal) s x (ix2 r j) = z j - mean z := by
  pointwise [k0_pay8, hz]
  rfl

theorem centred_eq (a : FVec Ideal S256x1024 .bf16) (u : FVec Ideal S1024x2048 .bf16) (b : FVec Ideal S256x1024 .bf16) (v : FVec Ideal S1024x2048 .bf16)
    (x : FVec Ideal S256x2048 .f32) : k0_pay4 (F := Ideal) a u b v x = k0_pay8 (F := Ideal) (k0_pay3 (F := Ideal) a u b v) x := rfl

theorem scale_at (s x : FVec Ideal S256x2048 .f32) (r : Fin 256) (z : Fin 2048 → EReal)
    (hz : ∀ k, Ideal.ofBits .f32 0x3FB504F3#32 * x (ix2 r k) + s (ix2 r k) = z k) :
    k0_pay9 (F := Ideal) s x (ix2 r 0) = Ideal.rsqrt (mean (fun k => (z k - mean z) * (z k - mean z)) + Ideal.ofBits .f32 0x3727C5AC#32) := by
  pointwise [k0_pay9, fun k => centred_at s x r k z hz]
  rfl

/-- The second half of a block: the stored rows. -/
theorem second_at (s x : FVec Ideal S256x2048 .f32) (g b : FVec Ideal S1x2048 .f32) (r : Fin 256) (j : Fin 2048) (z : Fin 2048 → EReal)
    (hz : ∀ k, Ideal.ofBits .f32 0x3FB504F3#32 * x (ix2 r k) + s (ix2 r k) = z k) :
    k0_pay1 (F := Ideal) (k0_pay8 (F := Ideal) s x) (k0_pay9 (F := Ideal) s x) g b (ix2 r j) = normed z (g (ix2 0 j)) (b (ix2 0 j)) j := by
  pointwise [k0_pay1]
  rw [centred_at s x r j z hz, scale_at s x r z hz]
  rfl

theorem first_eq (a : FVec Ideal S256x1024 .bf16) (u : FVec Ideal S1024x2048 .bf16) (b : FVec Ideal S256x1024 .bf16) (v : FVec Ideal S1024x2048 .bf16)
    (x : FVec Ideal S256x2048 .f32) (g c : FVec Ideal S1x2048 .f32) :
    k0_pay6 (F := Ideal) (k0_pay4 (F := Ideal) a u b v x) (k0_pay5 (F := Ideal) a u b v x) g c = k0_pay1 (F := Ideal) (k0_pay8 (F := Ideal) (k0_pay3 (F := Ideal) a u b v) x) (k0_pay9 (F := Ideal) (k0_pay3 (F := Ideal) a u b v) x) g c := rfl

theorem cast_second (v : FVec Ideal S256x2048 .f32) (s : FVec Ideal S256x1 .f32) (g b : FVec Ideal S1x2048 .f32) (i : S256x2048.Idx) :
    (k0_pay2 (F := Ideal) v s g b i : EReal) = k0_pay1 (F := Ideal) v s g b i := by
  pointwise [k0_pay2]

theorem cast_first (v w : FVec Ideal S256x2048 .f32) (g b : FVec Ideal S1x2048 .f32) (i : S256x2048.Idx) :
    (k0_pay7 (F := Ideal) v w g b i : EReal) = k0_pay6 (F := Ideal) v w g b i := by
  pointwise [k0_pay7]

/-- Either half of a block, from its loaded operands: the stored rows. -/
theorem rows_at (a : FVec Ideal S256x1024 .bf16) (u : FVec Ideal S1024x2048 .bf16) (b : FVec Ideal S256x1024 .bf16) (v : FVec Ideal S1024x2048 .bf16)
    (x : FVec Ideal S256x2048 .f32) (g c : FVec Ideal S1x2048 .f32) (r : Fin 256) (j : Fin 2048) (z : Fin 2048 → EReal) (g' c' : EReal)
    (hz : ∀ k, Ideal.ofBits .f32 0x3FB504F3#32 * x (ix2 r k)
      + ((∑ l : Fin 1024, a (ix2 r l) * u (ix2 l k)) + ∑ l : Fin 1024, b (ix2 r l) * v (ix2 l k)) = z k)
    (hg : g (ix2 0 j) = g') (hc : c (ix2 0 j) = c') :
    k0_pay1 (F := Ideal) (k0_pay8 (F := Ideal) (k0_pay3 (F := Ideal) a u b v) x) (k0_pay9 (F := Ideal) (k0_pay3 (F := Ideal) a u b v) x) g c (ix2 r j) = normed z g' c' j := by
  rw [second_at _ x g c r j z (fun k => by rw [proj_at]; exact hz k), hg, hc]

end Cert.KernelMixIdeal.Value

end
-- ==== Proof.MixValue.lean ====
/- The result arrays of the output projection's call in layer 0: every block is `OutNorm.result` at its place. -/
module

public import proofs.«01_k».proof.Proof.Gen.KernelMixIdeal.Value
public import Idealize.ShloMosaic.Lib.Pipeline.ValueKit
public import proofs.«01_k».proof.Proof.MixPay

@[expose] public section

set_option maxRecDepth 65536

noncomputable section

namespace Cert.KernelMixIdeal.Value

open Idealize.ShloMosaic Idealize.ShloMosaic.TcCoe Idealize.SL.Sem Cert.KernelMixIdeal Cert.KernelMixIdeal.Gen
open Idealize.ShloMosaic.Pipeline (Dat)
open Cert.OutNorm Cert.MixNorm

variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![t.val, 0] ∧ win0_4.index t = ![0, 0] ∧ win0_5.index t = ![0, 0]
    ∧ win0_6.index t = ![t.val, 0] ∧ win0_7.index t = ![t.val, 0] :=
  (by decide +kernel : ∀ t : Fin grid0.N, _)

/-- The features, side by side. -/
abbrev feat (c : Dev nD) : XS := cat (m ((c : Thread nD τ).loc main_arg0)) (m ((c : Thread nD τ).loc main_arg1))

theorem ya_op (c : Dev nD) (b : Fin 2) (p : Fin 8192) (i : Fin 16384) (j : Fin 1024) (hi : i.val = b.val * 8192 + p.val) :
    V m c main_v1 (ix2 i j) = m ((c : Thread nD τ).loc main_arg0) (ix3 b p j) := by
  entry_read
  pointwise
  blk_ext []

theorem yb_op (c : Dev nD) (b : Fin 2) (p : Fin 8192) (i : Fin 16384) (j : Fin 1024) (hi : i.val = b.val * 8192 + p.val) :
    V m c main_v3 (ix2 i j) = m ((c : Thread nD τ).loc main_arg1) (ix3 b p j) := by
  entry_read
  pointwise
  blk_ext []

theorem w_op (c : Dev nD) (k j : Fin 2048) : V m c main_v4 (ix2 k j) = m ((c : Thread nD τ).loc main_arg2) (ix2 k j) := by
  entry_read
  pointwise

theorem x_op (c : Dev nD) (b : Fin 2) (p : Fin 8192) (i : Fin 16384) (j : Fin 2048) (hi : i.val = b.val * 8192 + p.val) :
    V m c main_v5 (ix2 i j) = m ((c : Thread nD τ).loc main_arg3) (ix3 b p j) := by
  entry_read
  pointwise
  blk_ext []

theorem g_op (c : Dev nD) (j : Fin 2048) : V m c main_v6 (ix2 0 j) = m ((c : Thread nD τ).loc main_arg4) (ix1 j) := by
  entry_read
  pointwise

theorem b_op (c : Dev nD) (j : Fin 2048) : V m c main_v7 (ix2 0 j) = m ((c : Thread nD τ).loc main_arg5) (ix1 j) := by
  entry_read
  pointwise

theorem lt_points (t : Fin cfg0.N) : t.val < 32 := t.isLt

theorem y1_block (c : Dev nD) (t : Fin cfg0.N) (b : Fin 2) (p : Fin 8192) (r : Fin 512) (k : Fin 1024)
    (h : b.val * 8192 + p.val = t.val * 512 + r.val) :
    iblk m c 0 t (ix2 r k) = feat m c (ix3 b p ⟨k.val, by omega⟩) := by
  have ht := lt_points t
  refine Eq.trans ?_ ((ya_op m c b p ⟨t.val * 512 + r.val, by omega⟩ k h.symm).trans (cat_first _ _ b p k _ rfl).symm)
  blk_ext [iblk, idx t]

theorem y2_block (c : Dev nD) (t : Fin cfg0.N) (b : Fin 2) (p : Fin 8192) (r : Fin 512) (k : Fin 1024)
    (h : b.val * 8192 + p.val = t.val * 512 + r.val) :
    iblk m c 1 t (ix2 r k) = feat m c (ix3 b p ⟨1024 + k.val, by omega⟩) := by
  have ht := lt_points t
  refine Eq.trans ?_ ((yb_op m c b p ⟨t.val * 512 + r.val, by omega⟩ k h.symm).trans (cat_second _ _ b p k _ rfl).symm)
  blk_ext [iblk, idx t]

theorem w_block (c : Dev nD) (t : Fin cfg0.N) (k j : Fin 2048) :
    iblk m c 2 t (ix2 k j) = m ((c : Thread nD τ).loc main_arg2) (ix2 k j) := by
  refine Eq.trans ?_ (w_op m c k j)
  blk_ext [iblk, idx t]

theorem x_block (c : Dev nD) (t : Fin cfg0.N) (b : Fin 2) (p : Fin 8192) (r : Fin 512) (k : Fin 2048)
    (h : b.val * 8192 + p.val = t.val * 512 + r.val) :
    iblk m c 3 t (ix2 r k) = m ((c : Thread nD τ).loc main_arg3) (ix3 b p k) := by
  have ht := lt_points t
  refine Eq.trans ?_ (x_op m c b p ⟨t.val * 512 + r.val, by omega⟩ k h.symm)
  blk_ext [iblk, idx t]

theorem g_block (c : Dev nD) (t : Fin cfg0.N) (j : Fin 2048) : iblk m c 4 t (ix2 0 j) = m ((c : Thread nD τ).loc main_arg4) (ix1 j) := by
  refine Eq.trans ?_ (g_op m c j)
  blk_ext [iblk, idx t]

theorem b_block (c : Dev nD) (t : Fin cfg0.N) (j : Fin 2048) : iblk m c 5 t (ix2 0 j) = m ((c : Thread nD τ).loc main_arg5) (ix1 j) := by
  refine Eq.trans ?_ (b_op m c j)
  blk_ext [iblk, idx t]

/-- One row of a block before the norm, from the blocks: the two halves of the features make the whole contraction. -/
theorem row_eq (c : Dev nD) (t : Fin cfg0.N) (b : Fin 2) (p : Fin 8192) (r : Fin 512) (h : b.val * 8192 + p.val = t.val * 512 + r.val) (k : Fin 2048)
    (X : EReal) (a u a' u' : Fin 1024 → EReal)
    (hX : X = iblk m c 3 t (ix2 r k))
    (ha : ∀ l, a l = iblk m c 0 t (ix2 r l)) (hu : ∀ l, u l = iblk m c 2 t (ix2 ⟨l.val, by omega⟩ k))
    (ha' : ∀ l, a' l = iblk m c 1 t (ix2 r l)) (hu' : ∀ l, u' l = iblk m c 2 t (ix2 ⟨1024 + l.val, by omega⟩ k)) :
    Ideal.ofBits .f32 0x3FB504F3#32 * X + ((∑ l, a l * u l) + ∑ l, a' l * u' l)
      = mixed (feat m c) (m ((c : Thread nD τ).loc main_arg2)) (m ((c : Thread nD τ).loc main_arg3)) b p k := by
  rw [mixed, hX, x_block m c t b p r k h]
  refine congrArg₂ (· + ·) rfl ?_
  rw [Fin.sum_univ_two_halves 1024 1024 rfl (fun l : Fin 2048 => feat m c (ix3 b p l) * (show EReal from m ((c : Thread nD τ).loc main_arg2) (ix2 l k)))]
  refine congrArg₂ (· + ·) (Finset.sum_congr rfl fun l _ => ?_) (Finset.sum_congr rfl fun l _ => ?_)
  · rw [ha, hu, y1_block m c t b p r l h, w_block]
  · rw [ha', hu', y2_block m c t b p r l h, w_block]

/-- POINT: what a point leaves in output window 6's buffer, at an index. -/
theorem point6 (c : Dev nD) (t : Fin cfg0.N) (y : S512x2048.Idx) (b : Fin 2) (p : Fin 8192) (j : Fin 2048)
    (h : b.val * 8192 + p.val = t.val * 512 + (y 0).val) (hj : j.val = (y 1).val) :
    out0_6 (iblk m c 0 t) (iblk m c 1 t) (iblk m c 2 t) (iblk m c 3 t) (iblk m c 4 t) (iblk m c 5 t) y
      = normed (mixed (feat m c) (m ((c : Thread nD τ).loc main_arg2)) (m ((c : Thread nD τ).loc main_arg3)) b p)
        (m ((c : Thread nD τ).loc main_arg4) (ix1 j)) (m ((c : Thread nD τ).loc main_arg5) (ix1 j)) j := by
  have hy : (y 0).val < 512 := (y 0).isLt
  unfold out0_6
  canon_tiles x hx
  case piece0 =>
    have ex : x = ix2 (⟨(x 0).val, x0_lt⟩ : Fin 256) j := by
      funext a
      match a with
      | ⟨0, _⟩ => rfl
      | ⟨1, _⟩ => exact Fin.ext (hx1.symm.trans hj.symm)
    unfold k0_pay13 k0_pay14 k0_pay10
    refine (congrArg _ ex).trans (rows_at _ _ _ _ _ _ _ ⟨(x 0).val, x0_lt⟩ j _ _ _
      (fun k => row_eq m c t b p ⟨(y 0).val, hy⟩ h k _ _ _ _ _ ?_ (fun l => ?_) (fun l => ?_) (fun l => ?_) (fun l => ?_)) ?_ ?_)
    · pointwise
      blk_ext []
    · pointwise
      blk_ext []
    · pointwise
    · pointwise
      blk_ext []
    · pointwise
    · exact Eq.trans (by pointwise) (g_block m c t j)
    · exact Eq.trans (by pointwise) (b_block m c t j)
  case piece1 =>
    have ex : x = ix2 (⟨(x 0).val, x0_lt⟩ : Fin 256) j := by
      funext a
      match a with
      | ⟨0, _⟩ => rfl
      | ⟨1, _⟩ => exact Fin.ext (hx1.symm.trans hj.symm)
    unfold k0_pay11 k0_pay12
    refine (congrArg _ ex).trans ((congrFun (first_eq _ _ _ _ _ _ _) _).trans (rows_at _ _ _ _ _ _ _ ⟨(x 0).val, x0_lt⟩ j _ _ _
      (fun k => row_eq m c t b p ⟨(y 0).val, hy⟩ h k _ _ _ _ _ ?_ (fun l => ?_) (fun l => ?_) (fun l => ?_) (fun l => ?_)) ?_ ?_))
    · pointwise
      blk_ext []
    · pointwise
      blk_ext []
    · pointwise
    · pointwise
      blk_ext []
    · pointwise
    · exact Eq.trans (by pointwise) (g_block m c t j)
    · exact Eq.trans (by pointwise) (b_block m c t j)

/-- POINT: what a point leaves in output window 7's buffer, at an index. -/
theorem point7 (c : Dev nD) (t : Fin cfg0.N) (y : S512x2048.Idx) (b : Fin 2) (p : Fin 8192) (j : Fin 2048)
    (h : b.val * 8192 + p.val = t.val * 512 + (y 0).val) (hj : j.val = (y 1).val) :
    out0_7 (iblk m c 0 t) (iblk m c 1 t) (iblk m c 2 t) (iblk m c 3 t) (iblk m c 4 t) (iblk m c 5 t) y
      = normed (mixed (feat m c) (m ((c : Thread nD τ).loc main_arg2)) (m ((c : Thread nD τ).loc main_arg3)) b p)
        (m ((c : Thread nD τ).loc main_arg4) (ix1 j)) (m ((c : Thread nD τ).loc main_arg5) (ix1 j)) j := by
  have hy : (y 0).val < 512 := (y 0).isLt
  unfold out0_7
  canon_tiles x hx
  case piece0 =>
    have ex : x = ix2 (⟨(x 0).val, x0_lt⟩ : Fin 256) j := by
      funext a
      match a with
      | ⟨0, _⟩ => rfl
      | ⟨1, _⟩ => exact Fin.ext (hx1.symm.trans hj.symm)
    unfold k0_pay13 k0_pay14 k0_pay10
    refine (congrArg _ ex).trans ((cast_second _ _ _ _ _).trans (rows_at _ _ _ _ _ _ _ ⟨(x 0).val, x0_lt⟩ j _ _ _
      (fun k => row_eq m c t b p ⟨(y 0).val, hy⟩ h k _ _ _ _ _ ?_ (fun l => ?_) (fun l => ?_) (fun l => ?_) (fun l => ?_)) ?_ ?_))
    · pointwise
      blk_ext []
    · pointwise
      blk_ext []
    · pointwise
    · pointwise
      blk_ext []
    · pointwise
    · exact Eq.trans (by pointwise) (g_block m c t j)
    · exact Eq.trans (by pointwise) (b_block m c t j)
  case piece1 =>
    have ex : x = ix2 (⟨(x 0).val, x0_lt⟩ : Fin 256) j := by
      funext a
      match a with
      | ⟨0, _⟩ => rfl
      | ⟨1, _⟩ => exact Fin.ext (hx1.symm.trans hj.symm)
    unfold k0_pay11 k0_pay12
    refine (congrArg _ ex).trans ((cast_first _ _ _ _ _).trans ((congrFun (first_eq _ _ _ _ _ _ _) _).trans (rows_at _ _ _ _ _ _ _ ⟨(x 0).val, x0_lt⟩ j _ _ _
      (fun k => row_eq m c t b p ⟨(y 0).val, hy⟩ h k _ _ _ _ _ ?_ (fun l => ?_) (fun l => ?_) (fun l => ?_) (fun l => ?_)) ?_ ?_)))
    · pointwise
      blk_ext []
    · pointwise
      blk_ext []
    · pointwise
    · pointwise
      blk_ext []
    · pointwise
    · exact Eq.trans (by pointwise) (g_block m c t j)
    · exact Eq.trans (by pointwise) (b_block m c t j)

/-- BRIDGE: result array 0 after the run. -/
theorem final6 (c : Dev nD) : (dats m 0 c).arrAt 6 (cfgs 0).N
    = result (feat m c) (m ((c : Thread nD τ).loc main_arg2)) (m ((c : Thread nD τ).loc main_arg3))
      (m ((c : Thread nD τ).loc main_arg4)) (m ((c : Thread nD τ).loc main_arg5)) := by
  refine (dats m 0 c).arrAt_eq_of_covers 6 _ (by decide +kernel) fun t _ y => ?_
  blk_simp
  rw [after0_6]
  have ht := lt_points t
  have hy0 : (y 0).val < 512 := (y 0).isLt
  have hy1 : (y 1).val < 2048 := (y 1).isLt
  refine (point6 m c t y ⟨(t.val * 512 + (y 0).val) / 8192, by omega⟩ ⟨(t.val * 512 + (y 0).val) % 8192, by omega⟩ ⟨(y 1).val, hy1⟩
    (by dsimp only; omega) rfl).trans (result_at _ _ _ _ _ _ _ _ _ ?_ ?_).symm
  · blk_simp [idx t]
    dsimp only
    omega
  · blk_simp [idx t]

/-- BRIDGE: result array 1 after the run. -/
theorem final7 (c : Dev nD) : (dats m 0 c).arrAt 7 (cfgs 0).N
    = result (feat m c) (m ((c : Thread nD τ).loc main_arg2)) (m ((c : Thread nD τ).loc main_arg3))
      (m ((c : Thread nD τ).loc main_arg4)) (m ((c : Thread nD τ).loc main_arg5)) := by
  refine (dats m 0 c).arrAt_eq_of_covers 7 _ (by decide +kernel) fun t _ y => ?_
  blk_simp
  rw [after0_7]
  have ht := lt_points t
  have hy0 : (y 0).val < 512 := (y 0).isLt
  have hy1 : (y 1).val < 2048 := (y 1).isLt
  refine (point7 m c t y ⟨(t.val * 512 + (y 0).val) / 8192, by omega⟩ ⟨(t.val * 512 + (y 0).val) % 8192, by omega⟩ ⟨(y 1).val, hy1⟩
    (by dsimp only; omega) rfl).trans (result_at _ _ _ _ _ _ _ _ _ ?_ ?_).symm
  · blk_simp [idx t]
    dsimp only
    omega
  · blk_simp [idx t]

end Cert.KernelMixIdeal.Value

end
-- ==== Proof.MixRef.lean ====
/- The reference's result of the output projection is `OutNorm.result`. -/
module

public import proofs.«01_k».proof.Proof.Gen.ReferenceMixIdeal.Read
public import proofs.«01_k».proof.Proof.MixNorm

@[expose] public section

set_option maxRecDepth 65536

noncomputable section

namespace Cert.ReferenceMixIdeal.Project

open Idealize.ShloMosaic Idealize.ShloMosaic.TcCoe Idealize.SL.Sem Cert.ReferenceMixIdeal Cert.ReferenceMixIdeal.Read
open Cert.OutNorm Cert.MixNorm

variable (ya yb : HS) (w : WS) (x : XS) (g b : PS)

theorem cat_at (c : Fin 2) (p : Fin 8192) (j : Fin 2048) : val_main_v0 (F := Ideal) ya yb (ix3 c p j) = cat ya yb (ix3 c p j) := by
  pointwise [val_main_v0]
  by_cases h : j.val < 1024
  · rw [dif_pos h]
    exact (cat_first ya yb c p ⟨j.val, h⟩ j rfl).symm
  · rw [dif_neg h]
    exact (cat_second ya yb c p ⟨j.val - 1024, by omega⟩ j (by show j.val = 1024 + (j.val - 1024); omega)).symm

theorem mixed_at (c : Fin 2) (p : Fin 8192) (j : Fin 2048) : val_main_v4 (F := Ideal) ya yb w x (ix3 c p j) = mixed (cat ya yb) w x c p j := by
  pointwise [val_main_v4, val_main_v3, val_main_v2, val_main_v1, val_main_cst, cat_at]
  rfl

theorem mean_at (c : Fin 2) (p : Fin 8192) : val_main_v8 (F := Ideal) ya yb w x (ix3 c p 0) = mean (mixed (cat ya yb) w x c p) := by
  pointwise [val_main_v8, val_main_v7, val_main_v6, val_main_v5, val_main_cst_0, val_main_cst_1, mixed_at]
  rfl

theorem centred_at (c : Fin 2) (p : Fin 8192) (j : Fin 2048) :
    val_main_v10 (F := Ideal) ya yb w x (ix3 c p j) = mixed (cat ya yb) w x c p j - mean (mixed (cat ya yb) w x c p) := by
  pointwise [val_main_v10, val_main_v9, mixed_at, mean_at]

theorem scale_at (c : Fin 2) (p : Fin 8192) : val_main_v20 (F := Ideal) ya yb w x (ix3 c p 0)
    = Ideal.rsqrt (mean (fun k => (mixed (cat ya yb) w x c p k - mean (mixed (cat ya yb) w x c p)) * (mixed (cat ya yb) w x c p k - mean (mixed (cat ya yb) w x c p)))
      + Ideal.ofBits .f32 0x3727C5AC#32) := by
  pointwise [val_main_v20, val_main_v19, val_main_v18, val_main_cst_4, val_main_v15, val_main_v14, val_main_cst_3, val_main_v13,
    val_main_v12, val_main_cst_2, val_main_v11, centred_at]
  rfl

theorem normed_at (c : Fin 2) (p : Fin 8192) (j : Fin 2048) :
    val_main_v28 (F := Ideal) ya yb w x g b (ix3 c p j) = normed (mixed (cat ya yb) w x c p) (g (ix1 j)) (b (ix1 j)) j := by
  pointwise [val_main_v28, val_main_v27, val_main_v26, val_main_v25, val_main_v24, val_main_v23, val_main_v22, val_main_v21, val_main_v17,
    val_main_v16, mixed_at, mean_at, scale_at]
  rfl

theorem value : val_main_v29 (F := Ideal) ya yb w x g b = result (cat ya yb) w x g b := by
  funext i
  have h0 : (i 0).val < 16384 := (i 0).isLt
  rw [val_main_v29_apply]
  have hi : idx_main_v29 i = ix3 (⟨(i 0).val / 8192, by omega⟩ : Fin 2) (⟨(i 0).val % 8192, by omega⟩ : Fin 8192) (⟨(i 1).val, (i 1).isLt⟩ : Fin 2048) := by
    funext a
    match a with
    | ⟨0, _⟩ => apply Fin.ext; simp; omega
    | ⟨1, _⟩ => apply Fin.ext; simp; omega
    | ⟨2, _⟩ => apply Fin.ext; simp; omega
  rw [hi, normed_at]
  rfl

theorem value_cast : val_main_v30 (F := Ideal) ya yb w x g b = result (cat ya yb) w x g b :=
  Eq.trans (funext fun _ => rfl) (value ya yb w x g b)

end Cert.ReferenceMixIdeal.Project

end
-- ==== Proof.MixClaims.lean ====
/- The claims about the output projection's call in layer 0. -/
module

public import proofs.«01_k».proof.Defs
public import proofs.«01_k».proof.Proof.MixValue
public import proofs.«01_k».proof.Proof.MixRef
public import proofs.«01_k».proof.Proof.Gen.KernelMix.Frame
public import Idealize.ShloMosaic.Lib.Claim

@[expose] public section

set_option maxRecDepth 65536

noncomputable section

namespace Cert.MixClaims

open Idealize.ShloMosaic Idealize.ShloMosaic.TcCoe Idealize.SL.Sem

theorem frame_kernel : Cert.quiescent_KernelMix := fun m g _ => Cert.KernelMix.Gen.frame m g
theorem frame_ideal : Cert.quiescent_KernelMixIdeal := fun m g _ => Cert.KernelMixIdeal.Gen.frame m g
theorem frame_reference : Cert.quiescent_ReferenceMixIdeal := fun m g _ =>
  (θ_run Cert.ReferenceMixIdeal.defs _ _).mono (fun r h => ⟨fun c => (h c).2.2, sem_eq_zero_of_no_sems (by decide) r.2⟩)
    (Cert.ReferenceMixIdeal.Value.run (F := Ideal) m g)
theorem preserves : Cert.preserves_KernelMix_KernelMixIdeal := trivial

theorem algebraic : Cert.algebraic_KernelMixIdeal_ReferenceMixIdeal := by
  pair_intro
  · run_from Cert.KernelMixIdeal.Value.run_blocks m g
  · run_from Cert.ReferenceMixIdeal.Value.run m' g'
    · obtain ⟨h0, h1, h2, h3, h4, h5⟩ := hagree c
      rw [Cert.ReferenceMixIdeal.Read.val_main_v29_eq, h0, h1, h2, h3, h4, h5]
      exact (Cert.ReferenceMixIdeal.Project.value _ _ _ _ _ _).trans (Cert.KernelMixIdeal.Value.final6 m c).symm
    · obtain ⟨h0, h1, h2, h3, h4, h5⟩ := hagree c
      rw [Cert.ReferenceMixIdeal.Read.val_main_v30_eq, h0, h1, h2, h3, h4, h5]
      exact (Cert.ReferenceMixIdeal.Project.value_cast _ _ _ _ _ _).trans (Cert.KernelMixIdeal.Value.final7 m c).symm

end Cert.MixClaims

end
-- ==== Proof.SampleNorm.lean ====
/- The output projection with the residual and the layer norm, as mathematics over extended reals. -/
module

public import Idealize.ShloMosaic.Lib.Pointwise

@[expose] public section

set_option maxRecDepth 65536

noncomputable section

namespace Cert.SampleNorm

open Idealize.ShloMosaic Idealize.ShloMosaic.TcCoe Idealize.SL.Sem

/-- The shapes of the tokens' rows, the weight matrix, a parameter row and the result. -/
abbrev XS : Type := (⟨3, ![4, 2048, 2048]⟩ : Shape).Idx → EReal
abbrev WS : Type := (⟨2, ![2048, 2048]⟩ : Shape).Idx → EReal
abbrev PS : Type := (⟨1, ![2048]⟩ : Shape).Idx → EReal
abbrev OS : Type := (⟨2, ![8192, 2048]⟩ : Shape).Idx → EReal

/-- The mean of a row of 2048 numbers. -/
def mean (z : Fin 2048 → EReal) : EReal := Ideal.div (∑ k, z k) (Ideal.ofBits .f32 0x45000000#32)

/-- The layer norm of a row, at a column. -/
def normed (z : Fin 2048 → EReal) (g b : EReal) (j : Fin 2048) : EReal :=
  (z j - mean z) * Ideal.rsqrt (mean (fun k => (z k - mean z) * (z k - mean z)) + Ideal.ofBits .f32 0x3727C5AC#32) * g + b

/-- The weighted residual plus the projected row, at a token and a column. -/
def mixed (y : XS) (w : WS) (x : XS) (b : Fin 4) (p : Fin 2048) (j : Fin 2048) : EReal :=
  Ideal.ofBits .f32 0x3FB504F3#32 * x (ix3 b p j) + ∑ k : Fin 2048, y (ix3 b p k) * w (ix2 k j)

/-- The result array, one row for each token. -/
def result (y : XS) (w : WS) (x : XS) (g b : PS) : OS := fun i =>
  normed (mixed y w x ⟨(i 0).val / 2048, by have h : (i 0).val < 8192 := (i 0).isLt; omega⟩ ⟨(i 0).val % 2048, by omega⟩)
    (g (ix1 (i 1))) (b (ix1 (i 1))) (i 1)

theorem result_at (y : XS) (w : WS) (x : XS) (g b : PS) (c : Fin 4) (p : Fin 2048) (j : Fin 2048)
    (i : (⟨2, ![8192, 2048]⟩ : Shape).Idx) (h0 : (i 0).val = c.val * 2048 + p.val) (h1 : (i 1).val = j.val) :
    result y w x g b i = normed (mixed y w x c p) (g (ix1 j)) (b (ix1 j)) j := by
  have hc : (⟨(i 0).val / 2048, by have h : (i 0).val < 8192 := (i 0).isLt; omega⟩ : Fin 4) = c := Fin.ext (by show (i 0).val / 2048 = _; omega)
  have hp : (⟨(i 0).val % 2048, by omega⟩ : Fin 2048) = p := Fin.ext (by show (i 0).val % 2048 = _; omega)
  have hj : i 1 = j := Fin.ext h1
  unfold result
  rw [hc, hp, hj]

end Cert.SampleNorm

end
-- ==== Proof.SamplePay.lean ====
/- What the body of the output projection's call at the shape of x_sample stores, at an index. -/
module

public import proofs.«01_k».proof.Proof.Gen.KernelSampleIdeal.Skeleton
public import proofs.«01_k».proof.Proof.SampleNorm

@[expose] public section

set_option maxRecDepth 65536

noncomputable section

namespace Cert.KernelSampleIdeal.Value

open Idealize.ShloMosaic Idealize.ShloMosaic.TcCoe Idealize.SL.Sem Cert.KernelSampleIdeal Cert.KernelSampleIdeal.Gen
open Cert.SampleNorm

/-- The projected rows: the sum over each half of the features. -/
theorem proj_at (a : FVec Ideal S256x1024 .bf16) (u : FVec Ideal S1024x2048 .bf16) (b : FVec Ideal S256x1024 .bf16) (v : FVec Ideal S1024x2048 .bf16)
    (r : Fin 256) (j : Fin 2048) :
    k0_pay3 (F := Ideal) a u b v (ix2 r j) = (∑ k : Fin 1024, a (ix2 r k) * u (ix2 k j)) + ∑ k : Fin 1024, b (ix2 r k) * v (ix2 k j) := by
  pointwise [k0_pay3]

theorem centred_at (s x : FVec Ideal S256x2048 .f32) (r : Fin 256) (j : Fin 2048) (z : Fin 2048 → EReal)
    (hz : ∀ k, Ideal.ofBits .f32 0x3FB504F3#32 * x (ix2 r k) + s (ix2 r k) = z k) :
    k0_pay8 (F := Ideal) s x (ix2 r j) = z j - mean z := by
  pointwise [k0_pay8, hz]
  rfl

theorem centred_eq (a : FVec Ideal S256x1024 .bf16) (u : FVec Ideal S1024x2048 .bf16) (b : FVec Ideal S256x1024 .bf16) (v : FVec Ideal S1024x2048 .bf16)
    (x : FVec Ideal S256x2048 .f32) : k0_pay4 (F := Ideal) a u b v x = k0_pay8 (F := Ideal) (k0_pay3 (F := Ideal) a u b v) x := rfl

theorem scale_at (s x : FVec Ideal S256x2048 .f32) (r : Fin 256) (z : Fin 2048 → EReal)
    (hz : ∀ k, Ideal.ofBits .f32 0x3FB504F3#32 * x (ix2 r k) + s (ix2 r k) = z k) :
    k0_pay9 (F := Ideal) s x (ix2 r 0) = Ideal.rsqrt (mean (fun k => (z k - mean z) * (z k - mean z)) + Ideal.ofBits .f32 0x3727C5AC#32) := by
  pointwise [k0_pay9, fun k => centred_at s x r k z hz]
  rfl

/-- The second half of a block: the stored rows. -/
theorem second_at (s x : FVec Ideal S256x2048 .f32) (g b : FVec Ideal S1x2048 .f32) (r : Fin 256) (j : Fin 2048) (z : Fin 2048 → EReal)
    (hz : ∀ k, Ideal.ofBits .f32 0x3FB504F3#32 * x (ix2 r k) + s (ix2 r k) = z k) :
    k0_pay1 (F := Ideal) (k0_pay8 (F := Ideal) s x) (k0_pay9 (F := Ideal) s x) g b (ix2 r j) = normed z (g (ix2 0 j)) (b (ix2 0 j)) j := by
  pointwise [k0_pay1]
  rw [centred_at s x r j z hz, scale_at s x r z hz]
  rfl

theorem first_eq (a : FVec Ideal S256x1024 .bf16) (u : FVec Ideal S1024x2048 .bf16) (b : FVec Ideal S256x1024 .bf16) (v : FVec Ideal S1024x2048 .bf16)
    (x : FVec Ideal S256x2048 .f32) (g c : FVec Ideal S1x2048 .f32) :
    k0_pay6 (F := Ideal) (k0_pay4 (F := Ideal) a u b v x) (k0_pay5 (F := Ideal) a u b v x) g c = k0_pay1 (F := Ideal) (k0_pay8 (F := Ideal) (k0_pay3 (F := Ideal) a u b v) x) (k0_pay9 (F := Ideal) (k0_pay3 (F := Ideal) a u b v) x) g c := rfl

theorem cast_second (v : FVec Ideal S256x2048 .f32) (s : FVec Ideal S256x1 .f32) (g b : FVec Ideal S1x2048 .f32) (i : S256x2048.Idx) :
    (k0_pay2 (F := Ideal) v s g b i : EReal) = k0_pay1 (F := Ideal) v s g b i := by
  pointwise [k0_pay2]

theorem cast_first (v w : FVec Ideal S256x2048 .f32) (g b : FVec Ideal S1x2048 .f32) (i : S256x2048.Idx) :
    (k0_pay7 (F := Ideal) v w g b i : EReal) = k0_pay6 (F := Ideal) v w g b i := by
  pointwise [k0_pay7]

/-- Either half of a block, from its loaded operands: the stored rows. -/
theorem rows_at (a : FVec Ideal S256x1024 .bf16) (u : FVec Ideal S1024x2048 .bf16) (b : FVec Ideal S256x1024 .bf16) (v : FVec Ideal S1024x2048 .bf16)
    (x : FVec Ideal S256x2048 .f32) (g c : FVec Ideal S1x2048 .f32) (r : Fin 256) (j : Fin 2048) (z : Fin 2048 → EReal) (g' c' : EReal)
    (hz : ∀ k, Ideal.ofBits .f32 0x3FB504F3#32 * x (ix2 r k)
      + ((∑ l : Fin 1024, a (ix2 r l) * u (ix2 l k)) + ∑ l : Fin 1024, b (ix2 r l) * v (ix2 l k)) = z k)
    (hg : g (ix2 0 j) = g') (hc : c (ix2 0 j) = c') :
    k0_pay1 (F := Ideal) (k0_pay8 (F := Ideal) (k0_pay3 (F := Ideal) a u b v) x) (k0_pay9 (F := Ideal) (k0_pay3 (F := Ideal) a u b v) x) g c (ix2 r j) = normed z g' c' j := by
  rw [second_at _ x g c r j z (fun k => by rw [proj_at]; exact hz k), hg, hc]

end Cert.KernelSampleIdeal.Value

end
-- ==== Proof.SampleValue.lean ====
/- The result arrays of the output projection's call at the shape of x_sample: every block is `SampleNorm.result` at its place. -/
module

public import proofs.«01_k».proof.Proof.Gen.KernelSampleIdeal.Value
public import Idealize.ShloMosaic.Lib.Pipeline.ValueKit
public import proofs.«01_k».proof.Proof.SamplePay

@[expose] public section

set_option maxRecDepth 65536

noncomputable section

namespace Cert.KernelSampleIdeal.Value

open Idealize.ShloMosaic Idealize.ShloMosaic.TcCoe Idealize.SL.Sem Cert.KernelSampleIdeal Cert.KernelSampleIdeal.Gen
open Idealize.ShloMosaic.Pipeline (Dat)
open Cert.SampleNorm

variable (m : (ℓ : Loc nD τ sig) → Buf (Elt Ideal) ℓ)

theorem idx : ∀ t : Fin cfg0.N, win0_0.index t = ![t.val, 0] ∧ win0_1.index t = ![t.val, 1] ∧ win0_2.index t = ![0, 0]
    ∧ win0_3.index t = ![t.val, 0] ∧ win0_4.index t = ![0, 0] ∧ win0_5.index t = ![0, 0]
    ∧ win0_6.index t = ![t.val, 0] ∧ win0_7.index t = ![t.val, 0] :=
  (by decide +kernel : ∀ t : Fin grid0.N, _)

theorem y_op (c : Dev nD) (b : Fin 4) (p : Fin 2048) (i : Fin 8192) (j : Fin 2048) (hi : i.val = b.val * 2048 + p.val) :
    V m c main_v1 (ix2 i j) = m ((c : Thread nD τ).loc main_arg0) (ix3 b p j) := by
  entry_read
  pointwise
  blk_ext []

theorem w_op (c : Dev nD) (k j : Fin 2048) : V m c main_v2 (ix2 k j) = m ((c : Thread nD τ).loc main_arg1) (ix2 k j) := by
  entry_read
  pointwise

theorem x_op (c : Dev nD) (b : Fin 4) (p : Fin 2048) (i : Fin 8192) (j : Fin 2048) (hi : i.val = b.val * 2048 + p.val) :
    V m c main_v3 (ix2 i j) = m ((c : Thread nD τ).loc main_arg2) (ix3 b p j) := by
  entry_read
  pointwise
  blk_ext []

theorem g_op (c : Dev nD) (j : Fin 2048) : V m c main_v4 (ix2 0 j) = m ((c : Thread nD τ).loc main_arg3) (ix1 j) := by
  entry_read
  pointwise

theorem b_op (c : Dev nD) (j : Fin 2048) : V m c main_v5 (ix2 0 j) = m ((c : Thread nD τ).loc main_arg4) (ix1 j) := by
  entry_read
  pointwise

theorem lt_points (t : Fin cfg0.N) : t.val < 16 := t.isLt

theorem y1_block (c : Dev nD) (t : Fin cfg0.N) (b : Fin 4) (p : Fin 2048) (r : Fin 512) (k : Fin 1024)
    (h : b.val * 2048 + p.val = t.val * 512 + r.val) :
    iblk m c 0 t (ix2 r k) = m ((c : Thread nD τ).loc main_arg0) (ix3 b p ⟨k.val, by omega⟩) := by
  have ht := lt_points t
  refine Eq.trans ?_ (y_op m c b p ⟨t.val * 512 + r.val, by omega⟩ ⟨k.val, by omega⟩ h.symm)
  blk_ext [iblk, idx t]

theorem y2_block (c : Dev nD) (t : Fin cfg0.N) (b : Fin 4) (p : Fin 2048) (r : Fin 512) (k : Fin 1024)
    (h : b.val * 2048 + p.val = t.val * 512 + r.val) :
    iblk m c 1 t (ix2 r k) = m ((c : Thread nD τ).loc main_arg0) (ix3 b p ⟨1024 + k.val, by omega⟩) := by
  have ht := lt_points t
  refine Eq.trans ?_ (y_op m c b p ⟨t.val * 512 + r.val, by omega⟩ ⟨1024 + k.val, by omega⟩ h.symm)
  blk_ext [iblk, idx t]

theorem w_block (c : Dev nD) (t : Fin cfg0.N) (k j : Fin 2048) :
    iblk m c 2 t (ix2 k j) = m ((c : Thread nD τ).loc main_arg1) (ix2 k j) := by
  refine Eq.trans ?_ (w_op m c k j)
  blk_ext [iblk, idx t]

theorem x_block (c : Dev nD) (t : Fin cfg0.N) (b : Fin 4) (p : Fin 2048) (r : Fin 512) (k : Fin 2048)
    (h : b.val * 2048 + p.val = t.val * 512 + r.val) :
    iblk m c 3 t (ix2 r k) = m ((c : Thread nD τ).loc main_arg2) (ix3 b p k) := by
  have ht := lt_points t
  refine Eq.trans ?_ (x_op m c b p ⟨t.val * 512 + r.val, by omega⟩ k h.symm)
  blk_ext [iblk, idx t]

theorem g_block (c : Dev nD) (t : Fin cfg0.N) (j : Fin 2048) : iblk m c 4 t (ix2 0 j) = m ((c : Thread nD τ).loc main_arg3) (ix1 j) := by
  refine Eq.trans ?_ (g_op m c j)
  blk_ext [iblk, idx t]

theorem b_block (c : Dev nD) (t : Fin cfg0.N) (j : Fin 2048) : iblk m c 5 t (ix2 0 j) = m ((c : Thread nD τ).loc main_arg4) (ix1 j) := by
  refine Eq.trans ?_ (b_op m c j)
  blk_ext [iblk, idx t]

/-- One row of a block before the norm, from the blocks: the two halves of the features make the whole contraction. -/
theorem row_eq (c : Dev nD) (t : Fin cfg0.N) (b : Fin 4) (p : Fin 2048) (r : Fin 512) (h : b.val * 2048 + p.val = t.val * 512 + r.val) (k : Fin 2048)
    (X : EReal) (a u a' u' : Fin 1024 → EReal)
    (hX : X = iblk m c 3 t (ix2 r k))
    (ha : ∀ l, a l = iblk m c 0 t (ix2 r l)) (hu : ∀ l, u l = iblk m c 2 t (ix2 ⟨l.val, by omega⟩ k))
    (ha' : ∀ l, a' l = iblk m c 1 t (ix2 r l)) (hu' : ∀ l, u' l = iblk m c 2 t (ix2 ⟨1024 + l.val, by omega⟩ k)) :
    Ideal.ofBits .f32 0x3FB504F3#32 * X + ((∑ l, a l * u l) + ∑ l, a' l * u' l)
      = mixed (m ((c : Thread nD τ).loc main_arg0)) (m ((c : Thread nD τ).loc main_arg1)) (m ((c : Thread nD τ).loc main_arg2)) b p k := by
  rw [mixed, hX, x_block m c t b p r k h]
  refine congrArg₂ (· + ·) rfl ?_
  rw [Fin.sum_univ_two_halves 1024 1024 rfl (fun l : Fin 2048 => (show EReal from m ((c : Thread nD τ).loc main_arg0) (ix3 b p l)) * (show EReal from m ((c : Thread nD τ).loc main_arg1) (ix2 l k)))]
  refine congrArg₂ (· + ·) (Finset.sum_congr rfl fun l _ => ?_) (Finset.sum_congr rfl fun l _ => ?_)
  · rw [ha, hu, y1_block m c t b p r l h, w_block]
  · rw [ha', hu', y2_block m c t b p r l h, w_block]

/-- POINT: what a point leaves in output window 6's buffer, at an index. -/
theorem point6 (c : Dev nD) (t : Fin cfg0.N) (y : S512x2048.Idx) (b : Fin 4) (p : Fin 2048) (j : Fin 2048)
    (h : b.val * 2048 + p.val = t.val * 512 + (y 0).val) (hj : j.val = (y 1).val) :
    out0_6 (iblk m c 0 t) (iblk m c 1 t) (iblk m c 2 t) (iblk m c 3 t) (iblk m c 4 t) (iblk m c 5 t) y
      = normed (mixed (m ((c : Thread nD τ).loc main_arg0)) (m ((c : Thread nD τ).loc main_arg1)) (m ((c : Thread nD τ).loc main_arg2)) b p)
        (m ((c : Thread nD τ).loc main_arg3) (ix1 j)) (m ((c : Thread nD τ).loc main_arg4) (ix1 j)) j := by
  have hy : (y 0).val < 512 := (y 0).isLt
  unfold out0_6
  canon_tiles x hx
  case piece0 =>
    have ex : x = ix2 (⟨(x 0).val, x0_lt⟩ : Fin 256) j := by
      funext a
      match a with
      | ⟨0, _⟩ => rfl
      | ⟨1, _⟩ => exact Fin.ext (hx1.symm.trans hj.symm)
    unfold k0_pay13 k0_pay14 k0_pay10
    refine (congrArg _ ex).trans (rows_at _ _ _ _ _ _ _ ⟨(x 0).val, x0_lt⟩ j _ _ _
      (fun k => row_eq m c t b p ⟨(y 0).val, hy⟩ h k _ _ _ _ _ ?_ (fun l => ?_) (fun l => ?_) (fun l => ?_) (fun l => ?_)) ?_ ?_)
    · pointwise
      blk_ext []
    · pointwise
      blk_ext []
    · pointwise
    · pointwise
      blk_ext []
    · pointwise
    · exact Eq.trans (by pointwise) (g_block m c t j)
    · exact Eq.trans (by pointwise) (b_block m c t j)
  case piece1 =>
    have ex : x = ix2 (⟨(x 0).val, x0_lt⟩ : Fin 256) j := by
      funext a
      match a with
      | ⟨0, _⟩ => rfl
      | ⟨1, _⟩ => exact Fin.ext (hx1.symm.trans hj.symm)
    unfold k0_pay11 k0_pay12
    refine (congrArg _ ex).trans ((congrFun (first_eq _ _ _ _ _ _ _) _).trans (rows_at _ _ _ _ _ _ _ ⟨(x 0).val, x0_lt⟩ j _ _ _
      (fun k => row_eq m c t b p ⟨(y 0).val, hy⟩ h k _ _ _ _ _ ?_ (fun l => ?_) (fun l => ?_) (fun l => ?_) (fun l => ?_)) ?_ ?_))
    · pointwise
      blk_ext []
    · pointwise
      blk_ext []
    · pointwise
    · pointwise
      blk_ext []
    · pointwise
    · exact Eq.trans (by pointwise) (g_block m c t j)
    · exact Eq.trans (by pointwise) (b_block m c t j)

/-- POINT: what a point leaves in output window 7's buffer, at an index. -/
theorem point7 (c : Dev nD) (t : Fin cfg0.N) (y : S512x2048.Idx) (b : Fin 4) (p : Fin 2048) (j : Fin 2048)
    (h : b.val * 2048 + p.val = t.val * 512 + (y 0).val) (hj : j.val = (y 1).val) :
    out0_7 (iblk m c 0 t) (iblk m c 1 t) (iblk m c 2 t) (iblk m c 3 t) (iblk m c 4 t) (iblk m c 5 t) y
      = normed (mixed (m ((c : Thread nD τ).loc main_arg0)) (m ((c : Thread nD τ).loc main_arg1)) (m ((c : Thread nD τ).loc main_arg2)) b p)
        (m ((c : Thread nD τ).loc main_arg3) (ix1 j)) (m ((c : Thread nD τ).loc main_arg4) (ix1 j)) j := by
  have hy : (y 0).val < 512 := (y 0).isLt
  unfold out0_7
  canon_tiles x hx
  case piece0 =>
    have ex : x = ix2 (⟨(x 0).val, x0_lt⟩ : Fin 256) j := by
      funext a
      match a with
      | ⟨0, _⟩ => rfl
      | ⟨1, _⟩ => exact Fin.ext (hx1.symm.trans hj.symm)
    unfold k0_pay13 k0_pay14 k0_pay10
    refine (congrArg _ ex).trans ((cast_second _ _ _ _ _).trans (rows_at _ _ _ _ _ _ _ ⟨(x 0).val, x0_lt⟩ j _ _ _
      (fun k => row_eq m c t b p ⟨(y 0).val, hy⟩ h k _ _ _ _ _ ?_ (fun l => ?_) (fun l => ?_) (fun l => ?_) (fun l => ?_)) ?_ ?_))
    · pointwise
      blk_ext []
    · pointwise
      blk_ext []
    · pointwise
    · pointwise
      blk_ext []
    · pointwise
    · exact Eq.trans (by pointwise) (g_block m c t j)
    · exact Eq.trans (by pointwise) (b_block m c t j)
  case piece1 =>
    have ex : x = ix2 (⟨(x 0).val, x0_lt⟩ : Fin 256) j := by
      funext a
      match a with
      | ⟨0, _⟩ => rfl
      | ⟨1, _⟩ => exact Fin.ext (hx1.symm.trans hj.symm)
    unfold k0_pay11 k0_pay12
    refine (congrArg _ ex).trans ((cast_first _ _ _ _ _).trans ((congrFun (first_eq _ _ _ _ _ _ _) _).trans (rows_at _ _ _ _ _ _ _ ⟨(x 0).val, x0_lt⟩ j _ _ _
      (fun k => row_eq m c t b p ⟨(y 0).val, hy⟩ h k _ _ _ _ _ ?_ (fun l => ?_) (fun l => ?_) (fun l => ?_) (fun l => ?_)) ?_ ?_)))
    · pointwise
      blk_ext []
    · pointwise
      blk_ext []
    · pointwise
    · pointwise
      blk_ext []
    · pointwise
    · exact Eq.trans (by pointwise) (g_block m c t j)
    · exact Eq.trans (by pointwise) (b_block m c t j)

/-- BRIDGE: result array 0 after the run. -/
theorem final6 (c : Dev nD) : (dats m 0 c).arrAt 6 (cfgs 0).N
    = result (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 6 _ (by decide +kernel) fun t _ y => ?_
  blk_simp
  rw [after0_6]
  have ht := lt_points t
  have hy0 : (y 0).val < 512 := (y 0).isLt
  have hy1 : (y 1).val < 2048 := (y 1).isLt
  refine (point6 m c t y ⟨(t.val * 512 + (y 0).val) / 2048, by omega⟩ ⟨(t.val * 512 + (y 0).val) % 2048, by omega⟩ ⟨(y 1).val, hy1⟩
    (by dsimp only; omega) rfl).trans (result_at _ _ _ _ _ _ _ _ _ ?_ ?_).symm
  · blk_simp [idx t]
    dsimp only
    omega
  · blk_simp [idx t]

/-- BRIDGE: result array 1 after the run. -/
theorem final7 (c : Dev nD) : (dats m 0 c).arrAt 7 (cfgs 0).N
    = result (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 7 _ (by decide +kernel) fun t _ y => ?_
  blk_simp
  rw [after0_7]
  have ht := lt_points t
  have hy0 : (y 0).val < 512 := (y 0).isLt
  have hy1 : (y 1).val < 2048 := (y 1).isLt
  refine (point7 m c t y ⟨(t.val * 512 + (y 0).val) / 2048, by omega⟩ ⟨(t.val * 512 + (y 0).val) % 2048, by omega⟩ ⟨(y 1).val, hy1⟩
    (by dsimp only; omega) rfl).trans (result_at _ _ _ _ _ _ _ _ _ ?_ ?_).symm
  · blk_simp [idx t]
    dsimp only
    omega
  · blk_simp [idx t]

end Cert.KernelSampleIdeal.Value

end
-- ==== Proof.SampleRef.lean ====
/- The reference's result of the output projection is `SampleNorm.result`. -/
module

public import proofs.«01_k».proof.Proof.Gen.ReferenceSampleIdeal.Read
public import proofs.«01_k».proof.Proof.SampleNorm

@[expose] public section

set_option maxRecDepth 65536

noncomputable section

namespace Cert.ReferenceSampleIdeal.Project

open Idealize.ShloMosaic Idealize.ShloMosaic.TcCoe Idealize.SL.Sem Cert.ReferenceSampleIdeal Cert.ReferenceSampleIdeal.Read
open Cert.SampleNorm

variable (y : XS) (w : WS) (x : XS) (g b : PS)

theorem mixed_at (c : Fin 4) (p : Fin 2048) (j : Fin 2048) : val_main_v3 (F := Ideal) y w x (ix3 c p j) = mixed y w x c p j := by
  pointwise [val_main_v3, val_main_v2, val_main_v1, val_main_v0, val_main_cst]
  rfl

theorem mean_at (c : Fin 4) (p : Fin 2048) : val_main_v7 (F := Ideal) y w x (ix3 c p 0) = mean (mixed y w x c p) := by
  pointwise [val_main_v7, val_main_v6, val_main_v5, val_main_v4, val_main_cst_0, val_main_cst_1, mixed_at]
  rfl

theorem centred_at (c : Fin 4) (p : Fin 2048) (j : Fin 2048) :
    val_main_v9 (F := Ideal) y w x (ix3 c p j) = mixed y w x c p j - mean (mixed y w x c p) := by
  pointwise [val_main_v9, val_main_v8, mixed_at, mean_at]

theorem scale_at (c : Fin 4) (p : Fin 2048) : val_main_v19 (F := Ideal) y w x (ix3 c p 0)
    = Ideal.rsqrt (mean (fun k => (mixed y w x c p k - mean (mixed y w x c p)) * (mixed y w x c p k - mean (mixed y w x c p)))
      + Ideal.ofBits .f32 0x3727C5AC#32) := by
  pointwise [val_main_v19, val_main_v18, val_main_v17, val_main_cst_4, val_main_v14, val_main_v13, val_main_cst_3, val_main_v12,
    val_main_v11, val_main_cst_2, val_main_v10, centred_at]
  rfl

theorem normed_at (c : Fin 4) (p : Fin 2048) (j : Fin 2048) :
    val_main_v27 (F := Ideal) y w x g b (ix3 c p j) = normed (mixed y w x c p) (g (ix1 j)) (b (ix1 j)) j := by
  pointwise [val_main_v27, val_main_v26, val_main_v25, val_main_v24, val_main_v23, val_main_v22, val_main_v21, val_main_v20, val_main_v16,
    val_main_v15, mixed_at, mean_at, scale_at]
  rfl

theorem value : val_main_v28 (F := Ideal) y w x g b = result y w x g b := by
  funext i
  have h0 : (i 0).val < 8192 := (i 0).isLt
  rw [val_main_v28_apply]
  have hi : idx_main_v28 i = ix3 (⟨(i 0).val / 2048, by omega⟩ : Fin 4) (⟨(i 0).val % 2048, by omega⟩ : Fin 2048) (⟨(i 1).val, (i 1).isLt⟩ : Fin 2048) := by
    funext a
    match a with
    | ⟨0, _⟩ => apply Fin.ext; simp; omega
    | ⟨1, _⟩ => apply Fin.ext; simp; omega
    | ⟨2, _⟩ => apply Fin.ext; simp; omega
  rw [hi, normed_at]
  rfl

theorem value_cast : val_main_v29 (F := Ideal) y w x g b = result y w x g b :=
  Eq.trans (funext fun _ => rfl) (value y w x g b)

end Cert.ReferenceSampleIdeal.Project

end
-- ==== Proof.SampleClaims.lean ====
/- The claims about the output projection's call at the shape of x_sample. -/
module

public import proofs.«01_k».proof.Defs
public import proofs.«01_k».proof.Proof.SampleValue
public import proofs.«01_k».proof.Proof.SampleRef
public import proofs.«01_k».proof.Proof.Gen.KernelSample.Frame
public import Idealize.ShloMosaic.Lib.Claim

@[expose] public section

set_option maxRecDepth 65536

noncomputable section

namespace Cert.SampleClaims

open Idealize.ShloMosaic Idealize.ShloMosaic.TcCoe Idealize.SL.Sem

theorem frame_kernel : Cert.quiescent_KernelSample := fun m g _ => Cert.KernelSample.Gen.frame m g
theorem frame_ideal : Cert.quiescent_KernelSampleIdeal := fun m g _ => Cert.KernelSampleIdeal.Gen.frame m g
theorem frame_reference : Cert.quiescent_ReferenceSampleIdeal := fun m g _ =>
  (θ_run Cert.ReferenceSampleIdeal.defs _ _).mono (fun r h => ⟨fun c => (h c).2.2, sem_eq_zero_of_no_sems (by decide) r.2⟩)
    (Cert.ReferenceSampleIdeal.Value.run (F := Ideal) m g)
theorem preserves : Cert.preserves_KernelSample_KernelSampleIdeal := trivial

theorem algebraic : Cert.algebraic_KernelSampleIdeal_ReferenceSampleIdeal := by
  pair_intro
  · run_from Cert.KernelSampleIdeal.Value.run_blocks m g
  · run_from Cert.ReferenceSampleIdeal.Value.run m' g'
    · rw [Cert.ReferenceSampleIdeal.Read.val_main_v28_eq]
      exact (Cert.ReferenceSampleIdeal.Project.value _ _ _ _ _).trans (Cert.KernelSampleIdeal.Value.final6 m c).symm
    · rw [Cert.ReferenceSampleIdeal.Read.val_main_v29_eq]
      exact (Cert.ReferenceSampleIdeal.Project.value_cast _ _ _ _ _).trans (Cert.KernelSampleIdeal.Value.final7 m c).symm

end Cert.SampleClaims

end
-- ==== Proof.MainRunIdeal.lean ====
/- The run of the call that projects layer 0's queries, keys, gate and latents. The rounded copy of a block of tokens is
   stored at the block's first point and read at its four points. -/
module

public import proofs.«01_k».proof.Proof.Gen.KernelMainIdeal.Frame
public import proofs.«01_k».proof.Proof.Gen.KernelMainIdeal.Skeleton
public import Idealize.ShloMosaic.Lib.Claim
public import Idealize.ShloMosaic.Lib.Pipeline.TableIdle

@[expose] public section

set_option maxRecDepth 16384

noncomputable section

namespace Cert.KernelMainIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelMainIdeal Cert.KernelMainIdeal.Gen

variable {F : FTy → Type} [FloatOps F]

abbrev M (F : FTy → Type) := MT nD τ sig Unit (Elt F) ℕ (UR sig nD τ) ℕ

variable (m : (ℓ : Loc nD τ sig) → Buf (Elt F) ℓ) (ρ : Dev nD → PrngReg)

/-! ## What the body stores -/

abbrev rTokens : Rect S1024x2048 := Rect.unit (s := S1024x2048) ![0, 0] S1024x2048.size inb_S1024x2048_S1024x2048_0_0
abbrev rOut : Rect S1024x1024 := Rect.unit (s := S1024x1024) ![0, 0] S1024x1024.size inb_S1024x1024_S1024x1024_0_0

/-- The rounded copy of a block of tokens. -/
def copy (x : Vec F S1024x2048 .f32) : Vec F S1024x2048 .bf16 := View.canon [⟨rTokens, k0_pay1 (View.ld x rTokens)⟩]

/-- The product of a rounded block of tokens and a block of weights. -/
def prod (y w : Vec F S1024x2048 .bf16) : Vec F S1024x1024 .bf16 := View.canon [⟨rOut, k0_pay2 (View.ld y rTokens) (View.ld w rTokens)⟩]

theorem cover_tokens (p : Vec F S1024x2048 .bf16) (y : S1024x2048.Idx) :
    ∃ pc ∈ ([⟨rTokens, p⟩] : List (View.Piece (Elt F) S1024x2048 .bf16)), y ∈ pc.1.set :=
  View.cover_of_tiled [⟨rTokens, p⟩] S1024x2048.size (by rfl) y

theorem cover_out (p : Vec F S1024x1024 .bf16) (y : S1024x1024.Idx) :
    ∃ pc ∈ ([⟨rOut, p⟩] : List (View.Piece (Elt F) S1024x1024 .bf16)), y ∈ pc.1.set :=
  View.cover_of_tiled [⟨rOut, p⟩] S1024x1024.size (by rfl) y

/-! ## The body's two triples -/

set_option maxHeartbeats 1000000 in
/-- At a point that rounds its tokens: both results are stored. -/
theorem first_kernel (c : Dev nD) (E : Set ℕ) (i : grid0.Coords) (hi : k0_cond1 i = 1#1)
    (arg2 : Memref sig .tc .vmem S1024x2048 .f32) (harg2 : arg2.IsWhole) (arg3 : Memref sig .tc .vmem S1024x2048 .bf16) (harg3 : arg3.IsWhole)
    (arg4 : Memref sig .tc .vmem S1024x1024 .bf16) (harg4 : arg4.IsWhole) (arg5 : Memref sig .tc .vmem S1024x2048 .bf16) (harg5 : arg5.IsWhole)
    (x0 : Vec F S1024x2048 .f32) (x1 : Vec F S1024x2048 .bf16) (K : PUnit → sProp (M F)) :
    iprop(owns (c : Thread nD τ) arg2 fullShare x0 ∗ owns (c : Thread nD τ) arg3 fullShare x1 ∗ (∃ d, owns (c : Thread nD τ) arg4 fullShare d)
        ∗ (∃ d, owns (c : Thread nD τ) arg5 fullShare d)
        ∗ (iprop(owns (c : Thread nD τ) arg2 fullShare x0 ∗ owns (c : Thread nD τ) arg3 fullShare x1 ∗ owns (c : Thread nD τ) arg4 fullShare (prod (copy x0) x1)
            ∗ owns (c : Thread nD τ) arg5 fullShare (copy x0)) -∗ K ⟨⟩))
      ⊢ wp frame (wpE (defs₀ (F := F)) Variants.none c none) E (cc0__proj_f32_kernel i arg2 harg2 arg3 harg3 arg4 harg4 arg5 harg5) K := by
  simp only [cc0__proj_f32_kernel_eq_skeleton]; unfold cc0__proj_f32_kernel_skel
  unfold owns
  iintro ⟨⟨%f0, %hf0, H0⟩, ⟨%f1, %hf1, H1⟩, ⟨%d2, %f2, -, H2⟩, ⟨%d3, %f3, -, H3⟩, Hk⟩
  subst hf0 hf1
  rw [dif_pos hi]
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (cover_out _)).trans ?_
    have hv : first_kernel.sl.v3 c arg2 arg5 f0 = View.ld (copy (View.read (Elt F) arg2.view f0)) rTokens := by
      unfold first_kernel.sl.v3
      exact View.readCov_eq_canon_ld _ _ _ (cover_tokens _)
    rw [hv]; rfl
  iexists _; isplitr
  swap; · iexact H3
  ipureintro
  exact View.read_writes_eq_canon _ _ _ (cover_tokens _)

set_option maxHeartbeats 1000000 in
/-- At the block's other points: the rounded tokens are read as they are. -/
theorem later_kernel (c : Dev nD) (E : Set ℕ) (i : grid0.Coords) (hi : ¬ k0_cond1 i = 1#1)
    (arg2 : Memref sig .tc .vmem S1024x2048 .f32) (harg2 : arg2.IsWhole) (arg3 : Memref sig .tc .vmem S1024x2048 .bf16) (harg3 : arg3.IsWhole)
    (arg4 : Memref sig .tc .vmem S1024x1024 .bf16) (harg4 : arg4.IsWhole) (arg5 : Memref sig .tc .vmem S1024x2048 .bf16) (harg5 : arg5.IsWhole)
    (x0 : Vec F S1024x2048 .f32) (x1 x3 : Vec F S1024x2048 .bf16) (K : PUnit → sProp (M F)) :
    iprop(owns (c : Thread nD τ) arg2 fullShare x0 ∗ owns (c : Thread nD τ) arg3 fullShare x1 ∗ (∃ d, owns (c : Thread nD τ) arg4 fullShare d)
        ∗ owns (c : Thread nD τ) arg5 fullShare x3
        ∗ (iprop(owns (c : Thread nD τ) arg2 fullShare x0 ∗ owns (c : Thread nD τ) arg3 fullShare x1 ∗ owns (c : Thread nD τ) arg4 fullShare (prod x3 x1)
            ∗ owns (c : Thread nD τ) arg5 fullShare x3) -∗ K ⟨⟩))
      ⊢ wp frame (wpE (defs₀ (F := F)) Variants.none c none) E (cc0__proj_f32_kernel i arg2 harg2 arg3 harg3 arg4 harg4 arg5 harg5) K := by
  simp only [cc0__proj_f32_kernel_eq_skeleton]; unfold cc0__proj_f32_kernel_skel
  unfold owns
  iintro ⟨⟨%f0, %hf0, H0⟩, ⟨%f1, %hf1, H1⟩, ⟨%d2, %f2, -, H2⟩, ⟨%f3, %hf3, H3⟩, Hk⟩
  subst hf0 hf1 hf3
  rw [dif_neg hi]
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover_out _)
  iexists f3; isplitr; · ipureintro; rfl
  iexact H3

/-! ## The pipeline's proof data -/

/-- The first point of a point's block of tokens. -/
def base (t : Fin cfg0.N) : Fin cfg0.N := ⟨t.val - t.val % 4, Nat.lt_of_le_of_lt (Nat.sub_le _ _) t.isLt⟩

/-- The rounded tokens a point reads. -/
def tokens (c : Dev nD) (t : Fin cfg0.N) : Vec F S1024x2048 .bf16 := copy (iblk m c 0 (base t))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => prod (tokens m c t) (X0_1 m c t)
    | ⟨3, _⟩ => tokens m c t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = prod (tokens m c t) (X0_1 m c t) := by dsimp only [dats]
theorem after0_3 (c : Dev nD) (t : Fin cfg0.N) : (dats m 0 c).after 3 t = tokens m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d

/-- The points that round their tokens. -/
theorem first_iff : ∀ t : Fin cfg0.N, k0_cond1 (cfg0.grid.coords t) = 1#1 ↔ t.val % 4 = 0 :=
  (by decide +kernel : ∀ t : Fin grid0.N, k0_cond1 (grid0.coords t) = 1#1 ↔ t.val % 4 = 0)

theorem idle_iff (t : Fin cfg0.N) : cfg0.idle 3 (cfg0.grid.coords t) = true ↔ ¬ t.val % 4 = 0 := by
  rw [← first_iff t]
  show (!(k0_cond1 (cfg0.grid.coords t) == 1#1)) = true ↔ _
  simp

/-- Nothing is stored of the block's rounded tokens exactly before its first point. -/
theorem fresh_tab (n : ℕ) (hn : n ≤ cfg0.N) : cfg0.fresh 3 n = decide (n % 4 = 0) := by
  refine cfg0.fresh_tab 3 (fun n => decide (n % 4 = 0)) rfl (fun t => ?_) n hn
  by_cases h : t.val % 4 = 3
  · rw [(flush0_3 t).mpr h, Bool.true_or]
    exact decide_eq_true (by omega)
  · rw [Bool.eq_false_iff.mpr (fun k => h ((flush0_3 t).mp k)), Bool.false_or]
    by_cases h0 : t.val % 4 = 0
    · rw [Bool.eq_false_iff.mpr (fun k => (idle_iff t).mp k h0), Bool.false_and]
      exact decide_eq_false (by omega)
    · rw [decide_eq_false h0, Bool.and_false]
      exact decide_eq_false (by omega)

theorem base_pred (t : Fin cfg0.N) (h : ¬ t.val % 4 = 0) : base ⟨t.val - 1, by omega⟩ = base t :=
  Fin.ext (show t.val - 1 - (t.val - 1) % 4 = t.val - t.val % 4 by omega)

theorem base_first (t : Fin cfg0.N) (h : t.val % 4 = 0) : base t = t :=
  Fin.ext (show t.val - t.val % 4 = t.val by omega)

/-- At the block's later points the buffer holds the rounded tokens. -/
theorem before0_3 (c : Dev nD) (t : Fin cfg0.N) (h : ¬ t.val % 4 = 0) (d) : (dats m 0 c).before 3 t d = tokens m c t := by
  rw [(dats m 0 c).before_out_traj 3 rfl (fun _ _ => rfl) (fun s hs hidle _ => by
      rw [after0_3, after0_3]; unfold tokens; rw [base_pred s ((idle_iff s).mp hidle)]) t.val t rfl d,
    fresh_tab t.val (Nat.le_of_lt t.isLt), decide_eq_false h, if_neg Bool.false_ne_true, after0_3]
  unfold tokens
  rw [base_pred t h]

/-! ## The body obligation -/

/-- What the body is called with, but for the rounded tokens' buffer, and what it returns. -/
def bodyPre (c : Dev nD) (t : Fin cfg0.N) : sProp (M F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp (M F) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_first (c : Dev nD) (t : Fin cfg0.N) (h : t.val % 4 = 0) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3, tokens, base_first t h]
  iintro ⟨HΦ, Ho, ⟨%d0, H0⟩, ⟨%d1, H1⟩, ⟨%d2, H2⟩, ⟨%d3, H3⟩⟩
  iapply (first_kernel c Set.univ (grid0.coords t) ((first_iff t).mpr h) _ _ _ _ _ _ _ _ (iblk m c 0 t) (X0_1 m c t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem sound_later (c : Dev nD) (t : Fin cfg0.N) (h : ¬ t.val % 4 = 0) :
    bodyPre m c t ⊢ wp frame (wpE (defs₀ (F := F)) Variants.none c none) Set.univ (bodyAt0 t) (fun _ => bodyPost m c t) := by
  unfold bodyPre bodyPost bodyAt0
  simp only [before0_0, before0_1, before0_3 m c t h]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (later_kernel c Set.univ (grid0.coords t) (fun k => h ((first_iff t).mp k)) _ _ _ _ _ _ _ _ (iblk m c 0 t) (X0_1 m c t) (tokens m c t) _)
  isplitl [H0]; · iexact H0
  isplitl [H1]; · iexact H1
  isplitl [H2]; · iexists _; iexact H2
  isplitl [H3]; · iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem sound_body (c : Dev nD) (t : Fin cfg0.N) :
    bodyPre m c t ⊢ wp frame (wpE (defs₀ (F := F)) Variants.none c none) Set.univ (bodyAt0 t) (fun _ => bodyPost m c t) := by
  by_cases h : t.val % 4 = 0
  · exact sound_first m c t h
  · exact sound_later m c t h

theorem defs₀_row (t : Fin cfg0.N) :
    defs₀ (F := F) .tc cfg0.body (cfg0.bodyArgs t (cfg0.slots t)) = bodyAt0 t := by
  unfold defs₀; rw [Defs.onTc_tc]

/-- Handing back what was found, at a point idle for the rounded tokens that does not write them back, is handing them back. -/
theorem after_found (c : Dev nD) (t : Fin cfg0.N) (h : ¬ t.val % 4 = 0) :
    (owns (c : Thread nD τ) (st0_3 t) fullShare ((dats m 0 c).after 3 t) : sProp (M F))
      ⊢ iprop(∃ d, owns (c : Thread nD τ) (st0_3 t) fullShare ((dats m 0 c).before 3 t d)) := by
  simp only [before0_3 m c t h]
  rw [after0_3]
  iintro H
  iexists (tokens m c t)
  iexact H

theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  unfold bodyPost
  by_cases h : t.val % 4 = 0
  · rw [Bool.eq_false_iff.mpr (fun k => (idle_iff t).mp k h)]
  · rw [(idle_iff t).mpr h]
    by_cases h3 : t.val % 4 = 3
    · rw [(flush0_3 t).mpr h3]
    · rw [Bool.eq_false_iff.mpr (fun k => h3 ((flush0_3 t).mp k))]
      iintro ⟨HΦ, Ho, H0, H1, H2, H3⟩
      isplitl [HΦ]; · iexact HΦ
      isplitl [Ho]; · iexact Ho
      isplitl [H0]; · iexact H0
      isplitl [H1]; · iexact H1
      isplitl [H2]; · iexact H2
      iapply (after_found m c t h)
      iexact H3

/-! ## The run and the frame -/

set_option backward.isDefEq.respectTransparency.types false in
set_option maxHeartbeats 800000 in
/-- The run, every semaphore counter at zero at its end. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The frame: the arguments and the counters. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.KernelMainIdeal.Run

end
-- ==== Proof.MainValue.lean ====
/- The projection of layer 0's queries, keys, gate and latents, and the rounded tokens: what the call leaves, and what the
   reference gives. -/
module

public import proofs.«01_k».proof.Proof.MainRunIdeal
public import proofs.«01_k».proof.Proof.Gen.ReferenceMainIdeal.Read
public import Idealize.ShloMosaic.Lib.Pipeline.ValueKit
public import proofs.«01_k».proof.Proof.Projection

@[expose] public section

set_option maxRecDepth 65536

noncomputable section

namespace Cert.Main

open Idealize.ShloMosaic Cert.Projection

/-- A column of the first result among the 6208: the 1024 columns from 2048 on are left out. -/
def column (j : Fin 4096) : Fin 6208 := ⟨if j.val < 2048 then j.val else 1024 + j.val, by split <;> omega⟩

/-- The first result. -/
def result (x : XS) (w : WS 6208) : (⟨2, ![16384, 4096]⟩ : Shape).Idx → EReal := fun i =>
  proj x w (seqOf (i 0)) (posOf (i 0)) (column (i 1))

/-- The second result: the tokens. -/
def tokens (x : XS) : (⟨2, ![16384, 2048]⟩ : Shape).Idx → EReal := fun i => x (ix3 (seqOf (i 0)) (posOf (i 0)) (i 1))

end Cert.Main

namespace Cert.KernelMainIdeal.Value

open Idealize.ShloMosaic Idealize.ShloMosaic.TcCoe Idealize.SL.Sem Cert.KernelMainIdeal Cert.KernelMainIdeal.Gen Cert.KernelMainIdeal.Run
open Idealize.ShloMosaic.Pipeline (Dat)
open Cert.Projection

variable (m : (ℓ : Loc nD τ sig) → Buf (Elt Ideal) ℓ) (ρ : Dev nD → PrngReg)

/-- The run, each result array named. -/
theorem run_blocks : θ_run defs (onTc (τ := τ) (main (F := Ideal))) ⟨m, fun _ => 0, ρ⟩ fun r => ∀ c : Dev nD,
      r.2.mem ((c : Thread nD τ).loc main_v3_0) = (dats m 0 c).arrAt 2 cfg0.N
      ∧ r.2.mem ((c : Thread nD τ).loc main_v3_1) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1 2, (h c).1 3,
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩)
    (run_main m ρ)

theorem idx : ∀ t : Fin cfg0.N, win0_0.index t = ![t.val / 4, 0] ∧ win0_1.index t = ![t.val % 4 + t.val % 4 / 2, 0]
    ∧ win0_2.index t = ![t.val / 4, t.val % 4] ∧ win0_3.index t = ![t.val / 4, 0] :=
  (by decide +kernel : ∀ t : Fin grid0.N, _)

theorem lt_points (t : Fin cfg0.N) : t.val < 64 := t.isLt

theorem x_op (c : Dev nD) (i : Fin 16384) (k : Fin 2048) :
    V m c main_v0 (ix2 i k) = m ((c : Thread nD τ).loc main_arg0) (ix3 (seqOf i) (posOf i) k) := by
  have hi := Cert.Projection.row_eq i
  entry_read
  pointwise
  blk_ext []

theorem w_op (c : Dev nD) (j : Fin 6208) (k : Fin 2048) : V m c main_v2 (ix2 j k) = m ((c : Thread nD τ).loc main_arg1) (ix2 k j) := by
  entry_read
  pointwise

theorem x_block (c : Dev nD) (t : Fin cfg0.N) (r : Fin 1024) (k : Fin 2048) (i : Fin 16384) (h : i.val = t.val / 4 * 1024 + r.val) :
    iblk m c 0 t (ix2 r k) = m ((c : Thread nD τ).loc main_arg0) (ix3 (seqOf i) (posOf i) k) := by
  refine Eq.trans ?_ (x_op m c i k)
  blk_ext [iblk, idx t]

theorem w_block (c : Dev nD) (t : Fin cfg0.N) (l : Fin 1024) (k : Fin 2048) (j : Fin 6208)
    (h : j.val = (t.val % 4 + t.val % 4 / 2) * 1024 + l.val) :
    X0_1 m c t (ix2 l k) = m ((c : Thread nD τ).loc main_arg1) (ix2 k j) := by
  refine Eq.trans ?_ (w_op m c j k)
  unfold X0_1 Pipeline.Window.fill
  rw [dif_pos (moved0_1 t _)]
  blk_ext [iblk, idx t]

theorem copy_eq (x : FVec Ideal S1024x2048 .f32) : copy (F := Ideal) x = x := by
  unfold copy
  rw [View.canon_cons_unit_lit _ _ _ (by decide), View.ld_unit_lit _ _ (by decide)]
  funext i
  idx_vars i
  pointwise [k0_pay1]

theorem prod_at (y w : FVec Ideal S1024x2048 .bf16) (r l : Fin 1024) :
    prod (F := Ideal) y w (ix2 r l) = ∑ k : Fin 2048, y (ix2 r k) * w (ix2 l k) := by
  unfold prod
  rw [View.canon_cons_unit_lit _ _ _ (by decide), View.ld_unit_lit _ _ (by decide), View.ld_unit_lit _ _ (by decide)]
  pointwise [k0_pay2]

theorem tokens_block (c : Dev nD) (t : Fin cfg0.N) (r : Fin 1024) (k : Fin 2048) (i : Fin 16384) (h : i.val = t.val / 4 * 1024 + r.val) :
    Run.tokens m c t (ix2 r k) = m ((c : Thread nD τ).loc main_arg0) (ix3 (seqOf i) (posOf i) k) := by
  unfold Run.tokens
  rw [copy_eq]
  refine x_block m c (base t) r k i ?_
  show i.val = (t.val - t.val % 4) / 4 * 1024 + r.val
  omega

/-- BRIDGE: the first result array after the run. -/
theorem final2 (c : Dev nD) : (dats m 0 c).arrAt 2 (cfgs 0).N
    = Cert.Main.result (m ((c : Thread nD τ).loc main_arg0)) (m ((c : Thread nD τ).loc main_arg1)) := by
  refine (dats m 0 c).arrAt_eq_of_covers 2 _ (by decide +kernel) fun t _ y => ?_
  blk_simp
  rw [after0_2]
  have ht := lt_points t
  have hy0 : (y 0).val < 1024 := (y 0).isLt
  have hy1 : (y 1).val < 1024 := (y 1).isLt
  have he : y = ix2 (⟨(y 0).val, hy0⟩ : Fin 1024) (⟨(y 1).val, hy1⟩ : Fin 1024) := by
    funext a
    match a with
    | ⟨0, _⟩ => rfl
    | ⟨1, _⟩ => rfl
  refine (congrArg _ he).trans ((prod_at _ _ _ _).trans ?_)
  refine Finset.sum_congr rfl fun k _ => Ideal.mul_congr (tokens_block m c t _ k _ ?_) (w_block m c t _ k _ ?_)
  · blk_simp [idx t]
  · unfold Cert.Main.column
    blk_simp [idx t]
    split <;> (dsimp only; omega)

/-- BRIDGE: the second result array after the run. -/
theorem final3 (c : Dev nD) : (dats m 0 c).arrAt 3 (cfgs 0).N = Cert.Main.tokens (m ((c : Thread nD τ).loc main_arg0)) := by
  refine (dats m 0 c).arrAt_eq_of_covers 3 _ (by decide +kernel) fun t _ y => ?_
  blk_simp
  rw [after0_3]
  have ht := lt_points t
  have hy0 : (y 0).val < 1024 := (y 0).isLt
  have hy1 : (y 1).val < 2048 := (y 1).isLt
  have he : y = ix2 (⟨(y 0).val, hy0⟩ : Fin 1024) (⟨(y 1).val, hy1⟩ : Fin 2048) := by
    funext a
    match a with
    | ⟨0, _⟩ => rfl
    | ⟨1, _⟩ => rfl
  refine (congrArg _ he).trans ((tokens_block m c t _ _ ⟨t.val / 4 * 1024 + (y 0).val, by omega⟩ rfl).trans ?_)
  refine Eq.trans (b := Cert.Main.tokens (m ((c : Thread nD τ).loc main_arg0))
    (ix2 ⟨t.val / 4 * 1024 + (y 0).val, by omega⟩ ⟨(y 1).val, hy1⟩)) rfl (congrArg _ ?_)
  blk_ext [idx t]

end Cert.KernelMainIdeal.Value

namespace Cert.ReferenceMainIdeal.Project

open Idealize.ShloMosaic Idealize.ShloMosaic.TcCoe Idealize.SL.Sem Cert.ReferenceMainIdeal Cert.ReferenceMainIdeal.Read
open Cert.Projection

theorem value5 (x : XS) (w : WS 6208) : val_main_v5 (F := Ideal) x w = Cert.Main.result x w := by
  funext i
  idx_vars i
  unfold Cert.Main.result Cert.Main.column
  pointwise [val_main_v5, val_main_v4, val_main_v3, val_main_v2, val_main_v1, val_main_v0]
  by_cases h : i1.val < 2048
  · simp only [if_pos h, dif_pos h]
    rfl
  · simp only [if_neg h, dif_neg h]
    refine Finset.sum_congr rfl fun k _ => Ideal.mul_congr rfl ?_
    blk_ext []

theorem value7 (x : XS) : val_main_v7 (F := Ideal) x = Cert.Main.tokens x := by
  funext i
  idx_vars i
  unfold Cert.Main.tokens
  pointwise [val_main_v7, val_main_v6]
  rfl

end Cert.ReferenceMainIdeal.Project

end
-- ==== Proof.MainClaims.lean ====
/- The claims about the call that projects layer 0's queries, keys, gate and latents. -/
module

public import proofs.«01_k».proof.Defs
public import proofs.«01_k».proof.Proof.MainRun
public import proofs.«01_k».proof.Proof.MainValue
public import Idealize.ShloMosaic.Lib.Claim

@[expose] public section

set_option maxRecDepth 65536

noncomputable section

namespace Cert.MainClaims

open Idealize.ShloMosaic Idealize.ShloMosaic.TcCoe Idealize.SL.Sem

theorem frame_kernel : Cert.quiescent_KernelMain := fun m g _ => Cert.KernelMain.Run.frame m g
theorem frame_ideal : Cert.quiescent_KernelMainIdeal := fun m g _ => Cert.KernelMainIdeal.Run.frame m g
theorem frame_reference : Cert.quiescent_ReferenceMainIdeal := fun m g _ =>
  (θ_run Cert.ReferenceMainIdeal.defs _ _).mono (fun r h => ⟨fun c => (h c).2.2, sem_eq_zero_of_no_sems (by decide) r.2⟩)
    (Cert.ReferenceMainIdeal.Value.run (F := Ideal) m g)
theorem preserves : Cert.preserves_KernelMain_KernelMainIdeal := trivial

theorem algebraic : Cert.algebraic_KernelMainIdeal_ReferenceMainIdeal := by
  pair_intro
  · run_from Cert.KernelMainIdeal.Value.run_blocks m g
  · run_from Cert.ReferenceMainIdeal.Value.run m' g'
    · obtain ⟨h0, h1⟩ := hagree c
      rw [Cert.ReferenceMainIdeal.Read.val_main_v5_eq]
      exact (Cert.ReferenceMainIdeal.Project.value5 _ _).trans (Cert.KernelMainIdeal.Value.final2 m c).symm
    · obtain ⟨h0, h1⟩ := hagree c
      rw [Cert.ReferenceMainIdeal.Read.val_main_v7_eq]
      exact (Cert.ReferenceMainIdeal.Project.value7 _).trans (Cert.KernelMainIdeal.Value.final3 m c).symm

end Cert.MainClaims

end
-- ==== Proof.lean ====
module

public import proofs.«01_k».proof.Defs
public import proofs.«01_k».proof.Proof.AttentionClaims
public import proofs.«01_k».proof.Proof.OutClaims
public import proofs.«01_k».proof.Proof.GateClaims
public import proofs.«01_k».proof.Proof.TailClaims
public import proofs.«01_k».proof.Proof.ValsClaims
public import proofs.«01_k».proof.Proof.HeadsClaims
public import proofs.«01_k».proof.Proof.ViewsClaims
public import proofs.«01_k».proof.Proof.UpClaims
public import proofs.«01_k».proof.Proof.QueriesClaims
public import proofs.«01_k».proof.Proof.MixClaims
public import proofs.«01_k».proof.Proof.SampleClaims
public import proofs.«01_k».proof.Proof.MainClaims
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts,
    Cert.KernelOut.Gen.facts, Cert.KernelOutIdeal.Gen.facts, Cert.ReferenceOutIdeal.Gen.facts,
    Cert.KernelGate.Gen.facts, Cert.KernelGateIdeal.Gen.facts, Cert.ReferenceGateIdeal.Gen.facts,
    Cert.KernelTail.Gen.facts, Cert.KernelTailIdeal.Gen.facts, Cert.ReferenceTailIdeal.Gen.facts,
    Cert.KernelVals.Gen.facts, Cert.KernelValsIdeal.Gen.facts, Cert.ReferenceValsIdeal.Gen.facts,
    Cert.KernelHeads.Gen.facts, Cert.KernelHeadsIdeal.Gen.facts, Cert.ReferenceHeadsIdeal.Gen.facts,
    Cert.KernelViews.Gen.facts, Cert.KernelViewsIdeal.Gen.facts, Cert.ReferenceViewsIdeal.Gen.facts,
    Cert.KernelUp.Gen.facts, Cert.KernelUpIdeal.Gen.facts, Cert.ReferenceUpIdeal.Gen.facts,
    Cert.KernelQueries.Gen.facts, Cert.KernelQueriesIdeal.Gen.facts, Cert.ReferenceQueriesIdeal.Gen.facts,
    Cert.KernelMain.Gen.facts, Cert.KernelMainIdeal.Gen.facts, Cert.ReferenceMainIdeal.Gen.facts,
    Cert.KernelMix.Gen.facts, Cert.KernelMixIdeal.Gen.facts, Cert.ReferenceMixIdeal.Gen.facts,
    Cert.KernelSample.Gen.facts, Cert.KernelSampleIdeal.Gen.facts, Cert.ReferenceSampleIdeal.Gen.facts,
    Cert.AttentionClaims.facts_pre,
    Cert.AttentionClaims.frame_kernel, Cert.AttentionClaims.frame_ideal, Cert.AttentionClaims.frame_ideal_finite,
    Cert.AttentionClaims.frame_reference, Cert.AttentionClaims.frame_reference_finite,
    Cert.OutClaims.frame_kernel, Cert.OutClaims.frame_ideal, Cert.OutClaims.frame_reference,
    Cert.GateClaims.frame_kernel, Cert.GateClaims.frame_ideal, Cert.GateClaims.frame_reference,
    Cert.TailClaims.frame_kernel, Cert.TailClaims.frame_ideal, Cert.TailClaims.frame_reference,
    Cert.ValsClaims.frame_kernel, Cert.ValsClaims.frame_ideal, Cert.ValsClaims.frame_reference,
    Cert.HeadsClaims.frame_kernel, Cert.HeadsClaims.frame_ideal, Cert.HeadsClaims.frame_reference,
    Cert.ViewsClaims.frame_kernel, Cert.ViewsClaims.frame_ideal, Cert.ViewsClaims.frame_reference,
    Cert.UpClaims.frame_kernel, Cert.UpClaims.frame_ideal, Cert.UpClaims.frame_reference,
    Cert.QueriesClaims.frame_kernel, Cert.QueriesClaims.frame_ideal, Cert.QueriesClaims.frame_reference,
    Cert.MainClaims.frame_kernel, Cert.MainClaims.frame_ideal, Cert.MainClaims.frame_reference,
    Cert.MixClaims.frame_kernel, Cert.MixClaims.frame_ideal, Cert.MixClaims.frame_reference,
    Cert.SampleClaims.frame_kernel, Cert.SampleClaims.frame_ideal, Cert.SampleClaims.frame_reference,
    Cert.AttentionClaims.preserves, Cert.AttentionClaims.algebraic,
    Cert.OutClaims.preserves, Cert.OutClaims.algebraic,
    Cert.GateClaims.preserves, Cert.GateClaims.algebraic,
    Cert.TailClaims.preserves, Cert.TailClaims.algebraic,
    Cert.ValsClaims.preserves, Cert.ValsClaims.algebraic,
    Cert.HeadsClaims.preserves, Cert.HeadsClaims.algebraic,
    Cert.ViewsClaims.preserves, Cert.ViewsClaims.algebraic,
    Cert.UpClaims.preserves, Cert.UpClaims.algebraic,
    Cert.QueriesClaims.preserves, Cert.QueriesClaims.algebraic,
    Cert.MainClaims.preserves, Cert.MainClaims.algebraic,
    Cert.MixClaims.preserves, Cert.MixClaims.algebraic,
    Cert.SampleClaims.preserves, Cert.SampleClaims.algebraic⟩

end Cert.Proof

end
